-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![16, 2048, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x1024 : Shape := ⟨2, ![2048, 1024]⟩
abbrev S4x3x4x128x128 : Shape := ⟨5, ![4, 3, 4, 128, 128]⟩
abbrev S4x3x128x128 : Shape := ⟨4, ![4, 3, 128, 128]⟩
abbrev S4x3x4 : Shape := ⟨3, ![4, 3, 4]⟩
abbrev S4x3 : Shape := ⟨2, ![4, 3]⟩
abbrev S_ : Shape := ⟨0, ![]⟩
abbrev S1x1x1 : Shape := ⟨3, ![1, 1, 1]⟩
abbrev S1x1x1x128x128 : Shape := ⟨5, ![1, 1, 1, 128, 128]⟩
abbrev S128x128 : Shape := ⟨2, ![128, 128]⟩
abbrev S1x128x128 : Shape := ⟨3, ![1, 128, 128]⟩
abbrev S1x1 : Shape := ⟨2, ![1, 1]⟩
abbrev S1x1x128x128 : Shape := ⟨4, ![1, 1, 128, 128]⟩

abbrev nBuf : Space → Nat
  | .hbm => 2
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .f32⟩
  | .local _ .vmem, ⟨0, _⟩ => ⟨S1x2048x1024, .f32⟩
  | .local _ .vmem, ⟨1, _⟩ => ⟨S2048x1024, .f32⟩
  | .local _ .vmem, ⟨2, _⟩ => ⟨S4x3x4x128x128, .f32⟩
  | .local _ .vmem, ⟨3, _⟩ => ⟨S4x3x4x128x128, .f32⟩
  | .local _ .vmem, ⟨4, _⟩ => ⟨S4x3x128x128, .f32⟩
  | .local _ .vmem, ⟨5, _⟩ => ⟨S4x3x128x128, .f32⟩
  | .local _ .vmem, ⟨6, _⟩ => ⟨S4x3x128x128, .f32⟩
  | .local _ .vmem, ⟨7, _⟩ => ⟨S4x3x128x128, .f32⟩
  | .local _ .vmem, ⟨8, _⟩ => ⟨S4x3x4x128x128, .f32⟩
  | .local _ .vmem, ⟨9, _⟩ => ⟨S4x3x4x128x128, .f32⟩
  | _, _ => ⟨S1x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 482 → Bool
  | ⟨i, _⟩ => dmaSemScopedAt i

abbrev sig : RefSig :=
  (ofTc nBuf bufTy 1 482 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_58 : BitVec 32 := 1#32
  let v105 : BitVec 32 := Scalar.muli v77 c1_i32_58
  let v106 : BitVec 32 := Scalar.addi c0_i32_59 v105
  v106.toNat
def k0_dev2 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_61 : BitVec 32 := 1#32
  let v107 : BitVec 32 := Scalar.muli v64 c1_i32_61
  let v108 : BitVec 32 := Scalar.addi c0_i32_62 v107
  v108.toNat
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_64 : BitVec 32 := 1#32
  let v109 : BitVec 32 := Scalar.muli v103 c1_i32_64
  let v110 : BitVec 32 := Scalar.addi c0_i32_65 v109
  v110.toNat
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_67 : BitVec 32 := 1#32
  let v111 : BitVec 32 := Scalar.muli v90 c1_i32_67
  let v112 : BitVec 32 := Scalar.addi c0_i32_68 v111
  v112.toNat
def k0_off1 (d0 : Dev nD) (c0_i32_76 : BitVec 32) : Fin 3 → Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_70 : BitVec 32 := 4#32
  let c0_i32_71 : BitVec 32 := 0#32
  let v113 : BitVec 1 := Scalar.cmpi .eq c4_i32_70 c0_i32_71
  let c1_i32_72 : BitVec 32 := 1#32
  let v114 : BitVec 32 := Scalar.select v113 c1_i32_72 c4_i32_70
  let v115 : BitVec 32 := Scalar.remsi v12 v114
  let c0_i32_74 : BitVec 32 := 0#32
  let v117 : BitVec 1 := Scalar.cmpi .slt v115 c0_i32_74
  let c0_i32_75 : BitVec 32 := 0#32
  let v118 : BitVec 1 := Scalar.cmpi .slt v114 c0_i32_75
  let v119 : BitVec 1 := Scalar.xori v117 v118
  let c0_i32_73 : BitVec 32 := 0#32
  let v116 : BitVec 1 := Scalar.cmpi .ne v115 c0_i32_73
  let v120 : BitVec 1 := Scalar.andi v119 v116
  let v121 : BitVec 32 := Scalar.addi v115 v114
  let v122 : BitVec 32 := Scalar.select v120 v121 v115
  let c512_i32 : BitVec 32 := 512#32
  let v123 : BitVec 32 := Scalar.muli v122 c512_i32
  let v124 : BitVec 32 := Scalar.addi v123 c0_i32_76
  let c0_i32_91 : BitVec 32 := 0#32
  ![0, v124.toNat, 0]
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_87 : BitVec 32 := 1#32
  let v125 : BitVec 32 := Scalar.muli v64 c1_i32_87
  let v126 : BitVec 32 := Scalar.addi c0_i32_88 v125
  v126.toNat
def k0_off2 (d0 : Dev nD) (c0_i32_99 : BitVec 32) : Fin 3 → Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_92 : BitVec 32 := 4#32
  let c0_i32_93 : BitVec 32 := 0#32
  let v135 : BitVec 1 := Scalar.cmpi .eq c4_i32_92 c0_i32_93
  let c1_i32_94 : BitVec 32 := 1#32
  let v136 : BitVec 32 := Scalar.select v135 c1_i32_94 c4_i32_92
  let v137 : BitVec 32 := Scalar.remsi v12 v136
  let c0_i32_96 : BitVec 32 := 0#32
  let v139 : BitVec 1 := Scalar.cmpi .slt v137 c0_i32_96
  let c0_i32_97 : BitVec 32 := 0#32
  let v140 : BitVec 1 := Scalar.cmpi .slt v136 c0_i32_97
  let v141 : BitVec 1 := Scalar.xori v139 v140
  let c0_i32_95 : BitVec 32 := 0#32
  let v138 : BitVec 1 := Scalar.cmpi .ne v137 c0_i32_95
  let v142 : BitVec 1 := Scalar.andi v141 v138
  let v143 : BitVec 32 := Scalar.addi v137 v136
  let v144 : BitVec 32 := Scalar.select v142 v143 v137
  let c512_i32_98 : BitVec 32 := 512#32
  let v145 : BitVec 32 := Scalar.muli v144 c512_i32_98
  let v146 : BitVec 32 := Scalar.addi v145 c0_i32_99
  let c512_i32_114 : BitVec 32 := 512#32
  ![0, v146.toNat, 512]
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_110 : BitVec 32 := 1#32
  let v147 : BitVec 32 := Scalar.muli v77 c1_i32_110
  let v148 : BitVec 32 := Scalar.addi c0_i32_111 v147
  v148.toNat
def k0_dev7 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_132 : BitVec 32 := 1#32
  let v169 : BitVec 32 := Scalar.muli v64 c1_i32_132
  let v170 : BitVec 32 := Scalar.addi c0_i32_133 v169
  v170.toNat
def k0_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_155 : BitVec 32 := 1#32
  let v191 : BitVec 32 := Scalar.muli v77 c1_i32_155
  let v192 : BitVec 32 := Scalar.addi c0_i32_156 v191
  v192.toNat
def k0_dev9 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_176 : BitVec 32 := 1#32
  let v213 : BitVec 32 := Scalar.muli v64 c1_i32_176
  let v214 : BitVec 32 := Scalar.addi c0_i32_177 v213
  v214.toNat
def k0_dev10 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_199 : BitVec 32 := 1#32
  let v235 : BitVec 32 := Scalar.muli v77 c1_i32_199
  let v236 : BitVec 32 := Scalar.addi c0_i32_200 v235
  v236.toNat
def k0_dev11 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_220 : BitVec 32 := 1#32
  let v257 : BitVec 32 := Scalar.muli v64 c1_i32_220
  let v258 : BitVec 32 := Scalar.addi c0_i32_221 v257
  v258.toNat
def k0_dev12 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_243 : BitVec 32 := 1#32
  let v279 : BitVec 32 := Scalar.muli v77 c1_i32_243
  let v280 : BitVec 32 := Scalar.addi c0_i32_244 v279
  v280.toNat
def k0_off3 (d0 : Dev nD) (c0_i32_267 : BitVec 32) (c0_i32_275 : BitVec 32) : Fin 3 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_266 : BitVec 32 := 1#32
  let v297 : BitVec 32 := Scalar.subi v12 c1_i32_266
  let v298 : BitVec 32 := Scalar.subi v297 c0_i32_267
  let c4_i32_268 : BitVec 32 := 4#32
  let c0_i32_269 : BitVec 32 := 0#32
  let v299 : BitVec 1 := Scalar.cmpi .eq c4_i32_268 c0_i32_269
  let c1_i32_270 : BitVec 32 := 1#32
  let v300 : BitVec 32 := Scalar.select v299 c1_i32_270 c4_i32_268
  let v301 : BitVec 32 := Scalar.remsi v298 v300
  let c0_i32_272 : BitVec 32 := 0#32
  let v303 : BitVec 1 := Scalar.cmpi .slt v301 c0_i32_272
  let c0_i32_273 : BitVec 32 := 0#32
  let v304 : BitVec 1 := Scalar.cmpi .slt v300 c0_i32_273
  let v305 : BitVec 1 := Scalar.xori v303 v304
  let c0_i32_271 : BitVec 32 := 0#32
  let v302 : BitVec 1 := Scalar.cmpi .ne v301 c0_i32_271
  let v306 : BitVec 1 := Scalar.andi v305 v302
  let v307 : BitVec 32 := Scalar.addi v301 v300
  let v308 : BitVec 32 := Scalar.select v306 v307 v301
  let c512_i32_274 : BitVec 32 := 512#32
  let v309 : BitVec 32 := Scalar.muli v308 c512_i32_274
  let v310 : BitVec 32 := Scalar.addi v309 c0_i32_275
  let v311 : Index := Scalar.indexCast v310
  let c0_276 : Index := 0#32
  ![0, v311.toNat, 0]
def k0_off4 (d0 : Dev nD) (c0_i32_283 : BitVec 32) (c0_i32_291 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_282 : BitVec 32 := 1#32
  let v317 : BitVec 32 := Scalar.subi v12 c1_i32_282
  let v318 : BitVec 32 := Scalar.subi v317 c0_i32_283
  let c4_i32_284 : BitVec 32 := 4#32
  let c0_i32_285 : BitVec 32 := 0#32
  let v319 : BitVec 1 := Scalar.cmpi .eq c4_i32_284 c0_i32_285
  let c1_i32_286 : BitVec 32 := 1#32
  let v320 : BitVec 32 := Scalar.select v319 c1_i32_286 c4_i32_284
  let v321 : BitVec 32 := Scalar.remsi v318 v320
  let c0_i32_288 : BitVec 32 := 0#32
  let v323 : BitVec 1 := Scalar.cmpi .slt v321 c0_i32_288
  let c0_i32_289 : BitVec 32 := 0#32
  let v324 : BitVec 1 := Scalar.cmpi .slt v320 c0_i32_289
  let v325 : BitVec 1 := Scalar.xori v323 v324
  let c0_i32_287 : BitVec 32 := 0#32
  let v322 : BitVec 1 := Scalar.cmpi .ne v321 c0_i32_287
  let v326 : BitVec 1 := Scalar.andi v325 v322
  let v327 : BitVec 32 := Scalar.addi v321 v320
  let v328 : BitVec 32 := Scalar.select v326 v327 v321
  let c512_i32_290 : BitVec 32 := 512#32
  let v329 : BitVec 32 := Scalar.muli v328 c512_i32_290
  let v330 : BitVec 32 := Scalar.addi v329 c0_i32_291
  let v331 : Index := Scalar.indexCast v330
  let c0_292 : Index := 0#32
  ![v331.toNat, 0]
def k0_off5 (d0 : Dev nD) (c0_i32_294 : BitVec 32) (c0_i32_302 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_293 : BitVec 32 := 1#32
  let v333 : BitVec 32 := Scalar.subi v12 c1_i32_293
  let v334 : BitVec 32 := Scalar.subi v333 c0_i32_294
  let c4_i32_295 : BitVec 32 := 4#32
  let c0_i32_296 : BitVec 32 := 0#32
  let v335 : BitVec 1 := Scalar.cmpi .eq c4_i32_295 c0_i32_296
  let c1_i32_297 : BitVec 32 := 1#32
  let v336 : BitVec 32 := Scalar.select v335 c1_i32_297 c4_i32_295
  let v337 : BitVec 32 := Scalar.remsi v334 v336
  let c0_i32_299 : BitVec 32 := 0#32
  let v339 : BitVec 1 := Scalar.cmpi .slt v337 c0_i32_299
  let c0_i32_300 : BitVec 32 := 0#32
  let v340 : BitVec 1 := Scalar.cmpi .slt v336 c0_i32_300
  let v341 : BitVec 1 := Scalar.xori v339 v340
  let c0_i32_298 : BitVec 32 := 0#32
  let v338 : BitVec 1 := Scalar.cmpi .ne v337 c0_i32_298
  let v342 : BitVec 1 := Scalar.andi v341 v338
  let v343 : BitVec 32 := Scalar.addi v337 v336
  let v344 : BitVec 32 := Scalar.select v342 v343 v337
  let c512_i32_301 : BitVec 32 := 512#32
  let v345 : BitVec 32 := Scalar.muli v344 c512_i32_301
  let v346 : BitVec 32 := Scalar.addi v345 c0_i32_302
  let c0_i32_316 : BitVec 32 := 0#32
  ![v346.toNat, 0]
def k0_dev13 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_312 : BitVec 32 := 1#32
  let v347 : BitVec 32 := Scalar.muli v64 c1_i32_312
  let v348 : BitVec 32 := Scalar.addi c0_i32_313 v347
  v348.toNat
def k0_off6 (d0 : Dev nD) (c0_i32_336 : BitVec 32) (c0_i32_344 : BitVec 32) : Fin 3 → Nat :=
  let c0_345 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_335 : BitVec 32 := 1#32
  let v364 : BitVec 32 := Scalar.addi v12 c1_i32_335
  let v365 : BitVec 32 := Scalar.addi v364 c0_i32_336
  let c4_i32_337 : BitVec 32 := 4#32
  let c0_i32_338 : BitVec 32 := 0#32
  let v366 : BitVec 1 := Scalar.cmpi .eq c4_i32_337 c0_i32_338
  let c1_i32_339 : BitVec 32 := 1#32
  let v367 : BitVec 32 := Scalar.select v366 c1_i32_339 c4_i32_337
  let v368 : BitVec 32 := Scalar.remsi v365 v367
  let c0_i32_341 : BitVec 32 := 0#32
  let v370 : BitVec 1 := Scalar.cmpi .slt v368 c0_i32_341
  let c0_i32_342 : BitVec 32 := 0#32
  let v371 : BitVec 1 := Scalar.cmpi .slt v367 c0_i32_342
  let v372 : BitVec 1 := Scalar.xori v370 v371
  let c0_i32_340 : BitVec 32 := 0#32
  let v369 : BitVec 1 := Scalar.cmpi .ne v368 c0_i32_340
  let v373 : BitVec 1 := Scalar.andi v372 v369
  let v374 : BitVec 32 := Scalar.addi v368 v367
  let v375 : BitVec 32 := Scalar.select v373 v374 v368
  let c512_i32_343 : BitVec 32 := 512#32
  let v376 : BitVec 32 := Scalar.muli v375 c512_i32_343
  let v377 : BitVec 32 := Scalar.addi v376 c0_i32_344
  let v378 : Index := Scalar.indexCast v377
  let c512 : Index := 512#32
  ![0, v378.toNat, 512]
def k0_off7 (d0 : Dev nD) (c0_i32_352 : BitVec 32) (c0_i32_360 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_351 : BitVec 32 := 1#32
  let v384 : BitVec 32 := Scalar.addi v12 c1_i32_351
  let v385 : BitVec 32 := Scalar.addi v384 c0_i32_352
  let c4_i32_353 : BitVec 32 := 4#32
  let c0_i32_354 : BitVec 32 := 0#32
  let v386 : BitVec 1 := Scalar.cmpi .eq c4_i32_353 c0_i32_354
  let c1_i32_355 : BitVec 32 := 1#32
  let v387 : BitVec 32 := Scalar.select v386 c1_i32_355 c4_i32_353
  let v388 : BitVec 32 := Scalar.remsi v385 v387
  let c0_i32_357 : BitVec 32 := 0#32
  let v390 : BitVec 1 := Scalar.cmpi .slt v388 c0_i32_357
  let c0_i32_358 : BitVec 32 := 0#32
  let v391 : BitVec 1 := Scalar.cmpi .slt v387 c0_i32_358
  let v392 : BitVec 1 := Scalar.xori v390 v391
  let c0_i32_356 : BitVec 32 := 0#32
  let v389 : BitVec 1 := Scalar.cmpi .ne v388 c0_i32_356
  let v393 : BitVec 1 := Scalar.andi v392 v389
  let v394 : BitVec 32 := Scalar.addi v388 v387
  let v395 : BitVec 32 := Scalar.select v393 v394 v388
  let c512_i32_359 : BitVec 32 := 512#32
  let v396 : BitVec 32 := Scalar.muli v395 c512_i32_359
  let v397 : BitVec 32 := Scalar.addi v396 c0_i32_360
  let v398 : Index := Scalar.indexCast v397
  let c512_361 : Index := 512#32
  ![v398.toNat, 512]
def k0_off8 (d0 : Dev nD) (c0_i32_363 : BitVec 32) (c0_i32_371 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_362 : BitVec 32 := 1#32
  let v400 : BitVec 32 := Scalar.addi v12 c1_i32_362
  let v401 : BitVec 32 := Scalar.addi v400 c0_i32_363
  let c4_i32_364 : BitVec 32 := 4#32
  let c0_i32_365 : BitVec 32 := 0#32
  let v402 : BitVec 1 := Scalar.cmpi .eq c4_i32_364 c0_i32_365
  let c1_i32_366 : BitVec 32 := 1#32
  let v403 : BitVec 32 := Scalar.select v402 c1_i32_366 c4_i32_364
  let v404 : BitVec 32 := Scalar.remsi v401 v403
  let c0_i32_368 : BitVec 32 := 0#32
  let v406 : BitVec 1 := Scalar.cmpi .slt v404 c0_i32_368
  let c0_i32_369 : BitVec 32 := 0#32
  let v407 : BitVec 1 := Scalar.cmpi .slt v403 c0_i32_369
  let v408 : BitVec 1 := Scalar.xori v406 v407
  let c0_i32_367 : BitVec 32 := 0#32
  let v405 : BitVec 1 := Scalar.cmpi .ne v404 c0_i32_367
  let v409 : BitVec 1 := Scalar.andi v408 v405
  let v410 : BitVec 32 := Scalar.addi v404 v403
  let v411 : BitVec 32 := Scalar.select v409 v410 v404
  let c512_i32_370 : BitVec 32 := 512#32
  let v412 : BitVec 32 := Scalar.muli v411 c512_i32_370
  let v413 : BitVec 32 := Scalar.addi v412 c0_i32_371
  let c512_i32_385 : BitVec 32 := 512#32
  ![v413.toNat, 512]
def k0_dev14 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_381 : BitVec 32 := 1#32
  let v414 : BitVec 32 := Scalar.muli v77 c1_i32_381
  let v415 : BitVec 32 := Scalar.addi c0_i32_382 v414
  v415.toNat
def k0_dev15 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_450 : BitVec 32 := 1#32
  let v481 : BitVec 32 := Scalar.muli v64 c1_i32_450
  let v482 : BitVec 32 := Scalar.addi c0_i32_451 v481
  v482.toNat
def k0_dev16 (d0 : Dev nD) : Nat :=
  let c0_i32_521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_520 : BitVec 32 := 1#32
  let v548 : BitVec 32 := Scalar.muli v77 c1_i32_520
  let v549 : BitVec 32 := Scalar.addi c0_i32_521 v548
  v549.toNat
def k0_dev17 (d0 : Dev nD) : Nat :=
  let c0_i32_590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_589 : BitVec 32 := 1#32
  let v615 : BitVec 32 := Scalar.muli v64 c1_i32_589
  let v616 : BitVec 32 := Scalar.addi c0_i32_590 v615
  v616.toNat
def k0_dev18 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_659 : BitVec 32 := 1#32
  let v682 : BitVec 32 := Scalar.muli v77 c1_i32_659
  let v683 : BitVec 32 := Scalar.addi c0_i32_660 v682
  v683.toNat
def k0_dev19 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_728 : BitVec 32 := 1#32
  let v749 : BitVec 32 := Scalar.muli v64 c1_i32_728
  let v750 : BitVec 32 := Scalar.addi c0_i32_729 v749
  v750.toNat
def k0_dev20 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_798 : BitVec 32 := 1#32
  let v816 : BitVec 32 := Scalar.muli v77 c1_i32_798
  let v817 : BitVec 32 := Scalar.addi c0_i32_799 v816
  v817.toNat
def k0_dev21 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_868 : BitVec 32 := 1#32
  let v883 : BitVec 32 := Scalar.muli v64 c1_i32_868
  let v884 : BitVec 32 := Scalar.addi c0_i32_869 v883
  v884.toNat
def k0_dev22 (d0 : Dev nD) : Nat :=
  let c0_i32_939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_938 : BitVec 32 := 1#32
  let v950 : BitVec 32 := Scalar.muli v77 c1_i32_938
  let v951 : BitVec 32 := Scalar.addi c0_i32_939 v950
  v951.toNat
def k0_dev23 (d0 : Dev nD) : Nat :=
  let c0_i32_1009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_1008 : BitVec 32 := 1#32
  let v1017 : BitVec 32 := Scalar.muli v64 c1_i32_1008
  let v1018 : BitVec 32 := Scalar.addi c0_i32_1009 v1017
  v1018.toNat
def k0_dev24 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_1078 : BitVec 32 := 1#32
  let v1084 : BitVec 32 := Scalar.muli v77 c1_i32_1078
  let v1085 : BitVec 32 := Scalar.addi c0_i32_1079 v1084
  v1085.toNat
def k0_dev25 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_1148 : BitVec 32 := 1#32
  let v1151 : BitVec 32 := Scalar.muli v64 c1_i32_1148
  let v1152 : BitVec 32 := Scalar.addi c0_i32_1149 v1151
  v1152.toNat
def k0_dev26 (d0 : Dev nD) : Nat :=
  let c0_i32_1219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_1218 : BitVec 32 := 1#32
  let v1218 : BitVec 32 := Scalar.muli v77 c1_i32_1218
  let v1219 : BitVec 32 := Scalar.addi c0_i32_1219 v1218
  v1219.toNat
def k0_dev27 (d0 : Dev nD) : Nat :=
  let c0_i32_1289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_1288 : BitVec 32 := 1#32
  let v1285 : BitVec 32 := Scalar.muli v64 c1_i32_1288
  let v1286 : BitVec 32 := Scalar.addi c0_i32_1289 v1285
  v1286.toNat
def k0_dev28 (d0 : Dev nD) : Nat :=
  let c0_i32_1359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_1358 : BitVec 32 := 1#32
  let v1352 : BitVec 32 := Scalar.muli v77 c1_i32_1358
  let v1353 : BitVec 32 := Scalar.addi c0_i32_1359 v1352
  v1353.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_1731 : BitVec 32 := 4#32
  let c0_i32_1732 : BitVec 32 := 0#32
  let v1713 : BitVec 1 := Scalar.cmpi .eq c4_i32_1731 c0_i32_1732
  let c1_i32_1733 : BitVec 32 := 1#32
  let v1714 : BitVec 32 := Scalar.select v1713 c1_i32_1733 c4_i32_1731
  let v1715 : BitVec 32 := Scalar.remsi v40 v1714
  let c0_i32_1735 : BitVec 32 := 0#32
  let v1717 : BitVec 1 := Scalar.cmpi .slt v1715 c0_i32_1735
  let c0_i32_1736 : BitVec 32 := 0#32
  let v1718 : BitVec 1 := Scalar.cmpi .slt v1714 c0_i32_1736
  let v1719 : BitVec 1 := Scalar.xori v1717 v1718
  let c0_i32_1734 : BitVec 32 := 0#32
  let v1716 : BitVec 1 := Scalar.cmpi .ne v1715 c0_i32_1734
  let v1720 : BitVec 1 := Scalar.andi v1719 v1716
  let v1721 : BitVec 32 := Scalar.addi v1715 v1714
  let v1722 : BitVec 32 := Scalar.select v1720 v1721 v1715
  let c512_i32_1737 : BitVec 32 := 512#32
  let v1723 : BitVec 32 := Scalar.muli v1722 c512_i32_1737
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_1738 : BitVec 32 := 4#32
  let c0_i32_1739 : BitVec 32 := 0#32
  let v1724 : BitVec 1 := Scalar.cmpi .eq c4_i32_1738 c0_i32_1739
  let c1_i32_1740 : BitVec 32 := 1#32
  let v1725 : BitVec 32 := Scalar.select v1724 c1_i32_1740 c4_i32_1738
  let v1726 : BitVec 32 := Scalar.remsi v29 v1725
  let c0_i32_1742 : BitVec 32 := 0#32
  let v1728 : BitVec 1 := Scalar.cmpi .slt v1726 c0_i32_1742
  let c0_i32_1743 : BitVec 32 := 0#32
  let v1729 : BitVec 1 := Scalar.cmpi .slt v1725 c0_i32_1743
  let v1730 : BitVec 1 := Scalar.xori v1728 v1729
  let c0_i32_1741 : BitVec 32 := 0#32
  let v1727 : BitVec 1 := Scalar.cmpi .ne v1726 c0_i32_1741
  let v1731 : BitVec 1 := Scalar.andi v1730 v1727
  let v1732 : BitVec 32 := Scalar.addi v1726 v1725
  let v1733 : BitVec 32 := Scalar.select v1731 v1732 v1726
  let c128_i32_1744 : BitVec 32 := 128#32
  let v1734 : BitVec 32 := Scalar.muli v1733 c128_i32_1744
  let v1735 : BitVec 32 := Scalar.addi v1723 v1734
  let c0_i32_1755 : BitVec 32 := 0#32
  ![v1735.toNat, 0]
def k0_dev29 (d0 : Dev nD) : Nat :=
  let c0_i32_1752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_1751 : BitVec 32 := 1#32
  let v1736 : BitVec 32 := Scalar.muli v90 c1_i32_1751
  let v1737 : BitVec 32 := Scalar.addi c0_i32_1752 v1736
  v1737.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_1756 : BitVec 32 := 4#32
  let c0_i32_1757 : BitVec 32 := 0#32
  let v1745 : BitVec 1 := Scalar.cmpi .eq c4_i32_1756 c0_i32_1757
  let c1_i32_1758 : BitVec 32 := 1#32
  let v1746 : BitVec 32 := Scalar.select v1745 c1_i32_1758 c4_i32_1756
  let v1747 : BitVec 32 := Scalar.remsi v51 v1746
  let c0_i32_1760 : BitVec 32 := 0#32
  let v1749 : BitVec 1 := Scalar.cmpi .slt v1747 c0_i32_1760
  let c0_i32_1761 : BitVec 32 := 0#32
  let v1750 : BitVec 1 := Scalar.cmpi .slt v1746 c0_i32_1761
  let v1751 : BitVec 1 := Scalar.xori v1749 v1750
  let c0_i32_1759 : BitVec 32 := 0#32
  let v1748 : BitVec 1 := Scalar.cmpi .ne v1747 c0_i32_1759
  let v1752 : BitVec 1 := Scalar.andi v1751 v1748
  let v1753 : BitVec 32 := Scalar.addi v1747 v1746
  let v1754 : BitVec 32 := Scalar.select v1752 v1753 v1747
  let c512_i32_1762 : BitVec 32 := 512#32
  let v1755 : BitVec 32 := Scalar.muli v1754 c512_i32_1762
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_1763 : BitVec 32 := 4#32
  let c0_i32_1764 : BitVec 32 := 0#32
  let v1756 : BitVec 1 := Scalar.cmpi .eq c4_i32_1763 c0_i32_1764
  let c1_i32_1765 : BitVec 32 := 1#32
  let v1757 : BitVec 32 := Scalar.select v1756 c1_i32_1765 c4_i32_1763
  let v1758 : BitVec 32 := Scalar.remsi v29 v1757
  let c0_i32_1767 : BitVec 32 := 0#32
  let v1760 : BitVec 1 := Scalar.cmpi .slt v1758 c0_i32_1767
  let c0_i32_1768 : BitVec 32 := 0#32
  let v1761 : BitVec 1 := Scalar.cmpi .slt v1757 c0_i32_1768
  let v1762 : BitVec 1 := Scalar.xori v1760 v1761
  let c0_i32_1766 : BitVec 32 := 0#32
  let v1759 : BitVec 1 := Scalar.cmpi .ne v1758 c0_i32_1766
  let v1763 : BitVec 1 := Scalar.andi v1762 v1759
  let v1764 : BitVec 32 := Scalar.addi v1758 v1757
  let v1765 : BitVec 32 := Scalar.select v1763 v1764 v1758
  let c128_i32_1769 : BitVec 32 := 128#32
  let v1766 : BitVec 32 := Scalar.muli v1765 c128_i32_1769
  let v1767 : BitVec 32 := Scalar.addi v1755 v1766
  let c512_i32_1780 : BitVec 32 := 512#32
  ![v1767.toNat, 512]
def k0_dev30 (d0 : Dev nD) : Nat :=
  let c0_i32_1777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_1776 : BitVec 32 := 1#32
  let v1768 : BitVec 32 := Scalar.muli v103 c1_i32_1776
  let v1769 : BitVec 32 := Scalar.addi c0_i32_1777 v1768
  v1769.toNat
def k0_off11 (d0 : Dev nD) (c0_i32_1788 : BitVec 32) : Fin 3 → Nat :=
  let c0_i32_1789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_1781 : BitVec 32 := 4#32
  let c0_i32_1782 : BitVec 32 := 0#32
  let v1777 : BitVec 1 := Scalar.cmpi .eq c4_i32_1781 c0_i32_1782
  let c1_i32_1783 : BitVec 32 := 1#32
  let v1778 : BitVec 32 := Scalar.select v1777 c1_i32_1783 c4_i32_1781
  let v1779 : BitVec 32 := Scalar.remsi v12 v1778
  let c0_i32_1785 : BitVec 32 := 0#32
  let v1781 : BitVec 1 := Scalar.cmpi .slt v1779 c0_i32_1785
  let c0_i32_1786 : BitVec 32 := 0#32
  let v1782 : BitVec 1 := Scalar.cmpi .slt v1778 c0_i32_1786
  let v1783 : BitVec 1 := Scalar.xori v1781 v1782
  let c0_i32_1784 : BitVec 32 := 0#32
  let v1780 : BitVec 1 := Scalar.cmpi .ne v1779 c0_i32_1784
  let v1784 : BitVec 1 := Scalar.andi v1783 v1780
  let v1785 : BitVec 32 := Scalar.addi v1779 v1778
  let v1786 : BitVec 32 := Scalar.select v1784 v1785 v1779
  let c512_i32_1787 : BitVec 32 := 512#32
  let v1787 : BitVec 32 := Scalar.muli v1786 c512_i32_1787
  let v1788 : BitVec 32 := Scalar.addi v1787 c0_i32_1788
  let c128_i32_1803 : BitVec 32 := 128#32
  ![0, v1788.toNat, 128]
def k0_dev31 (d0 : Dev nD) : Nat :=
  let c0_i32_1800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_1799 : BitVec 32 := 1#32
  let v1789 : BitVec 32 := Scalar.muli v64 c1_i32_1799
  let v1790 : BitVec 32 := Scalar.addi c0_i32_1800 v1789
  v1790.toNat
def k0_off12 (d0 : Dev nD) (c0_i32_1811 : BitVec 32) : Fin 3 → Nat :=
  let c0_i32_1812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_1804 : BitVec 32 := 4#32
  let c0_i32_1805 : BitVec 32 := 0#32
  let v1799 : BitVec 1 := Scalar.cmpi .eq c4_i32_1804 c0_i32_1805
  let c1_i32_1806 : BitVec 32 := 1#32
  let v1800 : BitVec 32 := Scalar.select v1799 c1_i32_1806 c4_i32_1804
  let v1801 : BitVec 32 := Scalar.remsi v12 v1800
  let c0_i32_1808 : BitVec 32 := 0#32
  let v1803 : BitVec 1 := Scalar.cmpi .slt v1801 c0_i32_1808
  let c0_i32_1809 : BitVec 32 := 0#32
  let v1804 : BitVec 1 := Scalar.cmpi .slt v1800 c0_i32_1809
  let v1805 : BitVec 1 := Scalar.xori v1803 v1804
  let c0_i32_1807 : BitVec 32 := 0#32
  let v1802 : BitVec 1 := Scalar.cmpi .ne v1801 c0_i32_1807
  let v1806 : BitVec 1 := Scalar.andi v1805 v1802
  let v1807 : BitVec 32 := Scalar.addi v1801 v1800
  let v1808 : BitVec 32 := Scalar.select v1806 v1807 v1801
  let c512_i32_1810 : BitVec 32 := 512#32
  let v1809 : BitVec 32 := Scalar.muli v1808 c512_i32_1810
  let v1810 : BitVec 32 := Scalar.addi v1809 c0_i32_1811
  let c640_i32 : BitVec 32 := 640#32
  ![0, v1810.toNat, 640]
def k0_dev32 (d0 : Dev nD) : Nat :=
  let c0_i32_1823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_1822 : BitVec 32 := 1#32
  let v1811 : BitVec 32 := Scalar.muli v77 c1_i32_1822
  let v1812 : BitVec 32 := Scalar.addi c0_i32_1823 v1811
  v1812.toNat
def k0_dev33 (d0 : Dev nD) : Nat :=
  let c0_i32_1845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_1844 : BitVec 32 := 1#32
  let v1833 : BitVec 32 := Scalar.muli v64 c1_i32_1844
  let v1834 : BitVec 32 := Scalar.addi c0_i32_1845 v1833
  v1834.toNat
def k0_dev34 (d0 : Dev nD) : Nat :=
  let c0_i32_1868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_1867 : BitVec 32 := 1#32
  let v1855 : BitVec 32 := Scalar.muli v77 c1_i32_1867
  let v1856 : BitVec 32 := Scalar.addi c0_i32_1868 v1855
  v1856.toNat
def k0_dev35 (d0 : Dev nD) : Nat :=
  let c0_i32_1891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_1890 : BitVec 32 := 1#32
  let v1877 : BitVec 32 := Scalar.muli v64 c1_i32_1890
  let v1878 : BitVec 32 := Scalar.addi c0_i32_1891 v1877
  v1878.toNat
def k0_dev36 (d0 : Dev nD) : Nat :=
  let c0_i32_1914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_1913 : BitVec 32 := 1#32
  let v1899 : BitVec 32 := Scalar.muli v77 c1_i32_1913
  let v1900 : BitVec 32 := Scalar.addi c0_i32_1914 v1899
  v1900.toNat
def k0_dev37 (d0 : Dev nD) : Nat :=
  let c0_i32_1937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_1936 : BitVec 32 := 1#32
  let v1921 : BitVec 32 := Scalar.muli v64 c1_i32_1936
  let v1922 : BitVec 32 := Scalar.addi c0_i32_1937 v1921
  v1922.toNat
def k0_dev38 (d0 : Dev nD) : Nat :=
  let c0_i32_1960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_1959 : BitVec 32 := 1#32
  let v1943 : BitVec 32 := Scalar.muli v77 c1_i32_1959
  let v1944 : BitVec 32 := Scalar.addi c0_i32_1960 v1943
  v1944.toNat
def k0_off13 (d0 : Dev nD) (c0_i32_1979 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_1980 : BitVec 32 := 4#32
  let c0_i32_1981 : BitVec 32 := 0#32
  let v1963 : BitVec 1 := Scalar.cmpi .eq c4_i32_1980 c0_i32_1981
  let c1_i32_1982 : BitVec 32 := 1#32
  let v1964 : BitVec 32 := Scalar.select v1963 c1_i32_1982 c4_i32_1980
  let v1965 : BitVec 32 := Scalar.remsi v40 v1964
  let c0_i32_1984 : BitVec 32 := 0#32
  let v1967 : BitVec 1 := Scalar.cmpi .slt v1965 c0_i32_1984
  let c0_i32_1985 : BitVec 32 := 0#32
  let v1968 : BitVec 1 := Scalar.cmpi .slt v1964 c0_i32_1985
  let v1969 : BitVec 1 := Scalar.xori v1967 v1968
  let c0_i32_1983 : BitVec 32 := 0#32
  let v1966 : BitVec 1 := Scalar.cmpi .ne v1965 c0_i32_1983
  let v1970 : BitVec 1 := Scalar.andi v1969 v1966
  let v1971 : BitVec 32 := Scalar.addi v1965 v1964
  let v1972 : BitVec 32 := Scalar.select v1970 v1971 v1965
  let c512_i32_1986 : BitVec 32 := 512#32
  let v1973 : BitVec 32 := Scalar.muli v1972 c512_i32_1986
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1978 : BitVec 32 := 1#32
  let v1961 : BitVec 32 := Scalar.subi v29 c1_i32_1978
  let v1962 : BitVec 32 := Scalar.subi v1961 c0_i32_1979
  let c4_i32_1987 : BitVec 32 := 4#32
  let c0_i32_1988 : BitVec 32 := 0#32
  let v1974 : BitVec 1 := Scalar.cmpi .eq c4_i32_1987 c0_i32_1988
  let c1_i32_1989 : BitVec 32 := 1#32
  let v1975 : BitVec 32 := Scalar.select v1974 c1_i32_1989 c4_i32_1987
  let v1976 : BitVec 32 := Scalar.remsi v1962 v1975
  let c0_i32_1991 : BitVec 32 := 0#32
  let v1978 : BitVec 1 := Scalar.cmpi .slt v1976 c0_i32_1991
  let c0_i32_1992 : BitVec 32 := 0#32
  let v1979 : BitVec 1 := Scalar.cmpi .slt v1975 c0_i32_1992
  let v1980 : BitVec 1 := Scalar.xori v1978 v1979
  let c0_i32_1990 : BitVec 32 := 0#32
  let v1977 : BitVec 1 := Scalar.cmpi .ne v1976 c0_i32_1990
  let v1981 : BitVec 1 := Scalar.andi v1980 v1977
  let v1982 : BitVec 32 := Scalar.addi v1976 v1975
  let v1983 : BitVec 32 := Scalar.select v1981 v1982 v1976
  let c128_i32_1993 : BitVec 32 := 128#32
  let v1984 : BitVec 32 := Scalar.muli v1983 c128_i32_1993
  let v1985 : BitVec 32 := Scalar.addi v1973 v1984
  let v1986 : Index := Scalar.indexCast v1985
  let c0_1994 : Index := 0#32
  ![v1986.toNat, 0]
def k0_off14 (d0 : Dev nD) (c0_i32_2001 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_2002 : BitVec 32 := 4#32
  let c0_i32_2003 : BitVec 32 := 0#32
  let v1996 : BitVec 1 := Scalar.cmpi .eq c4_i32_2002 c0_i32_2003
  let c1_i32_2004 : BitVec 32 := 1#32
  let v1997 : BitVec 32 := Scalar.select v1996 c1_i32_2004 c4_i32_2002
  let v1998 : BitVec 32 := Scalar.remsi v40 v1997
  let c0_i32_2006 : BitVec 32 := 0#32
  let v2000 : BitVec 1 := Scalar.cmpi .slt v1998 c0_i32_2006
  let c0_i32_2007 : BitVec 32 := 0#32
  let v2001 : BitVec 1 := Scalar.cmpi .slt v1997 c0_i32_2007
  let v2002 : BitVec 1 := Scalar.xori v2000 v2001
  let c0_i32_2005 : BitVec 32 := 0#32
  let v1999 : BitVec 1 := Scalar.cmpi .ne v1998 c0_i32_2005
  let v2003 : BitVec 1 := Scalar.andi v2002 v1999
  let v2004 : BitVec 32 := Scalar.addi v1998 v1997
  let v2005 : BitVec 32 := Scalar.select v2003 v2004 v1998
  let c512_i32_2008 : BitVec 32 := 512#32
  let v2006 : BitVec 32 := Scalar.muli v2005 c512_i32_2008
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2000 : BitVec 32 := 1#32
  let v1994 : BitVec 32 := Scalar.subi v29 c1_i32_2000
  let v1995 : BitVec 32 := Scalar.subi v1994 c0_i32_2001
  let c4_i32_2009 : BitVec 32 := 4#32
  let c0_i32_2010 : BitVec 32 := 0#32
  let v2007 : BitVec 1 := Scalar.cmpi .eq c4_i32_2009 c0_i32_2010
  let c1_i32_2011 : BitVec 32 := 1#32
  let v2008 : BitVec 32 := Scalar.select v2007 c1_i32_2011 c4_i32_2009
  let v2009 : BitVec 32 := Scalar.remsi v1995 v2008
  let c0_i32_2013 : BitVec 32 := 0#32
  let v2011 : BitVec 1 := Scalar.cmpi .slt v2009 c0_i32_2013
  let c0_i32_2014 : BitVec 32 := 0#32
  let v2012 : BitVec 1 := Scalar.cmpi .slt v2008 c0_i32_2014
  let v2013 : BitVec 1 := Scalar.xori v2011 v2012
  let c0_i32_2012 : BitVec 32 := 0#32
  let v2010 : BitVec 1 := Scalar.cmpi .ne v2009 c0_i32_2012
  let v2014 : BitVec 1 := Scalar.andi v2013 v2010
  let v2015 : BitVec 32 := Scalar.addi v2009 v2008
  let v2016 : BitVec 32 := Scalar.select v2014 v2015 v2009
  let c128_i32_2015 : BitVec 32 := 128#32
  let v2017 : BitVec 32 := Scalar.muli v2016 c128_i32_2015
  let v2018 : BitVec 32 := Scalar.addi v2006 v2017
  let c0_i32_2026 : BitVec 32 := 0#32
  ![v2018.toNat, 0]
def k0_dev39 (d0 : Dev nD) : Nat :=
  let c0_i32_2023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_2022 : BitVec 32 := 1#32
  let v2019 : BitVec 32 := Scalar.muli v90 c1_i32_2022
  let v2020 : BitVec 32 := Scalar.addi c0_i32_2023 v2019
  v2020.toNat
def k0_off15 (d0 : Dev nD) (c0_i32_2042 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_2043 : BitVec 32 := 4#32
  let c0_i32_2044 : BitVec 32 := 0#32
  let v2038 : BitVec 1 := Scalar.cmpi .eq c4_i32_2043 c0_i32_2044
  let c1_i32_2045 : BitVec 32 := 1#32
  let v2039 : BitVec 32 := Scalar.select v2038 c1_i32_2045 c4_i32_2043
  let v2040 : BitVec 32 := Scalar.remsi v51 v2039
  let c0_i32_2047 : BitVec 32 := 0#32
  let v2042 : BitVec 1 := Scalar.cmpi .slt v2040 c0_i32_2047
  let c0_i32_2048 : BitVec 32 := 0#32
  let v2043 : BitVec 1 := Scalar.cmpi .slt v2039 c0_i32_2048
  let v2044 : BitVec 1 := Scalar.xori v2042 v2043
  let c0_i32_2046 : BitVec 32 := 0#32
  let v2041 : BitVec 1 := Scalar.cmpi .ne v2040 c0_i32_2046
  let v2045 : BitVec 1 := Scalar.andi v2044 v2041
  let v2046 : BitVec 32 := Scalar.addi v2040 v2039
  let v2047 : BitVec 32 := Scalar.select v2045 v2046 v2040
  let c512_i32_2049 : BitVec 32 := 512#32
  let v2048 : BitVec 32 := Scalar.muli v2047 c512_i32_2049
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2041 : BitVec 32 := 1#32
  let v2036 : BitVec 32 := Scalar.addi v29 c1_i32_2041
  let v2037 : BitVec 32 := Scalar.addi v2036 c0_i32_2042
  let c4_i32_2050 : BitVec 32 := 4#32
  let c0_i32_2051 : BitVec 32 := 0#32
  let v2049 : BitVec 1 := Scalar.cmpi .eq c4_i32_2050 c0_i32_2051
  let c1_i32_2052 : BitVec 32 := 1#32
  let v2050 : BitVec 32 := Scalar.select v2049 c1_i32_2052 c4_i32_2050
  let v2051 : BitVec 32 := Scalar.remsi v2037 v2050
  let c0_i32_2054 : BitVec 32 := 0#32
  let v2053 : BitVec 1 := Scalar.cmpi .slt v2051 c0_i32_2054
  let c0_i32_2055 : BitVec 32 := 0#32
  let v2054 : BitVec 1 := Scalar.cmpi .slt v2050 c0_i32_2055
  let v2055 : BitVec 1 := Scalar.xori v2053 v2054
  let c0_i32_2053 : BitVec 32 := 0#32
  let v2052 : BitVec 1 := Scalar.cmpi .ne v2051 c0_i32_2053
  let v2056 : BitVec 1 := Scalar.andi v2055 v2052
  let v2057 : BitVec 32 := Scalar.addi v2051 v2050
  let v2058 : BitVec 32 := Scalar.select v2056 v2057 v2051
  let c128_i32_2056 : BitVec 32 := 128#32
  let v2059 : BitVec 32 := Scalar.muli v2058 c128_i32_2056
  let v2060 : BitVec 32 := Scalar.addi v2048 v2059
  let v2061 : Index := Scalar.indexCast v2060
  let c512_2057 : Index := 512#32
  ![v2061.toNat, 512]
def k0_off16 (d0 : Dev nD) (c0_i32_2064 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_2065 : BitVec 32 := 4#32
  let c0_i32_2066 : BitVec 32 := 0#32
  let v2071 : BitVec 1 := Scalar.cmpi .eq c4_i32_2065 c0_i32_2066
  let c1_i32_2067 : BitVec 32 := 1#32
  let v2072 : BitVec 32 := Scalar.select v2071 c1_i32_2067 c4_i32_2065
  let v2073 : BitVec 32 := Scalar.remsi v51 v2072
  let c0_i32_2069 : BitVec 32 := 0#32
  let v2075 : BitVec 1 := Scalar.cmpi .slt v2073 c0_i32_2069
  let c0_i32_2070 : BitVec 32 := 0#32
  let v2076 : BitVec 1 := Scalar.cmpi .slt v2072 c0_i32_2070
  let v2077 : BitVec 1 := Scalar.xori v2075 v2076
  let c0_i32_2068 : BitVec 32 := 0#32
  let v2074 : BitVec 1 := Scalar.cmpi .ne v2073 c0_i32_2068
  let v2078 : BitVec 1 := Scalar.andi v2077 v2074
  let v2079 : BitVec 32 := Scalar.addi v2073 v2072
  let v2080 : BitVec 32 := Scalar.select v2078 v2079 v2073
  let c512_i32_2071 : BitVec 32 := 512#32
  let v2081 : BitVec 32 := Scalar.muli v2080 c512_i32_2071
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2063 : BitVec 32 := 1#32
  let v2069 : BitVec 32 := Scalar.addi v29 c1_i32_2063
  let v2070 : BitVec 32 := Scalar.addi v2069 c0_i32_2064
  let c4_i32_2072 : BitVec 32 := 4#32
  let c0_i32_2073 : BitVec 32 := 0#32
  let v2082 : BitVec 1 := Scalar.cmpi .eq c4_i32_2072 c0_i32_2073
  let c1_i32_2074 : BitVec 32 := 1#32
  let v2083 : BitVec 32 := Scalar.select v2082 c1_i32_2074 c4_i32_2072
  let v2084 : BitVec 32 := Scalar.remsi v2070 v2083
  let c0_i32_2076 : BitVec 32 := 0#32
  let v2086 : BitVec 1 := Scalar.cmpi .slt v2084 c0_i32_2076
  let c0_i32_2077 : BitVec 32 := 0#32
  let v2087 : BitVec 1 := Scalar.cmpi .slt v2083 c0_i32_2077
  let v2088 : BitVec 1 := Scalar.xori v2086 v2087
  let c0_i32_2075 : BitVec 32 := 0#32
  let v2085 : BitVec 1 := Scalar.cmpi .ne v2084 c0_i32_2075
  let v2089 : BitVec 1 := Scalar.andi v2088 v2085
  let v2090 : BitVec 32 := Scalar.addi v2084 v2083
  let v2091 : BitVec 32 := Scalar.select v2089 v2090 v2084
  let c128_i32_2078 : BitVec 32 := 128#32
  let v2092 : BitVec 32 := Scalar.muli v2091 c128_i32_2078
  let v2093 : BitVec 32 := Scalar.addi v2081 v2092
  let c512_i32_2089 : BitVec 32 := 512#32
  ![v2093.toNat, 512]
def k0_dev40 (d0 : Dev nD) : Nat :=
  let c0_i32_2086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_2085 : BitVec 32 := 1#32
  let v2094 : BitVec 32 := Scalar.muli v103 c1_i32_2085
  let v2095 : BitVec 32 := Scalar.addi c0_i32_2086 v2094
  v2095.toNat
def k0_off17 (d0 : Dev nD) (c0_i32_2109 : BitVec 32) (c0_i32_2117 : BitVec 32) : Fin 3 → Nat :=
  let c0_2118 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_2108 : BitVec 32 := 1#32
  let v2111 : BitVec 32 := Scalar.subi v12 c1_i32_2108
  let v2112 : BitVec 32 := Scalar.subi v2111 c0_i32_2109
  let c4_i32_2110 : BitVec 32 := 4#32
  let c0_i32_2111 : BitVec 32 := 0#32
  let v2113 : BitVec 1 := Scalar.cmpi .eq c4_i32_2110 c0_i32_2111
  let c1_i32_2112 : BitVec 32 := 1#32
  let v2114 : BitVec 32 := Scalar.select v2113 c1_i32_2112 c4_i32_2110
  let v2115 : BitVec 32 := Scalar.remsi v2112 v2114
  let c0_i32_2114 : BitVec 32 := 0#32
  let v2117 : BitVec 1 := Scalar.cmpi .slt v2115 c0_i32_2114
  let c0_i32_2115 : BitVec 32 := 0#32
  let v2118 : BitVec 1 := Scalar.cmpi .slt v2114 c0_i32_2115
  let v2119 : BitVec 1 := Scalar.xori v2117 v2118
  let c0_i32_2113 : BitVec 32 := 0#32
  let v2116 : BitVec 1 := Scalar.cmpi .ne v2115 c0_i32_2113
  let v2120 : BitVec 1 := Scalar.andi v2119 v2116
  let v2121 : BitVec 32 := Scalar.addi v2115 v2114
  let v2122 : BitVec 32 := Scalar.select v2120 v2121 v2115
  let c512_i32_2116 : BitVec 32 := 512#32
  let v2123 : BitVec 32 := Scalar.muli v2122 c512_i32_2116
  let v2124 : BitVec 32 := Scalar.addi v2123 c0_i32_2117
  let v2125 : Index := Scalar.indexCast v2124
  let c128 : Index := 128#32
  ![0, v2125.toNat, 128]
def k0_off18 (d0 : Dev nD) (c0_i32_2125 : BitVec 32) (c0_i32_2133 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_2124 : BitVec 32 := 1#32
  let v2131 : BitVec 32 := Scalar.subi v12 c1_i32_2124
  let v2132 : BitVec 32 := Scalar.subi v2131 c0_i32_2125
  let c4_i32_2126 : BitVec 32 := 4#32
  let c0_i32_2127 : BitVec 32 := 0#32
  let v2133 : BitVec 1 := Scalar.cmpi .eq c4_i32_2126 c0_i32_2127
  let c1_i32_2128 : BitVec 32 := 1#32
  let v2134 : BitVec 32 := Scalar.select v2133 c1_i32_2128 c4_i32_2126
  let v2135 : BitVec 32 := Scalar.remsi v2132 v2134
  let c0_i32_2130 : BitVec 32 := 0#32
  let v2137 : BitVec 1 := Scalar.cmpi .slt v2135 c0_i32_2130
  let c0_i32_2131 : BitVec 32 := 0#32
  let v2138 : BitVec 1 := Scalar.cmpi .slt v2134 c0_i32_2131
  let v2139 : BitVec 1 := Scalar.xori v2137 v2138
  let c0_i32_2129 : BitVec 32 := 0#32
  let v2136 : BitVec 1 := Scalar.cmpi .ne v2135 c0_i32_2129
  let v2140 : BitVec 1 := Scalar.andi v2139 v2136
  let v2141 : BitVec 32 := Scalar.addi v2135 v2134
  let v2142 : BitVec 32 := Scalar.select v2140 v2141 v2135
  let c512_i32_2132 : BitVec 32 := 512#32
  let v2143 : BitVec 32 := Scalar.muli v2142 c512_i32_2132
  let v2144 : BitVec 32 := Scalar.addi v2143 c0_i32_2133
  let v2145 : Index := Scalar.indexCast v2144
  let c128_2134 : Index := 128#32
  ![v2145.toNat, 128]
def k0_off19 (d0 : Dev nD) (c0_i32_2136 : BitVec 32) (c0_i32_2144 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_2135 : BitVec 32 := 1#32
  let v2147 : BitVec 32 := Scalar.subi v12 c1_i32_2135
  let v2148 : BitVec 32 := Scalar.subi v2147 c0_i32_2136
  let c4_i32_2137 : BitVec 32 := 4#32
  let c0_i32_2138 : BitVec 32 := 0#32
  let v2149 : BitVec 1 := Scalar.cmpi .eq c4_i32_2137 c0_i32_2138
  let c1_i32_2139 : BitVec 32 := 1#32
  let v2150 : BitVec 32 := Scalar.select v2149 c1_i32_2139 c4_i32_2137
  let v2151 : BitVec 32 := Scalar.remsi v2148 v2150
  let c0_i32_2141 : BitVec 32 := 0#32
  let v2153 : BitVec 1 := Scalar.cmpi .slt v2151 c0_i32_2141
  let c0_i32_2142 : BitVec 32 := 0#32
  let v2154 : BitVec 1 := Scalar.cmpi .slt v2150 c0_i32_2142
  let v2155 : BitVec 1 := Scalar.xori v2153 v2154
  let c0_i32_2140 : BitVec 32 := 0#32
  let v2152 : BitVec 1 := Scalar.cmpi .ne v2151 c0_i32_2140
  let v2156 : BitVec 1 := Scalar.andi v2155 v2152
  let v2157 : BitVec 32 := Scalar.addi v2151 v2150
  let v2158 : BitVec 32 := Scalar.select v2156 v2157 v2151
  let c512_i32_2143 : BitVec 32 := 512#32
  let v2159 : BitVec 32 := Scalar.muli v2158 c512_i32_2143
  let v2160 : BitVec 32 := Scalar.addi v2159 c0_i32_2144
  let c128_i32_2158 : BitVec 32 := 128#32
  ![v2160.toNat, 128]
def k0_dev41 (d0 : Dev nD) : Nat :=
  let c0_i32_2155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_2154 : BitVec 32 := 1#32
  let v2161 : BitVec 32 := Scalar.muli v64 c1_i32_2154
  let v2162 : BitVec 32 := Scalar.addi c0_i32_2155 v2161
  v2162.toNat
def k0_off20 (d0 : Dev nD) (c0_i32_2178 : BitVec 32) (c0_i32_2186 : BitVec 32) : Fin 3 → Nat :=
  let c0_2187 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_2177 : BitVec 32 := 1#32
  let v2178 : BitVec 32 := Scalar.addi v12 c1_i32_2177
  let v2179 : BitVec 32 := Scalar.addi v2178 c0_i32_2178
  let c4_i32_2179 : BitVec 32 := 4#32
  let c0_i32_2180 : BitVec 32 := 0#32
  let v2180 : BitVec 1 := Scalar.cmpi .eq c4_i32_2179 c0_i32_2180
  let c1_i32_2181 : BitVec 32 := 1#32
  let v2181 : BitVec 32 := Scalar.select v2180 c1_i32_2181 c4_i32_2179
  let v2182 : BitVec 32 := Scalar.remsi v2179 v2181
  let c0_i32_2183 : BitVec 32 := 0#32
  let v2184 : BitVec 1 := Scalar.cmpi .slt v2182 c0_i32_2183
  let c0_i32_2184 : BitVec 32 := 0#32
  let v2185 : BitVec 1 := Scalar.cmpi .slt v2181 c0_i32_2184
  let v2186 : BitVec 1 := Scalar.xori v2184 v2185
  let c0_i32_2182 : BitVec 32 := 0#32
  let v2183 : BitVec 1 := Scalar.cmpi .ne v2182 c0_i32_2182
  let v2187 : BitVec 1 := Scalar.andi v2186 v2183
  let v2188 : BitVec 32 := Scalar.addi v2182 v2181
  let v2189 : BitVec 32 := Scalar.select v2187 v2188 v2182
  let c512_i32_2185 : BitVec 32 := 512#32
  let v2190 : BitVec 32 := Scalar.muli v2189 c512_i32_2185
  let v2191 : BitVec 32 := Scalar.addi v2190 c0_i32_2186
  let v2192 : Index := Scalar.indexCast v2191
  let c640 : Index := 640#32
  ![0, v2192.toNat, 640]
def k0_off21 (d0 : Dev nD) (c0_i32_2194 : BitVec 32) (c0_i32_2202 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_2193 : BitVec 32 := 1#32
  let v2198 : BitVec 32 := Scalar.addi v12 c1_i32_2193
  let v2199 : BitVec 32 := Scalar.addi v2198 c0_i32_2194
  let c4_i32_2195 : BitVec 32 := 4#32
  let c0_i32_2196 : BitVec 32 := 0#32
  let v2200 : BitVec 1 := Scalar.cmpi .eq c4_i32_2195 c0_i32_2196
  let c1_i32_2197 : BitVec 32 := 1#32
  let v2201 : BitVec 32 := Scalar.select v2200 c1_i32_2197 c4_i32_2195
  let v2202 : BitVec 32 := Scalar.remsi v2199 v2201
  let c0_i32_2199 : BitVec 32 := 0#32
  let v2204 : BitVec 1 := Scalar.cmpi .slt v2202 c0_i32_2199
  let c0_i32_2200 : BitVec 32 := 0#32
  let v2205 : BitVec 1 := Scalar.cmpi .slt v2201 c0_i32_2200
  let v2206 : BitVec 1 := Scalar.xori v2204 v2205
  let c0_i32_2198 : BitVec 32 := 0#32
  let v2203 : BitVec 1 := Scalar.cmpi .ne v2202 c0_i32_2198
  let v2207 : BitVec 1 := Scalar.andi v2206 v2203
  let v2208 : BitVec 32 := Scalar.addi v2202 v2201
  let v2209 : BitVec 32 := Scalar.select v2207 v2208 v2202
  let c512_i32_2201 : BitVec 32 := 512#32
  let v2210 : BitVec 32 := Scalar.muli v2209 c512_i32_2201
  let v2211 : BitVec 32 := Scalar.addi v2210 c0_i32_2202
  let v2212 : Index := Scalar.indexCast v2211
  let c640_2203 : Index := 640#32
  ![v2212.toNat, 640]
def k0_off22 (d0 : Dev nD) (c0_i32_2205 : BitVec 32) (c0_i32_2213 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_2204 : BitVec 32 := 1#32
  let v2214 : BitVec 32 := Scalar.addi v12 c1_i32_2204
  let v2215 : BitVec 32 := Scalar.addi v2214 c0_i32_2205
  let c4_i32_2206 : BitVec 32 := 4#32
  let c0_i32_2207 : BitVec 32 := 0#32
  let v2216 : BitVec 1 := Scalar.cmpi .eq c4_i32_2206 c0_i32_2207
  let c1_i32_2208 : BitVec 32 := 1#32
  let v2217 : BitVec 32 := Scalar.select v2216 c1_i32_2208 c4_i32_2206
  let v2218 : BitVec 32 := Scalar.remsi v2215 v2217
  let c0_i32_2210 : BitVec 32 := 0#32
  let v2220 : BitVec 1 := Scalar.cmpi .slt v2218 c0_i32_2210
  let c0_i32_2211 : BitVec 32 := 0#32
  let v2221 : BitVec 1 := Scalar.cmpi .slt v2217 c0_i32_2211
  let v2222 : BitVec 1 := Scalar.xori v2220 v2221
  let c0_i32_2209 : BitVec 32 := 0#32
  let v2219 : BitVec 1 := Scalar.cmpi .ne v2218 c0_i32_2209
  let v2223 : BitVec 1 := Scalar.andi v2222 v2219
  let v2224 : BitVec 32 := Scalar.addi v2218 v2217
  let v2225 : BitVec 32 := Scalar.select v2223 v2224 v2218
  let c512_i32_2212 : BitVec 32 := 512#32
  let v2226 : BitVec 32 := Scalar.muli v2225 c512_i32_2212
  let v2227 : BitVec 32 := Scalar.addi v2226 c0_i32_2213
  let c640_i32_2227 : BitVec 32 := 640#32
  ![v2227.toNat, 640]
def k0_dev42 (d0 : Dev nD) : Nat :=
  let c0_i32_2224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_2223 : BitVec 32 := 1#32
  let v2228 : BitVec 32 := Scalar.muli v77 c1_i32_2223
  let v2229 : BitVec 32 := Scalar.addi c0_i32_2224 v2228
  v2229.toNat
def k0_dev43 (d0 : Dev nD) : Nat :=
  let c0_i32_2294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_2293 : BitVec 32 := 1#32
  let v2295 : BitVec 32 := Scalar.muli v64 c1_i32_2293
  let v2296 : BitVec 32 := Scalar.addi c0_i32_2294 v2295
  v2296.toNat
def k0_dev44 (d0 : Dev nD) : Nat :=
  let c0_i32_2364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_2363 : BitVec 32 := 1#32
  let v2362 : BitVec 32 := Scalar.muli v77 c1_i32_2363
  let v2363 : BitVec 32 := Scalar.addi c0_i32_2364 v2362
  v2363.toNat
def k0_dev45 (d0 : Dev nD) : Nat :=
  let c0_i32_2434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_2433 : BitVec 32 := 1#32
  let v2429 : BitVec 32 := Scalar.muli v64 c1_i32_2433
  let v2430 : BitVec 32 := Scalar.addi c0_i32_2434 v2429
  v2430.toNat
def k0_dev46 (d0 : Dev nD) : Nat :=
  let c0_i32_2504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_2503 : BitVec 32 := 1#32
  let v2496 : BitVec 32 := Scalar.muli v77 c1_i32_2503
  let v2497 : BitVec 32 := Scalar.addi c0_i32_2504 v2496
  v2497.toNat
def k0_dev47 (d0 : Dev nD) : Nat :=
  let c0_i32_2574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_2573 : BitVec 32 := 1#32
  let v2563 : BitVec 32 := Scalar.muli v64 c1_i32_2573
  let v2564 : BitVec 32 := Scalar.addi c0_i32_2574 v2563
  v2564.toNat
def k0_dev48 (d0 : Dev nD) : Nat :=
  let c0_i32_2644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_2643 : BitVec 32 := 1#32
  let v2630 : BitVec 32 := Scalar.muli v77 c1_i32_2643
  let v2631 : BitVec 32 := Scalar.addi c0_i32_2644 v2630
  v2631.toNat
def k0_dev49 (d0 : Dev nD) : Nat :=
  let c0_i32_2707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_2706 : BitVec 32 := 1#32
  let v2705 : BitVec 32 := Scalar.muli v90 c1_i32_2706
  let v2706 : BitVec 32 := Scalar.addi c0_i32_2707 v2705
  v2706.toNat
def k0_dev50 (d0 : Dev nD) : Nat :=
  let c0_i32_2770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_2769 : BitVec 32 := 1#32
  let v2780 : BitVec 32 := Scalar.muli v103 c1_i32_2769
  let v2781 : BitVec 32 := Scalar.addi c0_i32_2770 v2780
  v2781.toNat
def k0_dev51 (d0 : Dev nD) : Nat :=
  let c0_i32_2840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_2839 : BitVec 32 := 1#32
  let v2847 : BitVec 32 := Scalar.muli v64 c1_i32_2839
  let v2848 : BitVec 32 := Scalar.addi c0_i32_2840 v2847
  v2848.toNat
def k0_dev52 (d0 : Dev nD) : Nat :=
  let c0_i32_2910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_2909 : BitVec 32 := 1#32
  let v2914 : BitVec 32 := Scalar.muli v77 c1_i32_2909
  let v2915 : BitVec 32 := Scalar.addi c0_i32_2910 v2914
  v2915.toNat
def k0_dev53 (d0 : Dev nD) : Nat :=
  let c0_i32_2980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_2979 : BitVec 32 := 1#32
  let v2981 : BitVec 32 := Scalar.muli v64 c1_i32_2979
  let v2982 : BitVec 32 := Scalar.addi c0_i32_2980 v2981
  v2982.toNat
def k0_dev54 (d0 : Dev nD) : Nat :=
  let c0_i32_3050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_3049 : BitVec 32 := 1#32
  let v3048 : BitVec 32 := Scalar.muli v77 c1_i32_3049
  let v3049 : BitVec 32 := Scalar.addi c0_i32_3050 v3048
  v3049.toNat
def k0_dev55 (d0 : Dev nD) : Nat :=
  let c0_i32_3120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_3119 : BitVec 32 := 1#32
  let v3115 : BitVec 32 := Scalar.muli v64 c1_i32_3119
  let v3116 : BitVec 32 := Scalar.addi c0_i32_3120 v3115
  v3116.toNat
def k0_dev56 (d0 : Dev nD) : Nat :=
  let c0_i32_3190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_3189 : BitVec 32 := 1#32
  let v3182 : BitVec 32 := Scalar.muli v77 c1_i32_3189
  let v3183 : BitVec 32 := Scalar.addi c0_i32_3190 v3182
  v3183.toNat
def k0_dev57 (d0 : Dev nD) : Nat :=
  let c0_i32_3260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_3259 : BitVec 32 := 1#32
  let v3249 : BitVec 32 := Scalar.muli v64 c1_i32_3259
  let v3250 : BitVec 32 := Scalar.addi c0_i32_3260 v3249
  v3250.toNat
def k0_dev58 (d0 : Dev nD) : Nat :=
  let c0_i32_3330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_3329 : BitVec 32 := 1#32
  let v3316 : BitVec 32 := Scalar.muli v77 c1_i32_3329
  let v3317 : BitVec 32 := Scalar.addi c0_i32_3330 v3316
  v3317.toNat
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_3775 : BitVec 32 := 4#32
  let c0_i32_3776 : BitVec 32 := 0#32
  let v3760 : BitVec 1 := Scalar.cmpi .eq c4_i32_3775 c0_i32_3776
  let c1_i32_3777 : BitVec 32 := 1#32
  let v3761 : BitVec 32 := Scalar.select v3760 c1_i32_3777 c4_i32_3775
  let v3762 : BitVec 32 := Scalar.remsi v40 v3761
  let c0_i32_3779 : BitVec 32 := 0#32
  let v3764 : BitVec 1 := Scalar.cmpi .slt v3762 c0_i32_3779
  let c0_i32_3780 : BitVec 32 := 0#32
  let v3765 : BitVec 1 := Scalar.cmpi .slt v3761 c0_i32_3780
  let v3766 : BitVec 1 := Scalar.xori v3764 v3765
  let c0_i32_3778 : BitVec 32 := 0#32
  let v3763 : BitVec 1 := Scalar.cmpi .ne v3762 c0_i32_3778
  let v3767 : BitVec 1 := Scalar.andi v3766 v3763
  let v3768 : BitVec 32 := Scalar.addi v3762 v3761
  let v3769 : BitVec 32 := Scalar.select v3767 v3768 v3762
  let c512_i32_3781 : BitVec 32 := 512#32
  let v3770 : BitVec 32 := Scalar.muli v3769 c512_i32_3781
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_3774 : BitVec 32 := 1#32
  let v3759 : BitVec 32 := Scalar.addi v29 c1_i32_3774
  let c4_i32_3782 : BitVec 32 := 4#32
  let c0_i32_3783 : BitVec 32 := 0#32
  let v3771 : BitVec 1 := Scalar.cmpi .eq c4_i32_3782 c0_i32_3783
  let c1_i32_3784 : BitVec 32 := 1#32
  let v3772 : BitVec 32 := Scalar.select v3771 c1_i32_3784 c4_i32_3782
  let v3773 : BitVec 32 := Scalar.remsi v3759 v3772
  let c0_i32_3786 : BitVec 32 := 0#32
  let v3775 : BitVec 1 := Scalar.cmpi .slt v3773 c0_i32_3786
  let c0_i32_3787 : BitVec 32 := 0#32
  let v3776 : BitVec 1 := Scalar.cmpi .slt v3772 c0_i32_3787
  let v3777 : BitVec 1 := Scalar.xori v3775 v3776
  let c0_i32_3785 : BitVec 32 := 0#32
  let v3774 : BitVec 1 := Scalar.cmpi .ne v3773 c0_i32_3785
  let v3778 : BitVec 1 := Scalar.andi v3777 v3774
  let v3779 : BitVec 32 := Scalar.addi v3773 v3772
  let v3780 : BitVec 32 := Scalar.select v3778 v3779 v3773
  let c128_i32_3788 : BitVec 32 := 128#32
  let v3781 : BitVec 32 := Scalar.muli v3780 c128_i32_3788
  let v3782 : BitVec 32 := Scalar.addi v3770 v3781
  let c0_i32_3799 : BitVec 32 := 0#32
  ![v3782.toNat, 0]
def k0_dev59 (d0 : Dev nD) : Nat :=
  let c0_i32_3796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_3795 : BitVec 32 := 1#32
  let v3783 : BitVec 32 := Scalar.muli v90 c1_i32_3795
  let v3784 : BitVec 32 := Scalar.addi c0_i32_3796 v3783
  v3784.toNat
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_3801 : BitVec 32 := 4#32
  let c0_i32_3802 : BitVec 32 := 0#32
  let v3793 : BitVec 1 := Scalar.cmpi .eq c4_i32_3801 c0_i32_3802
  let c1_i32_3803 : BitVec 32 := 1#32
  let v3794 : BitVec 32 := Scalar.select v3793 c1_i32_3803 c4_i32_3801
  let v3795 : BitVec 32 := Scalar.remsi v51 v3794
  let c0_i32_3805 : BitVec 32 := 0#32
  let v3797 : BitVec 1 := Scalar.cmpi .slt v3795 c0_i32_3805
  let c0_i32_3806 : BitVec 32 := 0#32
  let v3798 : BitVec 1 := Scalar.cmpi .slt v3794 c0_i32_3806
  let v3799 : BitVec 1 := Scalar.xori v3797 v3798
  let c0_i32_3804 : BitVec 32 := 0#32
  let v3796 : BitVec 1 := Scalar.cmpi .ne v3795 c0_i32_3804
  let v3800 : BitVec 1 := Scalar.andi v3799 v3796
  let v3801 : BitVec 32 := Scalar.addi v3795 v3794
  let v3802 : BitVec 32 := Scalar.select v3800 v3801 v3795
  let c512_i32_3807 : BitVec 32 := 512#32
  let v3803 : BitVec 32 := Scalar.muli v3802 c512_i32_3807
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_3800 : BitVec 32 := 1#32
  let v3792 : BitVec 32 := Scalar.subi v29 c1_i32_3800
  let c4_i32_3808 : BitVec 32 := 4#32
  let c0_i32_3809 : BitVec 32 := 0#32
  let v3804 : BitVec 1 := Scalar.cmpi .eq c4_i32_3808 c0_i32_3809
  let c1_i32_3810 : BitVec 32 := 1#32
  let v3805 : BitVec 32 := Scalar.select v3804 c1_i32_3810 c4_i32_3808
  let v3806 : BitVec 32 := Scalar.remsi v3792 v3805
  let c0_i32_3812 : BitVec 32 := 0#32
  let v3808 : BitVec 1 := Scalar.cmpi .slt v3806 c0_i32_3812
  let c0_i32_3813 : BitVec 32 := 0#32
  let v3809 : BitVec 1 := Scalar.cmpi .slt v3805 c0_i32_3813
  let v3810 : BitVec 1 := Scalar.xori v3808 v3809
  let c0_i32_3811 : BitVec 32 := 0#32
  let v3807 : BitVec 1 := Scalar.cmpi .ne v3806 c0_i32_3811
  let v3811 : BitVec 1 := Scalar.andi v3810 v3807
  let v3812 : BitVec 32 := Scalar.addi v3806 v3805
  let v3813 : BitVec 32 := Scalar.select v3811 v3812 v3806
  let c128_i32_3814 : BitVec 32 := 128#32
  let v3814 : BitVec 32 := Scalar.muli v3813 c128_i32_3814
  let v3815 : BitVec 32 := Scalar.addi v3803 v3814
  let c512_i32_3825 : BitVec 32 := 512#32
  ![v3815.toNat, 512]
def k0_dev60 (d0 : Dev nD) : Nat :=
  let c0_i32_3822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_3821 : BitVec 32 := 1#32
  let v3816 : BitVec 32 := Scalar.muli v103 c1_i32_3821
  let v3817 : BitVec 32 := Scalar.addi c0_i32_3822 v3816
  v3817.toNat
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_3826 : BitVec 32 := 4#32
  let c0_i32_3827 : BitVec 32 := 0#32
  let v3825 : BitVec 1 := Scalar.cmpi .eq c4_i32_3826 c0_i32_3827
  let c1_i32_3828 : BitVec 32 := 1#32
  let v3826 : BitVec 32 := Scalar.select v3825 c1_i32_3828 c4_i32_3826
  let v3827 : BitVec 32 := Scalar.remsi v40 v3826
  let c0_i32_3830 : BitVec 32 := 0#32
  let v3829 : BitVec 1 := Scalar.cmpi .slt v3827 c0_i32_3830
  let c0_i32_3831 : BitVec 32 := 0#32
  let v3830 : BitVec 1 := Scalar.cmpi .slt v3826 c0_i32_3831
  let v3831 : BitVec 1 := Scalar.xori v3829 v3830
  let c0_i32_3829 : BitVec 32 := 0#32
  let v3828 : BitVec 1 := Scalar.cmpi .ne v3827 c0_i32_3829
  let v3832 : BitVec 1 := Scalar.andi v3831 v3828
  let v3833 : BitVec 32 := Scalar.addi v3827 v3826
  let v3834 : BitVec 32 := Scalar.select v3832 v3833 v3827
  let c512_i32_3832 : BitVec 32 := 512#32
  let v3835 : BitVec 32 := Scalar.muli v3834 c512_i32_3832
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_3833 : BitVec 32 := 4#32
  let c0_i32_3834 : BitVec 32 := 0#32
  let v3836 : BitVec 1 := Scalar.cmpi .eq c4_i32_3833 c0_i32_3834
  let c1_i32_3835 : BitVec 32 := 1#32
  let v3837 : BitVec 32 := Scalar.select v3836 c1_i32_3835 c4_i32_3833
  let v3838 : BitVec 32 := Scalar.remsi v29 v3837
  let c0_i32_3837 : BitVec 32 := 0#32
  let v3840 : BitVec 1 := Scalar.cmpi .slt v3838 c0_i32_3837
  let c0_i32_3838 : BitVec 32 := 0#32
  let v3841 : BitVec 1 := Scalar.cmpi .slt v3837 c0_i32_3838
  let v3842 : BitVec 1 := Scalar.xori v3840 v3841
  let c0_i32_3836 : BitVec 32 := 0#32
  let v3839 : BitVec 1 := Scalar.cmpi .ne v3838 c0_i32_3836
  let v3843 : BitVec 1 := Scalar.andi v3842 v3839
  let v3844 : BitVec 32 := Scalar.addi v3838 v3837
  let v3845 : BitVec 32 := Scalar.select v3843 v3844 v3838
  let c128_i32_3839 : BitVec 32 := 128#32
  let v3846 : BitVec 32 := Scalar.muli v3845 c128_i32_3839
  let v3847 : BitVec 32 := Scalar.addi v3835 v3846
  let c128_i32_3850 : BitVec 32 := 128#32
  ![v3847.toNat, 128]
def k0_dev61 (d0 : Dev nD) : Nat :=
  let c0_i32_3847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_3846 : BitVec 32 := 1#32
  let v3848 : BitVec 32 := Scalar.muli v90 c1_i32_3846
  let v3849 : BitVec 32 := Scalar.addi c0_i32_3847 v3848
  v3849.toNat
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_3851 : BitVec 32 := 4#32
  let c0_i32_3852 : BitVec 32 := 0#32
  let v3857 : BitVec 1 := Scalar.cmpi .eq c4_i32_3851 c0_i32_3852
  let c1_i32_3853 : BitVec 32 := 1#32
  let v3858 : BitVec 32 := Scalar.select v3857 c1_i32_3853 c4_i32_3851
  let v3859 : BitVec 32 := Scalar.remsi v51 v3858
  let c0_i32_3855 : BitVec 32 := 0#32
  let v3861 : BitVec 1 := Scalar.cmpi .slt v3859 c0_i32_3855
  let c0_i32_3856 : BitVec 32 := 0#32
  let v3862 : BitVec 1 := Scalar.cmpi .slt v3858 c0_i32_3856
  let v3863 : BitVec 1 := Scalar.xori v3861 v3862
  let c0_i32_3854 : BitVec 32 := 0#32
  let v3860 : BitVec 1 := Scalar.cmpi .ne v3859 c0_i32_3854
  let v3864 : BitVec 1 := Scalar.andi v3863 v3860
  let v3865 : BitVec 32 := Scalar.addi v3859 v3858
  let v3866 : BitVec 32 := Scalar.select v3864 v3865 v3859
  let c512_i32_3857 : BitVec 32 := 512#32
  let v3867 : BitVec 32 := Scalar.muli v3866 c512_i32_3857
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_3858 : BitVec 32 := 4#32
  let c0_i32_3859 : BitVec 32 := 0#32
  let v3868 : BitVec 1 := Scalar.cmpi .eq c4_i32_3858 c0_i32_3859
  let c1_i32_3860 : BitVec 32 := 1#32
  let v3869 : BitVec 32 := Scalar.select v3868 c1_i32_3860 c4_i32_3858
  let v3870 : BitVec 32 := Scalar.remsi v29 v3869
  let c0_i32_3862 : BitVec 32 := 0#32
  let v3872 : BitVec 1 := Scalar.cmpi .slt v3870 c0_i32_3862
  let c0_i32_3863 : BitVec 32 := 0#32
  let v3873 : BitVec 1 := Scalar.cmpi .slt v3869 c0_i32_3863
  let v3874 : BitVec 1 := Scalar.xori v3872 v3873
  let c0_i32_3861 : BitVec 32 := 0#32
  let v3871 : BitVec 1 := Scalar.cmpi .ne v3870 c0_i32_3861
  let v3875 : BitVec 1 := Scalar.andi v3874 v3871
  let v3876 : BitVec 32 := Scalar.addi v3870 v3869
  let v3877 : BitVec 32 := Scalar.select v3875 v3876 v3870
  let c128_i32_3864 : BitVec 32 := 128#32
  let v3878 : BitVec 32 := Scalar.muli v3877 c128_i32_3864
  let v3879 : BitVec 32 := Scalar.addi v3867 v3878
  let c640_i32_3875 : BitVec 32 := 640#32
  ![v3879.toNat, 640]
def k0_dev62 (d0 : Dev nD) : Nat :=
  let c0_i32_3872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_3871 : BitVec 32 := 1#32
  let v3880 : BitVec 32 := Scalar.muli v103 c1_i32_3871
  let v3881 : BitVec 32 := Scalar.addi c0_i32_3872 v3880
  v3881.toNat
def k0_off27 (d0 : Dev nD) (c0_i32_3883 : BitVec 32) : Fin 3 → Nat :=
  let c0_i32_3884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_3876 : BitVec 32 := 4#32
  let c0_i32_3877 : BitVec 32 := 0#32
  let v3889 : BitVec 1 := Scalar.cmpi .eq c4_i32_3876 c0_i32_3877
  let c1_i32_3878 : BitVec 32 := 1#32
  let v3890 : BitVec 32 := Scalar.select v3889 c1_i32_3878 c4_i32_3876
  let v3891 : BitVec 32 := Scalar.remsi v12 v3890
  let c0_i32_3880 : BitVec 32 := 0#32
  let v3893 : BitVec 1 := Scalar.cmpi .slt v3891 c0_i32_3880
  let c0_i32_3881 : BitVec 32 := 0#32
  let v3894 : BitVec 1 := Scalar.cmpi .slt v3890 c0_i32_3881
  let v3895 : BitVec 1 := Scalar.xori v3893 v3894
  let c0_i32_3879 : BitVec 32 := 0#32
  let v3892 : BitVec 1 := Scalar.cmpi .ne v3891 c0_i32_3879
  let v3896 : BitVec 1 := Scalar.andi v3895 v3892
  let v3897 : BitVec 32 := Scalar.addi v3891 v3890
  let v3898 : BitVec 32 := Scalar.select v3896 v3897 v3891
  let c512_i32_3882 : BitVec 32 := 512#32
  let v3899 : BitVec 32 := Scalar.muli v3898 c512_i32_3882
  let v3900 : BitVec 32 := Scalar.addi v3899 c0_i32_3883
  let c256_i32_3898 : BitVec 32 := 256#32
  ![0, v3900.toNat, 256]
def k0_dev63 (d0 : Dev nD) : Nat :=
  let c0_i32_3895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_3894 : BitVec 32 := 1#32
  let v3901 : BitVec 32 := Scalar.muli v64 c1_i32_3894
  let v3902 : BitVec 32 := Scalar.addi c0_i32_3895 v3901
  v3902.toNat
def k0_off28 (d0 : Dev nD) (c0_i32_3906 : BitVec 32) : Fin 3 → Nat :=
  let c0_i32_3907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_3899 : BitVec 32 := 4#32
  let c0_i32_3900 : BitVec 32 := 0#32
  let v3911 : BitVec 1 := Scalar.cmpi .eq c4_i32_3899 c0_i32_3900
  let c1_i32_3901 : BitVec 32 := 1#32
  let v3912 : BitVec 32 := Scalar.select v3911 c1_i32_3901 c4_i32_3899
  let v3913 : BitVec 32 := Scalar.remsi v12 v3912
  let c0_i32_3903 : BitVec 32 := 0#32
  let v3915 : BitVec 1 := Scalar.cmpi .slt v3913 c0_i32_3903
  let c0_i32_3904 : BitVec 32 := 0#32
  let v3916 : BitVec 1 := Scalar.cmpi .slt v3912 c0_i32_3904
  let v3917 : BitVec 1 := Scalar.xori v3915 v3916
  let c0_i32_3902 : BitVec 32 := 0#32
  let v3914 : BitVec 1 := Scalar.cmpi .ne v3913 c0_i32_3902
  let v3918 : BitVec 1 := Scalar.andi v3917 v3914
  let v3919 : BitVec 32 := Scalar.addi v3913 v3912
  let v3920 : BitVec 32 := Scalar.select v3918 v3919 v3913
  let c512_i32_3905 : BitVec 32 := 512#32
  let v3921 : BitVec 32 := Scalar.muli v3920 c512_i32_3905
  let v3922 : BitVec 32 := Scalar.addi v3921 c0_i32_3906
  let c768_i32 : BitVec 32 := 768#32
  ![0, v3922.toNat, 768]
def k0_dev64 (d0 : Dev nD) : Nat :=
  let c0_i32_3918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_3917 : BitVec 32 := 1#32
  let v3923 : BitVec 32 := Scalar.muli v77 c1_i32_3917
  let v3924 : BitVec 32 := Scalar.addi c0_i32_3918 v3923
  v3924.toNat
def k0_dev65 (d0 : Dev nD) : Nat :=
  let c0_i32_3940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_3939 : BitVec 32 := 1#32
  let v3945 : BitVec 32 := Scalar.muli v64 c1_i32_3939
  let v3946 : BitVec 32 := Scalar.addi c0_i32_3940 v3945
  v3946.toNat
def k0_dev66 (d0 : Dev nD) : Nat :=
  let c0_i32_3963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_3962 : BitVec 32 := 1#32
  let v3967 : BitVec 32 := Scalar.muli v77 c1_i32_3962
  let v3968 : BitVec 32 := Scalar.addi c0_i32_3963 v3967
  v3968.toNat
def k0_dev67 (d0 : Dev nD) : Nat :=
  let c0_i32_3986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_3985 : BitVec 32 := 1#32
  let v3989 : BitVec 32 := Scalar.muli v64 c1_i32_3985
  let v3990 : BitVec 32 := Scalar.addi c0_i32_3986 v3989
  v3990.toNat
def k0_dev68 (d0 : Dev nD) : Nat :=
  let c0_i32_4009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_4008 : BitVec 32 := 1#32
  let v4011 : BitVec 32 := Scalar.muli v77 c1_i32_4008
  let v4012 : BitVec 32 := Scalar.addi c0_i32_4009 v4011
  v4012.toNat
def k0_dev69 (d0 : Dev nD) : Nat :=
  let c0_i32_4032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_4031 : BitVec 32 := 1#32
  let v4033 : BitVec 32 := Scalar.muli v64 c1_i32_4031
  let v4034 : BitVec 32 := Scalar.addi c0_i32_4032 v4033
  v4034.toNat
def k0_dev70 (d0 : Dev nD) : Nat :=
  let c0_i32_4055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_4054 : BitVec 32 := 1#32
  let v4055 : BitVec 32 := Scalar.muli v77 c1_i32_4054
  let v4056 : BitVec 32 := Scalar.addi c0_i32_4055 v4055
  v4056.toNat
def k0_dev71 (d0 : Dev nD) : Nat :=
  let c0_i32_4082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_4081 : BitVec 32 := 1#32
  let v4073 : BitVec 32 := Scalar.muli v90 c1_i32_4081
  let v4074 : BitVec 32 := Scalar.addi c0_i32_4082 v4073
  v4074.toNat
def k0_off29 (d0 : Dev nD) (c0_i32_4091 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_4092 : BitVec 32 := 4#32
  let c0_i32_4093 : BitVec 32 := 0#32
  let v4086 : BitVec 1 := Scalar.cmpi .eq c4_i32_4092 c0_i32_4093
  let c1_i32_4094 : BitVec 32 := 1#32
  let v4087 : BitVec 32 := Scalar.select v4086 c1_i32_4094 c4_i32_4092
  let v4088 : BitVec 32 := Scalar.remsi v40 v4087
  let c0_i32_4096 : BitVec 32 := 0#32
  let v4090 : BitVec 1 := Scalar.cmpi .slt v4088 c0_i32_4096
  let c0_i32_4097 : BitVec 32 := 0#32
  let v4091 : BitVec 1 := Scalar.cmpi .slt v4087 c0_i32_4097
  let v4092 : BitVec 1 := Scalar.xori v4090 v4091
  let c0_i32_4095 : BitVec 32 := 0#32
  let v4089 : BitVec 1 := Scalar.cmpi .ne v4088 c0_i32_4095
  let v4093 : BitVec 1 := Scalar.andi v4092 v4089
  let v4094 : BitVec 32 := Scalar.addi v4088 v4087
  let v4095 : BitVec 32 := Scalar.select v4093 v4094 v4088
  let c512_i32_4098 : BitVec 32 := 512#32
  let v4096 : BitVec 32 := Scalar.muli v4095 c512_i32_4098
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4085 : BitVec 32 := Scalar.subi v29 c0_i32_4091
  let c4_i32_4099 : BitVec 32 := 4#32
  let c0_i32_4100 : BitVec 32 := 0#32
  let v4097 : BitVec 1 := Scalar.cmpi .eq c4_i32_4099 c0_i32_4100
  let c1_i32_4101 : BitVec 32 := 1#32
  let v4098 : BitVec 32 := Scalar.select v4097 c1_i32_4101 c4_i32_4099
  let v4099 : BitVec 32 := Scalar.remsi v4085 v4098
  let c0_i32_4103 : BitVec 32 := 0#32
  let v4101 : BitVec 1 := Scalar.cmpi .slt v4099 c0_i32_4103
  let c0_i32_4104 : BitVec 32 := 0#32
  let v4102 : BitVec 1 := Scalar.cmpi .slt v4098 c0_i32_4104
  let v4103 : BitVec 1 := Scalar.xori v4101 v4102
  let c0_i32_4102 : BitVec 32 := 0#32
  let v4100 : BitVec 1 := Scalar.cmpi .ne v4099 c0_i32_4102
  let v4104 : BitVec 1 := Scalar.andi v4103 v4100
  let v4105 : BitVec 32 := Scalar.addi v4099 v4098
  let v4106 : BitVec 32 := Scalar.select v4104 v4105 v4099
  let c128_i32_4105 : BitVec 32 := 128#32
  let v4107 : BitVec 32 := Scalar.muli v4106 c128_i32_4105
  let v4108 : BitVec 32 := Scalar.addi v4096 v4107
  let v4109 : Index := Scalar.indexCast v4108
  let c0_4106 : Index := 0#32
  ![v4109.toNat, 0]
def k0_dev72 (d0 : Dev nD) : Nat :=
  let c0_i32_4130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_4129 : BitVec 32 := 1#32
  let v4119 : BitVec 32 := Scalar.muli v103 c1_i32_4129
  let v4120 : BitVec 32 := Scalar.addi c0_i32_4130 v4119
  v4120.toNat
def k0_off30 (d0 : Dev nD) (c0_i32_4139 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_4140 : BitVec 32 := 4#32
  let c0_i32_4141 : BitVec 32 := 0#32
  let v4132 : BitVec 1 := Scalar.cmpi .eq c4_i32_4140 c0_i32_4141
  let c1_i32_4142 : BitVec 32 := 1#32
  let v4133 : BitVec 32 := Scalar.select v4132 c1_i32_4142 c4_i32_4140
  let v4134 : BitVec 32 := Scalar.remsi v51 v4133
  let c0_i32_4144 : BitVec 32 := 0#32
  let v4136 : BitVec 1 := Scalar.cmpi .slt v4134 c0_i32_4144
  let c0_i32_4145 : BitVec 32 := 0#32
  let v4137 : BitVec 1 := Scalar.cmpi .slt v4133 c0_i32_4145
  let v4138 : BitVec 1 := Scalar.xori v4136 v4137
  let c0_i32_4143 : BitVec 32 := 0#32
  let v4135 : BitVec 1 := Scalar.cmpi .ne v4134 c0_i32_4143
  let v4139 : BitVec 1 := Scalar.andi v4138 v4135
  let v4140 : BitVec 32 := Scalar.addi v4134 v4133
  let v4141 : BitVec 32 := Scalar.select v4139 v4140 v4134
  let c512_i32_4146 : BitVec 32 := 512#32
  let v4142 : BitVec 32 := Scalar.muli v4141 c512_i32_4146
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v4131 : BitVec 32 := Scalar.addi v29 c0_i32_4139
  let c4_i32_4147 : BitVec 32 := 4#32
  let c0_i32_4148 : BitVec 32 := 0#32
  let v4143 : BitVec 1 := Scalar.cmpi .eq c4_i32_4147 c0_i32_4148
  let c1_i32_4149 : BitVec 32 := 1#32
  let v4144 : BitVec 32 := Scalar.select v4143 c1_i32_4149 c4_i32_4147
  let v4145 : BitVec 32 := Scalar.remsi v4131 v4144
  let c0_i32_4151 : BitVec 32 := 0#32
  let v4147 : BitVec 1 := Scalar.cmpi .slt v4145 c0_i32_4151
  let c0_i32_4152 : BitVec 32 := 0#32
  let v4148 : BitVec 1 := Scalar.cmpi .slt v4144 c0_i32_4152
  let v4149 : BitVec 1 := Scalar.xori v4147 v4148
  let c0_i32_4150 : BitVec 32 := 0#32
  let v4146 : BitVec 1 := Scalar.cmpi .ne v4145 c0_i32_4150
  let v4150 : BitVec 1 := Scalar.andi v4149 v4146
  let v4151 : BitVec 32 := Scalar.addi v4145 v4144
  let v4152 : BitVec 32 := Scalar.select v4150 v4151 v4145
  let c128_i32_4153 : BitVec 32 := 128#32
  let v4153 : BitVec 32 := Scalar.muli v4152 c128_i32_4153
  let v4154 : BitVec 32 := Scalar.addi v4142 v4153
  let v4155 : Index := Scalar.indexCast v4154
  let c512_4154 : Index := 512#32
  ![v4155.toNat, 512]
def k0_off31 (d0 : Dev nD) (c0_i32_4170 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_4171 : BitVec 32 := 4#32
  let c0_i32_4172 : BitVec 32 := 0#32
  let v4167 : BitVec 1 := Scalar.cmpi .eq c4_i32_4171 c0_i32_4172
  let c1_i32_4173 : BitVec 32 := 1#32
  let v4168 : BitVec 32 := Scalar.select v4167 c1_i32_4173 c4_i32_4171
  let v4169 : BitVec 32 := Scalar.remsi v40 v4168
  let c0_i32_4175 : BitVec 32 := 0#32
  let v4171 : BitVec 1 := Scalar.cmpi .slt v4169 c0_i32_4175
  let c0_i32_4176 : BitVec 32 := 0#32
  let v4172 : BitVec 1 := Scalar.cmpi .slt v4168 c0_i32_4176
  let v4173 : BitVec 1 := Scalar.xori v4171 v4172
  let c0_i32_4174 : BitVec 32 := 0#32
  let v4170 : BitVec 1 := Scalar.cmpi .ne v4169 c0_i32_4174
  let v4174 : BitVec 1 := Scalar.andi v4173 v4170
  let v4175 : BitVec 32 := Scalar.addi v4169 v4168
  let v4176 : BitVec 32 := Scalar.select v4174 v4175 v4169
  let c512_i32_4177 : BitVec 32 := 512#32
  let v4177 : BitVec 32 := Scalar.muli v4176 c512_i32_4177
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_4169 : BitVec 32 := 1#32
  let v4165 : BitVec 32 := Scalar.subi v29 c1_i32_4169
  let v4166 : BitVec 32 := Scalar.subi v4165 c0_i32_4170
  let c4_i32_4178 : BitVec 32 := 4#32
  let c0_i32_4179 : BitVec 32 := 0#32
  let v4178 : BitVec 1 := Scalar.cmpi .eq c4_i32_4178 c0_i32_4179
  let c1_i32_4180 : BitVec 32 := 1#32
  let v4179 : BitVec 32 := Scalar.select v4178 c1_i32_4180 c4_i32_4178
  let v4180 : BitVec 32 := Scalar.remsi v4166 v4179
  let c0_i32_4182 : BitVec 32 := 0#32
  let v4182 : BitVec 1 := Scalar.cmpi .slt v4180 c0_i32_4182
  let c0_i32_4183 : BitVec 32 := 0#32
  let v4183 : BitVec 1 := Scalar.cmpi .slt v4179 c0_i32_4183
  let v4184 : BitVec 1 := Scalar.xori v4182 v4183
  let c0_i32_4181 : BitVec 32 := 0#32
  let v4181 : BitVec 1 := Scalar.cmpi .ne v4180 c0_i32_4181
  let v4185 : BitVec 1 := Scalar.andi v4184 v4181
  let v4186 : BitVec 32 := Scalar.addi v4180 v4179
  let v4187 : BitVec 32 := Scalar.select v4185 v4186 v4180
  let c128_i32_4184 : BitVec 32 := 128#32
  let v4188 : BitVec 32 := Scalar.muli v4187 c128_i32_4184
  let v4189 : BitVec 32 := Scalar.addi v4177 v4188
  let v4190 : Index := Scalar.indexCast v4189
  let c128_4185 : Index := 128#32
  ![v4190.toNat, 128]
def k0_off32 (d0 : Dev nD) (c0_i32_4192 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_4193 : BitVec 32 := 4#32
  let c0_i32_4194 : BitVec 32 := 0#32
  let v4200 : BitVec 1 := Scalar.cmpi .eq c4_i32_4193 c0_i32_4194
  let c1_i32_4195 : BitVec 32 := 1#32
  let v4201 : BitVec 32 := Scalar.select v4200 c1_i32_4195 c4_i32_4193
  let v4202 : BitVec 32 := Scalar.remsi v40 v4201
  let c0_i32_4197 : BitVec 32 := 0#32
  let v4204 : BitVec 1 := Scalar.cmpi .slt v4202 c0_i32_4197
  let c0_i32_4198 : BitVec 32 := 0#32
  let v4205 : BitVec 1 := Scalar.cmpi .slt v4201 c0_i32_4198
  let v4206 : BitVec 1 := Scalar.xori v4204 v4205
  let c0_i32_4196 : BitVec 32 := 0#32
  let v4203 : BitVec 1 := Scalar.cmpi .ne v4202 c0_i32_4196
  let v4207 : BitVec 1 := Scalar.andi v4206 v4203
  let v4208 : BitVec 32 := Scalar.addi v4202 v4201
  let v4209 : BitVec 32 := Scalar.select v4207 v4208 v4202
  let c512_i32_4199 : BitVec 32 := 512#32
  let v4210 : BitVec 32 := Scalar.muli v4209 c512_i32_4199
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_4191 : BitVec 32 := 1#32
  let v4198 : BitVec 32 := Scalar.subi v29 c1_i32_4191
  let v4199 : BitVec 32 := Scalar.subi v4198 c0_i32_4192
  let c4_i32_4200 : BitVec 32 := 4#32
  let c0_i32_4201 : BitVec 32 := 0#32
  let v4211 : BitVec 1 := Scalar.cmpi .eq c4_i32_4200 c0_i32_4201
  let c1_i32_4202 : BitVec 32 := 1#32
  let v4212 : BitVec 32 := Scalar.select v4211 c1_i32_4202 c4_i32_4200
  let v4213 : BitVec 32 := Scalar.remsi v4199 v4212
  let c0_i32_4204 : BitVec 32 := 0#32
  let v4215 : BitVec 1 := Scalar.cmpi .slt v4213 c0_i32_4204
  let c0_i32_4205 : BitVec 32 := 0#32
  let v4216 : BitVec 1 := Scalar.cmpi .slt v4212 c0_i32_4205
  let v4217 : BitVec 1 := Scalar.xori v4215 v4216
  let c0_i32_4203 : BitVec 32 := 0#32
  let v4214 : BitVec 1 := Scalar.cmpi .ne v4213 c0_i32_4203
  let v4218 : BitVec 1 := Scalar.andi v4217 v4214
  let v4219 : BitVec 32 := Scalar.addi v4213 v4212
  let v4220 : BitVec 32 := Scalar.select v4218 v4219 v4213
  let c128_i32_4206 : BitVec 32 := 128#32
  let v4221 : BitVec 32 := Scalar.muli v4220 c128_i32_4206
  let v4222 : BitVec 32 := Scalar.addi v4210 v4221
  let c128_i32_4217 : BitVec 32 := 128#32
  ![v4222.toNat, 128]
def k0_dev73 (d0 : Dev nD) : Nat :=
  let c0_i32_4214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_4213 : BitVec 32 := 1#32
  let v4223 : BitVec 32 := Scalar.muli v90 c1_i32_4213
  let v4224 : BitVec 32 := Scalar.addi c0_i32_4214 v4223
  v4224.toNat
def k0_off33 (d0 : Dev nD) (c0_i32_4233 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_4234 : BitVec 32 := 4#32
  let c0_i32_4235 : BitVec 32 := 0#32
  let v4242 : BitVec 1 := Scalar.cmpi .eq c4_i32_4234 c0_i32_4235
  let c1_i32_4236 : BitVec 32 := 1#32
  let v4243 : BitVec 32 := Scalar.select v4242 c1_i32_4236 c4_i32_4234
  let v4244 : BitVec 32 := Scalar.remsi v51 v4243
  let c0_i32_4238 : BitVec 32 := 0#32
  let v4246 : BitVec 1 := Scalar.cmpi .slt v4244 c0_i32_4238
  let c0_i32_4239 : BitVec 32 := 0#32
  let v4247 : BitVec 1 := Scalar.cmpi .slt v4243 c0_i32_4239
  let v4248 : BitVec 1 := Scalar.xori v4246 v4247
  let c0_i32_4237 : BitVec 32 := 0#32
  let v4245 : BitVec 1 := Scalar.cmpi .ne v4244 c0_i32_4237
  let v4249 : BitVec 1 := Scalar.andi v4248 v4245
  let v4250 : BitVec 32 := Scalar.addi v4244 v4243
  let v4251 : BitVec 32 := Scalar.select v4249 v4250 v4244
  let c512_i32_4240 : BitVec 32 := 512#32
  let v4252 : BitVec 32 := Scalar.muli v4251 c512_i32_4240
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_4232 : BitVec 32 := 1#32
  let v4240 : BitVec 32 := Scalar.addi v29 c1_i32_4232
  let v4241 : BitVec 32 := Scalar.addi v4240 c0_i32_4233
  let c4_i32_4241 : BitVec 32 := 4#32
  let c0_i32_4242 : BitVec 32 := 0#32
  let v4253 : BitVec 1 := Scalar.cmpi .eq c4_i32_4241 c0_i32_4242
  let c1_i32_4243 : BitVec 32 := 1#32
  let v4254 : BitVec 32 := Scalar.select v4253 c1_i32_4243 c4_i32_4241
  let v4255 : BitVec 32 := Scalar.remsi v4241 v4254
  let c0_i32_4245 : BitVec 32 := 0#32
  let v4257 : BitVec 1 := Scalar.cmpi .slt v4255 c0_i32_4245
  let c0_i32_4246 : BitVec 32 := 0#32
  let v4258 : BitVec 1 := Scalar.cmpi .slt v4254 c0_i32_4246
  let v4259 : BitVec 1 := Scalar.xori v4257 v4258
  let c0_i32_4244 : BitVec 32 := 0#32
  let v4256 : BitVec 1 := Scalar.cmpi .ne v4255 c0_i32_4244
  let v4260 : BitVec 1 := Scalar.andi v4259 v4256
  let v4261 : BitVec 32 := Scalar.addi v4255 v4254
  let v4262 : BitVec 32 := Scalar.select v4260 v4261 v4255
  let c128_i32_4247 : BitVec 32 := 128#32
  let v4263 : BitVec 32 := Scalar.muli v4262 c128_i32_4247
  let v4264 : BitVec 32 := Scalar.addi v4252 v4263
  let v4265 : Index := Scalar.indexCast v4264
  let c640_4248 : Index := 640#32
  ![v4265.toNat, 640]
def k0_off34 (d0 : Dev nD) (c0_i32_4255 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_4256 : BitVec 32 := 4#32
  let c0_i32_4257 : BitVec 32 := 0#32
  let v4275 : BitVec 1 := Scalar.cmpi .eq c4_i32_4256 c0_i32_4257
  let c1_i32_4258 : BitVec 32 := 1#32
  let v4276 : BitVec 32 := Scalar.select v4275 c1_i32_4258 c4_i32_4256
  let v4277 : BitVec 32 := Scalar.remsi v51 v4276
  let c0_i32_4260 : BitVec 32 := 0#32
  let v4279 : BitVec 1 := Scalar.cmpi .slt v4277 c0_i32_4260
  let c0_i32_4261 : BitVec 32 := 0#32
  let v4280 : BitVec 1 := Scalar.cmpi .slt v4276 c0_i32_4261
  let v4281 : BitVec 1 := Scalar.xori v4279 v4280
  let c0_i32_4259 : BitVec 32 := 0#32
  let v4278 : BitVec 1 := Scalar.cmpi .ne v4277 c0_i32_4259
  let v4282 : BitVec 1 := Scalar.andi v4281 v4278
  let v4283 : BitVec 32 := Scalar.addi v4277 v4276
  let v4284 : BitVec 32 := Scalar.select v4282 v4283 v4277
  let c512_i32_4262 : BitVec 32 := 512#32
  let v4285 : BitVec 32 := Scalar.muli v4284 c512_i32_4262
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_4254 : BitVec 32 := 1#32
  let v4273 : BitVec 32 := Scalar.addi v29 c1_i32_4254
  let v4274 : BitVec 32 := Scalar.addi v4273 c0_i32_4255
  let c4_i32_4263 : BitVec 32 := 4#32
  let c0_i32_4264 : BitVec 32 := 0#32
  let v4286 : BitVec 1 := Scalar.cmpi .eq c4_i32_4263 c0_i32_4264
  let c1_i32_4265 : BitVec 32 := 1#32
  let v4287 : BitVec 32 := Scalar.select v4286 c1_i32_4265 c4_i32_4263
  let v4288 : BitVec 32 := Scalar.remsi v4274 v4287
  let c0_i32_4267 : BitVec 32 := 0#32
  let v4290 : BitVec 1 := Scalar.cmpi .slt v4288 c0_i32_4267
  let c0_i32_4268 : BitVec 32 := 0#32
  let v4291 : BitVec 1 := Scalar.cmpi .slt v4287 c0_i32_4268
  let v4292 : BitVec 1 := Scalar.xori v4290 v4291
  let c0_i32_4266 : BitVec 32 := 0#32
  let v4289 : BitVec 1 := Scalar.cmpi .ne v4288 c0_i32_4266
  let v4293 : BitVec 1 := Scalar.andi v4292 v4289
  let v4294 : BitVec 32 := Scalar.addi v4288 v4287
  let v4295 : BitVec 32 := Scalar.select v4293 v4294 v4288
  let c128_i32_4269 : BitVec 32 := 128#32
  let v4296 : BitVec 32 := Scalar.muli v4295 c128_i32_4269
  let v4297 : BitVec 32 := Scalar.addi v4285 v4296
  let c640_i32_4280 : BitVec 32 := 640#32
  ![v4297.toNat, 640]
def k0_dev74 (d0 : Dev nD) : Nat :=
  let c0_i32_4277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_4276 : BitVec 32 := 1#32
  let v4298 : BitVec 32 := Scalar.muli v103 c1_i32_4276
  let v4299 : BitVec 32 := Scalar.addi c0_i32_4277 v4298
  v4299.toNat
def k0_off35 (d0 : Dev nD) (c0_i32_4300 : BitVec 32) (c0_i32_4308 : BitVec 32) : Fin 3 → Nat :=
  let c0_4309 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4299 : BitVec 32 := 1#32
  let v4315 : BitVec 32 := Scalar.subi v12 c1_i32_4299
  let v4316 : BitVec 32 := Scalar.subi v4315 c0_i32_4300
  let c4_i32_4301 : BitVec 32 := 4#32
  let c0_i32_4302 : BitVec 32 := 0#32
  let v4317 : BitVec 1 := Scalar.cmpi .eq c4_i32_4301 c0_i32_4302
  let c1_i32_4303 : BitVec 32 := 1#32
  let v4318 : BitVec 32 := Scalar.select v4317 c1_i32_4303 c4_i32_4301
  let v4319 : BitVec 32 := Scalar.remsi v4316 v4318
  let c0_i32_4305 : BitVec 32 := 0#32
  let v4321 : BitVec 1 := Scalar.cmpi .slt v4319 c0_i32_4305
  let c0_i32_4306 : BitVec 32 := 0#32
  let v4322 : BitVec 1 := Scalar.cmpi .slt v4318 c0_i32_4306
  let v4323 : BitVec 1 := Scalar.xori v4321 v4322
  let c0_i32_4304 : BitVec 32 := 0#32
  let v4320 : BitVec 1 := Scalar.cmpi .ne v4319 c0_i32_4304
  let v4324 : BitVec 1 := Scalar.andi v4323 v4320
  let v4325 : BitVec 32 := Scalar.addi v4319 v4318
  let v4326 : BitVec 32 := Scalar.select v4324 v4325 v4319
  let c512_i32_4307 : BitVec 32 := 512#32
  let v4327 : BitVec 32 := Scalar.muli v4326 c512_i32_4307
  let v4328 : BitVec 32 := Scalar.addi v4327 c0_i32_4308
  let v4329 : Index := Scalar.indexCast v4328
  let c256 : Index := 256#32
  ![0, v4329.toNat, 256]
def k0_off36 (d0 : Dev nD) (c0_i32_4316 : BitVec 32) (c0_i32_4324 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4315 : BitVec 32 := 1#32
  let v4335 : BitVec 32 := Scalar.subi v12 c1_i32_4315
  let v4336 : BitVec 32 := Scalar.subi v4335 c0_i32_4316
  let c4_i32_4317 : BitVec 32 := 4#32
  let c0_i32_4318 : BitVec 32 := 0#32
  let v4337 : BitVec 1 := Scalar.cmpi .eq c4_i32_4317 c0_i32_4318
  let c1_i32_4319 : BitVec 32 := 1#32
  let v4338 : BitVec 32 := Scalar.select v4337 c1_i32_4319 c4_i32_4317
  let v4339 : BitVec 32 := Scalar.remsi v4336 v4338
  let c0_i32_4321 : BitVec 32 := 0#32
  let v4341 : BitVec 1 := Scalar.cmpi .slt v4339 c0_i32_4321
  let c0_i32_4322 : BitVec 32 := 0#32
  let v4342 : BitVec 1 := Scalar.cmpi .slt v4338 c0_i32_4322
  let v4343 : BitVec 1 := Scalar.xori v4341 v4342
  let c0_i32_4320 : BitVec 32 := 0#32
  let v4340 : BitVec 1 := Scalar.cmpi .ne v4339 c0_i32_4320
  let v4344 : BitVec 1 := Scalar.andi v4343 v4340
  let v4345 : BitVec 32 := Scalar.addi v4339 v4338
  let v4346 : BitVec 32 := Scalar.select v4344 v4345 v4339
  let c512_i32_4323 : BitVec 32 := 512#32
  let v4347 : BitVec 32 := Scalar.muli v4346 c512_i32_4323
  let v4348 : BitVec 32 := Scalar.addi v4347 c0_i32_4324
  let v4349 : Index := Scalar.indexCast v4348
  let c256_4325 : Index := 256#32
  ![v4349.toNat, 256]
def k0_off37 (d0 : Dev nD) (c0_i32_4327 : BitVec 32) (c0_i32_4335 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4326 : BitVec 32 := 1#32
  let v4351 : BitVec 32 := Scalar.subi v12 c1_i32_4326
  let v4352 : BitVec 32 := Scalar.subi v4351 c0_i32_4327
  let c4_i32_4328 : BitVec 32 := 4#32
  let c0_i32_4329 : BitVec 32 := 0#32
  let v4353 : BitVec 1 := Scalar.cmpi .eq c4_i32_4328 c0_i32_4329
  let c1_i32_4330 : BitVec 32 := 1#32
  let v4354 : BitVec 32 := Scalar.select v4353 c1_i32_4330 c4_i32_4328
  let v4355 : BitVec 32 := Scalar.remsi v4352 v4354
  let c0_i32_4332 : BitVec 32 := 0#32
  let v4357 : BitVec 1 := Scalar.cmpi .slt v4355 c0_i32_4332
  let c0_i32_4333 : BitVec 32 := 0#32
  let v4358 : BitVec 1 := Scalar.cmpi .slt v4354 c0_i32_4333
  let v4359 : BitVec 1 := Scalar.xori v4357 v4358
  let c0_i32_4331 : BitVec 32 := 0#32
  let v4356 : BitVec 1 := Scalar.cmpi .ne v4355 c0_i32_4331
  let v4360 : BitVec 1 := Scalar.andi v4359 v4356
  let v4361 : BitVec 32 := Scalar.addi v4355 v4354
  let v4362 : BitVec 32 := Scalar.select v4360 v4361 v4355
  let c512_i32_4334 : BitVec 32 := 512#32
  let v4363 : BitVec 32 := Scalar.muli v4362 c512_i32_4334
  let v4364 : BitVec 32 := Scalar.addi v4363 c0_i32_4335
  let c256_i32_4349 : BitVec 32 := 256#32
  ![v4364.toNat, 256]
def k0_dev75 (d0 : Dev nD) : Nat :=
  let c0_i32_4346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_4345 : BitVec 32 := 1#32
  let v4365 : BitVec 32 := Scalar.muli v64 c1_i32_4345
  let v4366 : BitVec 32 := Scalar.addi c0_i32_4346 v4365
  v4366.toNat
def k0_off38 (d0 : Dev nD) (c0_i32_4369 : BitVec 32) (c0_i32_4377 : BitVec 32) : Fin 3 → Nat :=
  let c0_4378 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4368 : BitVec 32 := 1#32
  let v4382 : BitVec 32 := Scalar.addi v12 c1_i32_4368
  let v4383 : BitVec 32 := Scalar.addi v4382 c0_i32_4369
  let c4_i32_4370 : BitVec 32 := 4#32
  let c0_i32_4371 : BitVec 32 := 0#32
  let v4384 : BitVec 1 := Scalar.cmpi .eq c4_i32_4370 c0_i32_4371
  let c1_i32_4372 : BitVec 32 := 1#32
  let v4385 : BitVec 32 := Scalar.select v4384 c1_i32_4372 c4_i32_4370
  let v4386 : BitVec 32 := Scalar.remsi v4383 v4385
  let c0_i32_4374 : BitVec 32 := 0#32
  let v4388 : BitVec 1 := Scalar.cmpi .slt v4386 c0_i32_4374
  let c0_i32_4375 : BitVec 32 := 0#32
  let v4389 : BitVec 1 := Scalar.cmpi .slt v4385 c0_i32_4375
  let v4390 : BitVec 1 := Scalar.xori v4388 v4389
  let c0_i32_4373 : BitVec 32 := 0#32
  let v4387 : BitVec 1 := Scalar.cmpi .ne v4386 c0_i32_4373
  let v4391 : BitVec 1 := Scalar.andi v4390 v4387
  let v4392 : BitVec 32 := Scalar.addi v4386 v4385
  let v4393 : BitVec 32 := Scalar.select v4391 v4392 v4386
  let c512_i32_4376 : BitVec 32 := 512#32
  let v4394 : BitVec 32 := Scalar.muli v4393 c512_i32_4376
  let v4395 : BitVec 32 := Scalar.addi v4394 c0_i32_4377
  let v4396 : Index := Scalar.indexCast v4395
  let c768 : Index := 768#32
  ![0, v4396.toNat, 768]
def k0_off39 (d0 : Dev nD) (c0_i32_4385 : BitVec 32) (c0_i32_4393 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4384 : BitVec 32 := 1#32
  let v4402 : BitVec 32 := Scalar.addi v12 c1_i32_4384
  let v4403 : BitVec 32 := Scalar.addi v4402 c0_i32_4385
  let c4_i32_4386 : BitVec 32 := 4#32
  let c0_i32_4387 : BitVec 32 := 0#32
  let v4404 : BitVec 1 := Scalar.cmpi .eq c4_i32_4386 c0_i32_4387
  let c1_i32_4388 : BitVec 32 := 1#32
  let v4405 : BitVec 32 := Scalar.select v4404 c1_i32_4388 c4_i32_4386
  let v4406 : BitVec 32 := Scalar.remsi v4403 v4405
  let c0_i32_4390 : BitVec 32 := 0#32
  let v4408 : BitVec 1 := Scalar.cmpi .slt v4406 c0_i32_4390
  let c0_i32_4391 : BitVec 32 := 0#32
  let v4409 : BitVec 1 := Scalar.cmpi .slt v4405 c0_i32_4391
  let v4410 : BitVec 1 := Scalar.xori v4408 v4409
  let c0_i32_4389 : BitVec 32 := 0#32
  let v4407 : BitVec 1 := Scalar.cmpi .ne v4406 c0_i32_4389
  let v4411 : BitVec 1 := Scalar.andi v4410 v4407
  let v4412 : BitVec 32 := Scalar.addi v4406 v4405
  let v4413 : BitVec 32 := Scalar.select v4411 v4412 v4406
  let c512_i32_4392 : BitVec 32 := 512#32
  let v4414 : BitVec 32 := Scalar.muli v4413 c512_i32_4392
  let v4415 : BitVec 32 := Scalar.addi v4414 c0_i32_4393
  let v4416 : Index := Scalar.indexCast v4415
  let c768_4394 : Index := 768#32
  ![v4416.toNat, 768]
def k0_off40 (d0 : Dev nD) (c0_i32_4396 : BitVec 32) (c0_i32_4404 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_4395 : BitVec 32 := 1#32
  let v4418 : BitVec 32 := Scalar.addi v12 c1_i32_4395
  let v4419 : BitVec 32 := Scalar.addi v4418 c0_i32_4396
  let c4_i32_4397 : BitVec 32 := 4#32
  let c0_i32_4398 : BitVec 32 := 0#32
  let v4420 : BitVec 1 := Scalar.cmpi .eq c4_i32_4397 c0_i32_4398
  let c1_i32_4399 : BitVec 32 := 1#32
  let v4421 : BitVec 32 := Scalar.select v4420 c1_i32_4399 c4_i32_4397
  let v4422 : BitVec 32 := Scalar.remsi v4419 v4421
  let c0_i32_4401 : BitVec 32 := 0#32
  let v4424 : BitVec 1 := Scalar.cmpi .slt v4422 c0_i32_4401
  let c0_i32_4402 : BitVec 32 := 0#32
  let v4425 : BitVec 1 := Scalar.cmpi .slt v4421 c0_i32_4402
  let v4426 : BitVec 1 := Scalar.xori v4424 v4425
  let c0_i32_4400 : BitVec 32 := 0#32
  let v4423 : BitVec 1 := Scalar.cmpi .ne v4422 c0_i32_4400
  let v4427 : BitVec 1 := Scalar.andi v4426 v4423
  let v4428 : BitVec 32 := Scalar.addi v4422 v4421
  let v4429 : BitVec 32 := Scalar.select v4427 v4428 v4422
  let c512_i32_4403 : BitVec 32 := 512#32
  let v4430 : BitVec 32 := Scalar.muli v4429 c512_i32_4403
  let v4431 : BitVec 32 := Scalar.addi v4430 c0_i32_4404
  let c768_i32_4418 : BitVec 32 := 768#32
  ![v4431.toNat, 768]
def k0_dev76 (d0 : Dev nD) : Nat :=
  let c0_i32_4415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_4414 : BitVec 32 := 1#32
  let v4432 : BitVec 32 := Scalar.muli v77 c1_i32_4414
  let v4433 : BitVec 32 := Scalar.addi c0_i32_4415 v4432
  v4433.toNat
def k0_dev77 (d0 : Dev nD) : Nat :=
  let c0_i32_4485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_4484 : BitVec 32 := 1#32
  let v4499 : BitVec 32 := Scalar.muli v64 c1_i32_4484
  let v4500 : BitVec 32 := Scalar.addi c0_i32_4485 v4499
  v4500.toNat
def k0_dev78 (d0 : Dev nD) : Nat :=
  let c0_i32_4555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_4554 : BitVec 32 := 1#32
  let v4566 : BitVec 32 := Scalar.muli v77 c1_i32_4554
  let v4567 : BitVec 32 := Scalar.addi c0_i32_4555 v4566
  v4567.toNat
def k0_dev79 (d0 : Dev nD) : Nat :=
  let c0_i32_4625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_4624 : BitVec 32 := 1#32
  let v4633 : BitVec 32 := Scalar.muli v64 c1_i32_4624
  let v4634 : BitVec 32 := Scalar.addi c0_i32_4625 v4633
  v4634.toNat
def k0_dev80 (d0 : Dev nD) : Nat :=
  let c0_i32_4695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_4694 : BitVec 32 := 1#32
  let v4700 : BitVec 32 := Scalar.muli v77 c1_i32_4694
  let v4701 : BitVec 32 := Scalar.addi c0_i32_4695 v4700
  v4701.toNat
def k0_dev81 (d0 : Dev nD) : Nat :=
  let c0_i32_4765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_4764 : BitVec 32 := 1#32
  let v4767 : BitVec 32 := Scalar.muli v64 c1_i32_4764
  let v4768 : BitVec 32 := Scalar.addi c0_i32_4765 v4767
  v4768.toNat
def k0_dev82 (d0 : Dev nD) : Nat :=
  let c0_i32_4835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_4834 : BitVec 32 := 1#32
  let v4834 : BitVec 32 := Scalar.muli v77 c1_i32_4834
  let v4835 : BitVec 32 := Scalar.addi c0_i32_4835 v4834
  v4835.toNat
def k0_dev83 (d0 : Dev nD) : Nat :=
  let c0_i32_4862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_4861 : BitVec 32 := 1#32
  let v4851 : BitVec 32 := Scalar.muli v90 c1_i32_4861
  let v4852 : BitVec 32 := Scalar.addi c0_i32_4862 v4851
  v4852.toNat
def k0_dev84 (d0 : Dev nD) : Nat :=
  let c0_i32_4910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_4909 : BitVec 32 := 1#32
  let v4897 : BitVec 32 := Scalar.muli v103 c1_i32_4909
  let v4898 : BitVec 32 := Scalar.addi c0_i32_4910 v4897
  v4898.toNat
def k0_dev85 (d0 : Dev nD) : Nat :=
  let c0_i32_4994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_4993 : BitVec 32 := 1#32
  let v5001 : BitVec 32 := Scalar.muli v90 c1_i32_4993
  let v5002 : BitVec 32 := Scalar.addi c0_i32_4994 v5001
  v5002.toNat
def k0_dev86 (d0 : Dev nD) : Nat :=
  let c0_i32_5057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_5056 : BitVec 32 := 1#32
  let v5076 : BitVec 32 := Scalar.muli v103 c1_i32_5056
  let v5077 : BitVec 32 := Scalar.addi c0_i32_5057 v5076
  v5077.toNat
def k0_dev87 (d0 : Dev nD) : Nat :=
  let c0_i32_5127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_5126 : BitVec 32 := 1#32
  let v5143 : BitVec 32 := Scalar.muli v64 c1_i32_5126
  let v5144 : BitVec 32 := Scalar.addi c0_i32_5127 v5143
  v5144.toNat
def k0_dev88 (d0 : Dev nD) : Nat :=
  let c0_i32_5197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_5196 : BitVec 32 := 1#32
  let v5210 : BitVec 32 := Scalar.muli v77 c1_i32_5196
  let v5211 : BitVec 32 := Scalar.addi c0_i32_5197 v5210
  v5211.toNat
def k0_dev89 (d0 : Dev nD) : Nat :=
  let c0_i32_5267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_5266 : BitVec 32 := 1#32
  let v5277 : BitVec 32 := Scalar.muli v64 c1_i32_5266
  let v5278 : BitVec 32 := Scalar.addi c0_i32_5267 v5277
  v5278.toNat
def k0_dev90 (d0 : Dev nD) : Nat :=
  let c0_i32_5337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_5336 : BitVec 32 := 1#32
  let v5344 : BitVec 32 := Scalar.muli v77 c1_i32_5336
  let v5345 : BitVec 32 := Scalar.addi c0_i32_5337 v5344
  v5345.toNat
def k0_dev91 (d0 : Dev nD) : Nat :=
  let c0_i32_5407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_5406 : BitVec 32 := 1#32
  let v5411 : BitVec 32 := Scalar.muli v64 c1_i32_5406
  let v5412 : BitVec 32 := Scalar.addi c0_i32_5407 v5411
  v5412.toNat
def k0_dev92 (d0 : Dev nD) : Nat :=
  let c0_i32_5477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_5476 : BitVec 32 := 1#32
  let v5478 : BitVec 32 := Scalar.muli v77 c1_i32_5476
  let v5479 : BitVec 32 := Scalar.addi c0_i32_5477 v5478
  v5479.toNat
def k0_dev93 (d0 : Dev nD) : Nat :=
  let c0_i32_5547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_5546 : BitVec 32 := 1#32
  let v5545 : BitVec 32 := Scalar.muli v64 c1_i32_5546
  let v5546 : BitVec 32 := Scalar.addi c0_i32_5547 v5545
  v5546.toNat
def k0_dev94 (d0 : Dev nD) : Nat :=
  let c0_i32_5617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_5616 : BitVec 32 := 1#32
  let v5612 : BitVec 32 := Scalar.muli v77 c1_i32_5616
  let v5613 : BitVec 32 := Scalar.addi c0_i32_5617 v5612
  v5613.toNat
def k0_off41 (d0 : Dev nD) (c0_i32_6136 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_6129 : BitVec 32 := 4#32
  let c0_i32_6130 : BitVec 32 := 0#32
  let v6127 : BitVec 1 := Scalar.cmpi .eq c4_i32_6129 c0_i32_6130
  let c1_i32_6131 : BitVec 32 := 1#32
  let v6128 : BitVec 32 := Scalar.select v6127 c1_i32_6131 c4_i32_6129
  let v6129 : BitVec 32 := Scalar.remsi v40 v6128
  let c0_i32_6133 : BitVec 32 := 0#32
  let v6131 : BitVec 1 := Scalar.cmpi .slt v6129 c0_i32_6133
  let c0_i32_6134 : BitVec 32 := 0#32
  let v6132 : BitVec 1 := Scalar.cmpi .slt v6128 c0_i32_6134
  let v6133 : BitVec 1 := Scalar.xori v6131 v6132
  let c0_i32_6132 : BitVec 32 := 0#32
  let v6130 : BitVec 1 := Scalar.cmpi .ne v6129 c0_i32_6132
  let v6134 : BitVec 1 := Scalar.andi v6133 v6130
  let v6135 : BitVec 32 := Scalar.addi v6129 v6128
  let v6136 : BitVec 32 := Scalar.select v6134 v6135 v6129
  let c512_i32_6135 : BitVec 32 := 512#32
  let v6137 : BitVec 32 := Scalar.muli v6136 c512_i32_6135
  let v6138 : BitVec 32 := Scalar.addi v6137 c0_i32_6136
  let c0_i32_6150 : BitVec 32 := 0#32
  ![v6138.toNat, 0]
def k0_dev95 (d0 : Dev nD) : Nat :=
  let c0_i32_6147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6146 : BitVec 32 := 1#32
  let v6139 : BitVec 32 := Scalar.muli v64 c1_i32_6146
  let v6140 : BitVec 32 := Scalar.addi c0_i32_6147 v6139
  v6140.toNat
def k0_off42 (d0 : Dev nD) (c0_i32_6158 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_6151 : BitVec 32 := 4#32
  let c0_i32_6152 : BitVec 32 := 0#32
  let v6148 : BitVec 1 := Scalar.cmpi .eq c4_i32_6151 c0_i32_6152
  let c1_i32_6153 : BitVec 32 := 1#32
  let v6149 : BitVec 32 := Scalar.select v6148 c1_i32_6153 c4_i32_6151
  let v6150 : BitVec 32 := Scalar.remsi v51 v6149
  let c0_i32_6155 : BitVec 32 := 0#32
  let v6152 : BitVec 1 := Scalar.cmpi .slt v6150 c0_i32_6155
  let c0_i32_6156 : BitVec 32 := 0#32
  let v6153 : BitVec 1 := Scalar.cmpi .slt v6149 c0_i32_6156
  let v6154 : BitVec 1 := Scalar.xori v6152 v6153
  let c0_i32_6154 : BitVec 32 := 0#32
  let v6151 : BitVec 1 := Scalar.cmpi .ne v6150 c0_i32_6154
  let v6155 : BitVec 1 := Scalar.andi v6154 v6151
  let v6156 : BitVec 32 := Scalar.addi v6150 v6149
  let v6157 : BitVec 32 := Scalar.select v6155 v6156 v6150
  let c512_i32_6157 : BitVec 32 := 512#32
  let v6158 : BitVec 32 := Scalar.muli v6157 c512_i32_6157
  let v6159 : BitVec 32 := Scalar.addi v6158 c0_i32_6158
  let c512_i32_6172 : BitVec 32 := 512#32
  ![v6159.toNat, 512]
def k0_dev96 (d0 : Dev nD) : Nat :=
  let c0_i32_6169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6168 : BitVec 32 := 1#32
  let v6160 : BitVec 32 := Scalar.muli v77 c1_i32_6168
  let v6161 : BitVec 32 := Scalar.addi c0_i32_6169 v6160
  v6161.toNat
def k0_dev97 (d0 : Dev nD) : Nat :=
  let c0_i32_6191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6190 : BitVec 32 := 1#32
  let v6181 : BitVec 32 := Scalar.muli v64 c1_i32_6190
  let v6182 : BitVec 32 := Scalar.addi c0_i32_6191 v6181
  v6182.toNat
def k0_dev98 (d0 : Dev nD) : Nat :=
  let c0_i32_6213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6212 : BitVec 32 := 1#32
  let v6202 : BitVec 32 := Scalar.muli v77 c1_i32_6212
  let v6203 : BitVec 32 := Scalar.addi c0_i32_6213 v6202
  v6203.toNat
def k0_dev99 (d0 : Dev nD) : Nat :=
  let c0_i32_6235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6234 : BitVec 32 := 1#32
  let v6223 : BitVec 32 := Scalar.muli v64 c1_i32_6234
  let v6224 : BitVec 32 := Scalar.addi c0_i32_6235 v6223
  v6224.toNat
def k0_dev100 (d0 : Dev nD) : Nat :=
  let c0_i32_6257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6256 : BitVec 32 := 1#32
  let v6244 : BitVec 32 := Scalar.muli v77 c1_i32_6256
  let v6245 : BitVec 32 := Scalar.addi c0_i32_6257 v6244
  v6245.toNat
def k0_dev101 (d0 : Dev nD) : Nat :=
  let c0_i32_6279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6278 : BitVec 32 := 1#32
  let v6265 : BitVec 32 := Scalar.muli v64 c1_i32_6278
  let v6266 : BitVec 32 := Scalar.addi c0_i32_6279 v6265
  v6266.toNat
def k0_dev102 (d0 : Dev nD) : Nat :=
  let c0_i32_6301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6300 : BitVec 32 := 1#32
  let v6286 : BitVec 32 := Scalar.muli v77 c1_i32_6300
  let v6287 : BitVec 32 := Scalar.addi c0_i32_6301 v6286
  v6287.toNat
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_6306 : BitVec 32 := 4#32
  let c0_i32_6307 : BitVec 32 := 0#32
  let v6296 : BitVec 1 := Scalar.cmpi .eq c4_i32_6306 c0_i32_6307
  let c1_i32_6308 : BitVec 32 := 1#32
  let v6297 : BitVec 32 := Scalar.select v6296 c1_i32_6308 c4_i32_6306
  let v6298 : BitVec 32 := Scalar.remsi v40 v6297
  let c0_i32_6310 : BitVec 32 := 0#32
  let v6300 : BitVec 1 := Scalar.cmpi .slt v6298 c0_i32_6310
  let c0_i32_6311 : BitVec 32 := 0#32
  let v6301 : BitVec 1 := Scalar.cmpi .slt v6297 c0_i32_6311
  let v6302 : BitVec 1 := Scalar.xori v6300 v6301
  let c0_i32_6309 : BitVec 32 := 0#32
  let v6299 : BitVec 1 := Scalar.cmpi .ne v6298 c0_i32_6309
  let v6303 : BitVec 1 := Scalar.andi v6302 v6299
  let v6304 : BitVec 32 := Scalar.addi v6298 v6297
  let v6305 : BitVec 32 := Scalar.select v6303 v6304 v6298
  let c512_i32_6312 : BitVec 32 := 512#32
  let v6306 : BitVec 32 := Scalar.muli v6305 c512_i32_6312
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_6305 : BitVec 32 := 1#32
  let v6295 : BitVec 32 := Scalar.addi v29 c1_i32_6305
  let c4_i32_6313 : BitVec 32 := 4#32
  let c0_i32_6314 : BitVec 32 := 0#32
  let v6307 : BitVec 1 := Scalar.cmpi .eq c4_i32_6313 c0_i32_6314
  let c1_i32_6315 : BitVec 32 := 1#32
  let v6308 : BitVec 32 := Scalar.select v6307 c1_i32_6315 c4_i32_6313
  let v6309 : BitVec 32 := Scalar.remsi v6295 v6308
  let c0_i32_6317 : BitVec 32 := 0#32
  let v6311 : BitVec 1 := Scalar.cmpi .slt v6309 c0_i32_6317
  let c0_i32_6318 : BitVec 32 := 0#32
  let v6312 : BitVec 1 := Scalar.cmpi .slt v6308 c0_i32_6318
  let v6313 : BitVec 1 := Scalar.xori v6311 v6312
  let c0_i32_6316 : BitVec 32 := 0#32
  let v6310 : BitVec 1 := Scalar.cmpi .ne v6309 c0_i32_6316
  let v6314 : BitVec 1 := Scalar.andi v6313 v6310
  let v6315 : BitVec 32 := Scalar.addi v6309 v6308
  let v6316 : BitVec 32 := Scalar.select v6314 v6315 v6309
  let c128_i32_6319 : BitVec 32 := 128#32
  let v6317 : BitVec 32 := Scalar.muli v6316 c128_i32_6319
  let v6318 : BitVec 32 := Scalar.addi v6306 v6317
  let c128_i32_6330 : BitVec 32 := 128#32
  ![v6318.toNat, 128]
def k0_dev103 (d0 : Dev nD) : Nat :=
  let c0_i32_6327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_6326 : BitVec 32 := 1#32
  let v6319 : BitVec 32 := Scalar.muli v90 c1_i32_6326
  let v6320 : BitVec 32 := Scalar.addi c0_i32_6327 v6319
  v6320.toNat
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_6332 : BitVec 32 := 4#32
  let c0_i32_6333 : BitVec 32 := 0#32
  let v6329 : BitVec 1 := Scalar.cmpi .eq c4_i32_6332 c0_i32_6333
  let c1_i32_6334 : BitVec 32 := 1#32
  let v6330 : BitVec 32 := Scalar.select v6329 c1_i32_6334 c4_i32_6332
  let v6331 : BitVec 32 := Scalar.remsi v51 v6330
  let c0_i32_6336 : BitVec 32 := 0#32
  let v6333 : BitVec 1 := Scalar.cmpi .slt v6331 c0_i32_6336
  let c0_i32_6337 : BitVec 32 := 0#32
  let v6334 : BitVec 1 := Scalar.cmpi .slt v6330 c0_i32_6337
  let v6335 : BitVec 1 := Scalar.xori v6333 v6334
  let c0_i32_6335 : BitVec 32 := 0#32
  let v6332 : BitVec 1 := Scalar.cmpi .ne v6331 c0_i32_6335
  let v6336 : BitVec 1 := Scalar.andi v6335 v6332
  let v6337 : BitVec 32 := Scalar.addi v6331 v6330
  let v6338 : BitVec 32 := Scalar.select v6336 v6337 v6331
  let c512_i32_6338 : BitVec 32 := 512#32
  let v6339 : BitVec 32 := Scalar.muli v6338 c512_i32_6338
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_6331 : BitVec 32 := 1#32
  let v6328 : BitVec 32 := Scalar.subi v29 c1_i32_6331
  let c4_i32_6339 : BitVec 32 := 4#32
  let c0_i32_6340 : BitVec 32 := 0#32
  let v6340 : BitVec 1 := Scalar.cmpi .eq c4_i32_6339 c0_i32_6340
  let c1_i32_6341 : BitVec 32 := 1#32
  let v6341 : BitVec 32 := Scalar.select v6340 c1_i32_6341 c4_i32_6339
  let v6342 : BitVec 32 := Scalar.remsi v6328 v6341
  let c0_i32_6343 : BitVec 32 := 0#32
  let v6344 : BitVec 1 := Scalar.cmpi .slt v6342 c0_i32_6343
  let c0_i32_6344 : BitVec 32 := 0#32
  let v6345 : BitVec 1 := Scalar.cmpi .slt v6341 c0_i32_6344
  let v6346 : BitVec 1 := Scalar.xori v6344 v6345
  let c0_i32_6342 : BitVec 32 := 0#32
  let v6343 : BitVec 1 := Scalar.cmpi .ne v6342 c0_i32_6342
  let v6347 : BitVec 1 := Scalar.andi v6346 v6343
  let v6348 : BitVec 32 := Scalar.addi v6342 v6341
  let v6349 : BitVec 32 := Scalar.select v6347 v6348 v6342
  let c128_i32_6345 : BitVec 32 := 128#32
  let v6350 : BitVec 32 := Scalar.muli v6349 c128_i32_6345
  let v6351 : BitVec 32 := Scalar.addi v6339 v6350
  let c640_i32_6356 : BitVec 32 := 640#32
  ![v6351.toNat, 640]
def k0_dev104 (d0 : Dev nD) : Nat :=
  let c0_i32_6353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_6352 : BitVec 32 := 1#32
  let v6352 : BitVec 32 := Scalar.muli v103 c1_i32_6352
  let v6353 : BitVec 32 := Scalar.addi c0_i32_6353 v6352
  v6353.toNat
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_6357 : BitVec 32 := 4#32
  let c0_i32_6358 : BitVec 32 := 0#32
  let v6361 : BitVec 1 := Scalar.cmpi .eq c4_i32_6357 c0_i32_6358
  let c1_i32_6359 : BitVec 32 := 1#32
  let v6362 : BitVec 32 := Scalar.select v6361 c1_i32_6359 c4_i32_6357
  let v6363 : BitVec 32 := Scalar.remsi v40 v6362
  let c0_i32_6361 : BitVec 32 := 0#32
  let v6365 : BitVec 1 := Scalar.cmpi .slt v6363 c0_i32_6361
  let c0_i32_6362 : BitVec 32 := 0#32
  let v6366 : BitVec 1 := Scalar.cmpi .slt v6362 c0_i32_6362
  let v6367 : BitVec 1 := Scalar.xori v6365 v6366
  let c0_i32_6360 : BitVec 32 := 0#32
  let v6364 : BitVec 1 := Scalar.cmpi .ne v6363 c0_i32_6360
  let v6368 : BitVec 1 := Scalar.andi v6367 v6364
  let v6369 : BitVec 32 := Scalar.addi v6363 v6362
  let v6370 : BitVec 32 := Scalar.select v6368 v6369 v6363
  let c512_i32_6363 : BitVec 32 := 512#32
  let v6371 : BitVec 32 := Scalar.muli v6370 c512_i32_6363
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_6364 : BitVec 32 := 4#32
  let c0_i32_6365 : BitVec 32 := 0#32
  let v6372 : BitVec 1 := Scalar.cmpi .eq c4_i32_6364 c0_i32_6365
  let c1_i32_6366 : BitVec 32 := 1#32
  let v6373 : BitVec 32 := Scalar.select v6372 c1_i32_6366 c4_i32_6364
  let v6374 : BitVec 32 := Scalar.remsi v29 v6373
  let c0_i32_6368 : BitVec 32 := 0#32
  let v6376 : BitVec 1 := Scalar.cmpi .slt v6374 c0_i32_6368
  let c0_i32_6369 : BitVec 32 := 0#32
  let v6377 : BitVec 1 := Scalar.cmpi .slt v6373 c0_i32_6369
  let v6378 : BitVec 1 := Scalar.xori v6376 v6377
  let c0_i32_6367 : BitVec 32 := 0#32
  let v6375 : BitVec 1 := Scalar.cmpi .ne v6374 c0_i32_6367
  let v6379 : BitVec 1 := Scalar.andi v6378 v6375
  let v6380 : BitVec 32 := Scalar.addi v6374 v6373
  let v6381 : BitVec 32 := Scalar.select v6379 v6380 v6374
  let c128_i32_6370 : BitVec 32 := 128#32
  let v6382 : BitVec 32 := Scalar.muli v6381 c128_i32_6370
  let v6383 : BitVec 32 := Scalar.addi v6371 v6382
  let c256_i32_6381 : BitVec 32 := 256#32
  ![v6383.toNat, 256]
def k0_dev105 (d0 : Dev nD) : Nat :=
  let c0_i32_6378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_6377 : BitVec 32 := 1#32
  let v6384 : BitVec 32 := Scalar.muli v90 c1_i32_6377
  let v6385 : BitVec 32 := Scalar.addi c0_i32_6378 v6384
  v6385.toNat
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_6382 : BitVec 32 := 4#32
  let c0_i32_6383 : BitVec 32 := 0#32
  let v6393 : BitVec 1 := Scalar.cmpi .eq c4_i32_6382 c0_i32_6383
  let c1_i32_6384 : BitVec 32 := 1#32
  let v6394 : BitVec 32 := Scalar.select v6393 c1_i32_6384 c4_i32_6382
  let v6395 : BitVec 32 := Scalar.remsi v51 v6394
  let c0_i32_6386 : BitVec 32 := 0#32
  let v6397 : BitVec 1 := Scalar.cmpi .slt v6395 c0_i32_6386
  let c0_i32_6387 : BitVec 32 := 0#32
  let v6398 : BitVec 1 := Scalar.cmpi .slt v6394 c0_i32_6387
  let v6399 : BitVec 1 := Scalar.xori v6397 v6398
  let c0_i32_6385 : BitVec 32 := 0#32
  let v6396 : BitVec 1 := Scalar.cmpi .ne v6395 c0_i32_6385
  let v6400 : BitVec 1 := Scalar.andi v6399 v6396
  let v6401 : BitVec 32 := Scalar.addi v6395 v6394
  let v6402 : BitVec 32 := Scalar.select v6400 v6401 v6395
  let c512_i32_6388 : BitVec 32 := 512#32
  let v6403 : BitVec 32 := Scalar.muli v6402 c512_i32_6388
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_6389 : BitVec 32 := 4#32
  let c0_i32_6390 : BitVec 32 := 0#32
  let v6404 : BitVec 1 := Scalar.cmpi .eq c4_i32_6389 c0_i32_6390
  let c1_i32_6391 : BitVec 32 := 1#32
  let v6405 : BitVec 32 := Scalar.select v6404 c1_i32_6391 c4_i32_6389
  let v6406 : BitVec 32 := Scalar.remsi v29 v6405
  let c0_i32_6393 : BitVec 32 := 0#32
  let v6408 : BitVec 1 := Scalar.cmpi .slt v6406 c0_i32_6393
  let c0_i32_6394 : BitVec 32 := 0#32
  let v6409 : BitVec 1 := Scalar.cmpi .slt v6405 c0_i32_6394
  let v6410 : BitVec 1 := Scalar.xori v6408 v6409
  let c0_i32_6392 : BitVec 32 := 0#32
  let v6407 : BitVec 1 := Scalar.cmpi .ne v6406 c0_i32_6392
  let v6411 : BitVec 1 := Scalar.andi v6410 v6407
  let v6412 : BitVec 32 := Scalar.addi v6406 v6405
  let v6413 : BitVec 32 := Scalar.select v6411 v6412 v6406
  let c128_i32_6395 : BitVec 32 := 128#32
  let v6414 : BitVec 32 := Scalar.muli v6413 c128_i32_6395
  let v6415 : BitVec 32 := Scalar.addi v6403 v6414
  let c768_i32_6406 : BitVec 32 := 768#32
  ![v6415.toNat, 768]
def k0_dev106 (d0 : Dev nD) : Nat :=
  let c0_i32_6403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_6402 : BitVec 32 := 1#32
  let v6416 : BitVec 32 := Scalar.muli v103 c1_i32_6402
  let v6417 : BitVec 32 := Scalar.addi c0_i32_6403 v6416
  v6417.toNat
def k0_off47 (d0 : Dev nD) (c0_i32_6414 : BitVec 32) : Fin 3 → Nat :=
  let c0_i32_6415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_6407 : BitVec 32 := 4#32
  let c0_i32_6408 : BitVec 32 := 0#32
  let v6425 : BitVec 1 := Scalar.cmpi .eq c4_i32_6407 c0_i32_6408
  let c1_i32_6409 : BitVec 32 := 1#32
  let v6426 : BitVec 32 := Scalar.select v6425 c1_i32_6409 c4_i32_6407
  let v6427 : BitVec 32 := Scalar.remsi v12 v6426
  let c0_i32_6411 : BitVec 32 := 0#32
  let v6429 : BitVec 1 := Scalar.cmpi .slt v6427 c0_i32_6411
  let c0_i32_6412 : BitVec 32 := 0#32
  let v6430 : BitVec 1 := Scalar.cmpi .slt v6426 c0_i32_6412
  let v6431 : BitVec 1 := Scalar.xori v6429 v6430
  let c0_i32_6410 : BitVec 32 := 0#32
  let v6428 : BitVec 1 := Scalar.cmpi .ne v6427 c0_i32_6410
  let v6432 : BitVec 1 := Scalar.andi v6431 v6428
  let v6433 : BitVec 32 := Scalar.addi v6427 v6426
  let v6434 : BitVec 32 := Scalar.select v6432 v6433 v6427
  let c512_i32_6413 : BitVec 32 := 512#32
  let v6435 : BitVec 32 := Scalar.muli v6434 c512_i32_6413
  let v6436 : BitVec 32 := Scalar.addi v6435 c0_i32_6414
  let c384_i32_6429 : BitVec 32 := 384#32
  ![0, v6436.toNat, 384]
def k0_dev107 (d0 : Dev nD) : Nat :=
  let c0_i32_6426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6425 : BitVec 32 := 1#32
  let v6437 : BitVec 32 := Scalar.muli v64 c1_i32_6425
  let v6438 : BitVec 32 := Scalar.addi c0_i32_6426 v6437
  v6438.toNat
def k0_off48 (d0 : Dev nD) (c0_i32_6437 : BitVec 32) : Fin 3 → Nat :=
  let c0_i32_6438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_6430 : BitVec 32 := 4#32
  let c0_i32_6431 : BitVec 32 := 0#32
  let v6447 : BitVec 1 := Scalar.cmpi .eq c4_i32_6430 c0_i32_6431
  let c1_i32_6432 : BitVec 32 := 1#32
  let v6448 : BitVec 32 := Scalar.select v6447 c1_i32_6432 c4_i32_6430
  let v6449 : BitVec 32 := Scalar.remsi v12 v6448
  let c0_i32_6434 : BitVec 32 := 0#32
  let v6451 : BitVec 1 := Scalar.cmpi .slt v6449 c0_i32_6434
  let c0_i32_6435 : BitVec 32 := 0#32
  let v6452 : BitVec 1 := Scalar.cmpi .slt v6448 c0_i32_6435
  let v6453 : BitVec 1 := Scalar.xori v6451 v6452
  let c0_i32_6433 : BitVec 32 := 0#32
  let v6450 : BitVec 1 := Scalar.cmpi .ne v6449 c0_i32_6433
  let v6454 : BitVec 1 := Scalar.andi v6453 v6450
  let v6455 : BitVec 32 := Scalar.addi v6449 v6448
  let v6456 : BitVec 32 := Scalar.select v6454 v6455 v6449
  let c512_i32_6436 : BitVec 32 := 512#32
  let v6457 : BitVec 32 := Scalar.muli v6456 c512_i32_6436
  let v6458 : BitVec 32 := Scalar.addi v6457 c0_i32_6437
  let c896_i32 : BitVec 32 := 896#32
  ![0, v6458.toNat, 896]
def k0_dev108 (d0 : Dev nD) : Nat :=
  let c0_i32_6449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6448 : BitVec 32 := 1#32
  let v6459 : BitVec 32 := Scalar.muli v77 c1_i32_6448
  let v6460 : BitVec 32 := Scalar.addi c0_i32_6449 v6459
  v6460.toNat
def k0_dev109 (d0 : Dev nD) : Nat :=
  let c0_i32_6471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6470 : BitVec 32 := 1#32
  let v6481 : BitVec 32 := Scalar.muli v64 c1_i32_6470
  let v6482 : BitVec 32 := Scalar.addi c0_i32_6471 v6481
  v6482.toNat
def k0_dev110 (d0 : Dev nD) : Nat :=
  let c0_i32_6494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6493 : BitVec 32 := 1#32
  let v6503 : BitVec 32 := Scalar.muli v77 c1_i32_6493
  let v6504 : BitVec 32 := Scalar.addi c0_i32_6494 v6503
  v6504.toNat
def k0_dev111 (d0 : Dev nD) : Nat :=
  let c0_i32_6517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6516 : BitVec 32 := 1#32
  let v6525 : BitVec 32 := Scalar.muli v64 c1_i32_6516
  let v6526 : BitVec 32 := Scalar.addi c0_i32_6517 v6525
  v6526.toNat
def k0_dev112 (d0 : Dev nD) : Nat :=
  let c0_i32_6540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6539 : BitVec 32 := 1#32
  let v6547 : BitVec 32 := Scalar.muli v77 c1_i32_6539
  let v6548 : BitVec 32 := Scalar.addi c0_i32_6540 v6547
  v6548.toNat
def k0_dev113 (d0 : Dev nD) : Nat :=
  let c0_i32_6563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6562 : BitVec 32 := 1#32
  let v6569 : BitVec 32 := Scalar.muli v64 c1_i32_6562
  let v6570 : BitVec 32 := Scalar.addi c0_i32_6563 v6569
  v6570.toNat
def k0_dev114 (d0 : Dev nD) : Nat :=
  let c0_i32_6586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6585 : BitVec 32 := 1#32
  let v6591 : BitVec 32 := Scalar.muli v77 c1_i32_6585
  let v6592 : BitVec 32 := Scalar.addi c0_i32_6586 v6591
  v6592.toNat
def k0_dev115 (d0 : Dev nD) : Nat :=
  let c0_i32_6621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6620 : BitVec 32 := 1#32
  let v6609 : BitVec 32 := Scalar.muli v64 c1_i32_6620
  let v6610 : BitVec 32 := Scalar.addi c0_i32_6621 v6609
  v6610.toNat
def k0_off49 (d0 : Dev nD) (c0_i32_6631 : BitVec 32) (c0_i32_6639 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v6621 : BitVec 32 := Scalar.subi v12 c0_i32_6631
  let c4_i32_6632 : BitVec 32 := 4#32
  let c0_i32_6633 : BitVec 32 := 0#32
  let v6622 : BitVec 1 := Scalar.cmpi .eq c4_i32_6632 c0_i32_6633
  let c1_i32_6634 : BitVec 32 := 1#32
  let v6623 : BitVec 32 := Scalar.select v6622 c1_i32_6634 c4_i32_6632
  let v6624 : BitVec 32 := Scalar.remsi v6621 v6623
  let c0_i32_6636 : BitVec 32 := 0#32
  let v6626 : BitVec 1 := Scalar.cmpi .slt v6624 c0_i32_6636
  let c0_i32_6637 : BitVec 32 := 0#32
  let v6627 : BitVec 1 := Scalar.cmpi .slt v6623 c0_i32_6637
  let v6628 : BitVec 1 := Scalar.xori v6626 v6627
  let c0_i32_6635 : BitVec 32 := 0#32
  let v6625 : BitVec 1 := Scalar.cmpi .ne v6624 c0_i32_6635
  let v6629 : BitVec 1 := Scalar.andi v6628 v6625
  let v6630 : BitVec 32 := Scalar.addi v6624 v6623
  let v6631 : BitVec 32 := Scalar.select v6629 v6630 v6624
  let c512_i32_6638 : BitVec 32 := 512#32
  let v6632 : BitVec 32 := Scalar.muli v6631 c512_i32_6638
  let v6633 : BitVec 32 := Scalar.addi v6632 c0_i32_6639
  let v6634 : Index := Scalar.indexCast v6633
  let c0_6640 : Index := 0#32
  ![v6634.toNat, 0]
def k0_dev116 (d0 : Dev nD) : Nat :=
  let c0_i32_6672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6671 : BitVec 32 := 1#32
  let v6644 : BitVec 32 := Scalar.muli v77 c1_i32_6671
  let v6645 : BitVec 32 := Scalar.addi c0_i32_6672 v6644
  v6645.toNat
def k0_off50 (d0 : Dev nD) (c0_i32_6682 : BitVec 32) (c0_i32_6690 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v6656 : BitVec 32 := Scalar.addi v12 c0_i32_6682
  let c4_i32_6683 : BitVec 32 := 4#32
  let c0_i32_6684 : BitVec 32 := 0#32
  let v6657 : BitVec 1 := Scalar.cmpi .eq c4_i32_6683 c0_i32_6684
  let c1_i32_6685 : BitVec 32 := 1#32
  let v6658 : BitVec 32 := Scalar.select v6657 c1_i32_6685 c4_i32_6683
  let v6659 : BitVec 32 := Scalar.remsi v6656 v6658
  let c0_i32_6687 : BitVec 32 := 0#32
  let v6661 : BitVec 1 := Scalar.cmpi .slt v6659 c0_i32_6687
  let c0_i32_6688 : BitVec 32 := 0#32
  let v6662 : BitVec 1 := Scalar.cmpi .slt v6658 c0_i32_6688
  let v6663 : BitVec 1 := Scalar.xori v6661 v6662
  let c0_i32_6686 : BitVec 32 := 0#32
  let v6660 : BitVec 1 := Scalar.cmpi .ne v6659 c0_i32_6686
  let v6664 : BitVec 1 := Scalar.andi v6663 v6660
  let v6665 : BitVec 32 := Scalar.addi v6659 v6658
  let v6666 : BitVec 32 := Scalar.select v6664 v6665 v6659
  let c512_i32_6689 : BitVec 32 := 512#32
  let v6667 : BitVec 32 := Scalar.muli v6666 c512_i32_6689
  let v6668 : BitVec 32 := Scalar.addi v6667 c0_i32_6690
  let v6669 : Index := Scalar.indexCast v6668
  let c512_6691 : Index := 512#32
  ![v6669.toNat, 512]
def k0_dev117 (d0 : Dev nD) : Nat :=
  let c0_i32_6723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6722 : BitVec 32 := 1#32
  let v6679 : BitVec 32 := Scalar.muli v64 c1_i32_6722
  let v6680 : BitVec 32 := Scalar.addi c0_i32_6723 v6679
  v6680.toNat
def k0_dev118 (d0 : Dev nD) : Nat :=
  let c0_i32_6774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6773 : BitVec 32 := 1#32
  let v6714 : BitVec 32 := Scalar.muli v77 c1_i32_6773
  let v6715 : BitVec 32 := Scalar.addi c0_i32_6774 v6714
  v6715.toNat
def k0_dev119 (d0 : Dev nD) : Nat :=
  let c0_i32_6825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6824 : BitVec 32 := 1#32
  let v6749 : BitVec 32 := Scalar.muli v64 c1_i32_6824
  let v6750 : BitVec 32 := Scalar.addi c0_i32_6825 v6749
  v6750.toNat
def k0_dev120 (d0 : Dev nD) : Nat :=
  let c0_i32_6876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6875 : BitVec 32 := 1#32
  let v6784 : BitVec 32 := Scalar.muli v77 c1_i32_6875
  let v6785 : BitVec 32 := Scalar.addi c0_i32_6876 v6784
  v6785.toNat
def k0_dev121 (d0 : Dev nD) : Nat :=
  let c0_i32_6927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_6926 : BitVec 32 := 1#32
  let v6819 : BitVec 32 := Scalar.muli v64 c1_i32_6926
  let v6820 : BitVec 32 := Scalar.addi c0_i32_6927 v6819
  v6820.toNat
def k0_dev122 (d0 : Dev nD) : Nat :=
  let c0_i32_6978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_6977 : BitVec 32 := 1#32
  let v6854 : BitVec 32 := Scalar.muli v77 c1_i32_6977
  let v6855 : BitVec 32 := Scalar.addi c0_i32_6978 v6854
  v6855.toNat
def k0_dev123 (d0 : Dev nD) : Nat :=
  let c0_i32_7021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_7020 : BitVec 32 := 1#32
  let v6889 : BitVec 32 := Scalar.muli v90 c1_i32_7020
  let v6890 : BitVec 32 := Scalar.addi c0_i32_7021 v6889
  v6890.toNat
def k0_off51 (d0 : Dev nD) (c0_i32_7030 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_7031 : BitVec 32 := 4#32
  let c0_i32_7032 : BitVec 32 := 0#32
  let v6902 : BitVec 1 := Scalar.cmpi .eq c4_i32_7031 c0_i32_7032
  let c1_i32_7033 : BitVec 32 := 1#32
  let v6903 : BitVec 32 := Scalar.select v6902 c1_i32_7033 c4_i32_7031
  let v6904 : BitVec 32 := Scalar.remsi v40 v6903
  let c0_i32_7035 : BitVec 32 := 0#32
  let v6906 : BitVec 1 := Scalar.cmpi .slt v6904 c0_i32_7035
  let c0_i32_7036 : BitVec 32 := 0#32
  let v6907 : BitVec 1 := Scalar.cmpi .slt v6903 c0_i32_7036
  let v6908 : BitVec 1 := Scalar.xori v6906 v6907
  let c0_i32_7034 : BitVec 32 := 0#32
  let v6905 : BitVec 1 := Scalar.cmpi .ne v6904 c0_i32_7034
  let v6909 : BitVec 1 := Scalar.andi v6908 v6905
  let v6910 : BitVec 32 := Scalar.addi v6904 v6903
  let v6911 : BitVec 32 := Scalar.select v6909 v6910 v6904
  let c512_i32_7037 : BitVec 32 := 512#32
  let v6912 : BitVec 32 := Scalar.muli v6911 c512_i32_7037
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v6901 : BitVec 32 := Scalar.subi v29 c0_i32_7030
  let c4_i32_7038 : BitVec 32 := 4#32
  let c0_i32_7039 : BitVec 32 := 0#32
  let v6913 : BitVec 1 := Scalar.cmpi .eq c4_i32_7038 c0_i32_7039
  let c1_i32_7040 : BitVec 32 := 1#32
  let v6914 : BitVec 32 := Scalar.select v6913 c1_i32_7040 c4_i32_7038
  let v6915 : BitVec 32 := Scalar.remsi v6901 v6914
  let c0_i32_7042 : BitVec 32 := 0#32
  let v6917 : BitVec 1 := Scalar.cmpi .slt v6915 c0_i32_7042
  let c0_i32_7043 : BitVec 32 := 0#32
  let v6918 : BitVec 1 := Scalar.cmpi .slt v6914 c0_i32_7043
  let v6919 : BitVec 1 := Scalar.xori v6917 v6918
  let c0_i32_7041 : BitVec 32 := 0#32
  let v6916 : BitVec 1 := Scalar.cmpi .ne v6915 c0_i32_7041
  let v6920 : BitVec 1 := Scalar.andi v6919 v6916
  let v6921 : BitVec 32 := Scalar.addi v6915 v6914
  let v6922 : BitVec 32 := Scalar.select v6920 v6921 v6915
  let c128_i32_7044 : BitVec 32 := 128#32
  let v6923 : BitVec 32 := Scalar.muli v6922 c128_i32_7044
  let v6924 : BitVec 32 := Scalar.addi v6912 v6923
  let v6925 : Index := Scalar.indexCast v6924
  let c128_7045 : Index := 128#32
  ![v6925.toNat, 128]
def k0_dev124 (d0 : Dev nD) : Nat :=
  let c0_i32_7069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_7068 : BitVec 32 := 1#32
  let v6935 : BitVec 32 := Scalar.muli v103 c1_i32_7068
  let v6936 : BitVec 32 := Scalar.addi c0_i32_7069 v6935
  v6936.toNat
def k0_off52 (d0 : Dev nD) (c0_i32_7078 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_7079 : BitVec 32 := 4#32
  let c0_i32_7080 : BitVec 32 := 0#32
  let v6948 : BitVec 1 := Scalar.cmpi .eq c4_i32_7079 c0_i32_7080
  let c1_i32_7081 : BitVec 32 := 1#32
  let v6949 : BitVec 32 := Scalar.select v6948 c1_i32_7081 c4_i32_7079
  let v6950 : BitVec 32 := Scalar.remsi v51 v6949
  let c0_i32_7083 : BitVec 32 := 0#32
  let v6952 : BitVec 1 := Scalar.cmpi .slt v6950 c0_i32_7083
  let c0_i32_7084 : BitVec 32 := 0#32
  let v6953 : BitVec 1 := Scalar.cmpi .slt v6949 c0_i32_7084
  let v6954 : BitVec 1 := Scalar.xori v6952 v6953
  let c0_i32_7082 : BitVec 32 := 0#32
  let v6951 : BitVec 1 := Scalar.cmpi .ne v6950 c0_i32_7082
  let v6955 : BitVec 1 := Scalar.andi v6954 v6951
  let v6956 : BitVec 32 := Scalar.addi v6950 v6949
  let v6957 : BitVec 32 := Scalar.select v6955 v6956 v6950
  let c512_i32_7085 : BitVec 32 := 512#32
  let v6958 : BitVec 32 := Scalar.muli v6957 c512_i32_7085
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v6947 : BitVec 32 := Scalar.addi v29 c0_i32_7078
  let c4_i32_7086 : BitVec 32 := 4#32
  let c0_i32_7087 : BitVec 32 := 0#32
  let v6959 : BitVec 1 := Scalar.cmpi .eq c4_i32_7086 c0_i32_7087
  let c1_i32_7088 : BitVec 32 := 1#32
  let v6960 : BitVec 32 := Scalar.select v6959 c1_i32_7088 c4_i32_7086
  let v6961 : BitVec 32 := Scalar.remsi v6947 v6960
  let c0_i32_7090 : BitVec 32 := 0#32
  let v6963 : BitVec 1 := Scalar.cmpi .slt v6961 c0_i32_7090
  let c0_i32_7091 : BitVec 32 := 0#32
  let v6964 : BitVec 1 := Scalar.cmpi .slt v6960 c0_i32_7091
  let v6965 : BitVec 1 := Scalar.xori v6963 v6964
  let c0_i32_7089 : BitVec 32 := 0#32
  let v6962 : BitVec 1 := Scalar.cmpi .ne v6961 c0_i32_7089
  let v6966 : BitVec 1 := Scalar.andi v6965 v6962
  let v6967 : BitVec 32 := Scalar.addi v6961 v6960
  let v6968 : BitVec 32 := Scalar.select v6966 v6967 v6961
  let c128_i32_7092 : BitVec 32 := 128#32
  let v6969 : BitVec 32 := Scalar.muli v6968 c128_i32_7092
  let v6970 : BitVec 32 := Scalar.addi v6958 v6969
  let v6971 : Index := Scalar.indexCast v6970
  let c640_7093 : Index := 640#32
  ![v6971.toNat, 640]
def k0_off53 (d0 : Dev nD) (c0_i32_7109 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_7110 : BitVec 32 := 4#32
  let c0_i32_7111 : BitVec 32 := 0#32
  let v6983 : BitVec 1 := Scalar.cmpi .eq c4_i32_7110 c0_i32_7111
  let c1_i32_7112 : BitVec 32 := 1#32
  let v6984 : BitVec 32 := Scalar.select v6983 c1_i32_7112 c4_i32_7110
  let v6985 : BitVec 32 := Scalar.remsi v40 v6984
  let c0_i32_7114 : BitVec 32 := 0#32
  let v6987 : BitVec 1 := Scalar.cmpi .slt v6985 c0_i32_7114
  let c0_i32_7115 : BitVec 32 := 0#32
  let v6988 : BitVec 1 := Scalar.cmpi .slt v6984 c0_i32_7115
  let v6989 : BitVec 1 := Scalar.xori v6987 v6988
  let c0_i32_7113 : BitVec 32 := 0#32
  let v6986 : BitVec 1 := Scalar.cmpi .ne v6985 c0_i32_7113
  let v6990 : BitVec 1 := Scalar.andi v6989 v6986
  let v6991 : BitVec 32 := Scalar.addi v6985 v6984
  let v6992 : BitVec 32 := Scalar.select v6990 v6991 v6985
  let c512_i32_7116 : BitVec 32 := 512#32
  let v6993 : BitVec 32 := Scalar.muli v6992 c512_i32_7116
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_7108 : BitVec 32 := 1#32
  let v6981 : BitVec 32 := Scalar.subi v29 c1_i32_7108
  let v6982 : BitVec 32 := Scalar.subi v6981 c0_i32_7109
  let c4_i32_7117 : BitVec 32 := 4#32
  let c0_i32_7118 : BitVec 32 := 0#32
  let v6994 : BitVec 1 := Scalar.cmpi .eq c4_i32_7117 c0_i32_7118
  let c1_i32_7119 : BitVec 32 := 1#32
  let v6995 : BitVec 32 := Scalar.select v6994 c1_i32_7119 c4_i32_7117
  let v6996 : BitVec 32 := Scalar.remsi v6982 v6995
  let c0_i32_7121 : BitVec 32 := 0#32
  let v6998 : BitVec 1 := Scalar.cmpi .slt v6996 c0_i32_7121
  let c0_i32_7122 : BitVec 32 := 0#32
  let v6999 : BitVec 1 := Scalar.cmpi .slt v6995 c0_i32_7122
  let v7000 : BitVec 1 := Scalar.xori v6998 v6999
  let c0_i32_7120 : BitVec 32 := 0#32
  let v6997 : BitVec 1 := Scalar.cmpi .ne v6996 c0_i32_7120
  let v7001 : BitVec 1 := Scalar.andi v7000 v6997
  let v7002 : BitVec 32 := Scalar.addi v6996 v6995
  let v7003 : BitVec 32 := Scalar.select v7001 v7002 v6996
  let c128_i32_7123 : BitVec 32 := 128#32
  let v7004 : BitVec 32 := Scalar.muli v7003 c128_i32_7123
  let v7005 : BitVec 32 := Scalar.addi v6993 v7004
  let v7006 : Index := Scalar.indexCast v7005
  let c256_7124 : Index := 256#32
  ![v7006.toNat, 256]
def k0_off54 (d0 : Dev nD) (c0_i32_7131 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_7132 : BitVec 32 := 4#32
  let c0_i32_7133 : BitVec 32 := 0#32
  let v7016 : BitVec 1 := Scalar.cmpi .eq c4_i32_7132 c0_i32_7133
  let c1_i32_7134 : BitVec 32 := 1#32
  let v7017 : BitVec 32 := Scalar.select v7016 c1_i32_7134 c4_i32_7132
  let v7018 : BitVec 32 := Scalar.remsi v40 v7017
  let c0_i32_7136 : BitVec 32 := 0#32
  let v7020 : BitVec 1 := Scalar.cmpi .slt v7018 c0_i32_7136
  let c0_i32_7137 : BitVec 32 := 0#32
  let v7021 : BitVec 1 := Scalar.cmpi .slt v7017 c0_i32_7137
  let v7022 : BitVec 1 := Scalar.xori v7020 v7021
  let c0_i32_7135 : BitVec 32 := 0#32
  let v7019 : BitVec 1 := Scalar.cmpi .ne v7018 c0_i32_7135
  let v7023 : BitVec 1 := Scalar.andi v7022 v7019
  let v7024 : BitVec 32 := Scalar.addi v7018 v7017
  let v7025 : BitVec 32 := Scalar.select v7023 v7024 v7018
  let c512_i32_7138 : BitVec 32 := 512#32
  let v7026 : BitVec 32 := Scalar.muli v7025 c512_i32_7138
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_7130 : BitVec 32 := 1#32
  let v7014 : BitVec 32 := Scalar.subi v29 c1_i32_7130
  let v7015 : BitVec 32 := Scalar.subi v7014 c0_i32_7131
  let c4_i32_7139 : BitVec 32 := 4#32
  let c0_i32_7140 : BitVec 32 := 0#32
  let v7027 : BitVec 1 := Scalar.cmpi .eq c4_i32_7139 c0_i32_7140
  let c1_i32_7141 : BitVec 32 := 1#32
  let v7028 : BitVec 32 := Scalar.select v7027 c1_i32_7141 c4_i32_7139
  let v7029 : BitVec 32 := Scalar.remsi v7015 v7028
  let c0_i32_7143 : BitVec 32 := 0#32
  let v7031 : BitVec 1 := Scalar.cmpi .slt v7029 c0_i32_7143
  let c0_i32_7144 : BitVec 32 := 0#32
  let v7032 : BitVec 1 := Scalar.cmpi .slt v7028 c0_i32_7144
  let v7033 : BitVec 1 := Scalar.xori v7031 v7032
  let c0_i32_7142 : BitVec 32 := 0#32
  let v7030 : BitVec 1 := Scalar.cmpi .ne v7029 c0_i32_7142
  let v7034 : BitVec 1 := Scalar.andi v7033 v7030
  let v7035 : BitVec 32 := Scalar.addi v7029 v7028
  let v7036 : BitVec 32 := Scalar.select v7034 v7035 v7029
  let c128_i32_7145 : BitVec 32 := 128#32
  let v7037 : BitVec 32 := Scalar.muli v7036 c128_i32_7145
  let v7038 : BitVec 32 := Scalar.addi v7026 v7037
  let c256_i32_7156 : BitVec 32 := 256#32
  ![v7038.toNat, 256]
def k0_dev125 (d0 : Dev nD) : Nat :=
  let c0_i32_7153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_7152 : BitVec 32 := 1#32
  let v7039 : BitVec 32 := Scalar.muli v90 c1_i32_7152
  let v7040 : BitVec 32 := Scalar.addi c0_i32_7153 v7039
  v7040.toNat
def k0_off55 (d0 : Dev nD) (c0_i32_7172 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_7173 : BitVec 32 := 4#32
  let c0_i32_7174 : BitVec 32 := 0#32
  let v7058 : BitVec 1 := Scalar.cmpi .eq c4_i32_7173 c0_i32_7174
  let c1_i32_7175 : BitVec 32 := 1#32
  let v7059 : BitVec 32 := Scalar.select v7058 c1_i32_7175 c4_i32_7173
  let v7060 : BitVec 32 := Scalar.remsi v51 v7059
  let c0_i32_7177 : BitVec 32 := 0#32
  let v7062 : BitVec 1 := Scalar.cmpi .slt v7060 c0_i32_7177
  let c0_i32_7178 : BitVec 32 := 0#32
  let v7063 : BitVec 1 := Scalar.cmpi .slt v7059 c0_i32_7178
  let v7064 : BitVec 1 := Scalar.xori v7062 v7063
  let c0_i32_7176 : BitVec 32 := 0#32
  let v7061 : BitVec 1 := Scalar.cmpi .ne v7060 c0_i32_7176
  let v7065 : BitVec 1 := Scalar.andi v7064 v7061
  let v7066 : BitVec 32 := Scalar.addi v7060 v7059
  let v7067 : BitVec 32 := Scalar.select v7065 v7066 v7060
  let c512_i32_7179 : BitVec 32 := 512#32
  let v7068 : BitVec 32 := Scalar.muli v7067 c512_i32_7179
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_7171 : BitVec 32 := 1#32
  let v7056 : BitVec 32 := Scalar.addi v29 c1_i32_7171
  let v7057 : BitVec 32 := Scalar.addi v7056 c0_i32_7172
  let c4_i32_7180 : BitVec 32 := 4#32
  let c0_i32_7181 : BitVec 32 := 0#32
  let v7069 : BitVec 1 := Scalar.cmpi .eq c4_i32_7180 c0_i32_7181
  let c1_i32_7182 : BitVec 32 := 1#32
  let v7070 : BitVec 32 := Scalar.select v7069 c1_i32_7182 c4_i32_7180
  let v7071 : BitVec 32 := Scalar.remsi v7057 v7070
  let c0_i32_7184 : BitVec 32 := 0#32
  let v7073 : BitVec 1 := Scalar.cmpi .slt v7071 c0_i32_7184
  let c0_i32_7185 : BitVec 32 := 0#32
  let v7074 : BitVec 1 := Scalar.cmpi .slt v7070 c0_i32_7185
  let v7075 : BitVec 1 := Scalar.xori v7073 v7074
  let c0_i32_7183 : BitVec 32 := 0#32
  let v7072 : BitVec 1 := Scalar.cmpi .ne v7071 c0_i32_7183
  let v7076 : BitVec 1 := Scalar.andi v7075 v7072
  let v7077 : BitVec 32 := Scalar.addi v7071 v7070
  let v7078 : BitVec 32 := Scalar.select v7076 v7077 v7071
  let c128_i32_7186 : BitVec 32 := 128#32
  let v7079 : BitVec 32 := Scalar.muli v7078 c128_i32_7186
  let v7080 : BitVec 32 := Scalar.addi v7068 v7079
  let v7081 : Index := Scalar.indexCast v7080
  let c768_7187 : Index := 768#32
  ![v7081.toNat, 768]
def k0_off56 (d0 : Dev nD) (c0_i32_7194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_7195 : BitVec 32 := 4#32
  let c0_i32_7196 : BitVec 32 := 0#32
  let v7091 : BitVec 1 := Scalar.cmpi .eq c4_i32_7195 c0_i32_7196
  let c1_i32_7197 : BitVec 32 := 1#32
  let v7092 : BitVec 32 := Scalar.select v7091 c1_i32_7197 c4_i32_7195
  let v7093 : BitVec 32 := Scalar.remsi v51 v7092
  let c0_i32_7199 : BitVec 32 := 0#32
  let v7095 : BitVec 1 := Scalar.cmpi .slt v7093 c0_i32_7199
  let c0_i32_7200 : BitVec 32 := 0#32
  let v7096 : BitVec 1 := Scalar.cmpi .slt v7092 c0_i32_7200
  let v7097 : BitVec 1 := Scalar.xori v7095 v7096
  let c0_i32_7198 : BitVec 32 := 0#32
  let v7094 : BitVec 1 := Scalar.cmpi .ne v7093 c0_i32_7198
  let v7098 : BitVec 1 := Scalar.andi v7097 v7094
  let v7099 : BitVec 32 := Scalar.addi v7093 v7092
  let v7100 : BitVec 32 := Scalar.select v7098 v7099 v7093
  let c512_i32_7201 : BitVec 32 := 512#32
  let v7101 : BitVec 32 := Scalar.muli v7100 c512_i32_7201
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_7193 : BitVec 32 := 1#32
  let v7089 : BitVec 32 := Scalar.addi v29 c1_i32_7193
  let v7090 : BitVec 32 := Scalar.addi v7089 c0_i32_7194
  let c4_i32_7202 : BitVec 32 := 4#32
  let c0_i32_7203 : BitVec 32 := 0#32
  let v7102 : BitVec 1 := Scalar.cmpi .eq c4_i32_7202 c0_i32_7203
  let c1_i32_7204 : BitVec 32 := 1#32
  let v7103 : BitVec 32 := Scalar.select v7102 c1_i32_7204 c4_i32_7202
  let v7104 : BitVec 32 := Scalar.remsi v7090 v7103
  let c0_i32_7206 : BitVec 32 := 0#32
  let v7106 : BitVec 1 := Scalar.cmpi .slt v7104 c0_i32_7206
  let c0_i32_7207 : BitVec 32 := 0#32
  let v7107 : BitVec 1 := Scalar.cmpi .slt v7103 c0_i32_7207
  let v7108 : BitVec 1 := Scalar.xori v7106 v7107
  let c0_i32_7205 : BitVec 32 := 0#32
  let v7105 : BitVec 1 := Scalar.cmpi .ne v7104 c0_i32_7205
  let v7109 : BitVec 1 := Scalar.andi v7108 v7105
  let v7110 : BitVec 32 := Scalar.addi v7104 v7103
  let v7111 : BitVec 32 := Scalar.select v7109 v7110 v7104
  let c128_i32_7208 : BitVec 32 := 128#32
  let v7112 : BitVec 32 := Scalar.muli v7111 c128_i32_7208
  let v7113 : BitVec 32 := Scalar.addi v7101 v7112
  let c768_i32_7219 : BitVec 32 := 768#32
  ![v7113.toNat, 768]
def k0_dev126 (d0 : Dev nD) : Nat :=
  let c0_i32_7216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_7215 : BitVec 32 := 1#32
  let v7114 : BitVec 32 := Scalar.muli v103 c1_i32_7215
  let v7115 : BitVec 32 := Scalar.addi c0_i32_7216 v7114
  v7115.toNat
def k0_off57 (d0 : Dev nD) (c0_i32_7239 : BitVec 32) (c0_i32_7247 : BitVec 32) : Fin 3 → Nat :=
  let c0_7248 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_7238 : BitVec 32 := 1#32
  let v7131 : BitVec 32 := Scalar.subi v12 c1_i32_7238
  let v7132 : BitVec 32 := Scalar.subi v7131 c0_i32_7239
  let c4_i32_7240 : BitVec 32 := 4#32
  let c0_i32_7241 : BitVec 32 := 0#32
  let v7133 : BitVec 1 := Scalar.cmpi .eq c4_i32_7240 c0_i32_7241
  let c1_i32_7242 : BitVec 32 := 1#32
  let v7134 : BitVec 32 := Scalar.select v7133 c1_i32_7242 c4_i32_7240
  let v7135 : BitVec 32 := Scalar.remsi v7132 v7134
  let c0_i32_7244 : BitVec 32 := 0#32
  let v7137 : BitVec 1 := Scalar.cmpi .slt v7135 c0_i32_7244
  let c0_i32_7245 : BitVec 32 := 0#32
  let v7138 : BitVec 1 := Scalar.cmpi .slt v7134 c0_i32_7245
  let v7139 : BitVec 1 := Scalar.xori v7137 v7138
  let c0_i32_7243 : BitVec 32 := 0#32
  let v7136 : BitVec 1 := Scalar.cmpi .ne v7135 c0_i32_7243
  let v7140 : BitVec 1 := Scalar.andi v7139 v7136
  let v7141 : BitVec 32 := Scalar.addi v7135 v7134
  let v7142 : BitVec 32 := Scalar.select v7140 v7141 v7135
  let c512_i32_7246 : BitVec 32 := 512#32
  let v7143 : BitVec 32 := Scalar.muli v7142 c512_i32_7246
  let v7144 : BitVec 32 := Scalar.addi v7143 c0_i32_7247
  let v7145 : Index := Scalar.indexCast v7144
  let c384 : Index := 384#32
  ![0, v7145.toNat, 384]
def k0_off58 (d0 : Dev nD) (c0_i32_7255 : BitVec 32) (c0_i32_7263 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_7254 : BitVec 32 := 1#32
  let v7151 : BitVec 32 := Scalar.subi v12 c1_i32_7254
  let v7152 : BitVec 32 := Scalar.subi v7151 c0_i32_7255
  let c4_i32_7256 : BitVec 32 := 4#32
  let c0_i32_7257 : BitVec 32 := 0#32
  let v7153 : BitVec 1 := Scalar.cmpi .eq c4_i32_7256 c0_i32_7257
  let c1_i32_7258 : BitVec 32 := 1#32
  let v7154 : BitVec 32 := Scalar.select v7153 c1_i32_7258 c4_i32_7256
  let v7155 : BitVec 32 := Scalar.remsi v7152 v7154
  let c0_i32_7260 : BitVec 32 := 0#32
  let v7157 : BitVec 1 := Scalar.cmpi .slt v7155 c0_i32_7260
  let c0_i32_7261 : BitVec 32 := 0#32
  let v7158 : BitVec 1 := Scalar.cmpi .slt v7154 c0_i32_7261
  let v7159 : BitVec 1 := Scalar.xori v7157 v7158
  let c0_i32_7259 : BitVec 32 := 0#32
  let v7156 : BitVec 1 := Scalar.cmpi .ne v7155 c0_i32_7259
  let v7160 : BitVec 1 := Scalar.andi v7159 v7156
  let v7161 : BitVec 32 := Scalar.addi v7155 v7154
  let v7162 : BitVec 32 := Scalar.select v7160 v7161 v7155
  let c512_i32_7262 : BitVec 32 := 512#32
  let v7163 : BitVec 32 := Scalar.muli v7162 c512_i32_7262
  let v7164 : BitVec 32 := Scalar.addi v7163 c0_i32_7263
  let v7165 : Index := Scalar.indexCast v7164
  let c384_7264 : Index := 384#32
  ![v7165.toNat, 384]
def k0_off59 (d0 : Dev nD) (c0_i32_7266 : BitVec 32) (c0_i32_7274 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_7265 : BitVec 32 := 1#32
  let v7167 : BitVec 32 := Scalar.subi v12 c1_i32_7265
  let v7168 : BitVec 32 := Scalar.subi v7167 c0_i32_7266
  let c4_i32_7267 : BitVec 32 := 4#32
  let c0_i32_7268 : BitVec 32 := 0#32
  let v7169 : BitVec 1 := Scalar.cmpi .eq c4_i32_7267 c0_i32_7268
  let c1_i32_7269 : BitVec 32 := 1#32
  let v7170 : BitVec 32 := Scalar.select v7169 c1_i32_7269 c4_i32_7267
  let v7171 : BitVec 32 := Scalar.remsi v7168 v7170
  let c0_i32_7271 : BitVec 32 := 0#32
  let v7173 : BitVec 1 := Scalar.cmpi .slt v7171 c0_i32_7271
  let c0_i32_7272 : BitVec 32 := 0#32
  let v7174 : BitVec 1 := Scalar.cmpi .slt v7170 c0_i32_7272
  let v7175 : BitVec 1 := Scalar.xori v7173 v7174
  let c0_i32_7270 : BitVec 32 := 0#32
  let v7172 : BitVec 1 := Scalar.cmpi .ne v7171 c0_i32_7270
  let v7176 : BitVec 1 := Scalar.andi v7175 v7172
  let v7177 : BitVec 32 := Scalar.addi v7171 v7170
  let v7178 : BitVec 32 := Scalar.select v7176 v7177 v7171
  let c512_i32_7273 : BitVec 32 := 512#32
  let v7179 : BitVec 32 := Scalar.muli v7178 c512_i32_7273
  let v7180 : BitVec 32 := Scalar.addi v7179 c0_i32_7274
  let c384_i32_7288 : BitVec 32 := 384#32
  ![v7180.toNat, 384]
def k0_dev127 (d0 : Dev nD) : Nat :=
  let c0_i32_7285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_7284 : BitVec 32 := 1#32
  let v7181 : BitVec 32 := Scalar.muli v64 c1_i32_7284
  let v7182 : BitVec 32 := Scalar.addi c0_i32_7285 v7181
  v7182.toNat
def k0_off60 (d0 : Dev nD) (c0_i32_7308 : BitVec 32) (c0_i32_7316 : BitVec 32) : Fin 3 → Nat :=
  let c0_7317 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_7307 : BitVec 32 := 1#32
  let v7198 : BitVec 32 := Scalar.addi v12 c1_i32_7307
  let v7199 : BitVec 32 := Scalar.addi v7198 c0_i32_7308
  let c4_i32_7309 : BitVec 32 := 4#32
  let c0_i32_7310 : BitVec 32 := 0#32
  let v7200 : BitVec 1 := Scalar.cmpi .eq c4_i32_7309 c0_i32_7310
  let c1_i32_7311 : BitVec 32 := 1#32
  let v7201 : BitVec 32 := Scalar.select v7200 c1_i32_7311 c4_i32_7309
  let v7202 : BitVec 32 := Scalar.remsi v7199 v7201
  let c0_i32_7313 : BitVec 32 := 0#32
  let v7204 : BitVec 1 := Scalar.cmpi .slt v7202 c0_i32_7313
  let c0_i32_7314 : BitVec 32 := 0#32
  let v7205 : BitVec 1 := Scalar.cmpi .slt v7201 c0_i32_7314
  let v7206 : BitVec 1 := Scalar.xori v7204 v7205
  let c0_i32_7312 : BitVec 32 := 0#32
  let v7203 : BitVec 1 := Scalar.cmpi .ne v7202 c0_i32_7312
  let v7207 : BitVec 1 := Scalar.andi v7206 v7203
  let v7208 : BitVec 32 := Scalar.addi v7202 v7201
  let v7209 : BitVec 32 := Scalar.select v7207 v7208 v7202
  let c512_i32_7315 : BitVec 32 := 512#32
  let v7210 : BitVec 32 := Scalar.muli v7209 c512_i32_7315
  let v7211 : BitVec 32 := Scalar.addi v7210 c0_i32_7316
  let v7212 : Index := Scalar.indexCast v7211
  let c896 : Index := 896#32
  ![0, v7212.toNat, 896]
def k0_off61 (d0 : Dev nD) (c0_i32_7324 : BitVec 32) (c0_i32_7332 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_7323 : BitVec 32 := 1#32
  let v7218 : BitVec 32 := Scalar.addi v12 c1_i32_7323
  let v7219 : BitVec 32 := Scalar.addi v7218 c0_i32_7324
  let c4_i32_7325 : BitVec 32 := 4#32
  let c0_i32_7326 : BitVec 32 := 0#32
  let v7220 : BitVec 1 := Scalar.cmpi .eq c4_i32_7325 c0_i32_7326
  let c1_i32_7327 : BitVec 32 := 1#32
  let v7221 : BitVec 32 := Scalar.select v7220 c1_i32_7327 c4_i32_7325
  let v7222 : BitVec 32 := Scalar.remsi v7219 v7221
  let c0_i32_7329 : BitVec 32 := 0#32
  let v7224 : BitVec 1 := Scalar.cmpi .slt v7222 c0_i32_7329
  let c0_i32_7330 : BitVec 32 := 0#32
  let v7225 : BitVec 1 := Scalar.cmpi .slt v7221 c0_i32_7330
  let v7226 : BitVec 1 := Scalar.xori v7224 v7225
  let c0_i32_7328 : BitVec 32 := 0#32
  let v7223 : BitVec 1 := Scalar.cmpi .ne v7222 c0_i32_7328
  let v7227 : BitVec 1 := Scalar.andi v7226 v7223
  let v7228 : BitVec 32 := Scalar.addi v7222 v7221
  let v7229 : BitVec 32 := Scalar.select v7227 v7228 v7222
  let c512_i32_7331 : BitVec 32 := 512#32
  let v7230 : BitVec 32 := Scalar.muli v7229 c512_i32_7331
  let v7231 : BitVec 32 := Scalar.addi v7230 c0_i32_7332
  let v7232 : Index := Scalar.indexCast v7231
  let c896_7333 : Index := 896#32
  ![v7232.toNat, 896]
def k0_off62 (d0 : Dev nD) (c0_i32_7335 : BitVec 32) (c0_i32_7343 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_7334 : BitVec 32 := 1#32
  let v7234 : BitVec 32 := Scalar.addi v12 c1_i32_7334
  let v7235 : BitVec 32 := Scalar.addi v7234 c0_i32_7335
  let c4_i32_7336 : BitVec 32 := 4#32
  let c0_i32_7337 : BitVec 32 := 0#32
  let v7236 : BitVec 1 := Scalar.cmpi .eq c4_i32_7336 c0_i32_7337
  let c1_i32_7338 : BitVec 32 := 1#32
  let v7237 : BitVec 32 := Scalar.select v7236 c1_i32_7338 c4_i32_7336
  let v7238 : BitVec 32 := Scalar.remsi v7235 v7237
  let c0_i32_7340 : BitVec 32 := 0#32
  let v7240 : BitVec 1 := Scalar.cmpi .slt v7238 c0_i32_7340
  let c0_i32_7341 : BitVec 32 := 0#32
  let v7241 : BitVec 1 := Scalar.cmpi .slt v7237 c0_i32_7341
  let v7242 : BitVec 1 := Scalar.xori v7240 v7241
  let c0_i32_7339 : BitVec 32 := 0#32
  let v7239 : BitVec 1 := Scalar.cmpi .ne v7238 c0_i32_7339
  let v7243 : BitVec 1 := Scalar.andi v7242 v7239
  let v7244 : BitVec 32 := Scalar.addi v7238 v7237
  let v7245 : BitVec 32 := Scalar.select v7243 v7244 v7238
  let c512_i32_7342 : BitVec 32 := 512#32
  let v7246 : BitVec 32 := Scalar.muli v7245 c512_i32_7342
  let v7247 : BitVec 32 := Scalar.addi v7246 c0_i32_7343
  let c896_i32_7357 : BitVec 32 := 896#32
  ![v7247.toNat, 896]
def k0_dev128 (d0 : Dev nD) : Nat :=
  let c0_i32_7354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_7353 : BitVec 32 := 1#32
  let v7248 : BitVec 32 := Scalar.muli v77 c1_i32_7353
  let v7249 : BitVec 32 := Scalar.addi c0_i32_7354 v7248
  v7249.toNat
def k0_dev129 (d0 : Dev nD) : Nat :=
  let c0_i32_7424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_7423 : BitVec 32 := 1#32
  let v7315 : BitVec 32 := Scalar.muli v64 c1_i32_7423
  let v7316 : BitVec 32 := Scalar.addi c0_i32_7424 v7315
  v7316.toNat
def k0_dev130 (d0 : Dev nD) : Nat :=
  let c0_i32_7494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_7493 : BitVec 32 := 1#32
  let v7382 : BitVec 32 := Scalar.muli v77 c1_i32_7493
  let v7383 : BitVec 32 := Scalar.addi c0_i32_7494 v7382
  v7383.toNat
def k0_dev131 (d0 : Dev nD) : Nat :=
  let c0_i32_7564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_7563 : BitVec 32 := 1#32
  let v7449 : BitVec 32 := Scalar.muli v64 c1_i32_7563
  let v7450 : BitVec 32 := Scalar.addi c0_i32_7564 v7449
  v7450.toNat
def k0_dev132 (d0 : Dev nD) : Nat :=
  let c0_i32_7634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_7633 : BitVec 32 := 1#32
  let v7516 : BitVec 32 := Scalar.muli v77 c1_i32_7633
  let v7517 : BitVec 32 := Scalar.addi c0_i32_7634 v7516
  v7517.toNat
def k0_dev133 (d0 : Dev nD) : Nat :=
  let c0_i32_7704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_7703 : BitVec 32 := 1#32
  let v7583 : BitVec 32 := Scalar.muli v64 c1_i32_7703
  let v7584 : BitVec 32 := Scalar.addi c0_i32_7704 v7583
  v7584.toNat
def k0_dev134 (d0 : Dev nD) : Nat :=
  let c0_i32_7774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_7773 : BitVec 32 := 1#32
  let v7650 : BitVec 32 := Scalar.muli v77 c1_i32_7773
  let v7651 : BitVec 32 := Scalar.addi c0_i32_7774 v7650
  v7651.toNat
def k0_dev135 (d0 : Dev nD) : Nat :=
  let c0_i32_7809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_7808 : BitVec 32 := 1#32
  let v7667 : BitVec 32 := Scalar.muli v64 c1_i32_7808
  let v7668 : BitVec 32 := Scalar.addi c0_i32_7809 v7667
  v7668.toNat
def k0_dev136 (d0 : Dev nD) : Nat :=
  let c0_i32_7860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_7859 : BitVec 32 := 1#32
  let v7702 : BitVec 32 := Scalar.muli v77 c1_i32_7859
  let v7703 : BitVec 32 := Scalar.addi c0_i32_7860 v7702
  v7703.toNat
def k0_dev137 (d0 : Dev nD) : Nat :=
  let c0_i32_7911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_7910 : BitVec 32 := 1#32
  let v7737 : BitVec 32 := Scalar.muli v64 c1_i32_7910
  let v7738 : BitVec 32 := Scalar.addi c0_i32_7911 v7737
  v7738.toNat
def k0_dev138 (d0 : Dev nD) : Nat :=
  let c0_i32_7962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_7961 : BitVec 32 := 1#32
  let v7772 : BitVec 32 := Scalar.muli v77 c1_i32_7961
  let v7773 : BitVec 32 := Scalar.addi c0_i32_7962 v7772
  v7773.toNat
def k0_dev139 (d0 : Dev nD) : Nat :=
  let c0_i32_8013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_8012 : BitVec 32 := 1#32
  let v7807 : BitVec 32 := Scalar.muli v64 c1_i32_8012
  let v7808 : BitVec 32 := Scalar.addi c0_i32_8013 v7807
  v7808.toNat
def k0_dev140 (d0 : Dev nD) : Nat :=
  let c0_i32_8064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_8063 : BitVec 32 := 1#32
  let v7842 : BitVec 32 := Scalar.muli v77 c1_i32_8063
  let v7843 : BitVec 32 := Scalar.addi c0_i32_8064 v7842
  v7843.toNat
def k0_dev141 (d0 : Dev nD) : Nat :=
  let c0_i32_8115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_8114 : BitVec 32 := 1#32
  let v7877 : BitVec 32 := Scalar.muli v64 c1_i32_8114
  let v7878 : BitVec 32 := Scalar.addi c0_i32_8115 v7877
  v7878.toNat
def k0_dev142 (d0 : Dev nD) : Nat :=
  let c0_i32_8166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_8165 : BitVec 32 := 1#32
  let v7912 : BitVec 32 := Scalar.muli v77 c1_i32_8165
  let v7913 : BitVec 32 := Scalar.addi c0_i32_8166 v7912
  v7913.toNat
def k0_dev143 (d0 : Dev nD) : Nat :=
  let c0_i32_8209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_8208 : BitVec 32 := 1#32
  let v7947 : BitVec 32 := Scalar.muli v90 c1_i32_8208
  let v7948 : BitVec 32 := Scalar.addi c0_i32_8209 v7947
  v7948.toNat
def k0_dev144 (d0 : Dev nD) : Nat :=
  let c0_i32_8257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_8256 : BitVec 32 := 1#32
  let v7993 : BitVec 32 := Scalar.muli v103 c1_i32_8256
  let v7994 : BitVec 32 := Scalar.addi c0_i32_8257 v7993
  v7994.toNat
def k0_dev145 (d0 : Dev nD) : Nat :=
  let c0_i32_8341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_8340 : BitVec 32 := 1#32
  let v8097 : BitVec 32 := Scalar.muli v90 c1_i32_8340
  let v8098 : BitVec 32 := Scalar.addi c0_i32_8341 v8097
  v8098.toNat
def k0_dev146 (d0 : Dev nD) : Nat :=
  let c0_i32_8404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_8403 : BitVec 32 := 1#32
  let v8172 : BitVec 32 := Scalar.muli v103 c1_i32_8403
  let v8173 : BitVec 32 := Scalar.addi c0_i32_8404 v8172
  v8173.toNat
def k0_dev147 (d0 : Dev nD) : Nat :=
  let c0_i32_8474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_8473 : BitVec 32 := 1#32
  let v8239 : BitVec 32 := Scalar.muli v64 c1_i32_8473
  let v8240 : BitVec 32 := Scalar.addi c0_i32_8474 v8239
  v8240.toNat
def k0_dev148 (d0 : Dev nD) : Nat :=
  let c0_i32_8544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_8543 : BitVec 32 := 1#32
  let v8306 : BitVec 32 := Scalar.muli v77 c1_i32_8543
  let v8307 : BitVec 32 := Scalar.addi c0_i32_8544 v8306
  v8307.toNat
def k0_dev149 (d0 : Dev nD) : Nat :=
  let c0_i32_8614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_8613 : BitVec 32 := 1#32
  let v8373 : BitVec 32 := Scalar.muli v64 c1_i32_8613
  let v8374 : BitVec 32 := Scalar.addi c0_i32_8614 v8373
  v8374.toNat
def k0_dev150 (d0 : Dev nD) : Nat :=
  let c0_i32_8684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_8683 : BitVec 32 := 1#32
  let v8440 : BitVec 32 := Scalar.muli v77 c1_i32_8683
  let v8441 : BitVec 32 := Scalar.addi c0_i32_8684 v8440
  v8441.toNat
def k0_dev151 (d0 : Dev nD) : Nat :=
  let c0_i32_8754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_8753 : BitVec 32 := 1#32
  let v8507 : BitVec 32 := Scalar.muli v64 c1_i32_8753
  let v8508 : BitVec 32 := Scalar.addi c0_i32_8754 v8507
  v8508.toNat
def k0_dev152 (d0 : Dev nD) : Nat :=
  let c0_i32_8824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_8823 : BitVec 32 := 1#32
  let v8574 : BitVec 32 := Scalar.muli v77 c1_i32_8823
  let v8575 : BitVec 32 := Scalar.addi c0_i32_8824 v8574
  v8575.toNat
def k0_dev153 (d0 : Dev nD) : Nat :=
  let c0_i32_8894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_8893 : BitVec 32 := 1#32
  let v8641 : BitVec 32 := Scalar.muli v64 c1_i32_8893
  let v8642 : BitVec 32 := Scalar.addi c0_i32_8894 v8641
  v8642.toNat
def k0_dev154 (d0 : Dev nD) : Nat :=
  let c0_i32_8964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_8963 : BitVec 32 := 1#32
  let v8708 : BitVec 32 := Scalar.muli v77 c1_i32_8963
  let v8709 : BitVec 32 := Scalar.addi c0_i32_8964 v8708
  v8709.toNat
def k0_off63 (d0 : Dev nD) (c0_i32_9747 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_9740 : BitVec 32 := 4#32
  let c0_i32_9741 : BitVec 32 := 0#32
  let v9423 : BitVec 1 := Scalar.cmpi .eq c4_i32_9740 c0_i32_9741
  let c1_i32_9742 : BitVec 32 := 1#32
  let v9424 : BitVec 32 := Scalar.select v9423 c1_i32_9742 c4_i32_9740
  let v9425 : BitVec 32 := Scalar.remsi v40 v9424
  let c0_i32_9744 : BitVec 32 := 0#32
  let v9427 : BitVec 1 := Scalar.cmpi .slt v9425 c0_i32_9744
  let c0_i32_9745 : BitVec 32 := 0#32
  let v9428 : BitVec 1 := Scalar.cmpi .slt v9424 c0_i32_9745
  let v9429 : BitVec 1 := Scalar.xori v9427 v9428
  let c0_i32_9743 : BitVec 32 := 0#32
  let v9426 : BitVec 1 := Scalar.cmpi .ne v9425 c0_i32_9743
  let v9430 : BitVec 1 := Scalar.andi v9429 v9426
  let v9431 : BitVec 32 := Scalar.addi v9425 v9424
  let v9432 : BitVec 32 := Scalar.select v9430 v9431 v9425
  let c512_i32_9746 : BitVec 32 := 512#32
  let v9433 : BitVec 32 := Scalar.muli v9432 c512_i32_9746
  let v9434 : BitVec 32 := Scalar.addi v9433 c0_i32_9747
  let c128_i32_9761 : BitVec 32 := 128#32
  ![v9434.toNat, 128]
def k0_dev155 (d0 : Dev nD) : Nat :=
  let c0_i32_9758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_9757 : BitVec 32 := 1#32
  let v9435 : BitVec 32 := Scalar.muli v64 c1_i32_9757
  let v9436 : BitVec 32 := Scalar.addi c0_i32_9758 v9435
  v9436.toNat
def k0_off64 (d0 : Dev nD) (c0_i32_9769 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_9762 : BitVec 32 := 4#32
  let c0_i32_9763 : BitVec 32 := 0#32
  let v9444 : BitVec 1 := Scalar.cmpi .eq c4_i32_9762 c0_i32_9763
  let c1_i32_9764 : BitVec 32 := 1#32
  let v9445 : BitVec 32 := Scalar.select v9444 c1_i32_9764 c4_i32_9762
  let v9446 : BitVec 32 := Scalar.remsi v51 v9445
  let c0_i32_9766 : BitVec 32 := 0#32
  let v9448 : BitVec 1 := Scalar.cmpi .slt v9446 c0_i32_9766
  let c0_i32_9767 : BitVec 32 := 0#32
  let v9449 : BitVec 1 := Scalar.cmpi .slt v9445 c0_i32_9767
  let v9450 : BitVec 1 := Scalar.xori v9448 v9449
  let c0_i32_9765 : BitVec 32 := 0#32
  let v9447 : BitVec 1 := Scalar.cmpi .ne v9446 c0_i32_9765
  let v9451 : BitVec 1 := Scalar.andi v9450 v9447
  let v9452 : BitVec 32 := Scalar.addi v9446 v9445
  let v9453 : BitVec 32 := Scalar.select v9451 v9452 v9446
  let c512_i32_9768 : BitVec 32 := 512#32
  let v9454 : BitVec 32 := Scalar.muli v9453 c512_i32_9768
  let v9455 : BitVec 32 := Scalar.addi v9454 c0_i32_9769
  let c640_i32_9783 : BitVec 32 := 640#32
  ![v9455.toNat, 640]
def k0_dev156 (d0 : Dev nD) : Nat :=
  let c0_i32_9780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_9779 : BitVec 32 := 1#32
  let v9456 : BitVec 32 := Scalar.muli v77 c1_i32_9779
  let v9457 : BitVec 32 := Scalar.addi c0_i32_9780 v9456
  v9457.toNat
def k0_dev157 (d0 : Dev nD) : Nat :=
  let c0_i32_9802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_9801 : BitVec 32 := 1#32
  let v9477 : BitVec 32 := Scalar.muli v64 c1_i32_9801
  let v9478 : BitVec 32 := Scalar.addi c0_i32_9802 v9477
  v9478.toNat
def k0_dev158 (d0 : Dev nD) : Nat :=
  let c0_i32_9824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_9823 : BitVec 32 := 1#32
  let v9498 : BitVec 32 := Scalar.muli v77 c1_i32_9823
  let v9499 : BitVec 32 := Scalar.addi c0_i32_9824 v9498
  v9499.toNat
def k0_dev159 (d0 : Dev nD) : Nat :=
  let c0_i32_9846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_9845 : BitVec 32 := 1#32
  let v9519 : BitVec 32 := Scalar.muli v64 c1_i32_9845
  let v9520 : BitVec 32 := Scalar.addi c0_i32_9846 v9519
  v9520.toNat
def k0_dev160 (d0 : Dev nD) : Nat :=
  let c0_i32_9868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_9867 : BitVec 32 := 1#32
  let v9540 : BitVec 32 := Scalar.muli v77 c1_i32_9867
  let v9541 : BitVec 32 := Scalar.addi c0_i32_9868 v9540
  v9541.toNat
def k0_dev161 (d0 : Dev nD) : Nat :=
  let c0_i32_9890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_9889 : BitVec 32 := 1#32
  let v9561 : BitVec 32 := Scalar.muli v64 c1_i32_9889
  let v9562 : BitVec 32 := Scalar.addi c0_i32_9890 v9561
  v9562.toNat
def k0_dev162 (d0 : Dev nD) : Nat :=
  let c0_i32_9912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_9911 : BitVec 32 := 1#32
  let v9582 : BitVec 32 := Scalar.muli v77 c1_i32_9911
  let v9583 : BitVec 32 := Scalar.addi c0_i32_9912 v9582
  v9583.toNat
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_9917 : BitVec 32 := 4#32
  let c0_i32_9918 : BitVec 32 := 0#32
  let v9592 : BitVec 1 := Scalar.cmpi .eq c4_i32_9917 c0_i32_9918
  let c1_i32_9919 : BitVec 32 := 1#32
  let v9593 : BitVec 32 := Scalar.select v9592 c1_i32_9919 c4_i32_9917
  let v9594 : BitVec 32 := Scalar.remsi v40 v9593
  let c0_i32_9921 : BitVec 32 := 0#32
  let v9596 : BitVec 1 := Scalar.cmpi .slt v9594 c0_i32_9921
  let c0_i32_9922 : BitVec 32 := 0#32
  let v9597 : BitVec 1 := Scalar.cmpi .slt v9593 c0_i32_9922
  let v9598 : BitVec 1 := Scalar.xori v9596 v9597
  let c0_i32_9920 : BitVec 32 := 0#32
  let v9595 : BitVec 1 := Scalar.cmpi .ne v9594 c0_i32_9920
  let v9599 : BitVec 1 := Scalar.andi v9598 v9595
  let v9600 : BitVec 32 := Scalar.addi v9594 v9593
  let v9601 : BitVec 32 := Scalar.select v9599 v9600 v9594
  let c512_i32_9923 : BitVec 32 := 512#32
  let v9602 : BitVec 32 := Scalar.muli v9601 c512_i32_9923
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_9916 : BitVec 32 := 1#32
  let v9591 : BitVec 32 := Scalar.addi v29 c1_i32_9916
  let c4_i32_9924 : BitVec 32 := 4#32
  let c0_i32_9925 : BitVec 32 := 0#32
  let v9603 : BitVec 1 := Scalar.cmpi .eq c4_i32_9924 c0_i32_9925
  let c1_i32_9926 : BitVec 32 := 1#32
  let v9604 : BitVec 32 := Scalar.select v9603 c1_i32_9926 c4_i32_9924
  let v9605 : BitVec 32 := Scalar.remsi v9591 v9604
  let c0_i32_9928 : BitVec 32 := 0#32
  let v9607 : BitVec 1 := Scalar.cmpi .slt v9605 c0_i32_9928
  let c0_i32_9929 : BitVec 32 := 0#32
  let v9608 : BitVec 1 := Scalar.cmpi .slt v9604 c0_i32_9929
  let v9609 : BitVec 1 := Scalar.xori v9607 v9608
  let c0_i32_9927 : BitVec 32 := 0#32
  let v9606 : BitVec 1 := Scalar.cmpi .ne v9605 c0_i32_9927
  let v9610 : BitVec 1 := Scalar.andi v9609 v9606
  let v9611 : BitVec 32 := Scalar.addi v9605 v9604
  let v9612 : BitVec 32 := Scalar.select v9610 v9611 v9605
  let c128_i32_9930 : BitVec 32 := 128#32
  let v9613 : BitVec 32 := Scalar.muli v9612 c128_i32_9930
  let v9614 : BitVec 32 := Scalar.addi v9602 v9613
  let c256_i32_9941 : BitVec 32 := 256#32
  ![v9614.toNat, 256]
def k0_dev163 (d0 : Dev nD) : Nat :=
  let c0_i32_9938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_9937 : BitVec 32 := 1#32
  let v9615 : BitVec 32 := Scalar.muli v90 c1_i32_9937
  let v9616 : BitVec 32 := Scalar.addi c0_i32_9938 v9615
  v9616.toNat
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_9943 : BitVec 32 := 4#32
  let c0_i32_9944 : BitVec 32 := 0#32
  let v9625 : BitVec 1 := Scalar.cmpi .eq c4_i32_9943 c0_i32_9944
  let c1_i32_9945 : BitVec 32 := 1#32
  let v9626 : BitVec 32 := Scalar.select v9625 c1_i32_9945 c4_i32_9943
  let v9627 : BitVec 32 := Scalar.remsi v51 v9626
  let c0_i32_9947 : BitVec 32 := 0#32
  let v9629 : BitVec 1 := Scalar.cmpi .slt v9627 c0_i32_9947
  let c0_i32_9948 : BitVec 32 := 0#32
  let v9630 : BitVec 1 := Scalar.cmpi .slt v9626 c0_i32_9948
  let v9631 : BitVec 1 := Scalar.xori v9629 v9630
  let c0_i32_9946 : BitVec 32 := 0#32
  let v9628 : BitVec 1 := Scalar.cmpi .ne v9627 c0_i32_9946
  let v9632 : BitVec 1 := Scalar.andi v9631 v9628
  let v9633 : BitVec 32 := Scalar.addi v9627 v9626
  let v9634 : BitVec 32 := Scalar.select v9632 v9633 v9627
  let c512_i32_9949 : BitVec 32 := 512#32
  let v9635 : BitVec 32 := Scalar.muli v9634 c512_i32_9949
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_9942 : BitVec 32 := 1#32
  let v9624 : BitVec 32 := Scalar.subi v29 c1_i32_9942
  let c4_i32_9950 : BitVec 32 := 4#32
  let c0_i32_9951 : BitVec 32 := 0#32
  let v9636 : BitVec 1 := Scalar.cmpi .eq c4_i32_9950 c0_i32_9951
  let c1_i32_9952 : BitVec 32 := 1#32
  let v9637 : BitVec 32 := Scalar.select v9636 c1_i32_9952 c4_i32_9950
  let v9638 : BitVec 32 := Scalar.remsi v9624 v9637
  let c0_i32_9954 : BitVec 32 := 0#32
  let v9640 : BitVec 1 := Scalar.cmpi .slt v9638 c0_i32_9954
  let c0_i32_9955 : BitVec 32 := 0#32
  let v9641 : BitVec 1 := Scalar.cmpi .slt v9637 c0_i32_9955
  let v9642 : BitVec 1 := Scalar.xori v9640 v9641
  let c0_i32_9953 : BitVec 32 := 0#32
  let v9639 : BitVec 1 := Scalar.cmpi .ne v9638 c0_i32_9953
  let v9643 : BitVec 1 := Scalar.andi v9642 v9639
  let v9644 : BitVec 32 := Scalar.addi v9638 v9637
  let v9645 : BitVec 32 := Scalar.select v9643 v9644 v9638
  let c128_i32_9956 : BitVec 32 := 128#32
  let v9646 : BitVec 32 := Scalar.muli v9645 c128_i32_9956
  let v9647 : BitVec 32 := Scalar.addi v9635 v9646
  let c768_i32_9967 : BitVec 32 := 768#32
  ![v9647.toNat, 768]
def k0_dev164 (d0 : Dev nD) : Nat :=
  let c0_i32_9964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_9963 : BitVec 32 := 1#32
  let v9648 : BitVec 32 := Scalar.muli v103 c1_i32_9963
  let v9649 : BitVec 32 := Scalar.addi c0_i32_9964 v9648
  v9649.toNat
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_9968 : BitVec 32 := 4#32
  let c0_i32_9969 : BitVec 32 := 0#32
  let v9657 : BitVec 1 := Scalar.cmpi .eq c4_i32_9968 c0_i32_9969
  let c1_i32_9970 : BitVec 32 := 1#32
  let v9658 : BitVec 32 := Scalar.select v9657 c1_i32_9970 c4_i32_9968
  let v9659 : BitVec 32 := Scalar.remsi v40 v9658
  let c0_i32_9972 : BitVec 32 := 0#32
  let v9661 : BitVec 1 := Scalar.cmpi .slt v9659 c0_i32_9972
  let c0_i32_9973 : BitVec 32 := 0#32
  let v9662 : BitVec 1 := Scalar.cmpi .slt v9658 c0_i32_9973
  let v9663 : BitVec 1 := Scalar.xori v9661 v9662
  let c0_i32_9971 : BitVec 32 := 0#32
  let v9660 : BitVec 1 := Scalar.cmpi .ne v9659 c0_i32_9971
  let v9664 : BitVec 1 := Scalar.andi v9663 v9660
  let v9665 : BitVec 32 := Scalar.addi v9659 v9658
  let v9666 : BitVec 32 := Scalar.select v9664 v9665 v9659
  let c512_i32_9974 : BitVec 32 := 512#32
  let v9667 : BitVec 32 := Scalar.muli v9666 c512_i32_9974
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_9975 : BitVec 32 := 4#32
  let c0_i32_9976 : BitVec 32 := 0#32
  let v9668 : BitVec 1 := Scalar.cmpi .eq c4_i32_9975 c0_i32_9976
  let c1_i32_9977 : BitVec 32 := 1#32
  let v9669 : BitVec 32 := Scalar.select v9668 c1_i32_9977 c4_i32_9975
  let v9670 : BitVec 32 := Scalar.remsi v29 v9669
  let c0_i32_9979 : BitVec 32 := 0#32
  let v9672 : BitVec 1 := Scalar.cmpi .slt v9670 c0_i32_9979
  let c0_i32_9980 : BitVec 32 := 0#32
  let v9673 : BitVec 1 := Scalar.cmpi .slt v9669 c0_i32_9980
  let v9674 : BitVec 1 := Scalar.xori v9672 v9673
  let c0_i32_9978 : BitVec 32 := 0#32
  let v9671 : BitVec 1 := Scalar.cmpi .ne v9670 c0_i32_9978
  let v9675 : BitVec 1 := Scalar.andi v9674 v9671
  let v9676 : BitVec 32 := Scalar.addi v9670 v9669
  let v9677 : BitVec 32 := Scalar.select v9675 v9676 v9670
  let c128_i32_9981 : BitVec 32 := 128#32
  let v9678 : BitVec 32 := Scalar.muli v9677 c128_i32_9981
  let v9679 : BitVec 32 := Scalar.addi v9667 v9678
  let c384_i32_9992 : BitVec 32 := 384#32
  ![v9679.toNat, 384]
def k0_dev165 (d0 : Dev nD) : Nat :=
  let c0_i32_9989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_9988 : BitVec 32 := 1#32
  let v9680 : BitVec 32 := Scalar.muli v90 c1_i32_9988
  let v9681 : BitVec 32 := Scalar.addi c0_i32_9989 v9680
  v9681.toNat
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_9993 : BitVec 32 := 4#32
  let c0_i32_9994 : BitVec 32 := 0#32
  let v9689 : BitVec 1 := Scalar.cmpi .eq c4_i32_9993 c0_i32_9994
  let c1_i32_9995 : BitVec 32 := 1#32
  let v9690 : BitVec 32 := Scalar.select v9689 c1_i32_9995 c4_i32_9993
  let v9691 : BitVec 32 := Scalar.remsi v51 v9690
  let c0_i32_9997 : BitVec 32 := 0#32
  let v9693 : BitVec 1 := Scalar.cmpi .slt v9691 c0_i32_9997
  let c0_i32_9998 : BitVec 32 := 0#32
  let v9694 : BitVec 1 := Scalar.cmpi .slt v9690 c0_i32_9998
  let v9695 : BitVec 1 := Scalar.xori v9693 v9694
  let c0_i32_9996 : BitVec 32 := 0#32
  let v9692 : BitVec 1 := Scalar.cmpi .ne v9691 c0_i32_9996
  let v9696 : BitVec 1 := Scalar.andi v9695 v9692
  let v9697 : BitVec 32 := Scalar.addi v9691 v9690
  let v9698 : BitVec 32 := Scalar.select v9696 v9697 v9691
  let c512_i32_9999 : BitVec 32 := 512#32
  let v9699 : BitVec 32 := Scalar.muli v9698 c512_i32_9999
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_10000 : BitVec 32 := 4#32
  let c0_i32_10001 : BitVec 32 := 0#32
  let v9700 : BitVec 1 := Scalar.cmpi .eq c4_i32_10000 c0_i32_10001
  let c1_i32_10002 : BitVec 32 := 1#32
  let v9701 : BitVec 32 := Scalar.select v9700 c1_i32_10002 c4_i32_10000
  let v9702 : BitVec 32 := Scalar.remsi v29 v9701
  let c0_i32_10004 : BitVec 32 := 0#32
  let v9704 : BitVec 1 := Scalar.cmpi .slt v9702 c0_i32_10004
  let c0_i32_10005 : BitVec 32 := 0#32
  let v9705 : BitVec 1 := Scalar.cmpi .slt v9701 c0_i32_10005
  let v9706 : BitVec 1 := Scalar.xori v9704 v9705
  let c0_i32_10003 : BitVec 32 := 0#32
  let v9703 : BitVec 1 := Scalar.cmpi .ne v9702 c0_i32_10003
  let v9707 : BitVec 1 := Scalar.andi v9706 v9703
  let v9708 : BitVec 32 := Scalar.addi v9702 v9701
  let v9709 : BitVec 32 := Scalar.select v9707 v9708 v9702
  let c128_i32_10006 : BitVec 32 := 128#32
  let v9710 : BitVec 32 := Scalar.muli v9709 c128_i32_10006
  let v9711 : BitVec 32 := Scalar.addi v9699 v9710
  let c896_i32_10017 : BitVec 32 := 896#32
  ![v9711.toNat, 896]
def k0_dev166 (d0 : Dev nD) : Nat :=
  let c0_i32_10014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_10013 : BitVec 32 := 1#32
  let v9712 : BitVec 32 := Scalar.muli v103 c1_i32_10013
  let v9713 : BitVec 32 := Scalar.addi c0_i32_10014 v9712
  v9713.toNat
def k0_dev167 (d0 : Dev nD) : Nat :=
  let c0_i32_10049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_10048 : BitVec 32 := 1#32
  let v9729 : BitVec 32 := Scalar.muli v64 c1_i32_10048
  let v9730 : BitVec 32 := Scalar.addi c0_i32_10049 v9729
  v9730.toNat
def k0_off69 (d0 : Dev nD) (c0_i32_10059 : BitVec 32) (c0_i32_10067 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v9741 : BitVec 32 := Scalar.subi v12 c0_i32_10059
  let c4_i32_10060 : BitVec 32 := 4#32
  let c0_i32_10061 : BitVec 32 := 0#32
  let v9742 : BitVec 1 := Scalar.cmpi .eq c4_i32_10060 c0_i32_10061
  let c1_i32_10062 : BitVec 32 := 1#32
  let v9743 : BitVec 32 := Scalar.select v9742 c1_i32_10062 c4_i32_10060
  let v9744 : BitVec 32 := Scalar.remsi v9741 v9743
  let c0_i32_10064 : BitVec 32 := 0#32
  let v9746 : BitVec 1 := Scalar.cmpi .slt v9744 c0_i32_10064
  let c0_i32_10065 : BitVec 32 := 0#32
  let v9747 : BitVec 1 := Scalar.cmpi .slt v9743 c0_i32_10065
  let v9748 : BitVec 1 := Scalar.xori v9746 v9747
  let c0_i32_10063 : BitVec 32 := 0#32
  let v9745 : BitVec 1 := Scalar.cmpi .ne v9744 c0_i32_10063
  let v9749 : BitVec 1 := Scalar.andi v9748 v9745
  let v9750 : BitVec 32 := Scalar.addi v9744 v9743
  let v9751 : BitVec 32 := Scalar.select v9749 v9750 v9744
  let c512_i32_10066 : BitVec 32 := 512#32
  let v9752 : BitVec 32 := Scalar.muli v9751 c512_i32_10066
  let v9753 : BitVec 32 := Scalar.addi v9752 c0_i32_10067
  let v9754 : Index := Scalar.indexCast v9753
  let c128_10068 : Index := 128#32
  ![v9754.toNat, 128]
def k0_dev168 (d0 : Dev nD) : Nat :=
  let c0_i32_10100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_10099 : BitVec 32 := 1#32
  let v9764 : BitVec 32 := Scalar.muli v77 c1_i32_10099
  let v9765 : BitVec 32 := Scalar.addi c0_i32_10100 v9764
  v9765.toNat
def k0_off70 (d0 : Dev nD) (c0_i32_10110 : BitVec 32) (c0_i32_10118 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v9776 : BitVec 32 := Scalar.addi v12 c0_i32_10110
  let c4_i32_10111 : BitVec 32 := 4#32
  let c0_i32_10112 : BitVec 32 := 0#32
  let v9777 : BitVec 1 := Scalar.cmpi .eq c4_i32_10111 c0_i32_10112
  let c1_i32_10113 : BitVec 32 := 1#32
  let v9778 : BitVec 32 := Scalar.select v9777 c1_i32_10113 c4_i32_10111
  let v9779 : BitVec 32 := Scalar.remsi v9776 v9778
  let c0_i32_10115 : BitVec 32 := 0#32
  let v9781 : BitVec 1 := Scalar.cmpi .slt v9779 c0_i32_10115
  let c0_i32_10116 : BitVec 32 := 0#32
  let v9782 : BitVec 1 := Scalar.cmpi .slt v9778 c0_i32_10116
  let v9783 : BitVec 1 := Scalar.xori v9781 v9782
  let c0_i32_10114 : BitVec 32 := 0#32
  let v9780 : BitVec 1 := Scalar.cmpi .ne v9779 c0_i32_10114
  let v9784 : BitVec 1 := Scalar.andi v9783 v9780
  let v9785 : BitVec 32 := Scalar.addi v9779 v9778
  let v9786 : BitVec 32 := Scalar.select v9784 v9785 v9779
  let c512_i32_10117 : BitVec 32 := 512#32
  let v9787 : BitVec 32 := Scalar.muli v9786 c512_i32_10117
  let v9788 : BitVec 32 := Scalar.addi v9787 c0_i32_10118
  let v9789 : Index := Scalar.indexCast v9788
  let c640_10119 : Index := 640#32
  ![v9789.toNat, 640]
def k0_dev169 (d0 : Dev nD) : Nat :=
  let c0_i32_10151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_10150 : BitVec 32 := 1#32
  let v9799 : BitVec 32 := Scalar.muli v64 c1_i32_10150
  let v9800 : BitVec 32 := Scalar.addi c0_i32_10151 v9799
  v9800.toNat
def k0_dev170 (d0 : Dev nD) : Nat :=
  let c0_i32_10202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_10201 : BitVec 32 := 1#32
  let v9834 : BitVec 32 := Scalar.muli v77 c1_i32_10201
  let v9835 : BitVec 32 := Scalar.addi c0_i32_10202 v9834
  v9835.toNat
def k0_dev171 (d0 : Dev nD) : Nat :=
  let c0_i32_10253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_10252 : BitVec 32 := 1#32
  let v9869 : BitVec 32 := Scalar.muli v64 c1_i32_10252
  let v9870 : BitVec 32 := Scalar.addi c0_i32_10253 v9869
  v9870.toNat
def k0_dev172 (d0 : Dev nD) : Nat :=
  let c0_i32_10304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_10303 : BitVec 32 := 1#32
  let v9904 : BitVec 32 := Scalar.muli v77 c1_i32_10303
  let v9905 : BitVec 32 := Scalar.addi c0_i32_10304 v9904
  v9905.toNat
def k0_dev173 (d0 : Dev nD) : Nat :=
  let c0_i32_10355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_10354 : BitVec 32 := 1#32
  let v9939 : BitVec 32 := Scalar.muli v64 c1_i32_10354
  let v9940 : BitVec 32 := Scalar.addi c0_i32_10355 v9939
  v9940.toNat
def k0_dev174 (d0 : Dev nD) : Nat :=
  let c0_i32_10406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_10405 : BitVec 32 := 1#32
  let v9974 : BitVec 32 := Scalar.muli v77 c1_i32_10405
  let v9975 : BitVec 32 := Scalar.addi c0_i32_10406 v9974
  v9975.toNat
def k0_dev175 (d0 : Dev nD) : Nat :=
  let c0_i32_10449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_10448 : BitVec 32 := 1#32
  let v10009 : BitVec 32 := Scalar.muli v90 c1_i32_10448
  let v10010 : BitVec 32 := Scalar.addi c0_i32_10449 v10009
  v10010.toNat
def k0_off71 (d0 : Dev nD) (c0_i32_10458 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_10459 : BitVec 32 := 4#32
  let c0_i32_10460 : BitVec 32 := 0#32
  let v10022 : BitVec 1 := Scalar.cmpi .eq c4_i32_10459 c0_i32_10460
  let c1_i32_10461 : BitVec 32 := 1#32
  let v10023 : BitVec 32 := Scalar.select v10022 c1_i32_10461 c4_i32_10459
  let v10024 : BitVec 32 := Scalar.remsi v40 v10023
  let c0_i32_10463 : BitVec 32 := 0#32
  let v10026 : BitVec 1 := Scalar.cmpi .slt v10024 c0_i32_10463
  let c0_i32_10464 : BitVec 32 := 0#32
  let v10027 : BitVec 1 := Scalar.cmpi .slt v10023 c0_i32_10464
  let v10028 : BitVec 1 := Scalar.xori v10026 v10027
  let c0_i32_10462 : BitVec 32 := 0#32
  let v10025 : BitVec 1 := Scalar.cmpi .ne v10024 c0_i32_10462
  let v10029 : BitVec 1 := Scalar.andi v10028 v10025
  let v10030 : BitVec 32 := Scalar.addi v10024 v10023
  let v10031 : BitVec 32 := Scalar.select v10029 v10030 v10024
  let c512_i32_10465 : BitVec 32 := 512#32
  let v10032 : BitVec 32 := Scalar.muli v10031 c512_i32_10465
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v10021 : BitVec 32 := Scalar.subi v29 c0_i32_10458
  let c4_i32_10466 : BitVec 32 := 4#32
  let c0_i32_10467 : BitVec 32 := 0#32
  let v10033 : BitVec 1 := Scalar.cmpi .eq c4_i32_10466 c0_i32_10467
  let c1_i32_10468 : BitVec 32 := 1#32
  let v10034 : BitVec 32 := Scalar.select v10033 c1_i32_10468 c4_i32_10466
  let v10035 : BitVec 32 := Scalar.remsi v10021 v10034
  let c0_i32_10470 : BitVec 32 := 0#32
  let v10037 : BitVec 1 := Scalar.cmpi .slt v10035 c0_i32_10470
  let c0_i32_10471 : BitVec 32 := 0#32
  let v10038 : BitVec 1 := Scalar.cmpi .slt v10034 c0_i32_10471
  let v10039 : BitVec 1 := Scalar.xori v10037 v10038
  let c0_i32_10469 : BitVec 32 := 0#32
  let v10036 : BitVec 1 := Scalar.cmpi .ne v10035 c0_i32_10469
  let v10040 : BitVec 1 := Scalar.andi v10039 v10036
  let v10041 : BitVec 32 := Scalar.addi v10035 v10034
  let v10042 : BitVec 32 := Scalar.select v10040 v10041 v10035
  let c128_i32_10472 : BitVec 32 := 128#32
  let v10043 : BitVec 32 := Scalar.muli v10042 c128_i32_10472
  let v10044 : BitVec 32 := Scalar.addi v10032 v10043
  let v10045 : Index := Scalar.indexCast v10044
  let c256_10473 : Index := 256#32
  ![v10045.toNat, 256]
def k0_dev176 (d0 : Dev nD) : Nat :=
  let c0_i32_10497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_10496 : BitVec 32 := 1#32
  let v10055 : BitVec 32 := Scalar.muli v103 c1_i32_10496
  let v10056 : BitVec 32 := Scalar.addi c0_i32_10497 v10055
  v10056.toNat
def k0_off72 (d0 : Dev nD) (c0_i32_10506 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_10507 : BitVec 32 := 4#32
  let c0_i32_10508 : BitVec 32 := 0#32
  let v10068 : BitVec 1 := Scalar.cmpi .eq c4_i32_10507 c0_i32_10508
  let c1_i32_10509 : BitVec 32 := 1#32
  let v10069 : BitVec 32 := Scalar.select v10068 c1_i32_10509 c4_i32_10507
  let v10070 : BitVec 32 := Scalar.remsi v51 v10069
  let c0_i32_10511 : BitVec 32 := 0#32
  let v10072 : BitVec 1 := Scalar.cmpi .slt v10070 c0_i32_10511
  let c0_i32_10512 : BitVec 32 := 0#32
  let v10073 : BitVec 1 := Scalar.cmpi .slt v10069 c0_i32_10512
  let v10074 : BitVec 1 := Scalar.xori v10072 v10073
  let c0_i32_10510 : BitVec 32 := 0#32
  let v10071 : BitVec 1 := Scalar.cmpi .ne v10070 c0_i32_10510
  let v10075 : BitVec 1 := Scalar.andi v10074 v10071
  let v10076 : BitVec 32 := Scalar.addi v10070 v10069
  let v10077 : BitVec 32 := Scalar.select v10075 v10076 v10070
  let c512_i32_10513 : BitVec 32 := 512#32
  let v10078 : BitVec 32 := Scalar.muli v10077 c512_i32_10513
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v10067 : BitVec 32 := Scalar.addi v29 c0_i32_10506
  let c4_i32_10514 : BitVec 32 := 4#32
  let c0_i32_10515 : BitVec 32 := 0#32
  let v10079 : BitVec 1 := Scalar.cmpi .eq c4_i32_10514 c0_i32_10515
  let c1_i32_10516 : BitVec 32 := 1#32
  let v10080 : BitVec 32 := Scalar.select v10079 c1_i32_10516 c4_i32_10514
  let v10081 : BitVec 32 := Scalar.remsi v10067 v10080
  let c0_i32_10518 : BitVec 32 := 0#32
  let v10083 : BitVec 1 := Scalar.cmpi .slt v10081 c0_i32_10518
  let c0_i32_10519 : BitVec 32 := 0#32
  let v10084 : BitVec 1 := Scalar.cmpi .slt v10080 c0_i32_10519
  let v10085 : BitVec 1 := Scalar.xori v10083 v10084
  let c0_i32_10517 : BitVec 32 := 0#32
  let v10082 : BitVec 1 := Scalar.cmpi .ne v10081 c0_i32_10517
  let v10086 : BitVec 1 := Scalar.andi v10085 v10082
  let v10087 : BitVec 32 := Scalar.addi v10081 v10080
  let v10088 : BitVec 32 := Scalar.select v10086 v10087 v10081
  let c128_i32_10520 : BitVec 32 := 128#32
  let v10089 : BitVec 32 := Scalar.muli v10088 c128_i32_10520
  let v10090 : BitVec 32 := Scalar.addi v10078 v10089
  let v10091 : Index := Scalar.indexCast v10090
  let c768_10521 : Index := 768#32
  ![v10091.toNat, 768]
def k0_off73 (d0 : Dev nD) (c0_i32_10537 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_10538 : BitVec 32 := 4#32
  let c0_i32_10539 : BitVec 32 := 0#32
  let v10103 : BitVec 1 := Scalar.cmpi .eq c4_i32_10538 c0_i32_10539
  let c1_i32_10540 : BitVec 32 := 1#32
  let v10104 : BitVec 32 := Scalar.select v10103 c1_i32_10540 c4_i32_10538
  let v10105 : BitVec 32 := Scalar.remsi v40 v10104
  let c0_i32_10542 : BitVec 32 := 0#32
  let v10107 : BitVec 1 := Scalar.cmpi .slt v10105 c0_i32_10542
  let c0_i32_10543 : BitVec 32 := 0#32
  let v10108 : BitVec 1 := Scalar.cmpi .slt v10104 c0_i32_10543
  let v10109 : BitVec 1 := Scalar.xori v10107 v10108
  let c0_i32_10541 : BitVec 32 := 0#32
  let v10106 : BitVec 1 := Scalar.cmpi .ne v10105 c0_i32_10541
  let v10110 : BitVec 1 := Scalar.andi v10109 v10106
  let v10111 : BitVec 32 := Scalar.addi v10105 v10104
  let v10112 : BitVec 32 := Scalar.select v10110 v10111 v10105
  let c512_i32_10544 : BitVec 32 := 512#32
  let v10113 : BitVec 32 := Scalar.muli v10112 c512_i32_10544
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_10536 : BitVec 32 := 1#32
  let v10101 : BitVec 32 := Scalar.subi v29 c1_i32_10536
  let v10102 : BitVec 32 := Scalar.subi v10101 c0_i32_10537
  let c4_i32_10545 : BitVec 32 := 4#32
  let c0_i32_10546 : BitVec 32 := 0#32
  let v10114 : BitVec 1 := Scalar.cmpi .eq c4_i32_10545 c0_i32_10546
  let c1_i32_10547 : BitVec 32 := 1#32
  let v10115 : BitVec 32 := Scalar.select v10114 c1_i32_10547 c4_i32_10545
  let v10116 : BitVec 32 := Scalar.remsi v10102 v10115
  let c0_i32_10549 : BitVec 32 := 0#32
  let v10118 : BitVec 1 := Scalar.cmpi .slt v10116 c0_i32_10549
  let c0_i32_10550 : BitVec 32 := 0#32
  let v10119 : BitVec 1 := Scalar.cmpi .slt v10115 c0_i32_10550
  let v10120 : BitVec 1 := Scalar.xori v10118 v10119
  let c0_i32_10548 : BitVec 32 := 0#32
  let v10117 : BitVec 1 := Scalar.cmpi .ne v10116 c0_i32_10548
  let v10121 : BitVec 1 := Scalar.andi v10120 v10117
  let v10122 : BitVec 32 := Scalar.addi v10116 v10115
  let v10123 : BitVec 32 := Scalar.select v10121 v10122 v10116
  let c128_i32_10551 : BitVec 32 := 128#32
  let v10124 : BitVec 32 := Scalar.muli v10123 c128_i32_10551
  let v10125 : BitVec 32 := Scalar.addi v10113 v10124
  let v10126 : Index := Scalar.indexCast v10125
  let c384_10552 : Index := 384#32
  ![v10126.toNat, 384]
def k0_off74 (d0 : Dev nD) (c0_i32_10559 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_10560 : BitVec 32 := 4#32
  let c0_i32_10561 : BitVec 32 := 0#32
  let v10136 : BitVec 1 := Scalar.cmpi .eq c4_i32_10560 c0_i32_10561
  let c1_i32_10562 : BitVec 32 := 1#32
  let v10137 : BitVec 32 := Scalar.select v10136 c1_i32_10562 c4_i32_10560
  let v10138 : BitVec 32 := Scalar.remsi v40 v10137
  let c0_i32_10564 : BitVec 32 := 0#32
  let v10140 : BitVec 1 := Scalar.cmpi .slt v10138 c0_i32_10564
  let c0_i32_10565 : BitVec 32 := 0#32
  let v10141 : BitVec 1 := Scalar.cmpi .slt v10137 c0_i32_10565
  let v10142 : BitVec 1 := Scalar.xori v10140 v10141
  let c0_i32_10563 : BitVec 32 := 0#32
  let v10139 : BitVec 1 := Scalar.cmpi .ne v10138 c0_i32_10563
  let v10143 : BitVec 1 := Scalar.andi v10142 v10139
  let v10144 : BitVec 32 := Scalar.addi v10138 v10137
  let v10145 : BitVec 32 := Scalar.select v10143 v10144 v10138
  let c512_i32_10566 : BitVec 32 := 512#32
  let v10146 : BitVec 32 := Scalar.muli v10145 c512_i32_10566
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_10558 : BitVec 32 := 1#32
  let v10134 : BitVec 32 := Scalar.subi v29 c1_i32_10558
  let v10135 : BitVec 32 := Scalar.subi v10134 c0_i32_10559
  let c4_i32_10567 : BitVec 32 := 4#32
  let c0_i32_10568 : BitVec 32 := 0#32
  let v10147 : BitVec 1 := Scalar.cmpi .eq c4_i32_10567 c0_i32_10568
  let c1_i32_10569 : BitVec 32 := 1#32
  let v10148 : BitVec 32 := Scalar.select v10147 c1_i32_10569 c4_i32_10567
  let v10149 : BitVec 32 := Scalar.remsi v10135 v10148
  let c0_i32_10571 : BitVec 32 := 0#32
  let v10151 : BitVec 1 := Scalar.cmpi .slt v10149 c0_i32_10571
  let c0_i32_10572 : BitVec 32 := 0#32
  let v10152 : BitVec 1 := Scalar.cmpi .slt v10148 c0_i32_10572
  let v10153 : BitVec 1 := Scalar.xori v10151 v10152
  let c0_i32_10570 : BitVec 32 := 0#32
  let v10150 : BitVec 1 := Scalar.cmpi .ne v10149 c0_i32_10570
  let v10154 : BitVec 1 := Scalar.andi v10153 v10150
  let v10155 : BitVec 32 := Scalar.addi v10149 v10148
  let v10156 : BitVec 32 := Scalar.select v10154 v10155 v10149
  let c128_i32_10573 : BitVec 32 := 128#32
  let v10157 : BitVec 32 := Scalar.muli v10156 c128_i32_10573
  let v10158 : BitVec 32 := Scalar.addi v10146 v10157
  let c384_i32_10584 : BitVec 32 := 384#32
  ![v10158.toNat, 384]
def k0_dev177 (d0 : Dev nD) : Nat :=
  let c0_i32_10581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_10580 : BitVec 32 := 1#32
  let v10159 : BitVec 32 := Scalar.muli v90 c1_i32_10580
  let v10160 : BitVec 32 := Scalar.addi c0_i32_10581 v10159
  v10160.toNat
def k0_off75 (d0 : Dev nD) (c0_i32_10600 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_10601 : BitVec 32 := 4#32
  let c0_i32_10602 : BitVec 32 := 0#32
  let v10178 : BitVec 1 := Scalar.cmpi .eq c4_i32_10601 c0_i32_10602
  let c1_i32_10603 : BitVec 32 := 1#32
  let v10179 : BitVec 32 := Scalar.select v10178 c1_i32_10603 c4_i32_10601
  let v10180 : BitVec 32 := Scalar.remsi v51 v10179
  let c0_i32_10605 : BitVec 32 := 0#32
  let v10182 : BitVec 1 := Scalar.cmpi .slt v10180 c0_i32_10605
  let c0_i32_10606 : BitVec 32 := 0#32
  let v10183 : BitVec 1 := Scalar.cmpi .slt v10179 c0_i32_10606
  let v10184 : BitVec 1 := Scalar.xori v10182 v10183
  let c0_i32_10604 : BitVec 32 := 0#32
  let v10181 : BitVec 1 := Scalar.cmpi .ne v10180 c0_i32_10604
  let v10185 : BitVec 1 := Scalar.andi v10184 v10181
  let v10186 : BitVec 32 := Scalar.addi v10180 v10179
  let v10187 : BitVec 32 := Scalar.select v10185 v10186 v10180
  let c512_i32_10607 : BitVec 32 := 512#32
  let v10188 : BitVec 32 := Scalar.muli v10187 c512_i32_10607
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_10599 : BitVec 32 := 1#32
  let v10176 : BitVec 32 := Scalar.addi v29 c1_i32_10599
  let v10177 : BitVec 32 := Scalar.addi v10176 c0_i32_10600
  let c4_i32_10608 : BitVec 32 := 4#32
  let c0_i32_10609 : BitVec 32 := 0#32
  let v10189 : BitVec 1 := Scalar.cmpi .eq c4_i32_10608 c0_i32_10609
  let c1_i32_10610 : BitVec 32 := 1#32
  let v10190 : BitVec 32 := Scalar.select v10189 c1_i32_10610 c4_i32_10608
  let v10191 : BitVec 32 := Scalar.remsi v10177 v10190
  let c0_i32_10612 : BitVec 32 := 0#32
  let v10193 : BitVec 1 := Scalar.cmpi .slt v10191 c0_i32_10612
  let c0_i32_10613 : BitVec 32 := 0#32
  let v10194 : BitVec 1 := Scalar.cmpi .slt v10190 c0_i32_10613
  let v10195 : BitVec 1 := Scalar.xori v10193 v10194
  let c0_i32_10611 : BitVec 32 := 0#32
  let v10192 : BitVec 1 := Scalar.cmpi .ne v10191 c0_i32_10611
  let v10196 : BitVec 1 := Scalar.andi v10195 v10192
  let v10197 : BitVec 32 := Scalar.addi v10191 v10190
  let v10198 : BitVec 32 := Scalar.select v10196 v10197 v10191
  let c128_i32_10614 : BitVec 32 := 128#32
  let v10199 : BitVec 32 := Scalar.muli v10198 c128_i32_10614
  let v10200 : BitVec 32 := Scalar.addi v10188 v10199
  let v10201 : Index := Scalar.indexCast v10200
  let c896_10615 : Index := 896#32
  ![v10201.toNat, 896]
def k0_off76 (d0 : Dev nD) (c0_i32_10622 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_10623 : BitVec 32 := 4#32
  let c0_i32_10624 : BitVec 32 := 0#32
  let v10211 : BitVec 1 := Scalar.cmpi .eq c4_i32_10623 c0_i32_10624
  let c1_i32_10625 : BitVec 32 := 1#32
  let v10212 : BitVec 32 := Scalar.select v10211 c1_i32_10625 c4_i32_10623
  let v10213 : BitVec 32 := Scalar.remsi v51 v10212
  let c0_i32_10627 : BitVec 32 := 0#32
  let v10215 : BitVec 1 := Scalar.cmpi .slt v10213 c0_i32_10627
  let c0_i32_10628 : BitVec 32 := 0#32
  let v10216 : BitVec 1 := Scalar.cmpi .slt v10212 c0_i32_10628
  let v10217 : BitVec 1 := Scalar.xori v10215 v10216
  let c0_i32_10626 : BitVec 32 := 0#32
  let v10214 : BitVec 1 := Scalar.cmpi .ne v10213 c0_i32_10626
  let v10218 : BitVec 1 := Scalar.andi v10217 v10214
  let v10219 : BitVec 32 := Scalar.addi v10213 v10212
  let v10220 : BitVec 32 := Scalar.select v10218 v10219 v10213
  let c512_i32_10629 : BitVec 32 := 512#32
  let v10221 : BitVec 32 := Scalar.muli v10220 c512_i32_10629
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_10621 : BitVec 32 := 1#32
  let v10209 : BitVec 32 := Scalar.addi v29 c1_i32_10621
  let v10210 : BitVec 32 := Scalar.addi v10209 c0_i32_10622
  let c4_i32_10630 : BitVec 32 := 4#32
  let c0_i32_10631 : BitVec 32 := 0#32
  let v10222 : BitVec 1 := Scalar.cmpi .eq c4_i32_10630 c0_i32_10631
  let c1_i32_10632 : BitVec 32 := 1#32
  let v10223 : BitVec 32 := Scalar.select v10222 c1_i32_10632 c4_i32_10630
  let v10224 : BitVec 32 := Scalar.remsi v10210 v10223
  let c0_i32_10634 : BitVec 32 := 0#32
  let v10226 : BitVec 1 := Scalar.cmpi .slt v10224 c0_i32_10634
  let c0_i32_10635 : BitVec 32 := 0#32
  let v10227 : BitVec 1 := Scalar.cmpi .slt v10223 c0_i32_10635
  let v10228 : BitVec 1 := Scalar.xori v10226 v10227
  let c0_i32_10633 : BitVec 32 := 0#32
  let v10225 : BitVec 1 := Scalar.cmpi .ne v10224 c0_i32_10633
  let v10229 : BitVec 1 := Scalar.andi v10228 v10225
  let v10230 : BitVec 32 := Scalar.addi v10224 v10223
  let v10231 : BitVec 32 := Scalar.select v10229 v10230 v10224
  let c128_i32_10636 : BitVec 32 := 128#32
  let v10232 : BitVec 32 := Scalar.muli v10231 c128_i32_10636
  let v10233 : BitVec 32 := Scalar.addi v10221 v10232
  let c896_i32_10647 : BitVec 32 := 896#32
  ![v10233.toNat, 896]
def k0_dev178 (d0 : Dev nD) : Nat :=
  let c0_i32_10644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_10643 : BitVec 32 := 1#32
  let v10234 : BitVec 32 := Scalar.muli v103 c1_i32_10643
  let v10235 : BitVec 32 := Scalar.addi c0_i32_10644 v10234
  v10235.toNat
def k0_dev179 (d0 : Dev nD) : Nat :=
  let c0_i32_10679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_10678 : BitVec 32 := 1#32
  let v10251 : BitVec 32 := Scalar.muli v64 c1_i32_10678
  let v10252 : BitVec 32 := Scalar.addi c0_i32_10679 v10251
  v10252.toNat
def k0_dev180 (d0 : Dev nD) : Nat :=
  let c0_i32_10730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_10729 : BitVec 32 := 1#32
  let v10286 : BitVec 32 := Scalar.muli v77 c1_i32_10729
  let v10287 : BitVec 32 := Scalar.addi c0_i32_10730 v10286
  v10287.toNat
def k0_dev181 (d0 : Dev nD) : Nat :=
  let c0_i32_10781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_10780 : BitVec 32 := 1#32
  let v10321 : BitVec 32 := Scalar.muli v64 c1_i32_10780
  let v10322 : BitVec 32 := Scalar.addi c0_i32_10781 v10321
  v10322.toNat
def k0_dev182 (d0 : Dev nD) : Nat :=
  let c0_i32_10832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_10831 : BitVec 32 := 1#32
  let v10356 : BitVec 32 := Scalar.muli v77 c1_i32_10831
  let v10357 : BitVec 32 := Scalar.addi c0_i32_10832 v10356
  v10357.toNat
def k0_dev183 (d0 : Dev nD) : Nat :=
  let c0_i32_10883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_10882 : BitVec 32 := 1#32
  let v10391 : BitVec 32 := Scalar.muli v64 c1_i32_10882
  let v10392 : BitVec 32 := Scalar.addi c0_i32_10883 v10391
  v10392.toNat
def k0_dev184 (d0 : Dev nD) : Nat :=
  let c0_i32_10934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_10933 : BitVec 32 := 1#32
  let v10426 : BitVec 32 := Scalar.muli v77 c1_i32_10933
  let v10427 : BitVec 32 := Scalar.addi c0_i32_10934 v10426
  v10427.toNat
def k0_dev185 (d0 : Dev nD) : Nat :=
  let c0_i32_10985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_10984 : BitVec 32 := 1#32
  let v10461 : BitVec 32 := Scalar.muli v64 c1_i32_10984
  let v10462 : BitVec 32 := Scalar.addi c0_i32_10985 v10461
  v10462.toNat
def k0_dev186 (d0 : Dev nD) : Nat :=
  let c0_i32_11036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_11035 : BitVec 32 := 1#32
  let v10496 : BitVec 32 := Scalar.muli v77 c1_i32_11035
  let v10497 : BitVec 32 := Scalar.addi c0_i32_11036 v10496
  v10497.toNat
def k0_dev187 (d0 : Dev nD) : Nat :=
  let c0_i32_11079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_11078 : BitVec 32 := 1#32
  let v10531 : BitVec 32 := Scalar.muli v90 c1_i32_11078
  let v10532 : BitVec 32 := Scalar.addi c0_i32_11079 v10531
  v10532.toNat
def k0_dev188 (d0 : Dev nD) : Nat :=
  let c0_i32_11127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_11126 : BitVec 32 := 1#32
  let v10577 : BitVec 32 := Scalar.muli v103 c1_i32_11126
  let v10578 : BitVec 32 := Scalar.addi c0_i32_11127 v10577
  v10578.toNat
def k0_dev189 (d0 : Dev nD) : Nat :=
  let c0_i32_11211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_11210 : BitVec 32 := 1#32
  let v10681 : BitVec 32 := Scalar.muli v90 c1_i32_11210
  let v10682 : BitVec 32 := Scalar.addi c0_i32_11211 v10681
  v10682.toNat
def k0_dev190 (d0 : Dev nD) : Nat :=
  let c0_i32_11274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_11273 : BitVec 32 := 1#32
  let v10756 : BitVec 32 := Scalar.muli v103 c1_i32_11273
  let v10757 : BitVec 32 := Scalar.addi c0_i32_11274 v10756
  v10757.toNat
def k0_off77 (d0 : Dev nD) (c0_i32_11689 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_11682 : BitVec 32 := 4#32
  let c0_i32_11683 : BitVec 32 := 0#32
  let v11119 : BitVec 1 := Scalar.cmpi .eq c4_i32_11682 c0_i32_11683
  let c1_i32_11684 : BitVec 32 := 1#32
  let v11120 : BitVec 32 := Scalar.select v11119 c1_i32_11684 c4_i32_11682
  let v11121 : BitVec 32 := Scalar.remsi v40 v11120
  let c0_i32_11686 : BitVec 32 := 0#32
  let v11123 : BitVec 1 := Scalar.cmpi .slt v11121 c0_i32_11686
  let c0_i32_11687 : BitVec 32 := 0#32
  let v11124 : BitVec 1 := Scalar.cmpi .slt v11120 c0_i32_11687
  let v11125 : BitVec 1 := Scalar.xori v11123 v11124
  let c0_i32_11685 : BitVec 32 := 0#32
  let v11122 : BitVec 1 := Scalar.cmpi .ne v11121 c0_i32_11685
  let v11126 : BitVec 1 := Scalar.andi v11125 v11122
  let v11127 : BitVec 32 := Scalar.addi v11121 v11120
  let v11128 : BitVec 32 := Scalar.select v11126 v11127 v11121
  let c512_i32_11688 : BitVec 32 := 512#32
  let v11129 : BitVec 32 := Scalar.muli v11128 c512_i32_11688
  let v11130 : BitVec 32 := Scalar.addi v11129 c0_i32_11689
  let c256_i32_11703 : BitVec 32 := 256#32
  ![v11130.toNat, 256]
def k0_dev191 (d0 : Dev nD) : Nat :=
  let c0_i32_11700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_11699 : BitVec 32 := 1#32
  let v11131 : BitVec 32 := Scalar.muli v64 c1_i32_11699
  let v11132 : BitVec 32 := Scalar.addi c0_i32_11700 v11131
  v11132.toNat
def k0_off78 (d0 : Dev nD) (c0_i32_11711 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_11704 : BitVec 32 := 4#32
  let c0_i32_11705 : BitVec 32 := 0#32
  let v11140 : BitVec 1 := Scalar.cmpi .eq c4_i32_11704 c0_i32_11705
  let c1_i32_11706 : BitVec 32 := 1#32
  let v11141 : BitVec 32 := Scalar.select v11140 c1_i32_11706 c4_i32_11704
  let v11142 : BitVec 32 := Scalar.remsi v51 v11141
  let c0_i32_11708 : BitVec 32 := 0#32
  let v11144 : BitVec 1 := Scalar.cmpi .slt v11142 c0_i32_11708
  let c0_i32_11709 : BitVec 32 := 0#32
  let v11145 : BitVec 1 := Scalar.cmpi .slt v11141 c0_i32_11709
  let v11146 : BitVec 1 := Scalar.xori v11144 v11145
  let c0_i32_11707 : BitVec 32 := 0#32
  let v11143 : BitVec 1 := Scalar.cmpi .ne v11142 c0_i32_11707
  let v11147 : BitVec 1 := Scalar.andi v11146 v11143
  let v11148 : BitVec 32 := Scalar.addi v11142 v11141
  let v11149 : BitVec 32 := Scalar.select v11147 v11148 v11142
  let c512_i32_11710 : BitVec 32 := 512#32
  let v11150 : BitVec 32 := Scalar.muli v11149 c512_i32_11710
  let v11151 : BitVec 32 := Scalar.addi v11150 c0_i32_11711
  let c768_i32_11725 : BitVec 32 := 768#32
  ![v11151.toNat, 768]
def k0_dev192 (d0 : Dev nD) : Nat :=
  let c0_i32_11722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_11721 : BitVec 32 := 1#32
  let v11152 : BitVec 32 := Scalar.muli v77 c1_i32_11721
  let v11153 : BitVec 32 := Scalar.addi c0_i32_11722 v11152
  v11153.toNat
def k0_dev193 (d0 : Dev nD) : Nat :=
  let c0_i32_11744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_11743 : BitVec 32 := 1#32
  let v11173 : BitVec 32 := Scalar.muli v64 c1_i32_11743
  let v11174 : BitVec 32 := Scalar.addi c0_i32_11744 v11173
  v11174.toNat
def k0_dev194 (d0 : Dev nD) : Nat :=
  let c0_i32_11766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_11765 : BitVec 32 := 1#32
  let v11194 : BitVec 32 := Scalar.muli v77 c1_i32_11765
  let v11195 : BitVec 32 := Scalar.addi c0_i32_11766 v11194
  v11195.toNat
def k0_dev195 (d0 : Dev nD) : Nat :=
  let c0_i32_11788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_11787 : BitVec 32 := 1#32
  let v11215 : BitVec 32 := Scalar.muli v64 c1_i32_11787
  let v11216 : BitVec 32 := Scalar.addi c0_i32_11788 v11215
  v11216.toNat
def k0_dev196 (d0 : Dev nD) : Nat :=
  let c0_i32_11810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_11809 : BitVec 32 := 1#32
  let v11236 : BitVec 32 := Scalar.muli v77 c1_i32_11809
  let v11237 : BitVec 32 := Scalar.addi c0_i32_11810 v11236
  v11237.toNat
def k0_dev197 (d0 : Dev nD) : Nat :=
  let c0_i32_11832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_11831 : BitVec 32 := 1#32
  let v11257 : BitVec 32 := Scalar.muli v64 c1_i32_11831
  let v11258 : BitVec 32 := Scalar.addi c0_i32_11832 v11257
  v11258.toNat
def k0_dev198 (d0 : Dev nD) : Nat :=
  let c0_i32_11854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_11853 : BitVec 32 := 1#32
  let v11278 : BitVec 32 := Scalar.muli v77 c1_i32_11853
  let v11279 : BitVec 32 := Scalar.addi c0_i32_11854 v11278
  v11279.toNat
def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_11859 : BitVec 32 := 4#32
  let c0_i32_11860 : BitVec 32 := 0#32
  let v11288 : BitVec 1 := Scalar.cmpi .eq c4_i32_11859 c0_i32_11860
  let c1_i32_11861 : BitVec 32 := 1#32
  let v11289 : BitVec 32 := Scalar.select v11288 c1_i32_11861 c4_i32_11859
  let v11290 : BitVec 32 := Scalar.remsi v40 v11289
  let c0_i32_11863 : BitVec 32 := 0#32
  let v11292 : BitVec 1 := Scalar.cmpi .slt v11290 c0_i32_11863
  let c0_i32_11864 : BitVec 32 := 0#32
  let v11293 : BitVec 1 := Scalar.cmpi .slt v11289 c0_i32_11864
  let v11294 : BitVec 1 := Scalar.xori v11292 v11293
  let c0_i32_11862 : BitVec 32 := 0#32
  let v11291 : BitVec 1 := Scalar.cmpi .ne v11290 c0_i32_11862
  let v11295 : BitVec 1 := Scalar.andi v11294 v11291
  let v11296 : BitVec 32 := Scalar.addi v11290 v11289
  let v11297 : BitVec 32 := Scalar.select v11295 v11296 v11290
  let c512_i32_11865 : BitVec 32 := 512#32
  let v11298 : BitVec 32 := Scalar.muli v11297 c512_i32_11865
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_11858 : BitVec 32 := 1#32
  let v11287 : BitVec 32 := Scalar.addi v29 c1_i32_11858
  let c4_i32_11866 : BitVec 32 := 4#32
  let c0_i32_11867 : BitVec 32 := 0#32
  let v11299 : BitVec 1 := Scalar.cmpi .eq c4_i32_11866 c0_i32_11867
  let c1_i32_11868 : BitVec 32 := 1#32
  let v11300 : BitVec 32 := Scalar.select v11299 c1_i32_11868 c4_i32_11866
  let v11301 : BitVec 32 := Scalar.remsi v11287 v11300
  let c0_i32_11870 : BitVec 32 := 0#32
  let v11303 : BitVec 1 := Scalar.cmpi .slt v11301 c0_i32_11870
  let c0_i32_11871 : BitVec 32 := 0#32
  let v11304 : BitVec 1 := Scalar.cmpi .slt v11300 c0_i32_11871
  let v11305 : BitVec 1 := Scalar.xori v11303 v11304
  let c0_i32_11869 : BitVec 32 := 0#32
  let v11302 : BitVec 1 := Scalar.cmpi .ne v11301 c0_i32_11869
  let v11306 : BitVec 1 := Scalar.andi v11305 v11302
  let v11307 : BitVec 32 := Scalar.addi v11301 v11300
  let v11308 : BitVec 32 := Scalar.select v11306 v11307 v11301
  let c128_i32_11872 : BitVec 32 := 128#32
  let v11309 : BitVec 32 := Scalar.muli v11308 c128_i32_11872
  let v11310 : BitVec 32 := Scalar.addi v11298 v11309
  let c384_i32_11883 : BitVec 32 := 384#32
  ![v11310.toNat, 384]
def k0_dev199 (d0 : Dev nD) : Nat :=
  let c0_i32_11880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_11879 : BitVec 32 := 1#32
  let v11311 : BitVec 32 := Scalar.muli v90 c1_i32_11879
  let v11312 : BitVec 32 := Scalar.addi c0_i32_11880 v11311
  v11312.toNat
def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_11885 : BitVec 32 := 4#32
  let c0_i32_11886 : BitVec 32 := 0#32
  let v11321 : BitVec 1 := Scalar.cmpi .eq c4_i32_11885 c0_i32_11886
  let c1_i32_11887 : BitVec 32 := 1#32
  let v11322 : BitVec 32 := Scalar.select v11321 c1_i32_11887 c4_i32_11885
  let v11323 : BitVec 32 := Scalar.remsi v51 v11322
  let c0_i32_11889 : BitVec 32 := 0#32
  let v11325 : BitVec 1 := Scalar.cmpi .slt v11323 c0_i32_11889
  let c0_i32_11890 : BitVec 32 := 0#32
  let v11326 : BitVec 1 := Scalar.cmpi .slt v11322 c0_i32_11890
  let v11327 : BitVec 1 := Scalar.xori v11325 v11326
  let c0_i32_11888 : BitVec 32 := 0#32
  let v11324 : BitVec 1 := Scalar.cmpi .ne v11323 c0_i32_11888
  let v11328 : BitVec 1 := Scalar.andi v11327 v11324
  let v11329 : BitVec 32 := Scalar.addi v11323 v11322
  let v11330 : BitVec 32 := Scalar.select v11328 v11329 v11323
  let c512_i32_11891 : BitVec 32 := 512#32
  let v11331 : BitVec 32 := Scalar.muli v11330 c512_i32_11891
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_11884 : BitVec 32 := 1#32
  let v11320 : BitVec 32 := Scalar.subi v29 c1_i32_11884
  let c4_i32_11892 : BitVec 32 := 4#32
  let c0_i32_11893 : BitVec 32 := 0#32
  let v11332 : BitVec 1 := Scalar.cmpi .eq c4_i32_11892 c0_i32_11893
  let c1_i32_11894 : BitVec 32 := 1#32
  let v11333 : BitVec 32 := Scalar.select v11332 c1_i32_11894 c4_i32_11892
  let v11334 : BitVec 32 := Scalar.remsi v11320 v11333
  let c0_i32_11896 : BitVec 32 := 0#32
  let v11336 : BitVec 1 := Scalar.cmpi .slt v11334 c0_i32_11896
  let c0_i32_11897 : BitVec 32 := 0#32
  let v11337 : BitVec 1 := Scalar.cmpi .slt v11333 c0_i32_11897
  let v11338 : BitVec 1 := Scalar.xori v11336 v11337
  let c0_i32_11895 : BitVec 32 := 0#32
  let v11335 : BitVec 1 := Scalar.cmpi .ne v11334 c0_i32_11895
  let v11339 : BitVec 1 := Scalar.andi v11338 v11335
  let v11340 : BitVec 32 := Scalar.addi v11334 v11333
  let v11341 : BitVec 32 := Scalar.select v11339 v11340 v11334
  let c128_i32_11898 : BitVec 32 := 128#32
  let v11342 : BitVec 32 := Scalar.muli v11341 c128_i32_11898
  let v11343 : BitVec 32 := Scalar.addi v11331 v11342
  let c896_i32_11909 : BitVec 32 := 896#32
  ![v11343.toNat, 896]
def k0_dev200 (d0 : Dev nD) : Nat :=
  let c0_i32_11906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_11905 : BitVec 32 := 1#32
  let v11344 : BitVec 32 := Scalar.muli v103 c1_i32_11905
  let v11345 : BitVec 32 := Scalar.addi c0_i32_11906 v11344
  v11345.toNat
def k0_dev201 (d0 : Dev nD) : Nat :=
  let c0_i32_11941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_11940 : BitVec 32 := 1#32
  let v11361 : BitVec 32 := Scalar.muli v64 c1_i32_11940
  let v11362 : BitVec 32 := Scalar.addi c0_i32_11941 v11361
  v11362.toNat
def k0_off81 (d0 : Dev nD) (c0_i32_11951 : BitVec 32) (c0_i32_11959 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v11373 : BitVec 32 := Scalar.subi v12 c0_i32_11951
  let c4_i32_11952 : BitVec 32 := 4#32
  let c0_i32_11953 : BitVec 32 := 0#32
  let v11374 : BitVec 1 := Scalar.cmpi .eq c4_i32_11952 c0_i32_11953
  let c1_i32_11954 : BitVec 32 := 1#32
  let v11375 : BitVec 32 := Scalar.select v11374 c1_i32_11954 c4_i32_11952
  let v11376 : BitVec 32 := Scalar.remsi v11373 v11375
  let c0_i32_11956 : BitVec 32 := 0#32
  let v11378 : BitVec 1 := Scalar.cmpi .slt v11376 c0_i32_11956
  let c0_i32_11957 : BitVec 32 := 0#32
  let v11379 : BitVec 1 := Scalar.cmpi .slt v11375 c0_i32_11957
  let v11380 : BitVec 1 := Scalar.xori v11378 v11379
  let c0_i32_11955 : BitVec 32 := 0#32
  let v11377 : BitVec 1 := Scalar.cmpi .ne v11376 c0_i32_11955
  let v11381 : BitVec 1 := Scalar.andi v11380 v11377
  let v11382 : BitVec 32 := Scalar.addi v11376 v11375
  let v11383 : BitVec 32 := Scalar.select v11381 v11382 v11376
  let c512_i32_11958 : BitVec 32 := 512#32
  let v11384 : BitVec 32 := Scalar.muli v11383 c512_i32_11958
  let v11385 : BitVec 32 := Scalar.addi v11384 c0_i32_11959
  let v11386 : Index := Scalar.indexCast v11385
  let c256_11960 : Index := 256#32
  ![v11386.toNat, 256]
def k0_dev202 (d0 : Dev nD) : Nat :=
  let c0_i32_11992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_11991 : BitVec 32 := 1#32
  let v11396 : BitVec 32 := Scalar.muli v77 c1_i32_11991
  let v11397 : BitVec 32 := Scalar.addi c0_i32_11992 v11396
  v11397.toNat
def k0_off82 (d0 : Dev nD) (c0_i32_12002 : BitVec 32) (c0_i32_12010 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v11408 : BitVec 32 := Scalar.addi v12 c0_i32_12002
  let c4_i32_12003 : BitVec 32 := 4#32
  let c0_i32_12004 : BitVec 32 := 0#32
  let v11409 : BitVec 1 := Scalar.cmpi .eq c4_i32_12003 c0_i32_12004
  let c1_i32_12005 : BitVec 32 := 1#32
  let v11410 : BitVec 32 := Scalar.select v11409 c1_i32_12005 c4_i32_12003
  let v11411 : BitVec 32 := Scalar.remsi v11408 v11410
  let c0_i32_12007 : BitVec 32 := 0#32
  let v11413 : BitVec 1 := Scalar.cmpi .slt v11411 c0_i32_12007
  let c0_i32_12008 : BitVec 32 := 0#32
  let v11414 : BitVec 1 := Scalar.cmpi .slt v11410 c0_i32_12008
  let v11415 : BitVec 1 := Scalar.xori v11413 v11414
  let c0_i32_12006 : BitVec 32 := 0#32
  let v11412 : BitVec 1 := Scalar.cmpi .ne v11411 c0_i32_12006
  let v11416 : BitVec 1 := Scalar.andi v11415 v11412
  let v11417 : BitVec 32 := Scalar.addi v11411 v11410
  let v11418 : BitVec 32 := Scalar.select v11416 v11417 v11411
  let c512_i32_12009 : BitVec 32 := 512#32
  let v11419 : BitVec 32 := Scalar.muli v11418 c512_i32_12009
  let v11420 : BitVec 32 := Scalar.addi v11419 c0_i32_12010
  let v11421 : Index := Scalar.indexCast v11420
  let c768_12011 : Index := 768#32
  ![v11421.toNat, 768]
def k0_dev203 (d0 : Dev nD) : Nat :=
  let c0_i32_12043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_12042 : BitVec 32 := 1#32
  let v11431 : BitVec 32 := Scalar.muli v64 c1_i32_12042
  let v11432 : BitVec 32 := Scalar.addi c0_i32_12043 v11431
  v11432.toNat
def k0_dev204 (d0 : Dev nD) : Nat :=
  let c0_i32_12094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_12093 : BitVec 32 := 1#32
  let v11466 : BitVec 32 := Scalar.muli v77 c1_i32_12093
  let v11467 : BitVec 32 := Scalar.addi c0_i32_12094 v11466
  v11467.toNat
def k0_dev205 (d0 : Dev nD) : Nat :=
  let c0_i32_12145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_12144 : BitVec 32 := 1#32
  let v11501 : BitVec 32 := Scalar.muli v64 c1_i32_12144
  let v11502 : BitVec 32 := Scalar.addi c0_i32_12145 v11501
  v11502.toNat
def k0_dev206 (d0 : Dev nD) : Nat :=
  let c0_i32_12196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_12195 : BitVec 32 := 1#32
  let v11536 : BitVec 32 := Scalar.muli v77 c1_i32_12195
  let v11537 : BitVec 32 := Scalar.addi c0_i32_12196 v11536
  v11537.toNat
def k0_dev207 (d0 : Dev nD) : Nat :=
  let c0_i32_12247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_12246 : BitVec 32 := 1#32
  let v11571 : BitVec 32 := Scalar.muli v64 c1_i32_12246
  let v11572 : BitVec 32 := Scalar.addi c0_i32_12247 v11571
  v11572.toNat
def k0_dev208 (d0 : Dev nD) : Nat :=
  let c0_i32_12298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_12297 : BitVec 32 := 1#32
  let v11606 : BitVec 32 := Scalar.muli v77 c1_i32_12297
  let v11607 : BitVec 32 := Scalar.addi c0_i32_12298 v11606
  v11607.toNat
def k0_dev209 (d0 : Dev nD) : Nat :=
  let c0_i32_12341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_12340 : BitVec 32 := 1#32
  let v11641 : BitVec 32 := Scalar.muli v90 c1_i32_12340
  let v11642 : BitVec 32 := Scalar.addi c0_i32_12341 v11641
  v11642.toNat
def k0_off83 (d0 : Dev nD) (c0_i32_12350 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_12351 : BitVec 32 := 4#32
  let c0_i32_12352 : BitVec 32 := 0#32
  let v11654 : BitVec 1 := Scalar.cmpi .eq c4_i32_12351 c0_i32_12352
  let c1_i32_12353 : BitVec 32 := 1#32
  let v11655 : BitVec 32 := Scalar.select v11654 c1_i32_12353 c4_i32_12351
  let v11656 : BitVec 32 := Scalar.remsi v40 v11655
  let c0_i32_12355 : BitVec 32 := 0#32
  let v11658 : BitVec 1 := Scalar.cmpi .slt v11656 c0_i32_12355
  let c0_i32_12356 : BitVec 32 := 0#32
  let v11659 : BitVec 1 := Scalar.cmpi .slt v11655 c0_i32_12356
  let v11660 : BitVec 1 := Scalar.xori v11658 v11659
  let c0_i32_12354 : BitVec 32 := 0#32
  let v11657 : BitVec 1 := Scalar.cmpi .ne v11656 c0_i32_12354
  let v11661 : BitVec 1 := Scalar.andi v11660 v11657
  let v11662 : BitVec 32 := Scalar.addi v11656 v11655
  let v11663 : BitVec 32 := Scalar.select v11661 v11662 v11656
  let c512_i32_12357 : BitVec 32 := 512#32
  let v11664 : BitVec 32 := Scalar.muli v11663 c512_i32_12357
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v11653 : BitVec 32 := Scalar.subi v29 c0_i32_12350
  let c4_i32_12358 : BitVec 32 := 4#32
  let c0_i32_12359 : BitVec 32 := 0#32
  let v11665 : BitVec 1 := Scalar.cmpi .eq c4_i32_12358 c0_i32_12359
  let c1_i32_12360 : BitVec 32 := 1#32
  let v11666 : BitVec 32 := Scalar.select v11665 c1_i32_12360 c4_i32_12358
  let v11667 : BitVec 32 := Scalar.remsi v11653 v11666
  let c0_i32_12362 : BitVec 32 := 0#32
  let v11669 : BitVec 1 := Scalar.cmpi .slt v11667 c0_i32_12362
  let c0_i32_12363 : BitVec 32 := 0#32
  let v11670 : BitVec 1 := Scalar.cmpi .slt v11666 c0_i32_12363
  let v11671 : BitVec 1 := Scalar.xori v11669 v11670
  let c0_i32_12361 : BitVec 32 := 0#32
  let v11668 : BitVec 1 := Scalar.cmpi .ne v11667 c0_i32_12361
  let v11672 : BitVec 1 := Scalar.andi v11671 v11668
  let v11673 : BitVec 32 := Scalar.addi v11667 v11666
  let v11674 : BitVec 32 := Scalar.select v11672 v11673 v11667
  let c128_i32_12364 : BitVec 32 := 128#32
  let v11675 : BitVec 32 := Scalar.muli v11674 c128_i32_12364
  let v11676 : BitVec 32 := Scalar.addi v11664 v11675
  let v11677 : Index := Scalar.indexCast v11676
  let c384_12365 : Index := 384#32
  ![v11677.toNat, 384]
def k0_dev210 (d0 : Dev nD) : Nat :=
  let c0_i32_12389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_12388 : BitVec 32 := 1#32
  let v11687 : BitVec 32 := Scalar.muli v103 c1_i32_12388
  let v11688 : BitVec 32 := Scalar.addi c0_i32_12389 v11687
  v11688.toNat
def k0_off84 (d0 : Dev nD) (c0_i32_12398 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_12399 : BitVec 32 := 4#32
  let c0_i32_12400 : BitVec 32 := 0#32
  let v11700 : BitVec 1 := Scalar.cmpi .eq c4_i32_12399 c0_i32_12400
  let c1_i32_12401 : BitVec 32 := 1#32
  let v11701 : BitVec 32 := Scalar.select v11700 c1_i32_12401 c4_i32_12399
  let v11702 : BitVec 32 := Scalar.remsi v51 v11701
  let c0_i32_12403 : BitVec 32 := 0#32
  let v11704 : BitVec 1 := Scalar.cmpi .slt v11702 c0_i32_12403
  let c0_i32_12404 : BitVec 32 := 0#32
  let v11705 : BitVec 1 := Scalar.cmpi .slt v11701 c0_i32_12404
  let v11706 : BitVec 1 := Scalar.xori v11704 v11705
  let c0_i32_12402 : BitVec 32 := 0#32
  let v11703 : BitVec 1 := Scalar.cmpi .ne v11702 c0_i32_12402
  let v11707 : BitVec 1 := Scalar.andi v11706 v11703
  let v11708 : BitVec 32 := Scalar.addi v11702 v11701
  let v11709 : BitVec 32 := Scalar.select v11707 v11708 v11702
  let c512_i32_12405 : BitVec 32 := 512#32
  let v11710 : BitVec 32 := Scalar.muli v11709 c512_i32_12405
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v11699 : BitVec 32 := Scalar.addi v29 c0_i32_12398
  let c4_i32_12406 : BitVec 32 := 4#32
  let c0_i32_12407 : BitVec 32 := 0#32
  let v11711 : BitVec 1 := Scalar.cmpi .eq c4_i32_12406 c0_i32_12407
  let c1_i32_12408 : BitVec 32 := 1#32
  let v11712 : BitVec 32 := Scalar.select v11711 c1_i32_12408 c4_i32_12406
  let v11713 : BitVec 32 := Scalar.remsi v11699 v11712
  let c0_i32_12410 : BitVec 32 := 0#32
  let v11715 : BitVec 1 := Scalar.cmpi .slt v11713 c0_i32_12410
  let c0_i32_12411 : BitVec 32 := 0#32
  let v11716 : BitVec 1 := Scalar.cmpi .slt v11712 c0_i32_12411
  let v11717 : BitVec 1 := Scalar.xori v11715 v11716
  let c0_i32_12409 : BitVec 32 := 0#32
  let v11714 : BitVec 1 := Scalar.cmpi .ne v11713 c0_i32_12409
  let v11718 : BitVec 1 := Scalar.andi v11717 v11714
  let v11719 : BitVec 32 := Scalar.addi v11713 v11712
  let v11720 : BitVec 32 := Scalar.select v11718 v11719 v11713
  let c128_i32_12412 : BitVec 32 := 128#32
  let v11721 : BitVec 32 := Scalar.muli v11720 c128_i32_12412
  let v11722 : BitVec 32 := Scalar.addi v11710 v11721
  let v11723 : Index := Scalar.indexCast v11722
  let c896_12413 : Index := 896#32
  ![v11723.toNat, 896]
def k0_dev211 (d0 : Dev nD) : Nat :=
  let c0_i32_12445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_12444 : BitVec 32 := 1#32
  let v11733 : BitVec 32 := Scalar.muli v64 c1_i32_12444
  let v11734 : BitVec 32 := Scalar.addi c0_i32_12445 v11733
  v11734.toNat
def k0_dev212 (d0 : Dev nD) : Nat :=
  let c0_i32_12496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_12495 : BitVec 32 := 1#32
  let v11768 : BitVec 32 := Scalar.muli v77 c1_i32_12495
  let v11769 : BitVec 32 := Scalar.addi c0_i32_12496 v11768
  v11769.toNat
def k0_dev213 (d0 : Dev nD) : Nat :=
  let c0_i32_12547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_12546 : BitVec 32 := 1#32
  let v11803 : BitVec 32 := Scalar.muli v64 c1_i32_12546
  let v11804 : BitVec 32 := Scalar.addi c0_i32_12547 v11803
  v11804.toNat
def k0_dev214 (d0 : Dev nD) : Nat :=
  let c0_i32_12598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_12597 : BitVec 32 := 1#32
  let v11838 : BitVec 32 := Scalar.muli v77 c1_i32_12597
  let v11839 : BitVec 32 := Scalar.addi c0_i32_12598 v11838
  v11839.toNat
def k0_dev215 (d0 : Dev nD) : Nat :=
  let c0_i32_12649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_12648 : BitVec 32 := 1#32
  let v11873 : BitVec 32 := Scalar.muli v64 c1_i32_12648
  let v11874 : BitVec 32 := Scalar.addi c0_i32_12649 v11873
  v11874.toNat
def k0_dev216 (d0 : Dev nD) : Nat :=
  let c0_i32_12700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_12699 : BitVec 32 := 1#32
  let v11908 : BitVec 32 := Scalar.muli v77 c1_i32_12699
  let v11909 : BitVec 32 := Scalar.addi c0_i32_12700 v11908
  v11909.toNat
def k0_dev217 (d0 : Dev nD) : Nat :=
  let c0_i32_12751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_12750 : BitVec 32 := 1#32
  let v11943 : BitVec 32 := Scalar.muli v64 c1_i32_12750
  let v11944 : BitVec 32 := Scalar.addi c0_i32_12751 v11943
  v11944.toNat
def k0_dev218 (d0 : Dev nD) : Nat :=
  let c0_i32_12802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_12801 : BitVec 32 := 1#32
  let v11978 : BitVec 32 := Scalar.muli v77 c1_i32_12801
  let v11979 : BitVec 32 := Scalar.addi c0_i32_12802 v11978
  v11979.toNat
def k0_dev219 (d0 : Dev nD) : Nat :=
  let c0_i32_12845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_41 : BitVec 32 := 1#32
  let v78 : BitVec 32 := Scalar.addi v29 c1_i32_41
  let c4_i32_42 : BitVec 32 := 4#32
  let c0_i32_43 : BitVec 32 := 0#32
  let v79 : BitVec 1 := Scalar.cmpi .eq c4_i32_42 c0_i32_43
  let c1_i32_44 : BitVec 32 := 1#32
  let v80 : BitVec 32 := Scalar.select v79 c1_i32_44 c4_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c4_i32_48 : BitVec 32 := 4#32
  let v89 : BitVec 32 := Scalar.muli v88 c4_i32_48
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v90 : BitVec 32 := Scalar.addi v89 v12
  let c1_i32_12844 : BitVec 32 := 1#32
  let v12013 : BitVec 32 := Scalar.muli v90 c1_i32_12844
  let v12014 : BitVec 32 := Scalar.addi c0_i32_12845 v12013
  v12014.toNat
def k0_dev220 (d0 : Dev nD) : Nat :=
  let c0_i32_12893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_49 : BitVec 32 := 1#32
  let v91 : BitVec 32 := Scalar.subi v29 c1_i32_49
  let c4_i32_50 : BitVec 32 := 4#32
  let c0_i32_51 : BitVec 32 := 0#32
  let v92 : BitVec 1 := Scalar.cmpi .eq c4_i32_50 c0_i32_51
  let c1_i32_52 : BitVec 32 := 1#32
  let v93 : BitVec 32 := Scalar.select v92 c1_i32_52 c4_i32_50
  let v94 : BitVec 32 := Scalar.remsi v91 v93
  let c0_i32_54 : BitVec 32 := 0#32
  let v96 : BitVec 1 := Scalar.cmpi .slt v94 c0_i32_54
  let c0_i32_55 : BitVec 32 := 0#32
  let v97 : BitVec 1 := Scalar.cmpi .slt v93 c0_i32_55
  let v98 : BitVec 1 := Scalar.xori v96 v97
  let c0_i32_53 : BitVec 32 := 0#32
  let v95 : BitVec 1 := Scalar.cmpi .ne v94 c0_i32_53
  let v99 : BitVec 1 := Scalar.andi v98 v95
  let v100 : BitVec 32 := Scalar.addi v94 v93
  let v101 : BitVec 32 := Scalar.select v99 v100 v94
  let c4_i32_56 : BitVec 32 := 4#32
  let v102 : BitVec 32 := Scalar.muli v101 c4_i32_56
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_12892 : BitVec 32 := 1#32
  let v12059 : BitVec 32 := Scalar.muli v103 c1_i32_12892
  let v12060 : BitVec 32 := Scalar.addi c0_i32_12893 v12059
  v12060.toNat
def k0_off85 (d0 : Dev nD) (c0_i32_13257 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_11 : BitVec 32 := 1#32
  let v30 : BitVec 32 := Scalar.addi v12 c1_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c4_i32_13250 : BitVec 32 := 4#32
  let c0_i32_13251 : BitVec 32 := 0#32
  let v12369 : BitVec 1 := Scalar.cmpi .eq c4_i32_13250 c0_i32_13251
  let c1_i32_13252 : BitVec 32 := 1#32
  let v12370 : BitVec 32 := Scalar.select v12369 c1_i32_13252 c4_i32_13250
  let v12371 : BitVec 32 := Scalar.remsi v40 v12370
  let c0_i32_13254 : BitVec 32 := 0#32
  let v12373 : BitVec 1 := Scalar.cmpi .slt v12371 c0_i32_13254
  let c0_i32_13255 : BitVec 32 := 0#32
  let v12374 : BitVec 1 := Scalar.cmpi .slt v12370 c0_i32_13255
  let v12375 : BitVec 1 := Scalar.xori v12373 v12374
  let c0_i32_13253 : BitVec 32 := 0#32
  let v12372 : BitVec 1 := Scalar.cmpi .ne v12371 c0_i32_13253
  let v12376 : BitVec 1 := Scalar.andi v12375 v12372
  let v12377 : BitVec 32 := Scalar.addi v12371 v12370
  let v12378 : BitVec 32 := Scalar.select v12376 v12377 v12371
  let c512_i32_13256 : BitVec 32 := 512#32
  let v12379 : BitVec 32 := Scalar.muli v12378 c512_i32_13256
  let v12380 : BitVec 32 := Scalar.addi v12379 c0_i32_13257
  let c384_i32_13271 : BitVec 32 := 384#32
  ![v12380.toNat, 384]
def k0_dev221 (d0 : Dev nD) : Nat :=
  let c0_i32_13268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_13267 : BitVec 32 := 1#32
  let v12381 : BitVec 32 := Scalar.muli v64 c1_i32_13267
  let v12382 : BitVec 32 := Scalar.addi c0_i32_13268 v12381
  v12382.toNat
def k0_off86 (d0 : Dev nD) (c0_i32_13279 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_18 : BitVec 32 := 1#32
  let v41 : BitVec 32 := Scalar.subi v12 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c4_i32_13272 : BitVec 32 := 4#32
  let c0_i32_13273 : BitVec 32 := 0#32
  let v12390 : BitVec 1 := Scalar.cmpi .eq c4_i32_13272 c0_i32_13273
  let c1_i32_13274 : BitVec 32 := 1#32
  let v12391 : BitVec 32 := Scalar.select v12390 c1_i32_13274 c4_i32_13272
  let v12392 : BitVec 32 := Scalar.remsi v51 v12391
  let c0_i32_13276 : BitVec 32 := 0#32
  let v12394 : BitVec 1 := Scalar.cmpi .slt v12392 c0_i32_13276
  let c0_i32_13277 : BitVec 32 := 0#32
  let v12395 : BitVec 1 := Scalar.cmpi .slt v12391 c0_i32_13277
  let v12396 : BitVec 1 := Scalar.xori v12394 v12395
  let c0_i32_13275 : BitVec 32 := 0#32
  let v12393 : BitVec 1 := Scalar.cmpi .ne v12392 c0_i32_13275
  let v12397 : BitVec 1 := Scalar.andi v12396 v12393
  let v12398 : BitVec 32 := Scalar.addi v12392 v12391
  let v12399 : BitVec 32 := Scalar.select v12397 v12398 v12392
  let c512_i32_13278 : BitVec 32 := 512#32
  let v12400 : BitVec 32 := Scalar.muli v12399 c512_i32_13278
  let v12401 : BitVec 32 := Scalar.addi v12400 c0_i32_13279
  let c896_i32_13293 : BitVec 32 := 896#32
  ![v12401.toNat, 896]
def k0_dev222 (d0 : Dev nD) : Nat :=
  let c0_i32_13290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_13289 : BitVec 32 := 1#32
  let v12402 : BitVec 32 := Scalar.muli v77 c1_i32_13289
  let v12403 : BitVec 32 := Scalar.addi c0_i32_13290 v12402
  v12403.toNat
def k0_dev223 (d0 : Dev nD) : Nat :=
  let c0_i32_13312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_13311 : BitVec 32 := 1#32
  let v12423 : BitVec 32 := Scalar.muli v64 c1_i32_13311
  let v12424 : BitVec 32 := Scalar.addi c0_i32_13312 v12423
  v12424.toNat
def k0_dev224 (d0 : Dev nD) : Nat :=
  let c0_i32_13334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_13333 : BitVec 32 := 1#32
  let v12444 : BitVec 32 := Scalar.muli v77 c1_i32_13333
  let v12445 : BitVec 32 := Scalar.addi c0_i32_13334 v12444
  v12445.toNat
def k0_dev225 (d0 : Dev nD) : Nat :=
  let c0_i32_13356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_13355 : BitVec 32 := 1#32
  let v12465 : BitVec 32 := Scalar.muli v64 c1_i32_13355
  let v12466 : BitVec 32 := Scalar.addi c0_i32_13356 v12465
  v12466.toNat
def k0_dev226 (d0 : Dev nD) : Nat :=
  let c0_i32_13378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_13377 : BitVec 32 := 1#32
  let v12486 : BitVec 32 := Scalar.muli v77 c1_i32_13377
  let v12487 : BitVec 32 := Scalar.addi c0_i32_13378 v12486
  v12487.toNat
def k0_dev227 (d0 : Dev nD) : Nat :=
  let c0_i32_13400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_13399 : BitVec 32 := 1#32
  let v12507 : BitVec 32 := Scalar.muli v64 c1_i32_13399
  let v12508 : BitVec 32 := Scalar.addi c0_i32_13400 v12507
  v12508.toNat
def k0_dev228 (d0 : Dev nD) : Nat :=
  let c0_i32_13422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_13421 : BitVec 32 := 1#32
  let v12528 : BitVec 32 := Scalar.muli v77 c1_i32_13421
  let v12529 : BitVec 32 := Scalar.addi c0_i32_13422 v12528
  v12529.toNat
def k0_dev229 (d0 : Dev nD) : Nat :=
  let c0_i32_13457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_13456 : BitVec 32 := 1#32
  let v12545 : BitVec 32 := Scalar.muli v64 c1_i32_13456
  let v12546 : BitVec 32 := Scalar.addi c0_i32_13457 v12545
  v12546.toNat
def k0_off87 (d0 : Dev nD) (c0_i32_13467 : BitVec 32) (c0_i32_13475 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v12557 : BitVec 32 := Scalar.subi v12 c0_i32_13467
  let c4_i32_13468 : BitVec 32 := 4#32
  let c0_i32_13469 : BitVec 32 := 0#32
  let v12558 : BitVec 1 := Scalar.cmpi .eq c4_i32_13468 c0_i32_13469
  let c1_i32_13470 : BitVec 32 := 1#32
  let v12559 : BitVec 32 := Scalar.select v12558 c1_i32_13470 c4_i32_13468
  let v12560 : BitVec 32 := Scalar.remsi v12557 v12559
  let c0_i32_13472 : BitVec 32 := 0#32
  let v12562 : BitVec 1 := Scalar.cmpi .slt v12560 c0_i32_13472
  let c0_i32_13473 : BitVec 32 := 0#32
  let v12563 : BitVec 1 := Scalar.cmpi .slt v12559 c0_i32_13473
  let v12564 : BitVec 1 := Scalar.xori v12562 v12563
  let c0_i32_13471 : BitVec 32 := 0#32
  let v12561 : BitVec 1 := Scalar.cmpi .ne v12560 c0_i32_13471
  let v12565 : BitVec 1 := Scalar.andi v12564 v12561
  let v12566 : BitVec 32 := Scalar.addi v12560 v12559
  let v12567 : BitVec 32 := Scalar.select v12565 v12566 v12560
  let c512_i32_13474 : BitVec 32 := 512#32
  let v12568 : BitVec 32 := Scalar.muli v12567 c512_i32_13474
  let v12569 : BitVec 32 := Scalar.addi v12568 c0_i32_13475
  let v12570 : Index := Scalar.indexCast v12569
  let c384_13476 : Index := 384#32
  ![v12570.toNat, 384]
def k0_dev230 (d0 : Dev nD) : Nat :=
  let c0_i32_13508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_13507 : BitVec 32 := 1#32
  let v12580 : BitVec 32 := Scalar.muli v77 c1_i32_13507
  let v12581 : BitVec 32 := Scalar.addi c0_i32_13508 v12580
  v12581.toNat
def k0_off88 (d0 : Dev nD) (c0_i32_13518 : BitVec 32) (c0_i32_13526 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v12592 : BitVec 32 := Scalar.addi v12 c0_i32_13518
  let c4_i32_13519 : BitVec 32 := 4#32
  let c0_i32_13520 : BitVec 32 := 0#32
  let v12593 : BitVec 1 := Scalar.cmpi .eq c4_i32_13519 c0_i32_13520
  let c1_i32_13521 : BitVec 32 := 1#32
  let v12594 : BitVec 32 := Scalar.select v12593 c1_i32_13521 c4_i32_13519
  let v12595 : BitVec 32 := Scalar.remsi v12592 v12594
  let c0_i32_13523 : BitVec 32 := 0#32
  let v12597 : BitVec 1 := Scalar.cmpi .slt v12595 c0_i32_13523
  let c0_i32_13524 : BitVec 32 := 0#32
  let v12598 : BitVec 1 := Scalar.cmpi .slt v12594 c0_i32_13524
  let v12599 : BitVec 1 := Scalar.xori v12597 v12598
  let c0_i32_13522 : BitVec 32 := 0#32
  let v12596 : BitVec 1 := Scalar.cmpi .ne v12595 c0_i32_13522
  let v12600 : BitVec 1 := Scalar.andi v12599 v12596
  let v12601 : BitVec 32 := Scalar.addi v12595 v12594
  let v12602 : BitVec 32 := Scalar.select v12600 v12601 v12595
  let c512_i32_13525 : BitVec 32 := 512#32
  let v12603 : BitVec 32 := Scalar.muli v12602 c512_i32_13525
  let v12604 : BitVec 32 := Scalar.addi v12603 c0_i32_13526
  let v12605 : Index := Scalar.indexCast v12604
  let c896_13527 : Index := 896#32
  ![v12605.toNat, 896]
def k0_dev231 (d0 : Dev nD) : Nat :=
  let c0_i32_13559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_13558 : BitVec 32 := 1#32
  let v12615 : BitVec 32 := Scalar.muli v64 c1_i32_13558
  let v12616 : BitVec 32 := Scalar.addi c0_i32_13559 v12615
  v12616.toNat
def k0_dev232 (d0 : Dev nD) : Nat :=
  let c0_i32_13610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_13609 : BitVec 32 := 1#32
  let v12650 : BitVec 32 := Scalar.muli v77 c1_i32_13609
  let v12651 : BitVec 32 := Scalar.addi c0_i32_13610 v12650
  v12651.toNat
def k0_dev233 (d0 : Dev nD) : Nat :=
  let c0_i32_13661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_13660 : BitVec 32 := 1#32
  let v12685 : BitVec 32 := Scalar.muli v64 c1_i32_13660
  let v12686 : BitVec 32 := Scalar.addi c0_i32_13661 v12685
  v12686.toNat
def k0_dev234 (d0 : Dev nD) : Nat :=
  let c0_i32_13712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_13711 : BitVec 32 := 1#32
  let v12720 : BitVec 32 := Scalar.muli v77 c1_i32_13711
  let v12721 : BitVec 32 := Scalar.addi c0_i32_13712 v12720
  v12721.toNat
def k0_dev235 (d0 : Dev nD) : Nat :=
  let c0_i32_13763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_13762 : BitVec 32 := 1#32
  let v12755 : BitVec 32 := Scalar.muli v64 c1_i32_13762
  let v12756 : BitVec 32 := Scalar.addi c0_i32_13763 v12755
  v12756.toNat
def k0_dev236 (d0 : Dev nD) : Nat :=
  let c0_i32_13814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_13813 : BitVec 32 := 1#32
  let v12790 : BitVec 32 := Scalar.muli v77 c1_i32_13813
  let v12791 : BitVec 32 := Scalar.addi c0_i32_13814 v12790
  v12791.toNat
def k0_dev237 (d0 : Dev nD) : Nat :=
  let c0_i32_13865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_13864 : BitVec 32 := 1#32
  let v12825 : BitVec 32 := Scalar.muli v64 c1_i32_13864
  let v12826 : BitVec 32 := Scalar.addi c0_i32_13865 v12825
  v12826.toNat
def k0_dev238 (d0 : Dev nD) : Nat :=
  let c0_i32_13916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_13915 : BitVec 32 := 1#32
  let v12860 : BitVec 32 := Scalar.muli v77 c1_i32_13915
  let v12861 : BitVec 32 := Scalar.addi c0_i32_13916 v12860
  v12861.toNat
def k0_dev239 (d0 : Dev nD) : Nat :=
  let c0_i32_13967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_13966 : BitVec 32 := 1#32
  let v12895 : BitVec 32 := Scalar.muli v64 c1_i32_13966
  let v12896 : BitVec 32 := Scalar.addi c0_i32_13967 v12895
  v12896.toNat
def k0_dev240 (d0 : Dev nD) : Nat :=
  let c0_i32_14018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_14017 : BitVec 32 := 1#32
  let v12930 : BitVec 32 := Scalar.muli v77 c1_i32_14017
  let v12931 : BitVec 32 := Scalar.addi c0_i32_14018 v12930
  v12931.toNat
def k0_dev241 (d0 : Dev nD) : Nat :=
  let c0_i32_14069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_14068 : BitVec 32 := 1#32
  let v12965 : BitVec 32 := Scalar.muli v64 c1_i32_14068
  let v12966 : BitVec 32 := Scalar.addi c0_i32_14069 v12965
  v12966.toNat
def k0_dev242 (d0 : Dev nD) : Nat :=
  let c0_i32_14120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_14119 : BitVec 32 := 1#32
  let v13000 : BitVec 32 := Scalar.muli v77 c1_i32_14119
  let v13001 : BitVec 32 := Scalar.addi c0_i32_14120 v13000
  v13001.toNat
def k0_dev243 (d0 : Dev nD) : Nat :=
  let c0_i32_14171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_25 : BitVec 32 := 4#32
  let v52 : BitVec 32 := Scalar.muli v29 c4_i32_25
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_26 : BitVec 32 := 1#32
  let v53 : BitVec 32 := Scalar.addi v12 c1_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let v64 : BitVec 32 := Scalar.addi v52 v63
  let c1_i32_14170 : BitVec 32 := 1#32
  let v13035 : BitVec 32 := Scalar.muli v64 c1_i32_14170
  let v13036 : BitVec 32 := Scalar.addi c0_i32_14171 v13035
  v13036.toNat
def k0_dev244 (d0 : Dev nD) : Nat :=
  let c0_i32_14222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_33 : BitVec 32 := 4#32
  let v65 : BitVec 32 := Scalar.muli v29 c4_i32_33
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_34 : BitVec 32 := 1#32
  let v66 : BitVec 32 := Scalar.subi v12 c1_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let v77 : BitVec 32 := Scalar.addi v65 v76
  let c1_i32_14221 : BitVec 32 := 1#32
  let v13070 : BitVec 32 := Scalar.muli v77 c1_i32_14221
  let v13071 : BitVec 32 := Scalar.addi c0_i32_14222 v13070
  v13071.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x2048x1024 : Shape := ⟨3, ![16, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S_, .f32⟩
  | .hbm, ⟨2, _⟩ => ⟨S2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Proto.lean ====
/-
# The protocol of the 4 × 4 torus all-reduce: names

Device `c` sits at plane position `c % 4` of plane `c / 4`. The 240 remote copies a device issues are grouped in
40 STRANDS: a direction (`false`: to the right, `true`: to the left), a column block, and either a sub-chunk of
the plane ring (`pl`) or the ring across the planes (`zz`). A strand is first reduced around its ring
(three hops, `ag = false`), later gathered around it (three hops, `ag = true`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Memref

@[expose] public section

noncomputable section

namespace Cert.Torus

open Cert.KernelIdeal Cert.KernelIdeal.Gen
open Idealize.ShloMosaic
open Idealize.ShloMosaic.TcCoe

variable {F : FTy → Type} [FloatOps F]

/-! ## Strands and transfers -/

/-- A ring a block travels around: direction, column block, and the sub-chunk for the rings inside a plane. -/
inductive Strand where
  | pl (d : Bool) (b s : Fin 4)
  | zz (d : Bool) (b : Fin 4)
  deriving DecidableEq

namespace Strand

/-- Strands numbered `0 … 39`. -/
def toFin : Strand → Fin 40
  | pl d b s => ⟨16 * d.toNat + 4 * b.val + s.val, by cases d <;> simp only [Bool.toNat_true, Bool.toNat_false] <;> omega⟩
  | zz d b => ⟨32 + 4 * d.toNat + b.val, by cases d <;> simp only [Bool.toNat_true, Bool.toNat_false] <;> omega⟩

def ofFin (i : Fin 40) : Strand :=
  if i.val < 32 then pl (decide (16 ≤ i.val)) ⟨i.val / 4 % 4, Nat.mod_lt _ (by decide)⟩ ⟨i.val % 4, Nat.mod_lt _ (by decide)⟩
  else zz (decide (36 ≤ i.val)) ⟨i.val % 4, Nat.mod_lt _ (by decide)⟩

theorem ofFin_toFin (κ : Strand) : ofFin (toFin κ) = κ := by
  cases κ with
  | pl d b s => revert d b s; decide
  | zz d b => revert d b; decide

theorem toFin_ofFin (i : Fin 40) : toFin (ofFin i) = i := by revert i; decide

/-- The numbering as an equivalence. -/
def equiv : Strand ≃ Fin 40 := ⟨toFin, ofFin, ofFin_toFin, toFin_ofFin⟩

instance : Fintype Strand := Fintype.ofEquiv (Fin 40) equiv.symm

/-- The direction of a strand. -/
def dir : Strand → Bool | pl d _ _ => d | zz d _ => d
/-- The column block of a strand. -/
def blk : Strand → Fin 4 | pl _ b _ => b | zz _ b => b

end Strand

/-- A transfer: the strand, gathering (`true`) or reducing (`false`), the hop. -/
abbrev Tr : Type := Strand × Bool × Fin 3

/-! ## Neighbours -/

/-- Plane position and plane of a device. -/
def pp (c : Dev nD) : Fin 4 := ⟨c.val % 4, Nat.mod_lt _ (by decide)⟩
def zp (c : Dev nD) : Fin 4 := ⟨c.val / 4, by have : c.val < 16 := c.isLt; omega⟩

/-- The device at plane position `p` of plane `z`. -/
def dv (z p : Fin 4) : Dev nD := ⟨4 * z.val + p.val, by show _ < 16; omega⟩

/-- `x` moved `i` steps against the direction `d` (the chunk that reaches position `x` at step `i`). -/
def bk (d : Bool) (x : Fin 4) (i : ℕ) : Fin 4 := ⟨(if d then x.val + i else x.val + 3 * i) % 4, Nat.mod_lt _ (by decide)⟩
/-- One step along the direction `d`. -/
def fw (d : Bool) (x : Fin 4) : Fin 4 := bk (!d) x 1

/-- The device the strand's transfers of `c` go to, and the one they come from. -/
def nxt : Strand → Dev nD → Dev nD
  | .pl d _ _, c => dv (zp c) (fw d (pp c))
  | .zz d _, c => dv (fw d (zp c)) (pp c)
def prv : Strand → Dev nD → Dev nD
  | .pl d _ _, c => dv (zp c) (fw (!d) (pp c))
  | .zz d _, c => dv (fw (!d) (zp c)) (pp c)

theorem nxt_prv (κ : Strand) (c : Dev nD) : nxt κ (prv κ c) = c := by revert κ c; decide +kernel
theorem prv_nxt (κ : Strand) (c : Dev nD) : prv κ (nxt κ c) = c := by revert κ c; decide +kernel
theorem nxt_nxt (κ : Strand) (c : Dev nD) : nxt κ (nxt κ c) = prv κ (prv κ c) := by revert κ c; decide +kernel

/-- A strand's step as a permutation of the devices. -/
def around (κ : Strand) : Dev nD ≃ Dev nD := ⟨nxt κ, prv κ, prv_nxt κ, nxt_prv κ⟩

/-! ## Tiles of the result and of the operand -/

/-- A tile: direction (column half), column block, row chunk, sub-chunk. -/
structure Tile where
  d : Bool
  b : Fin 4
  pc : Fin 4
  s : Fin 4
  deriving DecidableEq

/-- The corner of a tile in the `2048 × 1024` array. -/
def Tile.off (t : Tile) : Fin 2 → ℕ := ![512 * t.pc.val + 128 * t.s.val, 512 * t.d.toNat + 128 * t.b.val]
/-- The corner of a tile in the device's `1 × 2048 × 1024` operand. -/
def Tile.off3 (t : Tile) : Fin 3 → ℕ := ![0, 512 * t.pc.val + 128 * t.s.val, 512 * t.d.toNat + 128 * t.b.val]

theorem Tile.off_inb (t : Tile) : ∀ a, t.off a + S128x128.size a ≤ S2048x1024.size a := by
  obtain ⟨d, b, pc, s⟩ := t; revert d b pc s; decide +kernel
theorem Tile.off3_inb (t : Tile) : ∀ a, t.off3 a + S1x128x128.size a ≤ S1x2048x1024.size a := by
  obtain ⟨d, b, pc, s⟩ := t; revert d b pc s; decide +kernel

abbrev xM : Memref sig .tc .vmem S1x2048x1024 .f32 := Memref.whole cc0_stg0_0
abbrev oM : Memref sig .tc .vmem S2048x1024 .f32 := Memref.whole cc0_stg1_0

/-- The tile of the result, as a rectangle and as the memref the copies name. -/
abbrev oR (t : Tile) : Rect S2048x1024 := Rect.unit (s := S2048x1024) t.off S128x128.size t.off_inb
abbrev oT (t : Tile) : Memref sig .tc .vmem S128x128 .f32 := oM.slice (oR t) (fun _ => rfl)
/-- The tile of the operand, likewise. -/
abbrev xR (t : Tile) : Rect S1x2048x1024 := Rect.unit (s := S1x2048x1024) t.off3 S1x128x128.size t.off3_inb
abbrev xT (t : Tile) : Memref sig .tc .vmem S128x128 .f32 := (xM.slice (xR t) (fun _ => rfl)).squeeze S128x128 squeezes_S1x128x128_S128x128

/-- The tile of strand `κ` that device `c` handles `i` steps after the strand's start. -/
def tileOf : Strand → Dev nD → ℕ → Tile
  | .pl d b s, c, i => ⟨d, b, bk d (pp c) i, s⟩
  | .zz d b, c, i => ⟨d, b, bk d (pp c) 3, bk d (zp c) i⟩

theorem tileOf_nxt (κ : Strand) (c : Dev nD) (i : Fin 8) : tileOf κ (nxt κ c) (i.val + 1) = tileOf κ c i.val := by
  revert κ c i; decide +kernel

/-! ## Landing slots -/

/-- The landing buffers of the plane rings and of the rings across planes. -/
def slotP : Bool → Bool → Memref sig .tc .vmem S4x3x4x128x128 .f32
  | false, false => Memref.whole cc0_scratch0
  | false, true => Memref.whole cc0_scratch1
  | true, false => Memref.whole cc0_scratch6
  | true, true => Memref.whole cc0_scratch7
def slotZ : Bool → Bool → Memref sig .tc .vmem S4x3x128x128 .f32
  | false, false => Memref.whole cc0_scratch2
  | false, true => Memref.whole cc0_scratch3
  | true, false => Memref.whole cc0_scratch4
  | true, true => Memref.whole cc0_scratch5

def offP (b : Fin 4) (h : Fin 3) (s : Fin 4) : Fin 5 → ℕ := ![b.val, h.val, s.val, 0, 0]
def offZ (b : Fin 4) (h : Fin 3) : Fin 4 → ℕ := ![b.val, h.val, 0, 0]
theorem offP_inb (b : Fin 4) (h : Fin 3) (s : Fin 4) : ∀ a, offP b h s a + S1x1x1x128x128.size a ≤ S4x3x4x128x128.size a := by revert b h s; decide +kernel
theorem offZ_inb (b : Fin 4) (h : Fin 3) : ∀ a, offZ b h a + S1x1x128x128.size a ≤ S4x3x128x128.size a := by revert b h; decide +kernel

abbrev rP (b : Fin 4) (h : Fin 3) (s : Fin 4) : Rect S4x3x4x128x128 := Rect.unit (s := S4x3x4x128x128) (offP b h s) S1x1x1x128x128.size (offP_inb b h s)
abbrev rZ (b : Fin 4) (h : Fin 3) : Rect S4x3x128x128 := Rect.unit (s := S4x3x128x128) (offZ b h) S1x1x128x128.size (offZ_inb b h)

/-- The slot transfer `(κ, ag, h)` lands in. -/
def slot : Strand → Bool → Fin 3 → Memref sig .tc .vmem S128x128 .f32
  | .pl d b s, ag, h => ((slotP ag d).slice (rP b h s) (fun _ => rfl)).squeeze S128x128 squeezes_S1x1x1x128x128_S128x128
  | .zz d b, ag, h => ((slotZ ag d).slice (rZ b h) (fun _ => rfl)).squeeze S128x128 squeezes_S1x1x128x128_S128x128

/-! ## Semaphores -/

/-- The pool position of a transfer's semaphore, sending (`false`) or receiving (`true`). -/
def semPos : Strand → Bool → Fin 3 → Bool → ℕ
  | .pl d b s, ag, h, r => 2 + 288 * ag.toNat + 96 * d.toNat + 48 * r.toNat + (12 * b.val + 4 * h.val + s.val)
  | .zz d b, ag, h, r => 194 + 48 * ag.toNat + 24 * d.toNat + 12 * r.toNat + (3 * b.val + h.val)

theorem semPos_lt (κ : Strand) (ag : Bool) (h : Fin 3) (r : Bool) : semPos κ ag h r < 482 := by
  revert κ ag h r; decide +kernel

/-- The transfer's semaphores. -/
def tsem (r : Bool) (t : Tr) : DmaSem sig := ⟨semPos t.1 t.2.1 t.2.2 r, semPos_lt _ _ _ _⟩

/-- The transfer a pool position belongs to. -/
def semOf (n : ℕ) : Tr × Bool :=
  let f3 (x : ℕ) : Fin 3 := ⟨x % 3, Nat.mod_lt _ (by decide)⟩
  let f4 (x : ℕ) : Fin 4 := ⟨x % 4, Nat.mod_lt _ (by decide)⟩
  if n < 194 then ((.pl (decide (96 ≤ n - 2)) (f4 ((n - 2) % 48 / 12)) (f4 (n - 2)), false, f3 ((n - 2) / 4)), decide ((n - 2) / 48 % 2 = 1))
  else if n < 290 then ((.zz (decide ((n - 194) / 24 % 2 = 1)) (f4 ((n - 194) / 3 % 4)), decide (48 ≤ n - 194), f3 (n - 194)), decide ((n - 194) / 12 % 2 = 1))
  else ((.pl (decide (96 ≤ n - 290)) (f4 ((n - 290) % 48 / 12)) (f4 (n - 290)), true, f3 ((n - 290) / 4)), decide ((n - 290) / 48 % 2 = 1))

theorem semOf_tsem (r : Bool) (t : Tr) : semOf (tsem r t).val = (t, r) := by revert r t; decide +kernel

theorem tsem_inj {r r' : Bool} {t t' : Tr} (h : tsem r t = tsem r' t') : t = t' ∧ r = r' := by
  have := (semOf_tsem r t).symm.trans ((congrArg (fun x => semOf x.val) h).trans (semOf_tsem r' t'))
  exact ⟨congrArg Prod.fst this, congrArg Prod.snd this⟩

theorem tsem_ge (r : Bool) (t : Tr) : 2 ≤ (tsem r t).val := by revert r t; decide +kernel

/-! ## The order of the transfers -/

/-- The phases in flight at step `t`: phase `k` of column block `b` with `k + b = t`. -/
def act (t : ℕ) : List (ℕ × Fin 4) := ((List.finRange 4).filter fun b => decide (b.val ≤ t ∧ t ≤ b.val + 3)).map fun b => (t - b.val, b)

/-- The transfers of hop `h` of phase `k` of block `b`, in issue order. -/
def hop (k : ℕ) (b : Fin 4) (h : Fin 3) : List Tr :=
  if k = 1 ∨ k = 2 then [(.zz false b, decide (k = 2), h), (.zz true b, decide (k = 2), h)]
  else (List.finRange 4).flatMap fun s => [(.pl false b s, decide (k = 3), h), (.pl true b s, decide (k = 3), h)]

/-- All transfers in the order they are issued, which is the order their landings are waited for. -/
def order : List Tr := (List.range 7).flatMap fun t => (List.finRange 3).flatMap fun h => (act t).flatMap fun kb => hop kb.1 kb.2 h

/-- All transfers in the order their issuer waits for them to have been read. -/
def orderW : List Tr := (List.finRange 4).flatMap fun b => (List.finRange 3).flatMap fun h =>
  ((List.finRange 4).flatMap fun s => [(.pl false b s, false, h), (.pl true b s, false, h), (.pl false b s, true, h), (.pl true b s, true, h)])
    ++ [(.zz false b, false, h), (.zz true b, false, h), (.zz false b, true, h), (.zz true b, true, h)]

/-- A transfer's number: the pool position of its sending semaphore. -/
def code (t : Tr) : ℕ := semPos t.1 t.2.1 t.2.2 false

theorem code_inj {t t' : Tr} (h : code t = code t') : t = t' := (tsem_inj (r := false) (r' := false) (Fin.ext h)).1

/-- A transfer's place in the issue order, and in the order of the closing waits. -/
def ixS (t : Tr) : ℕ := (order.map code).idxOf (code t)
def ixW (t : Tr) : ℕ := (orderW.map code).idxOf (code t)

theorem ixS_lt (t : Tr) : ixS t < 240 := by revert t; decide +kernel
theorem ixW_lt (t : Tr) : ixW t < 240 := by revert t; decide +kernel
theorem order_length : (order.map code).length = 240 := by decide +kernel
theorem orderW_length : (orderW.map code).length = 240 := by decide +kernel
theorem ixS_inj {t t' : Tr} (h : ixS t = ixS t') : t = t' :=
  code_inj ((List.idxOf_inj (List.idxOf_lt_length_iff.1 (by rw [order_length]; exact ixS_lt t))).1 h)
theorem ixW_inj {t t' : Tr} (h : ixW t = ixW t') : t = t' :=
  code_inj ((List.idxOf_inj (List.idxOf_lt_length_iff.1 (by rw [orderW_length]; exact ixW_lt t))).1 h)

/-! ## Values -/

/-- What a load of tile `t` of the operand reads, and the same tile as a matrix. -/
def xld (X : (cc0_stg0_0 : Ref sig .tc).ty.Contents (Elt F)) (t : Tile) : Vec F S1x128x128 .f32 :=
  xM.view.readAt (Elt F) (xR t).toLoadRect X
def xtile (X : (cc0_stg0_0 : Ref sig .tc).ty.Contents (Elt F)) (t : Tile) : Vec F S128x128 .f32 :=
  shapeCast S128x128 (xld X t) shapeCasts_S1x128x128_S128x128

section Values
variable (X : Dev nD → (cc0_stg0_0 : Ref sig .tc).ty.Contents (Elt F))

/-- The partial sum of a plane strand at device `c` after `i` steps. -/
def pAcc (d : Bool) (b s : Fin 4) : ℕ → Dev nD → Vec F S128x128 .f32
  | 0, c => xtile (X c) (tileOf (.pl d b s) c 0)
  | i + 1, c => addf (xtile (X c) (tileOf (.pl d b s) c (i + 1))) (pAcc d b s i (prv (.pl d b s) c))

/-- The plane's sum of the tile device `c` handles at step `i` of the ring across planes. -/
def zIn (d : Bool) (b : Fin 4) (c : Dev nD) (i : ℕ) : Vec F S128x128 .f32 := pAcc X d b (bk d (zp c) i) 3 c

/-- The partial sum of a strand across planes at device `c` after `i` steps. -/
def zAcc (d : Bool) (b : Fin 4) : ℕ → Dev nD → Vec F S128x128 .f32
  | 0, c => zIn X d b c 0
  | i + 1, c => addf (zIn X d b c (i + 1)) (zAcc d b i (prv (.zz d b) c))

/-- The whole sum of a tile, computed at the device where the tile's last step falls. -/
def fin (t : Tile) : Vec F S128x128 .f32 := zAcc X t.d t.b 3 (dv (bk (!t.d) t.s 3) (bk (!t.d) t.pc 3))

/-- The value strand `κ` leaves in device `c`'s tile after step `i` of the reduction. -/
def acc : Strand → ℕ → Dev nD → Vec F S128x128 .f32
  | .pl d b s, i, c => pAcc X d b s i c
  | .zz d b, i, c => zAcc X d b i c

/-- What lands in device `c`'s slot of transfer `(κ, ag, h)`. -/
def sval (κ : Strand) (ag : Bool) (h : ℕ) (c : Dev nD) : Vec F S128x128 .f32 :=
  if ag then fin X (tileOf κ c h) else acc X κ h (prv κ c)

theorem dv_back (d : Bool) (c : Dev nD) : dv (bk (!d) (bk d (zp c) 3) 3) (bk (!d) (bk d (pp c) 3) 3) = c := by revert d c; decide +kernel

theorem fin_last (d : Bool) (b : Fin 4) (c : Dev nD) : fin X (tileOf (.zz d b) c 3) = zAcc X d b 3 c := by
  show zAcc X d b 3 (dv (bk (!d) (bk d (zp c) 3) 3) (bk (!d) (bk d (pp c) 3) 3)) = _
  rw [dv_back]

end Values

end Cert.Torus

end
-- ==== Proof.Sched.lean ====
/-
# The protocol of the 4 × 4 torus all-reduce: who hands what to whom

Every transfer has a sending and a receiving semaphore cell on each device, each with one round of one duty. The
receiving cell's duty hands over the landed slot and, with it, the tiles on other devices that the strand's copies have
read so far (their owners may not write them before the copy has landed; the gathering half writes them again).
A device's barrier cell has four duties, one per ring neighbour that writes to it; each hands over the neighbour's
landing slots the device writes.
-/
module

public import proofs.«01_k».proof.Proof.Proto
public import Idealize.ShloMosaic.Lib.MemrefSat

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a cell: a ring and a direction on the barrier's cell, `(false, false)` on the others. -/
abbrev Duty : Type := Bool × Bool

abbrev UU : Type := UR sig nD τ × Rounds.URounds (GSem nD τ sig) Duty

local notation "𝕄" => MT nD τ sig Unit (Elt F) ℕ UU ℕ

abbrev EP : Emb (UR sig nD τ) (MT nD τ sig Unit (Elt F) ℕ UU ℕ) := embL
abbrev ER : Emb (Rounds.URounds (GSem nD τ sig) Duty) (MT nD τ sig Unit (Elt F) ℕ UU ℕ) := embR

/-! ## Cells -/

abbrev barCell (c : Dev nD) : GSem nD τ sig := ((c : Thread nD τ), .reg barrier0)
abbrev cellAt (r : Bool) (t : Tr) (c : Dev nD) : GSem nD τ sig := ((c : Thread nD τ), .dma (tsem r t))
abbrev sendCell (t : Tr) (c : Dev nD) : GSem nD τ sig := cellAt false t c
abbrev recvCell (t : Tr) (c : Dev nD) : GSem nD τ sig := cellAt true t c

/-- The credit of one slot. -/
abbrev N : ℕ := (slot (.pl false 0 0) false 0).view.dmaCredit
theorem N_pos : 0 < N := View.dmaCredit_pos _ (by decide)
theorem slot_credit (κ : Strand) (ag : Bool) (h : Fin 3) : (slot κ ag h).view.dmaCredit = N := by
  cases κ with
  | pl d b s => cases d <;> cases ag <;> rfl
  | zz d b => cases d <;> cases ag <;> rfl

/-- The ring a strand travels: across planes or inside one, and the direction. -/
def key : Strand → Duty | .pl d _ _ => (false, d) | .zz d _ => (true, d)
def kst : Duty → Strand | (false, d) => .pl d 0 0 | (true, d) => .zz d 0
theorem nxt_kst (κ : Strand) (c : Dev nD) : nxt (kst (key κ)) c = nxt κ c := by cases κ <;> rfl

/-! ## Ownership -/

abbrev own (c : Dev nD) (M : Memref sig .tc .vmem S128x128 .f32) (q : PosShare TreeShare) (v : Vec F S128x128 .f32) : sProp 𝕄 :=
  owns (Ix := Unit) (Name := ℕ) (U := UU) (Lvl := ℕ) (c : Thread nD τ) M q v
/-- The tile or slot with contents nobody relies on. -/
def ownX (c : Dev nD) (M : Memref sig .tc .vmem S128x128 .f32) : sProp 𝕄 := iprop(∃ v, own (F := F) c M fullShare v)

omit [FloatOps F] in
instance ownX_storable (c : Dev nD) (M : Memref sig .tc .vmem S128x128 .f32) : BI.Storable (upEmb : UEmb _ 𝕄) (ownX (F := F) c M) := by
  unfold ownX; infer_instance

/-- The same tile on several devices. -/
def ownL (M : Memref sig .tc .vmem S128x128 .f32) : List (Dev nD) → sProp 𝕄
  | [] => iprop(emp)
  | c :: l => iprop(ownX (F := F) c M ∗ ownL M l)

omit [FloatOps F] in
instance ownL_storable (M : Memref sig .tc .vmem S128x128 .f32) (l : List (Dev nD)) : BI.Storable (upEmb : UEmb _ 𝕄) (ownL (F := F) M l) := by
  induction l with
  | nil => unfold ownL; infer_instance
  | cons c l ih => unfold ownL; infer_instance

/-- The devices whose tile has been read by a reducing strand when its hop `h` lands at `c`. -/
def backDevs : Strand → ℕ → Dev nD → List (Dev nD)
  | .pl _ _ _, 0, _ => []
  | .zz d b, 0, c => [prv (.zz d b) c]
  | κ, h + 1, c => prv κ c :: backDevs κ h (prv κ c)
/-- The devices after `c` a gathering strand still has to reach. -/
def fwdDevs (κ : Strand) (h : Fin 3) (c : Dev nD) : List (Dev nD) :=
  match h with
  | 0 => [nxt κ (nxt κ c), nxt κ c]
  | 1 => [nxt κ c]
  | 2 => []

/-- Whether the strand's own tile comes along with the landing (else the device never gave it away). -/
def carries : Strand → Fin 3 → Bool
  | .pl _ _ _, h => h != 0
  | .zz _ _, _ => true

def carry (κ : Strand) (ag : Bool) (h : Fin 3) (c : Dev nD) : sProp 𝕄 :=
  if ag then iprop(ownL (F := F) (oT (tileOf κ c h)) (fwdDevs κ h c) ∗ (if carries κ h then ownX (F := F) c (oT (tileOf κ c h)) else iprop(emp)))
  else ownL (F := F) (oT (tileOf κ c (h.val + 1))) (backDevs κ h c)

omit [FloatOps F] in
instance carry_storable (κ : Strand) (ag : Bool) (h : Fin 3) (c : Dev nD) : BI.Storable (upEmb : UEmb _ 𝕄) (carry (F := F) κ ag h c) := by
  unfold carry; (repeat' split) <;> infer_instance

/-- The share of the last tile a plane's gathering strand sends: half of it where the strand across planes sends it too. -/
def q3 : Strand → Dev nD → PosShare TreeShare
  | .pl d b s, c => if s = bk d (zp c) 3 then fullShare.left else fullShare
  | .zz _ _, _ => fullShare.right

section Values
variable (X : Dev nD → (cc0_stg0_0 : Ref sig .tc).ty.Contents (Elt F))

/-- What the landing of `(κ, ag, h)` hands device `c`. -/
def recvPay (κ : Strand) (ag : Bool) (h : Fin 3) (c : Dev nD) : sProp 𝕄 :=
  iprop(own c (slot κ ag h) fullShare (sval X κ ag h c) ∗ carry (F := F) κ ag h c)

/-- What the end of the reading of `(κ, ag, h)` hands back to its issuer `c`. -/
def sendPay (κ : Strand) (ag : Bool) (h : Fin 3) (c : Dev nD) : sProp 𝕄 :=
  match κ, ag, h with
  | .pl d b s, false, 0 => own c (xT (tileOf (.pl d b s) c 0)) fullShare.right (xtile (X c) (tileOf (.pl d b s) c 0))
  | _, false, _ => iprop(emp)
  | κ, true, 0 => own c (oT (tileOf κ c 3)) (q3 κ c) (fin X (tileOf κ c 3))
  | κ, true, 1 => own c (slot κ true 0) fullShare.right (sval X κ true 0 c)
  | κ, true, 2 => own c (slot κ true 1) fullShare.right (sval X κ true 1 c)

/-- What the neighbour's signal on ring `k` hands device `c`: the neighbour's slots `c` writes. -/
def barPay (k : Duty) (c : Dev nD) : sProp 𝕄 :=
  bigSep (Finset.univ.filter fun t : Tr => key t.1 = k) fun t => ownX (F := F) (nxt t.1 c) (slot t.1 t.2.1 t.2.2)

instance recvPay_storable (κ : Strand) (ag : Bool) (h : Fin 3) (c : Dev nD) : BI.Storable (upEmb : UEmb _ 𝕄) (recvPay X κ ag h c) := by
  unfold recvPay; infer_instance
instance sendPay_storable (κ : Strand) (ag : Bool) (h : Fin 3) (c : Dev nD) : BI.Storable (upEmb : UEmb _ 𝕄) (sendPay X κ ag h c) := by
  unfold sendPay; split <;> infer_instance
omit [FloatOps F] in
instance barPay_storable (k : Duty) (c : Dev nD) : BI.Storable (upEmb : UEmb _ 𝕄) (barPay (F := F) k c) := by
  unfold barPay; infer_instance

/-! ## The schedule -/

def IsCell (g : GSem nD τ sig) : Prop := g.1.2 = .tc ∧ match g.2 with | .reg s => s = barrier0 | .dma q => 2 ≤ q.val

instance (g : GSem nD τ sig) : Decidable (IsCell g) := by unfold IsCell; rcases g with ⟨_, _ | _⟩ <;> infer_instance

def ringRd : Rounds.Schedule (GSem nD τ sig) Duty 𝕄 where
  duties g r := if r = 0 ∧ IsCell g then (match g.2 with | .reg _ => Finset.univ | .dma _ => {(false, false)}) else ∅
  unitless _ := False
  amount g _ _ := match g.2 with | .reg _ => 1 | .dma _ => N
  payload g _ d := match g.2 with
    | .reg _ => barPay (F := F) d g.1.1
    | .dma q => if (semOf q.val).2 then recvPay X (semOf q.val).1.1 (semOf q.val).1.2.1 (semOf q.val).1.2.2 g.1.1
        else sendPay X (semOf q.val).1.1 (semOf q.val).1.2.1 (semOf q.val).1.2.2 g.1.1
  amount_pos g _ _ _ := by
    rcases g with ⟨_, _ | _⟩
    · exact Nat.one_pos
    · exact N_pos

instance ringRd_payload_storable (g : GSem nD τ sig) (r : ℕ) (d : Duty) : BI.Storable (upEmb : UEmb _ 𝕄) ((ringRd X).payload g r d) := by
  rcases g with ⟨g, s | q⟩
  · show BI.Storable upEmb (barPay (F := F) d g.1); infer_instance
  · show BI.Storable upEmb (if (semOf q.val).2 then recvPay X (semOf q.val).1.1 (semOf q.val).1.2.1 (semOf q.val).1.2.2 g.1
        else sendPay X (semOf q.val).1.1 (semOf q.val).1.2.1 (semOf q.val).1.2.2 g.1)
    split <;> infer_instance

theorem isCell_bar (c : Dev nD) : IsCell (barCell c) := ⟨rfl, rfl⟩
theorem isCell_at (r : Bool) (t : Tr) (c : Dev nD) : IsCell (cellAt r t c) := ⟨rfl, tsem_ge r t⟩

theorem duties_bar (c : Dev nD) : (ringRd X).duties (barCell c) 0 = Finset.univ := by dsimp only [ringRd]; exact if_pos ⟨rfl, isCell_bar c⟩
theorem duties_at (r : Bool) (t : Tr) (c : Dev nD) : (ringRd X).duties (cellAt r t c) 0 = {(false, false)} := by
  dsimp only [ringRd]; exact if_pos ⟨rfl, isCell_at r t c⟩
theorem duties_later (g : GSem nD τ sig) : ∀ r, 1 ≤ r → (ringRd X).duties g r = ∅ :=
  fun r hr => by dsimp only [ringRd]; exact if_neg fun h => by omega

theorem amount_bar (c : Dev nD) (d : Duty) : (ringRd X).amount (barCell c) 0 d = 1 := rfl
theorem amount_at (r : Bool) (t : Tr) (c : Dev nD) (d : Duty) : (ringRd X).amount (cellAt r t c) 0 d = N := rfl

theorem payload_bar (c : Dev nD) (d : Duty) : (ringRd X).payload (barCell c) 0 d = barPay (F := F) d c := rfl
theorem payload_recv (t : Tr) (c : Dev nD) (d : Duty) : (ringRd X).payload (recvCell t c) 0 d = recvPay X t.1 t.2.1 t.2.2 c := by
  show (if (semOf (tsem true t).val).2 then recvPay X (semOf (tsem true t).val).1.1 (semOf (tsem true t).val).1.2.1 (semOf (tsem true t).val).1.2.2 c
        else sendPay X (semOf (tsem true t).val).1.1 (semOf (tsem true t).val).1.2.1 (semOf (tsem true t).val).1.2.2 c) = _
  rw [semOf_tsem]; exact if_pos rfl
theorem payload_send (t : Tr) (c : Dev nD) (d : Duty) : (ringRd X).payload (sendCell t c) 0 d = sendPay X t.1 t.2.1 t.2.2 c := by
  show (if (semOf (tsem false t).val).2 then recvPay X (semOf (tsem false t).val).1.1 (semOf (tsem false t).val).1.2.1 (semOf (tsem false t).val).1.2.2 c
        else sendPay X (semOf (tsem false t).val).1.1 (semOf (tsem false t).val).1.2.1 (semOf (tsem false t).val).1.2.2 c) = _
  rw [semOf_tsem]; exact if_neg Bool.false_ne_true

theorem expect_bar (c : Dev nD) : (ringRd X).expect (barCell c) 0 = 4 := by
  unfold Schedule.expect Schedule.amountOf; rw [duties_bar]; rfl
theorem expect_at (r : Bool) (t : Tr) (c : Dev nD) : (ringRd X).expect (cellAt r t c) 0 = N := by
  unfold Schedule.expect Schedule.amountOf; rw [duties_at, Finset.sum_singleton, amount_at]

theorem rest_bar (c : Dev nD) : bigSep ((ringRd X).duties (barCell c) 0 \ ∅) (fun u => (ringRd X).payload (barCell c) 0 u)
    = bigSep Finset.univ fun t : Tr => ownX (F := F) (nxt t.1 c) (slot t.1 t.2.1 t.2.2) := by
  rw [Finset.sdiff_empty, duties_bar]
  simp only [payload_bar]; unfold barPay
  have hi : (Finset.univ.image fun t : Tr => key t.1) = (Finset.univ : Finset Duty) := by decide +kernel
  rw [BI.bigSep_fiberwise Finset.univ (fun t : Tr => key t.1) fun t : Tr => ownX (F := F) (nxt t.1 c) (slot t.1 t.2.1 t.2.2), hi]
theorem rest_recv (t : Tr) (c : Dev nD) : bigSep ((ringRd X).duties (recvCell t c) 0 \ ∅) (fun u => (ringRd X).payload (recvCell t c) 0 u) = recvPay X t.1 t.2.1 t.2.2 c := by
  rw [Finset.sdiff_empty, duties_at, bigSep_singleton, payload_recv]
theorem rest_send (t : Tr) (c : Dev nD) : bigSep ((ringRd X).duties (sendCell t c) 0 \ ∅) (fun u => (ringRd X).payload (sendCell t c) 0 u) = sendPay X t.1 t.2.1 t.2.2 c := by
  rw [Finset.sdiff_empty, duties_at, bigSep_singleton, payload_send]

end Values

/-! ## What a device owes; the levels -/

/-- What device `c` still owes when `n` copies have been issued: the landings of the others. -/
def owe (c : Dev nD) (n : ℕ) : CellTallies nD τ sig Unit :=
  ∑ t ∈ Finset.univ.filter (fun t : Tr => n ≤ ixS t), tallyAt (recvCell t (nxt t.1 c)) () N

theorem owe_end (c : Dev nD) : owe c 240 = 0 := by
  unfold owe
  rw [Finset.filter_false_of_mem (fun t _ => Nat.not_le.2 (ixS_lt t)), Finset.sum_empty]

theorem owe_step (c : Dev nD) (t : Tr) : owe c (ixS t) = owe c (ixS t + 1) + tallyAt (recvCell t (nxt t.1 c)) () N := by
  unfold owe
  have : Finset.univ.filter (fun u : Tr => ixS t ≤ ixS u) = insert t (Finset.univ.filter fun u : Tr => ixS t + 1 ≤ ixS u) := by
    ext u; simp only [Finset.mem_filter, Finset.mem_univ, true_and, Finset.mem_insert]
    constructor
    · intro h
      rcases Nat.lt_or_ge (ixS t) (ixS u) with h' | h'
      · exact Or.inr h'
      · exact Or.inl (ixS_inj (Nat.le_antisymm h' h))
    · rintro (rfl | h)
      · exact Nat.le_refl _
      · omega
  rw [this, Finset.sum_insert (by simp), add_comm]

/-- The neighbour that writes to `c` on ring `k`, and a unit of its barrier cell. -/
def nbr (k : Duty) (c : Dev nD) : Dev nD := prv (kst k) c
abbrev barTally (k : Duty) (c : Dev nD) : CellTallies nD τ sig Unit := tallyAt (barCell (nbr k c)) () 1

/-- What device `c` owes at launch. -/
def owe₀ (c : Dev nD) : CellTallies nD τ sig Unit :=
  (((owe c 0 + barTally (true, true) c) + barTally (true, false) c) + barTally (false, true) c) + barTally (false, false) c

def L (g : GSem nD τ sig) : Finset Unit := if g.1.2 = .tc then {()} else ∅
def lv (g : GSem nD τ sig) (_ : Unit) : ℕ :=
  match g.2 with
  | .reg _ => 1
  | .dma q => if q.val < 2 then 0 else if (semOf q.val).2 then ixS (semOf q.val).1 + 2 else 0
theorem L_of_ne (g : GSem nD τ sig) (h : g.1.2 ≠ .tc) : L g = ∅ := if_neg h
theorem L_tc (c : Dev nD) (sm : SemLoc sig) : L ((c : Thread nD τ), sm) = {()} := if_pos rfl
theorem lv_recv (t : Tr) (c : Dev nD) (u : Unit) : lv (recvCell t c) u = ixS t + 2 := by
  show (if (tsem true t).val < 2 then 0 else if (semOf (tsem true t).val).2 then ixS (semOf (tsem true t).val).1 + 2 else 0) = _
  rw [if_neg (Nat.not_lt.2 (tsem_ge true t)), semOf_tsem]; exact if_pos rfl
theorem lv_send (t : Tr) (c : Dev nD) (u : Unit) : lv (sendCell t c) u = 0 := by
  show (if (tsem false t).val < 2 then 0 else if (semOf (tsem false t).val).2 then ixS (semOf (tsem false t).val).1 + 2 else 0) = _
  rw [semOf_tsem]; split <;> rfl

theorem owe_pos {c : Dev nD} {n : ℕ} {g : GSem nD τ sig} {u : Unit} (h : 0 < owe c n g u) : ∃ t, n ≤ ixS t ∧ g = recvCell t (nxt t.1 c) := by
  unfold owe at h
  rw [Finset.sum_apply, Finsupp.finset_sum_apply] at h
  obtain ⟨t, ht, h0⟩ := Finset.exists_ne_zero_of_sum_ne_zero (Nat.pos_iff_ne_zero.1 h)
  refine ⟨t, (Finset.mem_filter.1 ht).2, ?_⟩
  rw [tallyAt_apply] at h0
  by_contra hn
  exact h0 (if_neg fun h' => hn h'.1)

theorem owe₀_pos {c : Dev nD} {g : GSem nD τ sig} {u : Unit} (h : 0 < owe₀ c g u) :
    (∃ t, g = recvCell t (nxt t.1 c)) ∨ ∃ k, g = barCell (nbr k c) := by
  by_contra hn
  rw [not_or] at hn
  have h1 : owe c 0 g u = 0 := by
    by_contra h'
    obtain ⟨t, _, ht⟩ := owe_pos (Nat.pos_of_ne_zero h')
    exact hn.1 ⟨t, ht⟩
  have h2 (k : Duty) : barTally k c g u = 0 := by
    show tallyAt (barCell (nbr k c)) () 1 g u = 0
    rw [tallyAt_apply]; exact if_neg fun h' => hn.2 ⟨k, h'.1⟩
  unfold owe₀ at h
  simp only [Pi.add_apply, Finsupp.add_apply, h1, h2] at h
  exact Nat.lt_irrefl 0 h

/-- The landing of `t` may be waited for once `t` has been issued. -/
theorem mayWait_recv (c : Dev nD) (t : Tr) (n : ℕ) (hn : ixS t < n) :
    (levAts L lv : sProp 𝕄) ⊢ MayWait (c : Thread nD τ) (.dma (tsem true t)) () (owe c n) :=
  MayOwe.of_cut (L := L) (lev := lv) (ixS t + 2) (fun p hp => by rw [Finset.mem_singleton.mp hp, L_tc]; exact Finset.mem_singleton_self _)
    (fun g u hg => by obtain ⟨t', _, rfl⟩ := owe_pos hg; rw [L_tc]; exact Finset.mem_singleton_self _)
    (fun p hp => by rw [Finset.mem_singleton.mp hp]; exact (lv_recv t c _).le)
    (fun g u hg => by obtain ⟨t', h', rfl⟩ := owe_pos hg; rw [lv_recv]; omega)

theorem mayWait_bar (c : Dev nD) : (levAts L lv : sProp 𝕄) ⊢ MayWait (c : Thread nD τ) (.reg barrier0) () (owe c 0) :=
  MayOwe.of_cut (L := L) (lev := lv) 1 (fun p hp => by rw [Finset.mem_singleton.mp hp, L_tc]; exact Finset.mem_singleton_self _)
    (fun g u hg => by obtain ⟨t', _, rfl⟩ := owe_pos hg; rw [L_tc]; exact Finset.mem_singleton_self _)
    (fun p hp => by rw [Finset.mem_singleton.mp hp]; exact Nat.le_refl 1)
    (fun g u hg => by obtain ⟨t', h', rfl⟩ := owe_pos hg; rw [lv_recv]; omega)

theorem mayWait_stage (c : Dev nD) (q : DmaSem sig) (hq : q.val < 2) (O : CellTallies nD τ sig Unit) (hO : O = owe₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases owe₀_pos hg with ⟨t, rfl⟩ | ⟨k, rfl⟩ <;> rw [L_tc] <;> exact Finset.mem_singleton_self _)
      (fun p hp => by rw [Finset.mem_singleton.mp hp]; dsimp only [lv]; rw [if_pos hq])
      (fun g u hg => by
        rcases owe₀_pos hg with ⟨t, rfl⟩ | ⟨k, rfl⟩
        · rw [lv_recv]; omega
        · exact Nat.one_pos)
  · rw [MayWait_zero]; iintro -; iempintro

end Cert.Torus

end
-- ==== Proof.State.lean ====
/-
# What a device holds at each point of its run

`Op` lists the operations of the body that change who owns what, `chk` runs a list of them over the counters and the
stage of every strand, and `St l` is what device `c` holds when the operations of `l` are still to come.
-/
module

public import proofs.«01_k».proof.Proof.Sched

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The operations and the counters -/

/-- An operation: a copy issued, its landing waited for, its tile stored, its reading waited for; and three
    points where a block's ownership passes from its plane strands to its strand across planes, from reducing to
    gathering there, and back. -/
inductive Op where
  | snd (κ : Strand) (ag : Bool) (h : Fin 3)
  | rcv (κ : Strand) (ag : Bool) (h : Fin 3)
  | sto (κ : Strand) (ag : Bool) (h : Fin 3)
  | ldX (κ : Strand) (ag : Bool) (h : Fin 3)
  | ldA (κ : Strand) (ag : Bool) (h : Fin 3)
  | ldS (κ : Strand) (ag : Bool) (h : Fin 3)
  | ldO (κ : Strand) (ag : Bool) (h : Fin 3)
  | cls (κ : Strand) (ag : Bool) (h : Fin 3)
  | toZ (d : Bool) (b : Fin 4)
  | midZ (d : Bool) (b : Fin 4)
  | fromZ (d : Bool) (b : Fin 4)
  deriving DecidableEq

/-- How many copies have been issued, landed, stored and closed, and every strand's stage. -/
structure Ms where
  ns : ℕ
  nr : ℕ
  nu : ℕ
  nw : ℕ
  sg : List ℕ
  deriving DecidableEq

def Ms.at (ms : Ms) (κ : Strand) : ℕ := ms.sg.getD κ.toFin.val 0
def put (sg : List ℕ) (κ : Strand) (n : ℕ) : List ℕ := sg.set κ.toFin.val n

/-- The stage before a copy is issued, before its landing is waited for, before its tile is stored; and after. -/
def sndAt (ag : Bool) (h : Fin 3) : ℕ := if ag then (if h = 0 then 11 else 10 + 3 * h.val) else 3 * h.val
def rcvAt (ag : Bool) (h : Fin 3) : ℕ := if ag then 12 + 3 * h.val else 3 * h.val + 1
def stoAt (ag : Bool) (h : Fin 3) : ℕ := if ag then (if h = 2 then 19 else 14 + 3 * h.val) else 3 * h.val + 2
def stoTo (ag : Bool) (h : Fin 3) : ℕ := if ag then 15 + 3 * h.val else 3 * h.val + 3

/-- One operation, where it may happen. -/
def stp (o : Op) (ms : Ms) : Option Ms :=
  match o with
  | .snd κ ag h => if ms.sg.length = 40 ∧ ixS (κ, ag, h) = ms.ns ∧ ms.nw = 0 ∧ ms.at κ = sndAt ag h then
      some { ms with ns := ms.ns + 1, sg := put ms.sg κ (sndAt ag h + 1) } else none
  | .rcv κ ag h => if ms.sg.length = 40 ∧ ixS (κ, ag, h) = ms.nr ∧ ms.nr < ms.ns ∧ ms.at κ = rcvAt ag h then
      some { ms with nr := ms.nr + 1, sg := put ms.sg κ (rcvAt ag h + 1) } else none
  | .sto κ ag h => if ms.sg.length = 40 ∧ ixS (κ, ag, h) = ms.nu ∧ ms.at κ = stoAt ag h then
      some { ms with nu := ms.nu + 1, sg := put ms.sg κ (stoTo ag h) } else none
  | .ldX κ ag h => if ms.at κ = stoAt ag h then some ms else none
  | .ldA κ ag h => if ms.at κ = stoAt ag h then some ms else none
  | .ldS κ ag h => if ms.at κ = stoAt ag h then some ms else none
  | .ldO κ ag h => if ms.at κ = stoAt ag h then some ms else none
  | .cls κ ag h => if ixW (κ, ag, h) = ms.nw ∧ ms.ns = 240 then
      some { ms with nw := ms.nw + 1 } else none
  | .toZ d b => if ms.sg.length = 40 ∧ (∀ s, ms.at (.pl d b s) = 9) ∧ ms.at (.zz d b) = 30 then
      some { ms with sg := put (put (put (put (put ms.sg (.pl d b 0) 10) (.pl d b 1) 10) (.pl d b 2) 10) (.pl d b 3) 10) (.zz d b) 0 } else none
  | .midZ d b => if ms.sg.length = 40 ∧ ms.at (.zz d b) = 9 then
      some { ms with sg := put ms.sg (.zz d b) 11 } else none
  | .fromZ d b => if ms.sg.length = 40 ∧ (∀ s, ms.at (.pl d b s) = 10) ∧ ms.at (.zz d b) = 21 then
      some { ms with sg := put (put (put (put (put ms.sg (.pl d b 0) 11) (.pl d b 1) 11) (.pl d b 2) 11) (.pl d b 3) 11) (.zz d b) 31 } else none

/-- The counters before the first copy and after the last wait. -/
def ms₀ : Ms := ⟨0, 0, 0, 0, List.replicate 32 0 ++ List.replicate 8 30⟩
def ms₁ : Ms := ⟨240, 240, 240, 240, List.replicate 32 21 ++ List.replicate 8 31⟩

/-- The operations can run from these counters to the last. -/
def chk : List Op → Ms → Bool
  | [], ms => decide (ms = ms₁)
  | o :: l, ms => match stp o ms with
    | some ms' => chk l ms'
    | none => false

theorem chk_cons {o : Op} {l : List Op} {ms : Ms} (h : chk (o :: l) ms = true) : ∃ ms', stp o ms = some ms' ∧ chk l ms' = true := by
  unfold chk at h
  split at h
  · rename_i ms' h'; exact ⟨ms', h', h⟩
  · exact absurd h Bool.false_ne_true

theorem at_put_self {ms : Ms} (hl : ms.sg.length = 40) (κ : Strand) (n : ℕ) : (put ms.sg κ n).getD κ.toFin.val 0 = n := by
  unfold put; rw [List.getD_eq_getElem?_getD, List.getElem?_set_self (by rw [hl]; exact κ.toFin.isLt)]; rfl
theorem at_put_ne (sg : List ℕ) {κ κ' : Strand} (h : κ' ≠ κ) (n : ℕ) : (put sg κ n).getD κ'.toFin.val 0 = sg.getD κ'.toFin.val 0 := by
  unfold put
  rw [List.getD_eq_getElem?_getD, List.getElem?_set_ne (fun h' : κ.toFin.val = κ'.toFin.val => h (Strand.equiv.injective (Fin.ext h')).symm), ← List.getD_eq_getElem?_getD]

/-! ## A strand's resource, stage by stage -/

section Values
variable (X : Dev nD → (cc0_stg0_0 : Ref sig .tc).ty.Contents (Elt F))

abbrev tl (κ : Strand) (c : Dev nD) (i : ℕ) : Memref sig .tc .vmem S128x128 .f32 := oT (tileOf κ c i)

/-- The tile a reducing strand adds into at step `i`, before it does. -/
def pre (κ : Strand) (c : Dev nD) (i : ℕ) : sProp 𝕄 :=
  match κ with
  | .pl d b s => ownX (F := F) c (tl (.pl d b s) c i)
  | .zz d b => own c (tl (.zz d b) c i) fullShare (zIn X d b c i)
def preL (κ : Strand) (c : Dev nD) : ℕ → sProp 𝕄
  | 0 => iprop(emp)
  | k + 1 => iprop(pre X κ c (3 - k) ∗ preL κ c k)
/-- The gathered tiles. -/
def finL (κ : Strand) (c : Dev nD) : ℕ → sProp 𝕄
  | 0 => iprop(emp)
  | k + 1 => iprop(own c (tl κ c k) fullShare (fin X (tileOf κ c k)) ∗ finL κ c k)
/-- The first tile, which a plane strand fills only when gathering. -/
def idle (κ : Strand) (c : Dev nD) : sProp 𝕄 := if carries κ 0 then iprop(emp) else ownX (F := F) c (tl κ c 0)
/-- The half of its last tile a strand across planes keeps when it sends it. -/
def kept (κ : Strand) (c : Dev nD) : sProp 𝕄 :=
  match κ with
  | .pl _ _ _ => iprop(emp)
  | .zz d b => own c (tl (.zz d b) c 3) fullShare.left (fin X (tileOf (.zz d b) c 3))
/-- What a strand's first copy reads. -/
def src0 (κ : Strand) (c : Dev nD) : sProp 𝕄 :=
  match κ with
  | .pl d b s => own c (xT (tileOf (.pl d b s) c 0)) fullShare.right (xtile (X c) (tileOf (.pl d b s) c 0))
  | .zz d b => own c (tl (.zz d b) c 0) fullShare (zIn X d b c 0)

def rsReady (κ : Strand) (c : Dev nD) (h : Fin 3) : sProp 𝕄 := iprop(preL X κ c (3 - h.val) ∗ idle (F := F) κ c)
def rsGot (κ : Strand) (c : Dev nD) (h : Fin 3) : sProp 𝕄 := iprop(recvPay X κ false h c ∗ preL X κ c (3 - h.val) ∗ idle (F := F) κ c)
def rsDone (κ : Strand) (c : Dev nD) (h : Fin 3) : sProp 𝕄 :=
  iprop((own c (tl κ c (h.val + 1)) fullShare (acc X κ (h.val + 1) c) ∗ carry (F := F) κ false h c) ∗ preL X κ c (2 - h.val) ∗ idle (F := F) κ c)
def agReady (κ : Strand) (c : Dev nD) (h : Fin 3) : sProp 𝕄 :=
  iprop((finL X κ c h.val ∗ kept X κ c) ∗ (if carries κ h then iprop(emp) else ownX (F := F) c (tl κ c h.val)))
def agGot (κ : Strand) (c : Dev nD) (h : Fin 3) : sProp 𝕄 :=
  iprop((own c (slot κ true h) fullShare (sval X κ true h c) ∗ ownL (F := F) (tl κ c h.val) (fwdDevs κ h c)) ∗ ownX (F := F) c (tl κ c h.val) ∗ finL X κ c h.val ∗ kept X κ c)
def agFwd (κ : Strand) (c : Dev nD) (h : Fin 3) : sProp 𝕄 :=
  iprop(own c (slot κ true h) fullShare.left (sval X κ true h c) ∗ ownX (F := F) c (tl κ c h.val) ∗ finL X κ c h.val ∗ kept X κ c)

/-- The resource of strand `κ` on device `c` at a stage. -/
def Ks (κ : Strand) (c : Dev nD) : ℕ → sProp 𝕄
  | 0 => iprop(src0 X κ c ∗ rsReady X κ c 0)
  | 1 => rsReady X κ c 0
  | 2 => rsGot X κ c 0
  | 3 => rsDone X κ c 0
  | 4 => rsReady X κ c 1
  | 5 => rsGot X κ c 1
  | 6 => rsDone X κ c 1
  | 7 => rsReady X κ c 2
  | 8 => rsGot X κ c 2
  | 9 => rsDone X κ c 2
  | 10 => iprop(carry (F := F) κ false 2 c ∗ idle (F := F) κ c)
  | 11 => iprop((own c (tl κ c 3) (q3 κ c) (fin X (tileOf κ c 3)) ∗ carry (F := F) κ false 2 c) ∗ idle (F := F) κ c ∗ kept X κ c)
  | 12 => agReady X κ c 0
  | 13 => agGot X κ c 0
  | 14 => agFwd X κ c 0
  | 15 => agReady X κ c 1
  | 16 => agGot X κ c 1
  | 17 => agFwd X κ c 1
  | 18 => agReady X κ c 2
  | 19 => agGot X κ c 2
  | 21 => iprop(finL X κ c 3 ∗ kept X κ c)
  | _ => iprop(emp)

/-! ## The copies -/

/-- The sender's side of a copy. -/
def SB (ns nw : ℕ) (c : Dev nD) (t : Tr) : sProp 𝕄 :=
  if ixS t < ns then
    (if ixW t < nw then iprop(semVal (sendCell t c) 0 ∗ sendPay X t.1 t.2.1 t.2.2 c)
      else iprop(cred (tallyAt (sendCell t c) () N) ∗ atPos ER (sendCell t c) 0 ∅ 0))
  else iprop((dutyTok ER (sendCell t c) 0 (false, false) ∗ dutyTok ER (recvCell t (nxt t.1 c)) 0 (false, false) ∗ atPos ER (sendCell t c) 0 ∅ 0)
    ∗ ownX (F := F) (nxt t.1 c) (slot t.1 t.2.1 t.2.2))
/-- The receiver's side. -/
def RB (nr : ℕ) (c : Dev nD) (t : Tr) : sProp 𝕄 :=
  if ixS t < nr then semVal (recvCell t c) 0 else iprop(cred (tallyAt (recvCell t c) () N) ∗ atPos ER (recvCell t c) 0 ∅ 0)
/-- The slots whose contents have been used. -/
def used (c : Dev nD) (t : Tr) : sProp 𝕄 :=
  own c (slot t.1 t.2.1 t.2.2) (if t.2.1 = true ∧ t.2.2 ≠ 2 then fullShare.left else fullShare) (sval X t.1 t.2.1 t.2.2 c)
def UB (nu : ℕ) (c : Dev nD) (t : Tr) : sProp 𝕄 := if ixS t < nu then used X c t else iprop(emp)

/-! ## The records -/

/-- The cells: a device's barrier cell, and its sending and receiving cells. -/
def kcell (ck : Dev nD × Option (Bool × Tr)) : GSem nD τ sig :=
  match ck.2 with
  | none => barCell ck.1
  | some (r, t) => cellAt r t ck.1

def recs (K : Dev nD × Option (Bool × Tr) → ℕ) : sProp 𝕄 :=
  iprop((bigSep Finset.univ fun ck : Dev nD × Option (Bool × Tr) => cellInv ER (ringRd X) (K ck) (kcell ck))
    ∗ bigSep Finset.univ fun ck : Dev nD × Option (Bool × Tr) => reached ER (kcell ck) 0)
instance recs_persistent (K : Dev nD × Option (Bool × Tr) → ℕ) : BI.Persistent (recs X K) := by unfold recs; infer_instance

omit [FloatOps F] in
/-- One summand alone. -/
theorem bigSep_pick {I : Type} [Fintype I] [DecidableEq I] (Φ : I → sProp 𝕄) (i : I) : bigSep Finset.univ Φ ⊢ Φ i := bigSep_elim (Finset.mem_univ i)

theorem inv_of (K : Dev nD × Option (Bool × Tr) → ℕ) (ck : Dev nD × Option (Bool × Tr)) : recs X K ⊢ cellInv ER (ringRd X) (K ck) (kcell ck) := by
  unfold recs; iintro ⟨H, -⟩
  iapply (bigSep_pick (fun ck : Dev nD × Option (Bool × Tr) => (cellInv ER (ringRd X) (K ck) (kcell ck) : sProp 𝕄)) ck); iexact H
theorem reached_of (K : Dev nD × Option (Bool × Tr) → ℕ) (ck : Dev nD × Option (Bool × Tr)) : recs X K ⊢ reached ER (kcell ck) 0 := by
  unfold recs; iintro ⟨-, H⟩
  iapply (bigSep_pick (fun ck : Dev nD × Option (Bool × Tr) => (reached ER (kcell ck) 0 : sProp 𝕄)) ck); iexact H

/-! ## The state -/

variable (K : Dev nD × Option (Bool × Tr) → ℕ)

/-- The left half of the operand: every load of it reads here. -/
def xL (c : Dev nD) : sProp 𝕄 := owns (Ix := Unit) (Name := ℕ) (U := UU) (Lvl := ℕ) (c : Thread nD τ) xM fullShare.left (X c)

def Res (c : Dev nD) (ms : Ms) (W : Waits sig Unit) : sProp 𝕄 :=
  iprop((recs X K ∗ levAts L lv) ∗ owes (c : Thread nD τ) (owe c ms.ns) W ∗ xL X c
    ∗ (bigSep Finset.univ fun κ : Strand => Ks X κ c (ms.at κ))
    ∗ (bigSep Finset.univ fun t : Tr => SB X ms.ns ms.nw c t)
    ∗ (bigSep Finset.univ fun t : Tr => RB (F := F) ms.nr c t)
    ∗ (bigSep Finset.univ fun t : Tr => UB X ms.nu c t))

/-- What device `c` holds with the operations of `l` to come. -/
@[irreducible] def St (c : Dev nD) (l : List Op) : sProp 𝕄 := iprop(∃ ms W, ⌜chk l ms = true⌝ ∗ Res X K c ms W)

omit [FloatOps F] in
/-- One summand taken out and put back changed. -/
theorem bigSep_focus {I : Type} [Fintype I] [DecidableEq I] (i : I) (Φ Ψ : I → sProp 𝕄) (h : ∀ j, j ≠ i → Φ j = Ψ j) :
    bigSep Finset.univ Φ ⊢ iprop(Φ i ∗ (Ψ i -∗ bigSep Finset.univ Ψ)) := by
  rw [bigSep_univ_at Φ i, bigSep_univ_at Ψ i,
    bigSep_congr (s := Finset.univ.erase i) (Φ := Φ) (Ψ := Ψ) fun j hj => h j (Finset.ne_of_mem_erase hj)]
  iintro ⟨H1, H2⟩
  isplitl [H1]; · iexact H1
  iintro H; isplitl [H] <;> iassumption

theorem SB_ne {c : Dev nD} {t t' : Tr} {ns nw : ℕ} (h : t' ≠ t) (ht : ixS t = ns) : SB X ns nw c t' = SB X (ns + 1) nw c t' := by
  have : (ixS t' < ns) = (ixS t' < ns + 1) := by
    have : ixS t' ≠ ns := fun h' => h (ixS_inj (h'.trans ht.symm))
    simp only [eq_iff_iff]; omega
  unfold SB; simp only [this]
theorem SB_neW {c : Dev nD} {t t' : Tr} {ns nw : ℕ} (h : t' ≠ t) (ht : ixW t = nw) : SB X ns nw c t' = SB X ns (nw + 1) c t' := by
  have : (ixW t' < nw) = (ixW t' < nw + 1) := by
    have : ixW t' ≠ nw := fun h' => h (ixW_inj (h'.trans ht.symm))
    simp only [eq_iff_iff]; omega
  unfold SB; simp only [this]
theorem RB_ne {c : Dev nD} {t t' : Tr} {n : ℕ} (h : t' ≠ t) (ht : ixS t = n) : RB (F := F) n c t' = RB (n + 1) c t' := by
  have : (ixS t' < n) = (ixS t' < n + 1) := by
    have : ixS t' ≠ n := fun h' => h (ixS_inj (h'.trans ht.symm))
    simp only [eq_iff_iff]; omega
  unfold RB; simp only [this]
theorem UB_ne {c : Dev nD} {t t' : Tr} {n : ℕ} (h : t' ≠ t) (ht : ixS t = n) : UB X n c t' = UB X (n + 1) c t' := by
  have : (ixS t' < n) = (ixS t' < n + 1) := by
    have : ixS t' ≠ n := fun h' => h (ixS_inj (h'.trans ht.symm))
    simp only [eq_iff_iff]; omega
  unfold UB; simp only [this]

end Values

end Cert.Torus

end
-- ==== Proof.Tiles.lean ====
/-
# Tiles and slots as parts of whole buffers

The 128 tiles cut the result and the operand of a device; the slots cut the eight landing buffers.
-/
module

public import proofs.«01_k».proof.Proof.State
public import Idealize.ShloMosaic.Lib.Pipeline.Value

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance elt_nonempty (e : EltTy) : Nonempty (Elt F e) := inferInstance

/-! ## Tiles -/

/-- A plane strand: direction, column block, sub-chunk; and a strand across planes. -/
abbrev PS : Type := (Bool × Fin 4) × Fin 4
abbrev BZ : Type := Bool × Fin 4
def pS (p : PS) : Strand := .pl p.1.1 p.1.2 p.2
def zS (z : BZ) : Strand := .zz z.1 z.2

/-- A tile by its coordinates: those of its strand, and its row chunk. -/
abbrev TI : Type := PS × Fin 4
def mkT (i : TI) : Tile := ⟨i.1.1.1, i.1.1.2, i.2, i.1.2⟩

theorem mkT_ext {i j : TI} (h1 : i.1.1.1 = j.1.1.1) (h2 : i.1.1.2.val = j.1.1.2.val) (h3 : i.2.val = j.2.val) (h4 : i.1.2.val = j.1.2.val) : i = j :=
  Prod.ext (Prod.ext (Prod.ext h1 (Fin.ext h2)) (Fin.ext h4)) (Fin.ext h3)

theorem corner_inj {i j : TI} {a b : ℕ}
    (h1 : 512 * i.2.val + 128 * i.1.2.val ≤ a ∧ a < 512 * i.2.val + 128 * i.1.2.val + 128)
    (h2 : 512 * i.1.1.1.toNat + 128 * i.1.1.2.val ≤ b ∧ b < 512 * i.1.1.1.toNat + 128 * i.1.1.2.val + 128)
    (h3 : 512 * j.2.val + 128 * j.1.2.val ≤ a ∧ a < 512 * j.2.val + 128 * j.1.2.val + 128)
    (h4 : 512 * j.1.1.1.toNat + 128 * j.1.1.2.val ≤ b ∧ b < 512 * j.1.1.1.toNat + 128 * j.1.1.2.val + 128) : i = j := by
  obtain ⟨⟨⟨d, b1⟩, s⟩, pc⟩ := i
  obtain ⟨⟨⟨d', b1'⟩, s'⟩, pc'⟩ := j
  have hb := b1.isLt; have hs := s.isLt; have hb' := b1'.isLt; have hs' := s'.isLt
  dsimp only at h1 h2 h3 h4
  refine mkT_ext ?_ ?_ ?_ ?_ <;> dsimp only
  · cases d <;> cases d' <;> simp only [Bool.toNat_true, Bool.toNat_false] at h2 h4 <;> first | rfl | omega
  · cases d <;> cases d' <;> simp only [Bool.toNat_true, Bool.toNat_false] at h2 h4 <;> omega
  · omega
  · omega

theorem oR_disj (i j : TI) (h : i ≠ j) : Disjoint (oR (mkT i)).set (oR (mkT j)).set := by
  rw [Finset.disjoint_left]
  intro x h1 h2
  rw [Rect.mem_set_unit] at h1 h2
  exact h (corner_inj (h1 0) (h1 1) (h2 0) (h2 1))
theorem xR_disj (i j : TI) (h : i ≠ j) : Disjoint (xR (mkT i)).set (xR (mkT j)).set := by
  rw [Finset.disjoint_left]
  intro x h1 h2
  rw [Rect.mem_set_unit] at h1 h2
  exact h (corner_inj (h1 1) (h1 2) (h2 1) (h2 2))

/-- The tile a row and a column lie in. -/
def tiAt (a b : ℕ) : TI :=
  (((decide (512 ≤ b), ⟨b / 128 % 4, Nat.mod_lt _ (by decide)⟩), ⟨a / 128 % 4, Nat.mod_lt _ (by decide)⟩), ⟨a / 512 % 4, Nat.mod_lt _ (by decide)⟩)

theorem tiAt_row {a b : ℕ} (ha : a < 2048) : 512 * (tiAt a b).2.val + 128 * (tiAt a b).1.2.val ≤ a ∧ a < 512 * (tiAt a b).2.val + 128 * (tiAt a b).1.2.val + 128 := by
  show 512 * (a / 512 % 4) + 128 * (a / 128 % 4) ≤ a ∧ a < 512 * (a / 512 % 4) + 128 * (a / 128 % 4) + 128
  omega
theorem tiAt_col {a b : ℕ} (hb : b < 1024) : 512 * (tiAt a b).1.1.1.toNat + 128 * (tiAt a b).1.1.2.val ≤ b ∧ b < 512 * (tiAt a b).1.1.1.toNat + 128 * (tiAt a b).1.1.2.val + 128 := by
  show 512 * (decide (512 ≤ b)).toNat + 128 * (b / 128 % 4) ≤ b ∧ b < 512 * (decide (512 ≤ b)).toNat + 128 * (b / 128 % 4) + 128
  by_cases h : 512 ≤ b
  · rw [decide_eq_true h, Bool.toNat_true]; omega
  · rw [decide_eq_false h, Bool.toNat_false]; omega

theorem oR_mem (x : S2048x1024.Idx) : x ∈ (oR (mkT (tiAt (x 0).val (x 1).val))).set := by
  rw [Rect.mem_set_unit]
  intro a
  fin_cases a
  · exact tiAt_row (b := (x 1).val) (x 0).isLt
  · exact tiAt_col (a := (x 0).val) (x 1).isLt
theorem xR_mem (x : S1x2048x1024.Idx) : x ∈ (xR (mkT (tiAt (x 1).val (x 2).val))).set := by
  rw [Rect.mem_set_unit]
  intro a
  fin_cases a
  · exact ⟨Nat.zero_le _, by have : (x 0).val < 1 := (x 0).isLt; show (x 0).val < 0 + 1; omega⟩
  · exact tiAt_row (b := (x 2).val) (x 1).isLt
  · exact tiAt_col (a := (x 1).val) (x 2).isLt
theorem oR_cover : (Finset.univ : Finset TI).biUnion (fun i => (oR (mkT i)).set) = Finset.univ :=
  Finset.eq_univ_iff_forall.2 fun x => Finset.mem_biUnion.2 ⟨_, Finset.mem_univ _, oR_mem x⟩
theorem xR_cover : (Finset.univ : Finset TI).biUnion (fun i => (xR (mkT i)).set) = Finset.univ :=
  Finset.eq_univ_iff_forall.2 fun x => Finset.mem_biUnion.2 ⟨_, Finset.mem_univ _, xR_mem x⟩

/-! ## Slots -/

abbrev SP : Type := (Fin 4 × Fin 4) × Fin 3
abbrev SZ : Type := Fin 4 × Fin 3
abbrev rPi (i : SP) : Rect S4x3x4x128x128 := rP i.1.1 i.2 i.1.2
abbrev rZi (i : SZ) : Rect S4x3x128x128 := rZ i.1 i.2

theorem rP_disj (i j : SP) (h : i ≠ j) : Disjoint (rPi i).set (rPi j).set := by
  rw [Finset.disjoint_left]
  intro x h1 h2
  rw [Rect.mem_set_unit] at h1 h2
  have e0 : i.1.1.val ≤ (x 0).val ∧ (x 0).val < i.1.1.val + 1 := h1 0
  have e1 : i.2.val ≤ (x 1).val ∧ (x 1).val < i.2.val + 1 := h1 1
  have e2 : i.1.2.val ≤ (x 2).val ∧ (x 2).val < i.1.2.val + 1 := h1 2
  have f0 : j.1.1.val ≤ (x 0).val ∧ (x 0).val < j.1.1.val + 1 := h2 0
  have f1 : j.2.val ≤ (x 1).val ∧ (x 1).val < j.2.val + 1 := h2 1
  have f2 : j.1.2.val ≤ (x 2).val ∧ (x 2).val < j.1.2.val + 1 := h2 2
  exact h (Prod.ext (Prod.ext (Fin.ext (by omega)) (Fin.ext (by omega))) (Fin.ext (by omega)))
theorem rZ_disj (i j : SZ) (h : i ≠ j) : Disjoint (rZi i).set (rZi j).set := by
  rw [Finset.disjoint_left]
  intro x h1 h2
  rw [Rect.mem_set_unit] at h1 h2
  have e0 : i.1.val ≤ (x 0).val ∧ (x 0).val < i.1.val + 1 := h1 0
  have e1 : i.2.val ≤ (x 1).val ∧ (x 1).val < i.2.val + 1 := h1 1
  have f0 : j.1.val ≤ (x 0).val ∧ (x 0).val < j.1.val + 1 := h2 0
  have f1 : j.2.val ≤ (x 1).val ∧ (x 1).val < j.2.val + 1 := h2 1
  exact h (Prod.ext (Fin.ext (by omega)) (Fin.ext (by omega)))
theorem rP_cover : (Finset.univ : Finset SP).biUnion (fun i => (rPi i).set) = Finset.univ :=
  Finset.eq_univ_iff_forall.2 fun x => Finset.mem_biUnion.2 ⟨((x 0, x 2), x 1), Finset.mem_univ _, by
    rw [Rect.mem_set_unit]
    intro a
    fin_cases a
    · exact ⟨Nat.le_refl _, Nat.lt_succ_self _⟩
    · exact ⟨Nat.le_refl _, Nat.lt_succ_self _⟩
    · exact ⟨Nat.le_refl _, Nat.lt_succ_self _⟩
    · exact ⟨Nat.zero_le _, by have : (x 3).val < 128 := (x 3).isLt; show (x 3).val < 0 + 128; omega⟩
    · exact ⟨Nat.zero_le _, by have : (x 4).val < 128 := (x 4).isLt; show (x 4).val < 0 + 128; omega⟩⟩
theorem rZ_cover : (Finset.univ : Finset SZ).biUnion (fun i => (rZi i).set) = Finset.univ :=
  Finset.eq_univ_iff_forall.2 fun x => Finset.mem_biUnion.2 ⟨(x 0, x 1), Finset.mem_univ _, by
    rw [Rect.mem_set_unit]
    intro a
    fin_cases a
    · exact ⟨Nat.le_refl _, Nat.lt_succ_self _⟩
    · exact ⟨Nat.le_refl _, Nat.lt_succ_self _⟩
    · exact ⟨Nat.zero_le _, by have : (x 2).val < 128 := (x 2).isLt; show (x 2).val < 0 + 128; omega⟩
    · exact ⟨Nat.zero_le _, by have : (x 3).val < 128 := (x 3).isLt; show (x 3).val < 0 + 128; omega⟩⟩

/-! ## A family of parts at contents given part by part -/

/-- Contents of the parts of a cut, put together. -/
theorem glue {s : Shape} {e : EltTy} {T : Type} (r : T → Rect s) (hd : ∀ t t', t ≠ t' → Disjoint (r t).set (r t').set)
    (Y : (t : T) → (r t).shape.Idx → Elt F e) : ∃ X : s.Idx → Elt F e, ∀ t j, X ((r t).emb j) = Y t j := by
  classical
  refine ⟨fun x => if h : ∃ p : (t : T) × (r t).shape.Idx, (r p.1).emb p.2 = x then Y h.choose.1 h.choose.2 else Classical.arbitrary _, fun t j => ?_⟩
  have h : ∃ p : (t : T) × (r t).shape.Idx, (r p.1).emb p.2 = (r t).emb j := ⟨⟨t, j⟩, rfl⟩
  dsimp only
  rw [dif_pos h]
  have hc := h.choose_spec
  generalize h.choose = p at hc ⊢
  obtain ⟨t', j'⟩ := p
  dsimp only at hc ⊢
  have ht : t' = t := by
    by_contra hn
    have m1 : (r t).emb j ∈ (r t').set := by rw [← hc, ← (r t').map_emb_univ]; exact Finset.mem_map_of_mem _ (Finset.mem_univ _)
    have m2 : (r t).emb j ∈ (r t).set := by rw [← (r t).map_emb_univ]; exact Finset.mem_map_of_mem _ (Finset.mem_univ _)
    exact Finset.disjoint_left.1 (hd t' t hn) m1 m2
  subst ht
  rw [(r t').emb.injective hc]

omit [FloatOps F] in
/-- A family weakened member by member. -/
theorem fam_mono {I : Type} [Fintype I] {Φ Ψ : I → sProp 𝕄} (h : ∀ i, Φ i ⊢ Ψ i) : bigSep Finset.univ Φ ⊢ bigSep Finset.univ Ψ :=
  bigSep_mono fun i _ => h i

/-! ## Squeezed slices -/

section Own
variable {s : Shape} (c : Dev nD) (M : Memref sig .tc .vmem s .f32)

theorem own_sq (r : Rect s) (hr : ∀ a, r.stride a = 1) (hq : r.shape.Squeezes S128x128) (hc : r.shape.ShapeCasts S128x128)
    (q : PosShare TreeShare) (X : r.shape.Idx → Elt F .f32) :
    owns (Ix := Unit) (Name := ℕ) (U := UU) (Lvl := ℕ) (c : Thread nD τ) (M.slice r hr) q X ⊢ own c ((M.slice r hr).squeeze S128x128 hq) q (shapeCast S128x128 X hc) := by
  unfold own owns
  iintro ⟨%f, %hf, H⟩
  iexists f
  isplitr
  · ipureintro; rw [← hf]; rfl
  rw [show ((M.slice r hr).squeeze S128x128 hq).view.set = (M.slice r hr).view.set from View.set_reshape _ _]
  iexact H

theorem own_unsq (r : Rect s) (hr : ∀ a, r.stride a = 1) (hq : r.shape.Squeezes S128x128) (hc : r.shape.ShapeCasts S128x128)
    (q : PosShare TreeShare) (X : r.shape.Idx → Elt F .f32) :
    own c ((M.slice r hr).squeeze S128x128 hq) q (shapeCast S128x128 X hc) ⊢ owns (Ix := Unit) (Name := ℕ) (U := UU) (Lvl := ℕ) (c : Thread nD τ) (M.slice r hr) q X := by
  unfold own owns
  iintro ⟨%f, %hf, H⟩
  iexists f
  isplitr
  · ipureintro
    funext j
    have := congrFun hf ((Shape.reshapeEquiv hq.numel_eq).symm j)
    have h1 : ((M.slice r hr).squeeze S128x128 hq).view.read (Elt F) f ((Shape.reshapeEquiv hq.numel_eq).symm j)
        = (M.slice r hr).view.read (Elt F) f (Shape.reshapeEquiv hq.numel_eq ((Shape.reshapeEquiv hq.numel_eq).symm j)) := rfl
    have h2 : shapeCast S128x128 X hc ((Shape.reshapeEquiv hq.numel_eq).symm j) = X (Shape.reshapeEquiv hq.numel_eq ((Shape.reshapeEquiv hq.numel_eq).symm j)) := rfl
    rw [h1, h2, Equiv.apply_symm_apply] at this
    exact this
  rw [show ((M.slice r hr).squeeze S128x128 hq).view.set = (M.slice r hr).view.set from View.set_reshape _ _]
  iexact H

/-- A buffer at any contents is its squeezed slices at any contents; -/
theorem cut_any {T : Type} [Fintype T] [DecidableEq T] (r : T → Rect s) (hr : ∀ t a, (r t).stride a = 1)
    (hd : ∀ t t', t ≠ t' → Disjoint (r t).set (r t').set) (hv : (Finset.univ : Finset T).biUnion (fun t => (r t).set) = Finset.univ)
    (hq : ∀ t, (r t).shape.Squeezes S128x128) :
    iprop(∃ X, owns (Ix := Unit) (Name := ℕ) (U := UU) (Lvl := ℕ) (c : Thread nD τ) M fullShare X)
      ⊢ bigSep Finset.univ fun t => ownX (F := F) c ((M.slice (r t) (hr t)).squeeze S128x128 (hq t)) := by
  have h (X : s.Idx → Elt F .f32) (t : T) : owns (Ix := Unit) (Name := ℕ) (U := UU) (Lvl := ℕ) (c : Thread nD τ) (M.slice (r t) (hr t)) fullShare (fun j => X ((r t).emb j))
      ⊢ ownX (F := F) c ((M.slice (r t) (hr t)).squeeze S128x128 (hq t)) := by
    unfold ownX
    iintro H
    iexists (shapeCast S128x128 (fun j => X ((r t).emb j)) (hq t).numel_eq)
    iapply (own_sq c M (r t) (hr t) (hq t) (hq t).numel_eq fullShare (fun j => X ((r t).emb j))); iexact H
  iintro ⟨%X, H⟩
  iapply ((owns_rects (c : Thread nD τ) M fullShare r hr hd hv X).trans (bigSep_mono fun t _ => h X t)); iexact H

/-- and back. -/
theorem join_any {T : Type} [Fintype T] [DecidableEq T] (r : T → Rect s) (hr : ∀ t a, (r t).stride a = 1)
    (hd : ∀ t t', t ≠ t' → Disjoint (r t).set (r t').set) (hv : (Finset.univ : Finset T).biUnion (fun t => (r t).set) = Finset.univ)
    (hq : ∀ t, (r t).shape.Squeezes S128x128) :
    (bigSep Finset.univ fun t => ownX (F := F) c ((M.slice (r t) (hr t)).squeeze S128x128 (hq t)))
      ⊢ iprop(∃ X, owns (Ix := Unit) (Name := ℕ) (U := UU) (Lvl := ℕ) (c : Thread nD τ) M fullShare X) := by
  have h (t : T) : ownX (F := F) c ((M.slice (r t) (hr t)).squeeze S128x128 (hq t))
      ⊢ iprop(∃ Y, owns (Ix := Unit) (Name := ℕ) (U := UU) (Lvl := ℕ) (c : Thread nD τ) (M.slice (r t) (hr t)) fullShare Y) := by
    unfold ownX
    iintro ⟨%v, H⟩
    iexists (fun j => v ((Shape.reshapeEquiv (hq t).numel_eq).symm j))
    iapply (own_unsq c M (r t) (hr t) (hq t) (hq t).numel_eq fullShare (fun j => v ((Shape.reshapeEquiv (hq t).numel_eq).symm j)))
    have e : shapeCast S128x128 (fun j => v ((Shape.reshapeEquiv (hq t).numel_eq).symm j)) (hq t).numel_eq = v := by
      funext i
      show v ((Shape.reshapeEquiv (hq t).numel_eq).symm (Shape.reshapeEquiv (hq t).numel_eq i)) = v i
      rw [Equiv.symm_apply_apply]
    rw [e]; iexact H
  haveI (t : T) : Nonempty ((r t).shape.Idx → Elt F .f32) := ⟨fun _ => Classical.choice (elt_nonempty (F := F) .f32)⟩
  iintro H
  ihave H := (fam_mono h) $$ H
  ihave H := (bigSep_exists_pi Finset.univ (fun (t : T) (Y : (r t).shape.Idx → Elt F .f32) =>
    owns (Ix := Unit) (Name := ℕ) (U := UU) (Lvl := ℕ) (c : Thread nD τ) (M.slice (r t) (hr t)) fullShare Y)) $$ H
  icases H with ⟨%Y, H⟩
  obtain ⟨X, hX⟩ := glue (F := F) r hd Y
  iexists X
  iapply (owns_of_rects (c : Thread nD τ) M fullShare r hr hd hv X)
  rw [show (fun t => owns (Ix := Unit) (Name := ℕ) (U := UU) (Lvl := ℕ) (c : Thread nD τ) (M.slice (r t) (hr t)) fullShare (Y t))
    = fun t => owns (Ix := Unit) (Name := ℕ) (U := UU) (Lvl := ℕ) (c : Thread nD τ) (M.slice (r t) (hr t)) fullShare (fun j => X ((r t).emb j)) from
    funext fun t => congrArg _ (funext fun j => (hX t j).symm)]
  iexact H

end Own

end Cert.Torus

end
-- ==== Proof.Strands.lean ====
/-
# How a strand's resource moves from stage to stage
-/
module

public import proofs.«01_k».proof.Proof.State

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Strands
variable (X : Dev nD → (cc0_stg0_0 : Ref sig .tc).ty.Contents (Elt F))

theorem fin3 (h : Fin 3) : h = 0 ∨ h = 1 ∨ h = 2 := by revert h; decide
theorem fin3_lt (h h' : Fin 3) (e : h'.val = h.val + 1) : h = 0 ∧ h' = 1 ∨ h = 1 ∧ h' = 2 := by revert h h'; decide
theorem nxt3 (κ : Strand) (c : Dev nD) : nxt κ (nxt κ (nxt κ c)) = prv κ c := by rw [nxt_nxt, prv_nxt]
theorem prv3 (κ : Strand) (c : Dev nD) : prv κ (prv κ (prv κ c)) = nxt κ c := by rw [← nxt_nxt, nxt_prv]
theorem tile_wrap (κ : Strand) (c : Dev nD) : tileOf κ (nxt κ c) 0 = tileOf κ c 3 := by revert κ c; decide +kernel
theorem tile_next (κ : Strand) (c : Dev nD) (h : Fin 3) : tileOf κ (nxt κ c) (h.val + 1) = tileOf κ c h.val := by
  have := tileOf_nxt κ c ⟨h.val, by omega⟩; exact this

/-- What the copy `(κ, ag, h)` of device `c` reads. -/
def srcM : Strand → Bool → Fin 3 → Dev nD → Memref sig .tc .vmem S128x128 .f32
  | .pl d b s, false, 0, c => xT (tileOf (.pl d b s) c 0)
  | κ, false, h, c => oT (tileOf κ c h.val)
  | κ, true, 0, c => oT (tileOf κ c 3)
  | κ, true, 1, _ => slot κ true 0
  | κ, true, 2, _ => slot κ true 1

/-- A source at a value, with what goes along, may be sent: it comes back, or goes along too. -/
def Sends (κ : Strand) (ag : Bool) (h : Fin 3) (c : Dev nD) (M : Memref sig .tc .vmem S128x128 .f32) (q : PosShare TreeShare) (v : Vec F S128x128 .f32)
    (Fr : sProp 𝕄) : Prop :=
  ((own c M q v ⊢ sendPay X κ ag h c) ∧ (iprop(own (nxt κ c) (slot κ ag h) fullShare v ∗ Fr) ⊢ recvPay X κ ag h (nxt κ c)))
  ∨ (((emp : sProp 𝕄) ⊢ sendPay X κ ag h c) ∧ (iprop((own (nxt κ c) (slot κ ag h) fullShare v ∗ Fr) ∗ own c M q v) ⊢ recvPay X κ ag h (nxt κ c)))

theorem sval_nxt (κ : Strand) (c : Dev nD) (h : Fin 3) : sval X κ false h.val (nxt κ c) = acc X κ h.val c := by
  show acc X κ h.val (prv κ (nxt κ c)) = _; rw [prv_nxt]
theorem sval_first (κ : Strand) (c : Dev nD) : sval X κ true 0 (nxt κ c) = fin X (tileOf κ c 3) := by
  show fin X (tileOf κ (nxt κ c) 0) = _; rw [tile_wrap]
theorem sval_fwd (κ : Strand) (c : Dev nD) (h : Fin 3) : sval X κ true (h.val + 1) (nxt κ c) = sval X κ true h.val c := by
  show fin X (tileOf κ (nxt κ c) (h.val + 1)) = fin X (tileOf κ c h.val); rw [tile_next]

/-- A reducing strand's later copies: the tile goes along. -/
theorem sends_along (κ : Strand) (c : Dev nD) (h : Fin 3) (Fr : sProp 𝕄) (hs : (emp : sProp 𝕄) ⊢ sendPay X κ false h c)
    (hF : iprop(ownX (F := F) c (tl κ c h.val) ∗ Fr) ⊢ ownL (F := F) (tl κ c h.val) (backDevs κ h.val (nxt κ c))) :
    Sends X κ false h c (tl κ c h.val) fullShare (acc X κ h.val c) Fr := by
  refine Or.inr ⟨hs, ?_⟩
  unfold recvPay carry
  rw [sval_nxt, if_neg Bool.false_ne_true, tile_next]
  iintro ⟨⟨H1, H2⟩, H3⟩
  isplitl [H1]; · iexact H1
  iapply hF
  isplitl [H3]; · unfold ownX; iexists _; iexact H3
  iexact H2

theorem backDevs_nxt (κ : Strand) (c : Dev nD) (h : ℕ) : backDevs κ (h + 1) (nxt κ c) = c :: backDevs κ h c := by
  cases κ <;> simp only [backDevs, prv_nxt]

theorem emp_sendPay_zz (d : Bool) (b : Fin 4) (c : Dev nD) (h : Fin 3) : (emp : sProp 𝕄) ⊢ sendPay X (.zz d b) false h c := by
  fin_cases h <;> exact BI.Entails.refl _

theorem sends_done (κ : Strand) (c : Dev nD) (h : Fin 3) (h' : ℕ) (e : h.val = h' + 1) (hs : (emp : sProp 𝕄) ⊢ sendPay X κ false h c) :
    Sends X κ false h c (tl κ c h.val) fullShare (acc X κ h.val c) (ownL (F := F) (tl κ c (h' + 1)) (backDevs κ h' c)) := by
  refine sends_along X κ c h _ hs ?_
  rw [e, backDevs_nxt]; exact BI.Entails.refl _

/-- The first gathering copy: the source comes back, the tiles read while reducing go along. -/
theorem sends_first (κ : Strand) (c : Dev nD) :
    Sends X κ true 0 c (tl κ c 3) (q3 κ c) (fin X (tileOf κ c 3)) (carry (F := F) κ false 2 c) := by
  refine Or.inl ⟨?_, ?_⟩
  · cases κ <;> exact BI.Entails.refl _
  · unfold recvPay carry
    rw [show ((0 : Fin 3) : ℕ) = 0 from rfl, show ((2 : Fin 3) : ℕ) = 2 from rfl, sval_first, if_pos rfl, if_neg Bool.false_ne_true, tile_wrap]
    show iprop(own _ _ _ _ ∗ _) ⊢ iprop(own _ _ _ _ ∗ (ownX (nxt κ (nxt κ (nxt κ c))) _ ∗ ownX (nxt κ (nxt κ c)) _ ∗ emp) ∗ _)
    rw [nxt3, nxt_nxt]
    cases κ with
    | pl d b s =>
      rw [if_neg (show ¬ carries (.pl d b s) 0 = true from Bool.false_ne_true)]
      show iprop(own _ _ _ _ ∗ ownX _ _ ∗ ownX _ _ ∗ emp) ⊢ _
      iintro ⟨H1, H2⟩
      isplitl [H1]; · iexact H1
      isplitl; · iexact H2
      iempintro
    | zz d b =>
      rw [if_pos (by rfl), ← prv3]
      show iprop(own _ _ _ _ ∗ ownX _ _ ∗ ownX _ _ ∗ ownX _ _ ∗ emp) ⊢ _
      iintro ⟨H1, Ha, Hb, Hc, -⟩
      isplitl [H1]; · iexact H1
      isplitl [Ha Hb]
      · isplitl [Ha]; · iexact Ha
        isplitl [Hb]; · iexact Hb
        iempintro
      iexact Hc

/-- A forwarding copy. -/
theorem sends_fwd (κ : Strand) (c : Dev nD) (h h' : Fin 3) (e : h'.val = h.val + 1) (M : Memref sig .tc .vmem S128x128 .f32)
    (hs : own c M fullShare.right (sval X κ true h.val c) ⊢ sendPay X κ true h' c) :
    Sends X κ true h' c M fullShare.right (sval X κ true h.val c) (ownL (F := F) (tl κ c h.val) (fwdDevs κ h c)) := by
  refine Or.inl ⟨hs, ?_⟩
  unfold recvPay carry
  rw [e, sval_fwd, if_pos rfl, tile_next]
  rcases fin3_lt h h' e with ⟨rfl, rfl⟩ | ⟨rfl, rfl⟩
  · rw [if_pos (by cases κ <;> rfl)]
    show iprop(_ ∗ ownX _ _ ∗ ownX _ _ ∗ emp) ⊢ iprop(_ ∗ (ownX _ _ ∗ emp) ∗ ownX _ _)
    iintro ⟨H1, Ha, Hb, -⟩
    isplitl [H1]; · iexact H1
    isplitl [Ha]
    · isplitl [Ha]; · iexact Ha
      iempintro
    iexact Hb
  · rw [if_pos (by cases κ <;> rfl)]
    show iprop(_ ∗ ownX _ _ ∗ emp) ⊢ iprop(_ ∗ emp ∗ ownX _ _)
    iintro ⟨H1, Ha, -⟩
    isplitl [H1]; · iexact H1
    isplitr; · iempintro
    iexact Ha

theorem got_split (κ : Strand) (c : Dev nD) (h : Fin 3) :
    agGot X κ c h ⊢ iprop(own c (slot κ true h) fullShare.right (sval X κ true h.val c) ∗ ownL (F := F) (tl κ c h.val) (fwdDevs κ h c) ∗ agFwd X κ c h) := by
  unfold agGot agFwd
  iintro ⟨⟨H1, H2⟩, H3⟩
  ihave H := (owns_halves (Ix := Unit) (Name := ℕ) (U := UU) (Lvl := ℕ) (c : Thread nD τ) (slot κ true h) fullShare (sval X κ true h.val c)).1 $$ H1
  icases H with ⟨Ha, Hb⟩
  isplitl [Hb]; · iexact Hb
  isplitl [H2]; · iexact H2
  isplitl [Ha]; · iexact Ha
  iexact H3

theorem done_split (κ : Strand) (c : Dev nD) (h h' : Fin 3) (e : h'.val = h.val + 1) :
    rsDone X κ c h ⊢ iprop(own c (tl κ c h'.val) fullShare (acc X κ h'.val c) ∗ ownL (F := F) (tl κ c (h.val + 1)) (backDevs κ h.val c) ∗ rsReady X κ c h') := by
  unfold rsDone rsReady carry
  rw [if_neg Bool.false_ne_true, e, show 3 - (h.val + 1) = 2 - h.val by omega]
  iintro ⟨⟨H1, H2⟩, H3⟩
  isplitl [H1]; · iexact H1
  isplitl [H2]; · iexact H2
  iexact H3

/-- Before a copy, the strand holds the source at a value that may be sent. -/
theorem src_ok (κ : Strand) (ag : Bool) (h : Fin 3) (c : Dev nD) :
    ∃ q v Fr, Sends X κ ag h c (srcM κ ag h c) q v Fr
      ∧ (Ks X κ c (sndAt ag h) ⊢ iprop(own c (srcM κ ag h c) q v ∗ Fr ∗ Ks X κ c (sndAt ag h + 1))) := by
  cases ag with
  | true =>
    obtain rfl | rfl | rfl : h = 0 ∨ h = 1 ∨ h = 2 := fin3 h
    · refine ⟨q3 κ c, fin X (tileOf κ c 3), _, by rw [show srcM κ true 0 c = tl κ c 3 by cases κ <;> rfl]; exact sends_first X κ c, ?_⟩
      show iprop((own c (tl κ c 3) (q3 κ c) (fin X (tileOf κ c 3)) ∗ carry (F := F) κ false 2 c) ∗ idle (F := F) κ c ∗ kept X κ c)
        ⊢ iprop(own c (srcM κ true 0 c) (q3 κ c) (fin X (tileOf κ c 3)) ∗ carry (F := F) κ false 2 c ∗ agReady X κ c 0)
      rw [show srcM κ true 0 c = tl κ c 3 by cases κ <;> rfl]
      iintro ⟨⟨H1, H2⟩, H3, H4⟩
      isplitl [H1]; · iexact H1
      isplitl [H2]; · iexact H2
      unfold agReady
      isplitl [H4]
      · isplitr; · iempintro
        iexact H4
      iapply (show idle (F := F) κ c ⊢ iprop(if carries κ 0 = true then emp else ownX c (tl κ c 0)) by cases κ <;> exact BI.Entails.refl _)
      iexact H3
    · refine ⟨fullShare.right, sval X κ true 0 c, _, sends_fwd X κ c 0 1 rfl (srcM κ true 1 c) (by cases κ <;> exact BI.Entails.refl _), ?_⟩
      rw [show srcM κ true 1 c = slot κ true 0 by cases κ <;> rfl]
      exact got_split X κ c 0
    · refine ⟨fullShare.right, sval X κ true 1 c, _, sends_fwd X κ c 1 2 rfl (srcM κ true 2 c) (by cases κ <;> exact BI.Entails.refl _), ?_⟩
      rw [show srcM κ true 2 c = slot κ true 1 by cases κ <;> rfl]
      exact got_split X κ c 1
  | false =>
    obtain rfl | rfl | rfl : h = 0 ∨ h = 1 ∨ h = 2 := fin3 h
    · cases κ with
      | pl d b s =>
        refine ⟨fullShare.right, xtile (X c) (tileOf (.pl d b s) c 0), iprop(emp), Or.inl ⟨BI.Entails.refl _, ?_⟩, ?_⟩
        · unfold recvPay carry
          rw [sval_nxt]
          exact BI.Entails.refl _
        · show iprop(src0 X (.pl d b s) c ∗ rsReady X (.pl d b s) c 0) ⊢ _
          show _ ⊢ iprop(src0 X (.pl d b s) c ∗ emp ∗ rsReady X (.pl d b s) c 0)
          iintro ⟨H1, H2⟩
          isplitl [H1]; · iexact H1
          isplitr; · iempintro
          iexact H2
      | zz d b =>
        refine ⟨fullShare, acc X (.zz d b) 0 c, iprop(emp), sends_along X (.zz d b) c 0 _ (emp_sendPay_zz X d b c 0) ?_, ?_⟩
        · show _ ⊢ iprop(ownX (prv (.zz d b) (nxt (.zz d b) c)) _ ∗ emp)
          rw [prv_nxt]
        · show iprop(src0 X (.zz d b) c ∗ rsReady X (.zz d b) c 0) ⊢ _
          show _ ⊢ iprop(src0 X (.zz d b) c ∗ emp ∗ rsReady X (.zz d b) c 0)
          iintro ⟨H1, H2⟩
          isplitl [H1]; · iexact H1
          isplitr; · iempintro
          iexact H2
    · refine ⟨fullShare, acc X κ 1 c, ownL (F := F) (tl κ c 1) (backDevs κ 0 c), ?_, ?_⟩
      rotate_left 1
      · rw [show srcM κ false 1 c = tl κ c 1 by cases κ <;> rfl]
        exact done_split X κ c 0 1 rfl
      · rw [show srcM κ false 1 c = tl κ c 1 by cases κ <;> rfl]
        exact sends_done X κ c 1 0 rfl (by cases κ <;> exact BI.Entails.refl _)
    · refine ⟨fullShare, acc X κ 2 c, ownL (F := F) (tl κ c 2) (backDevs κ 1 c), ?_, ?_⟩
      rotate_left 1
      · rw [show srcM κ false 2 c = tl κ c 2 by cases κ <;> rfl]
        exact done_split X κ c 1 2 rfl
      · rw [show srcM κ false 2 c = tl κ c 2 by cases κ <;> rfl]
        exact sends_done X κ c 2 1 rfl (by cases κ <;> exact BI.Entails.refl _)

/-! ## Landings -/

/-- A landing handed over. -/
theorem rcv_ok (κ : Strand) (ag : Bool) (h : Fin 3) (c : Dev nD) :
    iprop(Ks X κ c (rcvAt ag h) ∗ recvPay X κ ag h c) ⊢ Ks X κ c (rcvAt ag h + 1) := by
  cases ag with
  | true =>
    have e : iprop(agReady X κ c h ∗ recvPay X κ true h c) ⊢ agGot X κ c h := by
      have hx : iprop((if carries κ h = true then iprop(emp) else ownX (F := F) c (tl κ c h.val)) ∗ (if carries κ h = true then ownX (F := F) c (tl κ c h.val) else iprop(emp)))
          ⊢ ownX (F := F) c (tl κ c h.val) := by
        by_cases hc : carries κ h = true
        · rw [if_pos hc, if_pos hc]; iintro ⟨-, H⟩; iexact H
        · rw [if_neg hc, if_neg hc]; iintro ⟨H, -⟩; iexact H
      unfold agReady recvPay carry agGot
      rw [if_pos rfl]
      iintro ⟨⟨⟨H1, H2⟩, H3⟩, H4, H5, H6⟩
      isplitl [H4 H5]
      · isplitl [H4]; · iexact H4
        iexact H5
      isplitl [H3 H6]
      · iapply hx
        isplitl [H3] <;> iassumption
      isplitl [H1] <;> iassumption
    obtain rfl | rfl | rfl : h = 0 ∨ h = 1 ∨ h = 2 := fin3 h
    all_goals exact e
  | false =>
    have e : iprop(rsReady X κ c h ∗ recvPay X κ false h c) ⊢ rsGot X κ c h := by
      unfold rsReady rsGot
      iintro ⟨H1, H2⟩
      isplitl [H2]; · iexact H2
      iexact H1
    obtain rfl | rfl | rfl : h = 0 ∨ h = 1 ∨ h = 2 := fin3 h
    all_goals exact e

/-! ## Stores -/

theorem fin_put (κ : Strand) (c : Dev nD) (n : ℕ) :
    iprop(own c (tl κ c n) fullShare (fin X (tileOf κ c n)) ∗ finL X κ c n) ⊢ finL X κ c (n + 1) := BI.Entails.refl _

/-- The tile the store of `(κ, ag, h)` writes, and the value it must write. -/
def stoI (ag : Bool) (h : Fin 3) : ℕ := if ag then h.val else h.val + 1
def stoV (κ : Strand) (ag : Bool) (h : Fin 3) (c : Dev nD) : Vec F S128x128 .f32 := if ag then sval X κ ag h c else acc X κ (h.val + 1) c
/-- What the tile holds before the store, where that matters. -/
def old (κ : Strand) (ag : Bool) (c : Dev nD) (h : Fin 3) (v : Vec F S128x128 .f32) : Prop :=
  match κ, ag with
  | .zz d b, false => v = zIn X d b c (h.val + 1)
  | _, _ => True
/-- The share of the slot held when the store comes. -/
def slotQ (ag : Bool) (h : Fin 3) : PosShare TreeShare := if ag = true ∧ h ≠ 2 then fullShare.left else fullShare

/-- Before a store the strand holds the slot and the tile; with the tile rewritten it moves on, leaving the slot. -/
theorem sto_ok (κ : Strand) (ag : Bool) (h : Fin 3) (c : Dev nD) :
    Ks X κ c (stoAt ag h) ⊢ iprop(∃ v, ⌜old X κ ag c h v⌝ ∗ own c (slot κ ag h) (slotQ ag h) (sval X κ ag h c) ∗ own c (tl κ c (stoI ag h)) fullShare v
      ∗ ((own c (tl κ c (stoI ag h)) fullShare v -∗ own c (slot κ ag h) (slotQ ag h) (sval X κ ag h c) -∗ Ks X κ c (stoAt ag h))
        ∧ (own c (tl κ c (stoI ag h)) fullShare (stoV X κ ag h c) -∗ Ks X κ c (stoTo ag h)))) := by
  cases ag with
  | false =>
    have hp : preL X κ c (3 - h.val) = iprop(pre X κ c (h.val + 1) ∗ preL X κ c (2 - h.val)) := by
      obtain rfl | rfl | rfl : h = 0 ∨ h = 1 ∨ h = 2 := fin3 h
      all_goals rfl
    have hpre : pre X κ c (h.val + 1) ⊢ iprop(∃ v, ⌜old X κ false c h v⌝ ∗ own c (tl κ c (h.val + 1)) fullShare v
        ∗ (own c (tl κ c (h.val + 1)) fullShare v -∗ pre X κ c (h.val + 1))) := by
      cases κ with
      | pl d b s =>
        unfold pre ownX
        iintro ⟨%v, H⟩
        iexists v; isplitr; · ipureintro; exact trivial
        isplitl [H]; · iexact H
        iintro H; iexists v; iexact H
      | zz d b =>
        unfold pre
        iintro H
        iexists _; isplitr; · ipureintro; rfl
        isplitl [H]; · iexact H
        iintro H; iexact H
    have e : rsGot X κ c h ⊢ iprop(∃ v, ⌜old X κ false c h v⌝ ∗ own c (slot κ false h) fullShare (sval X κ false h c) ∗ own c (tl κ c (h.val + 1)) fullShare v
      ∗ ((own c (tl κ c (h.val + 1)) fullShare v -∗ own c (slot κ false h) fullShare (sval X κ false h c) -∗ rsGot X κ c h)
        ∧ (own c (tl κ c (h.val + 1)) fullShare (acc X κ (h.val + 1) c) -∗ rsDone X κ c h))) := by
      unfold rsGot rsDone recvPay
      rw [hp]
      iintro ⟨⟨H1, H2⟩, ⟨H3, H4⟩, H5⟩
      ihave H := hpre $$ H3
      icases H with ⟨%v, %hv, Hv, Hb⟩
      iexists v
      isplitr; · ipureintro; exact hv
      isplitl [H1]; · iexact H1
      isplitl [Hv]; · iexact Hv
      isplit
      · iintro Hv H1
        ihave H3 := Hb $$ Hv
        isplitl [H1 H2]
        · isplitl [H1]; · iexact H1
          iexact H2
        isplitl [H3 H4]
        · isplitl [H3]; · iexact H3
          iexact H4
        iexact H5
      · iintro Hv
        isplitl [Hv H2]
        · isplitl [Hv]; · iexact Hv
          iexact H2
        isplitl [H4]; · iexact H4
        iexact H5
    obtain rfl | rfl | rfl : h = 0 ∨ h = 1 ∨ h = 2 := fin3 h
    all_goals exact e
  | true =>
    have e : agFwd X κ c h ⊢ iprop(∃ v, ⌜old X κ true c h v⌝ ∗ own c (slot κ true h) fullShare.left (sval X κ true h c) ∗ own c (tl κ c h.val) fullShare v
      ∗ ((own c (tl κ c h.val) fullShare v -∗ own c (slot κ true h) fullShare.left (sval X κ true h c) -∗ agFwd X κ c h)
        ∧ (own c (tl κ c h.val) fullShare (sval X κ true h c) -∗ iprop((finL X κ c (h.val + 1) ∗ kept X κ c) ∗ emp)))) := by
      unfold agFwd ownX
      iintro ⟨H1, ⟨%v, H2⟩, H3, H4⟩
      iexists v
      isplitr; · ipureintro; cases κ <;> exact trivial
      isplitl [H1]; · iexact H1
      isplitl [H2]; · iexact H2
      isplit
      · iintro H2 H1
        isplitl [H1]; · iexact H1
        isplitl [H2]; · iexists v; iexact H2
        isplitl [H3] <;> iassumption
      · iintro Hv
        isplitl
        · isplitl [Hv H3]
          · iapply (fin_put X κ c h.val)
            isplitl [Hv]; · iexact Hv
            iexact H3
          iexact H4
        iempintro
    obtain rfl | rfl | rfl : h = 0 ∨ h = 1 ∨ h = 2 := fin3 h
    · have := e
      rw [show iprop((finL X κ c ((0 : Fin 3).val + 1) ∗ kept X κ c) ∗ emp) = agReady X κ c 1 by
        unfold agReady; rw [if_pos (by cases κ <;> rfl)]; rfl] at this
      exact this
    · have := e
      rw [show iprop((finL X κ c ((1 : Fin 3).val + 1) ∗ kept X κ c) ∗ emp) = agReady X κ c 2 by
        unfold agReady; rw [if_pos (by cases κ <;> rfl)]; rfl] at this
      exact this
    · show agGot X κ c 2 ⊢ iprop(∃ v, ⌜old X κ true c 2 v⌝ ∗ own c (slot κ true 2) fullShare (sval X κ true 2 c) ∗ own c (tl κ c 2) fullShare v
        ∗ ((own c (tl κ c 2) fullShare v -∗ own c (slot κ true 2) fullShare (sval X κ true 2 c) -∗ agGot X κ c 2)
        ∧ (own c (tl κ c 2) fullShare (sval X κ true 2 c) -∗ iprop(finL X κ c 3 ∗ kept X κ c))))
      unfold agGot ownX
      iintro ⟨⟨H1, H5⟩, ⟨%v, H2⟩, H3, H4⟩
      iexists v
      isplitr; · ipureintro; cases κ <;> exact trivial
      isplitl [H1]; · iexact H1
      isplitl [H2]; · iexact H2
      isplit
      · iintro H2 H1
        isplitl [H1 H5]
        · isplitl [H1]; · iexact H1
          iexact H5
        isplitl [H2]; · iexists v; iexact H2
        isplitl [H3] <;> iassumption
      · iintro Hv
        isplitl [Hv H3]
        · iapply (fin_put X κ c 2)
          isplitl [Hv]; · iexact Hv
          iexact H3
        iexact H4

end Strands

end Cert.Torus

end
-- ==== Proof.Steps.lean ====
/-
# One step of a device's run

How each operation of the body moves `St`: issuing a copy, waiting for a landing, loading, storing, waiting for a copy
to have been read, and the three points where a block changes hands between strands. Each is stated once, at a symbolic
device and transfer.
-/
module

public import proofs.«01_k».proof.Proof.Strands

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

section Steps
variable (X : Dev nD → (cc0_stg0_0 : Ref sig .tc).ty.Contents (Elt F))
variable (K : Dev nD × Option (Bool × Tr) → ℕ)

theorem write_read (M : Memref sig .tc .vmem S128x128 .f32) (fd : M.view.ty.Contents (Elt F)) (w : Vec F S128x128 .f32) :
    M.view.read (Elt F) (M.view.write (Elt F) fd w Finset.univ) = w := by
  exact View.read_write_univ _ _

/-- A buffer written over is held at what was written. -/
theorem landed (c : Dev nD) (M : Memref sig .tc .vmem S128x128 .f32) (fd : M.view.ty.Contents (Elt F)) (v w : Vec F S128x128 .f32) (hw : w = v) :
    (M.view.loc (c : Thread nD τ) ↦[M.view.set]{fullShare} (M.view.write (Elt F) fd w Finset.univ) : sProp 𝕄) ⊢ own c M fullShare v := by
  subst hw
  exact (owns_intro (c : Thread nD τ) M fullShare _).trans (Entails.of_eq (by rw [write_read]))

/-! ## Issuing a copy -/

/-- A copy whose source comes back to its issuer. -/
theorem send_back (c n : Dev nD) (κ : Strand) (ag : Bool) (h : Fin 3) (hn : n = nxt κ c)
    (M : Memref sig .tc .vmem S128x128 .f32) (q : PosShare TreeShare) (v : Vec F S128x128 .f32) (Fr : sProp 𝕄)
    (hS : own c M q v ⊢ sendPay X κ ag h c)
    (hR : iprop(own (nxt κ c) (slot κ ag h) fullShare v ∗ Fr) ⊢ recvPay X κ ag h (nxt κ c))
    {hsc : (slot κ ag h : Memref sig (Dev.tc n : Thread nD τ).2.kind .vmem S128x128 .f32).view.ref.isScScratch = false}
    {hsrc : M.view.WordExact} {hdst : (slot κ ag h).view.WordExact}
    {hsem : DmaTarget.Typed .vmem (.dma (tsem true (κ, ag, h))) (.remote (Dev.tc n : Thread nD τ) (slot κ ag h) (.dma (tsem false (κ, ag, h))) hsc)}
    {α : Type} {Q : α → sProp 𝕄} {k : PUnit → Prog (TpuEff nD τ sig (Elt F) Λ₀ .tc) α} (W : Waits sig Unit) :
    iprop(recs X K ∗ own c M q v ∗ Fr ∗ owes (c : Thread nD τ) (owe c (ixS (κ, ag, h))) W
        ∗ (dutyTok ER (sendCell (κ, ag, h) c) 0 (false, false) ∗ dutyTok ER (recvCell (κ, ag, h) (nxt κ c)) 0 (false, false))
        ∗ ownX (F := F) (nxt κ c) (slot κ ag h))
      ⊢ iprop(((cred (tallyAt (sendCell (κ, ag, h) c) () N) ∗ owes (c : Thread nD τ) (owe c (ixS (κ, ag, h) + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) (slot κ ag h) (.dma (tsem false (κ, ag, h))) hsc) (.dma (tsem true (κ, ag, h))) hsrc hdst hsem) k) Q) := by
  subst hn
  unfold ownX
  iintro ⟨#HR, Hsrc, HF, HO, ⟨Ht1, Ht2⟩, ⟨%vd, Hd⟩⟩
  unfold own owns
  icases Hsrc with ⟨%fs, %hfs, Hsrc⟩
  icases Hd with ⟨%fd, %hfd, Hd⟩
  ihave #H1 := (inv_of X K (c, some (false, (κ, ag, h)))) $$ HR
  ihave #H2 := (inv_of X K (nxt κ c, some (true, (κ, ag, h)))) $$ HR
  ihave #H3 := (reached_of X K (c, some (false, (κ, ag, h)))) $$ HR
  ihave #H4 := (reached_of X K (nxt κ c, some (true, (κ, ag, h)))) $$ HR
  iapply (Rounds.wp_send_pointsTo_with 𝒱₀ ER (ringRd X) (c : Thread nD τ) none
      (κ₁ := K (c, some (false, (κ, ag, h)))) (κ₂ := K (nxt κ c, some (true, (κ, ag, h))))
      (r₁ := 0) (r₂ := 0) (d₁ := (false, false)) (d₂ := (false, false)) (fd := fd) (F := Fr)
      (by rw [duties_at]; exact Finset.mem_singleton_self _) (by rw [duties_at]; exact Finset.mem_singleton_self _)
      () () N (show (slot κ ag h).view.amount (.dma (tsem true (κ, ag, h))) = N from slot_credit κ ag h) (amount_at X false (κ, ag, h) c _) (amount_at X true (κ, ag, h) (nxt κ c) _) (owe c (ixS (κ, ag, h) + 1)) (owe_step c (κ, ag, h)) (W := W)
      (by rw [payload_send]; subst hfs; exact (owns_intro (c : Thread nD τ) M q fs).trans hS)
      (by
        rw [payload_recv]
        iintro ⟨Hd, HF⟩
        iapply hR
        isplitl [Hd]
        · iapply (landed (nxt κ c) (slot κ ag h) fd v _ hfs); iexact Hd
        iexact HF)) $$ [Hsrc HF HO Ht1 Ht2 Hd]
  isplitr; · iexact H1
  isplitr; · iexact H2
  isplitl [Hsrc]; · iexact Hsrc
  isplitl [Hd HF]
  · isplitl [Hd]; · iexact Hd
    iexact HF
  isplitl [HO]; · iexact HO
  isplitl [Ht1]; · iexact Ht1
  isplitr; · iexact H3
  isplitl [Ht2]; · iexact Ht2
  iexact H4

/-- A copy whose source goes along to the receiver. -/
theorem send_along (c n : Dev nD) (κ : Strand) (ag : Bool) (h : Fin 3) (hn : n = nxt κ c)
    (M : Memref sig .tc .vmem S128x128 .f32) (q : PosShare TreeShare) (v : Vec F S128x128 .f32) (Fr : sProp 𝕄)
    (hS : (emp : sProp 𝕄) ⊢ sendPay X κ ag h c)
    (hR : iprop((own (nxt κ c) (slot κ ag h) fullShare v ∗ Fr) ∗ own c M q v) ⊢ recvPay X κ ag h (nxt κ c))
    {hsc : (slot κ ag h : Memref sig (Dev.tc n : Thread nD τ).2.kind .vmem S128x128 .f32).view.ref.isScScratch = false}
    {hsrc : M.view.WordExact} {hdst : (slot κ ag h).view.WordExact}
    {hsem : DmaTarget.Typed .vmem (.dma (tsem true (κ, ag, h))) (.remote (Dev.tc n : Thread nD τ) (slot κ ag h) (.dma (tsem false (κ, ag, h))) hsc)}
    {α : Type} {Q : α → sProp 𝕄} {k : PUnit → Prog (TpuEff nD τ sig (Elt F) Λ₀ .tc) α} (W : Waits sig Unit) :
    iprop(recs X K ∗ own c M q v ∗ Fr ∗ owes (c : Thread nD τ) (owe c (ixS (κ, ag, h))) W
        ∗ (dutyTok ER (sendCell (κ, ag, h) c) 0 (false, false) ∗ dutyTok ER (recvCell (κ, ag, h) (nxt κ c)) 0 (false, false))
        ∗ ownX (F := F) (nxt κ c) (slot κ ag h))
      ⊢ iprop(((cred (tallyAt (sendCell (κ, ag, h) c) () N) ∗ owes (c : Thread nD τ) (owe c (ixS (κ, ag, h) + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) (slot κ ag h) (.dma (tsem false (κ, ag, h))) hsc) (.dma (tsem true (κ, ag, h))) hsrc hdst hsem) k) Q) := by
  subst hn
  unfold ownX
  iintro ⟨#HR, Hsrc, HF, HO, ⟨Ht1, Ht2⟩, ⟨%vd, Hd⟩⟩
  unfold own owns
  icases Hsrc with ⟨%fs, %hfs, Hsrc⟩
  icases Hd with ⟨%fd, %hfd, Hd⟩
  ihave #H1 := (inv_of X K (c, some (false, (κ, ag, h)))) $$ HR
  ihave #H2 := (inv_of X K (nxt κ c, some (true, (κ, ag, h)))) $$ HR
  ihave #H3 := (reached_of X K (c, some (false, (κ, ag, h)))) $$ HR
  ihave #H4 := (reached_of X K (nxt κ c, some (true, (κ, ag, h)))) $$ HR
  iapply (Rounds.wp_send_landing_pointsTo_with 𝒱₀ ER (ringRd X) (c : Thread nD τ) none
      (κ₁ := K (c, some (false, (κ, ag, h)))) (κ₂ := K (nxt κ c, some (true, (κ, ag, h))))
      (r₁ := 0) (r₂ := 0) (d₁ := (false, false)) (d₂ := (false, false)) (fd := fd) (F := Fr)
      (by rw [duties_at]; exact Finset.mem_singleton_self _) (by rw [duties_at]; exact Finset.mem_singleton_self _)
      () () N (show (slot κ ag h).view.amount (.dma (tsem true (κ, ag, h))) = N from slot_credit κ ag h) (amount_at X false (κ, ag, h) c _) (amount_at X true (κ, ag, h) (nxt κ c) _) (owe c (ixS (κ, ag, h) + 1)) (owe_step c (κ, ag, h)) (W := W)
      (by rw [payload_send]; exact hS)
      (by
        rw [payload_recv]
        iintro ⟨⟨Hd, HF⟩, Hs⟩
        iapply hR
        isplitl [Hd HF]
        · isplitl [Hd]
          · iapply (landed (nxt κ c) (slot κ ag h) fd v _ hfs); iexact Hd
          iexact HF
        subst hfs; iapply (owns_intro (c : Thread nD τ) M q fs); iexact Hs)) $$ [Hsrc HF HO Ht1 Ht2 Hd]
  isplitr; · iexact H1
  isplitr; · iexact H2
  isplitl [Hsrc]; · iexact Hsrc
  isplitl [Hd HF]
  · isplitl [Hd]; · iexact Hd
    iexact HF
  isplitl [HO]; · iexact HO
  isplitl [Ht1]; · iexact Ht1
  isplitr; · iexact H3
  isplitl [Ht2]; · iexact Ht2
  iexact H4

/-- Issuing a copy, either way. -/
theorem send_any (c n : Dev nD) (κ : Strand) (ag : Bool) (h : Fin 3) (hn : n = nxt κ c)
    (M : Memref sig .tc .vmem S128x128 .f32) (q : PosShare TreeShare) (v : Vec F S128x128 .f32) (Fr : sProp 𝕄) (hs : Sends X κ ag h c M q v Fr)
    {hsc : (slot κ ag h : Memref sig (Dev.tc n : Thread nD τ).2.kind .vmem S128x128 .f32).view.ref.isScScratch = false}
    {hsrc : M.view.WordExact} {hdst : (slot κ ag h).view.WordExact}
    {hsem : DmaTarget.Typed .vmem (.dma (tsem true (κ, ag, h))) (.remote (Dev.tc n : Thread nD τ) (slot κ ag h) (.dma (tsem false (κ, ag, h))) hsc)}
    {α : Type} {Q : α → sProp 𝕄} {k : PUnit → Prog (TpuEff nD τ sig (Elt F) Λ₀ .tc) α} (W : Waits sig Unit) :
    iprop(recs X K ∗ own c M q v ∗ Fr ∗ owes (c : Thread nD τ) (owe c (ixS (κ, ag, h))) W
        ∗ (dutyTok ER (sendCell (κ, ag, h) c) 0 (false, false) ∗ dutyTok ER (recvCell (κ, ag, h) (nxt κ c)) 0 (false, false))
        ∗ ownX (F := F) (nxt κ c) (slot κ ag h))
      ⊢ iprop(((cred (tallyAt (sendCell (κ, ag, h) c) () N) ∗ owes (c : Thread nD τ) (owe c (ixS (κ, ag, h) + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) (slot κ ag h) (.dma (tsem false (κ, ag, h))) hsc) (.dma (tsem true (κ, ag, h))) hsrc hdst hsem) k) Q) := by
  rcases hs with ⟨hS, hR⟩ | ⟨hS, hR⟩
  · exact send_back X K c n κ ag h hn M q v Fr hS hR W
  · exact send_along X K c n κ ag h hn M q v Fr hS hR W

/-! ## The state, taken apart -/

theorem St_cons {c : Dev nD} {o : Op} {l : List Op} {G : sProp 𝕄}
    (H : ∀ ms ms' W, stp o ms = some ms' → chk l ms' = true → Res X K c ms W ⊢ G) : St X K c (o :: l) ⊢ G := by
  unfold St
  iintro ⟨%ms, %W, %hc, H⟩
  obtain ⟨ms', h1, h2⟩ := chk_cons hc
  iapply (H ms ms' W h1 h2); iexact H

theorem St_of {c : Dev nD} {l : List Op} {ms : Ms} (W : Waits sig Unit) (h : chk l ms = true) : Res X K c ms W ⊢ St X K c l := by
  unfold St; iintro H; iexists ms, W
  isplitr; · ipureintro; exact h
  iexact H

/-- One strand's resource taken out, and put back at another stage. -/
theorem Ks_focus {c : Dev nD} {ms : Ms} (hl : ms.sg.length = 40) (κ : Strand) (m n : ℕ) (hm : ms.at κ = m) (ms' : Ms) (hs : ms'.sg = put ms.sg κ n) :
    (bigSep Finset.univ fun κ' : Strand => Ks X κ' c (ms.at κ'))
      ⊢ iprop(Ks X κ c m ∗ (Ks X κ c n -∗ bigSep Finset.univ fun κ' : Strand => Ks X κ' c (ms'.at κ'))) := by
  have h := bigSep_focus (F := F) κ (fun κ' : Strand => Ks X κ' c (ms.at κ')) (fun κ' : Strand => Ks X κ' c (ms'.at κ'))
    (fun j hj => by unfold Ms.at; rw [hs, at_put_ne _ hj])
  have e : ms'.at κ = n := by unfold Ms.at; rw [hs, at_put_self hl]
  rw [e] at h; rw [hm] at h; exact h

theorem Ks_same {c : Dev nD} {ms : Ms} (κ : Strand) (m : ℕ) (hm : ms.at κ = m) :
    (bigSep Finset.univ fun κ' : Strand => Ks X κ' c (ms.at κ'))
      ⊢ iprop(Ks X κ c m ∗ (Ks X κ c m -∗ bigSep Finset.univ fun κ' : Strand => Ks X κ' c (ms.at κ'))) := by
  have h := bigSep_focus (F := F) κ (fun κ' : Strand => Ks X κ' c (ms.at κ')) (fun κ' : Strand => Ks X κ' c (ms.at κ')) (fun j hj => rfl)
  rw [hm] at h; exact h

/-- Issuing a copy. -/
theorem step_snd {c n : Dev nD} {κ : Strand} {ag : Bool} {h : Fin 3} {l : List Op}
    {M dst : Memref sig .tc .vmem S128x128 .f32} {sS sR : DmaSem sig}
    {hsc : (dst : Memref sig (Dev.tc n : Thread nD τ).2.kind .vmem S128x128 .f32).view.ref.isScScratch = false}
    {hsrc : M.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (hn : n = nxt κ c) (hM : M = srcM κ ag h c) (hd : dst = slot κ ag h) (hS : sS = tsem false (κ, ag, h)) (hR : sR = tsem true (κ, ag, h))
    (hk : St X K c l ⊢ wp frame (wpE (defs₀ (F := F)) 𝒱₀ (c : Thread nD τ) none) Set.univ (k ⟨⟩) Q) :
    St X K c (.snd κ ag h :: l) ⊢ wp frame (wpE (defs₀ (F := F)) 𝒱₀ (c : Thread nD τ) none) Set.univ
      (.op (.enqueueDma M (.remote (Dev.tc n : Thread nD τ) dst (.dma sS) hsc) (.dma sR) hsrc hdst hsem) k) Q := by
  subst hM hd hS hR
  refine St_cons X K fun ms ms' W hs hc => ?_
  simp only [stp, Option.ite_none_right_eq_some, Option.some.injEq] at hs
  obtain ⟨⟨hl, hns, hnw, ha⟩, rfl⟩ := hs
  obtain ⟨q, v, Fr, hsd, hK⟩ := src_ok X κ ag h c
  have hSB := bigSep_focus (F := F) (κ, ag, h) (fun t : Tr => SB X ms.ns ms.nw c t) (fun t : Tr => SB X (ms.ns + 1) ms.nw c t) (fun t ht => SB_ne X ht hns)
  rw [show SB X ms.ns ms.nw c (κ, ag, h) = iprop((dutyTok ER (sendCell (κ, ag, h) c) 0 (false, false) ∗ dutyTok ER (recvCell (κ, ag, h) (nxt κ c)) 0 (false, false) ∗ atPos ER (sendCell (κ, ag, h) c) 0 ∅ 0)
      ∗ ownX (F := F) (nxt κ c) (slot κ ag h)) by unfold SB; rw [if_neg (by omega)],
    show SB X (ms.ns + 1) ms.nw c (κ, ag, h) = iprop(cred (tallyAt (sendCell (κ, ag, h) c) () N) ∗ atPos ER (sendCell (κ, ag, h) c) 0 ∅ 0) by
      unfold SB; rw [if_pos (by omega), if_neg (by omega)]] at hSB
  unfold Res
  iintro ⟨⟨#HR, #HL⟩, HO, HX, HK, HS, HV, HU⟩
  ihave HK := (Ks_focus X hl κ _ (sndAt ag h + 1) ha { ms with ns := ms.ns + 1, sg := put ms.sg κ (sndAt ag h + 1) } rfl) $$ HK
  icases HK with ⟨HK, HKb⟩
  ihave HK := hK $$ HK
  icases HK with ⟨Hsrc, HF, HK⟩
  ihave HS := hSB $$ HS
  icases HS with ⟨⟨⟨Ht1, Ht2, Hat⟩, Hd⟩, HSb⟩
  ihave HO := (Entails.of_eq (show owes (c : Thread nD τ) (owe c ms.ns) W = owes (c : Thread nD τ) (owe c (ixS (κ, ag, h))) W by rw [hns])) $$ HO
  iapply (send_any X K c n κ ag h hn _ q v Fr hsd W) $$ [Hsrc HF HO Ht1 Ht2 Hd]
  · isplitr; · iexact HR
    isplitl [Hsrc]; · iexact Hsrc
    isplitl [HF]; · iexact HF
    isplitl [HO]; · iexact HO
    isplitl [Ht1 Ht2]
    · isplitl [Ht1]; · iexact Ht1
      iexact Ht2
    iexact Hd
  iintro ⟨Hc, HO⟩
  iapply hk
  iapply (St_of X K W hc)
  unfold Res
  isplitr
  · isplitl; · iexact HR
    iexact HL
  isplitl [HO]
  · iapply (Entails.of_eq (show owes (c : Thread nD τ) (owe c (ixS (κ, ag, h) + 1)) W = owes (c : Thread nD τ) (owe c (ms.ns + 1)) W by rw [hns])); iexact HO
  isplitl [HX]; · iexact HX
  isplitl [HK HKb]
  · iapply HKb; iexact HK
  isplitl [Hc Hat HSb]
  · iapply HSb
    isplitl [Hc]; · iexact Hc
    iexact Hat
  isplitl [HV] <;> iassumption

/-- Waiting for a landing. -/
theorem step_rcv {c : Dev nD} {κ : Strand} {ag : Bool} {h : Fin 3} {l : List Op} {sR : DmaSem sig}
    {src dst : Memref sig .tc .vmem S128x128 .f32} {hsrc : src.view.WordExact} {hdst : dst.view.WordExact}
    {α : Type} {Q : α → sProp 𝕄} {k : PUnit → Prog (TpuEff nD τ sig (Elt F) Λ₀ .tc) α}
    (hR : sR = tsem true (κ, ag, h)) (hN : dst.view.dmaCredit = N)
    (hk : St X K c l ⊢ wp frame (wpE (defs₀ (F := F)) 𝒱₀ (c : Thread nD τ) none) Set.univ (k ⟨⟩) Q) :
    St X K c (.rcv κ ag h :: l) ⊢ wp frame (wpE (defs₀ (F := F)) 𝒱₀ (c : Thread nD τ) none) Set.univ (.op (.waitDma2 sR src dst hsrc hdst) k) Q := by
  subst hR
  refine St_cons X K fun ms ms' W hs hc => ?_
  simp only [stp, Option.ite_none_right_eq_some, Option.some.injEq] at hs
  obtain ⟨⟨hl, hnr, hlt, ha⟩, rfl⟩ := hs
  have hRB := bigSep_focus (F := F) (κ, ag, h) (fun t : Tr => RB (F := F) ms.nr c t) (fun t : Tr => RB (F := F) (ms.nr + 1) c t) (fun t ht => RB_ne ht hnr)
  rw [show RB (F := F) ms.nr c (κ, ag, h) = iprop(cred (tallyAt (recvCell (κ, ag, h) c) () N) ∗ atPos ER (recvCell (κ, ag, h) c) 0 ∅ 0) by unfold RB; rw [if_neg (by omega)],
    show RB (F := F) (ms.nr + 1) c (κ, ag, h) = semVal (recvCell (κ, ag, h) c) 0 by unfold RB; rw [if_pos (by omega)]] at hRB
  unfold Res
  iintro ⟨⟨#HR, #HL⟩, HO, HX, HK, HS, HV, HU⟩
  ihave HK := (Ks_focus X hl κ _ (rcvAt ag h + 1) ha { ms with nr := ms.nr + 1, sg := put ms.sg κ (rcvAt ag h + 1) } rfl) $$ HK
  icases HK with ⟨HK, HKb⟩
  ihave HV := hRB $$ HV
  icases HV with ⟨⟨Hc, Hat⟩, HVb⟩
  ihave #HI := (inv_of X K (c, some (true, (κ, ag, h)))) $$ HR
  iapply (Rounds.wp_wait_rest_token 𝒱₀ ER (ringRd X) (c : Thread nD τ) none (κ := K (c, some (true, (κ, ag, h))))
      (wpE_waitDma2_eq 𝒱₀ (c : Thread nD τ) none Set.univ) (Set.mem_univ _) () (O := owe c ms.ns) (W := W) (R := 0) (m := 0) (T := ∅)
      (by rw [Nat.zero_add, hN]; exact (expect_at X true (κ, ag, h) c).symm)) $$ [Hc HO Hat]
  · isplitr; · iexact HI
    isplitl [Hc]
    · iapply (Entails.of_eq (show cred (tallyAt (recvCell (κ, ag, h) c) () N) = cred (tallyAt (recvCell (κ, ag, h) c) () dst.view.dmaCredit) by rw [hN])); iexact Hc
    isplitl [HO]; · iexact HO
    isplitr; · iapply (mayWait_recv c (κ, ag, h) ms.ns (by omega)); iexact HL
    iexact Hat
  iintro ⟨HO, Hat, -, Hpay⟩
  ihave Hpay := (Entails.of_eq (rest_recv X (κ, ag, h) c)) $$ Hpay
  imod (Rounds.cell_close ER (ringRd X) (Set.mem_univ (K (c, some (true, (κ, ag, h))))) (fun h => h) (R := 0 + 1) (duties_later X (recvCell (κ, ag, h) c))) $$ [Hat] with Hz
  · isplitr; · iexact HI
    iexact Hat
  iapply hk
  iapply (St_of X K (insert (SemLoc.dma (tsem true (κ, ag, h)), ()) W) hc)
  unfold Res
  isplitr
  · isplitl; · iexact HR
    iexact HL
  isplitl [HO]; · iexact HO
  isplitl [HX]; · iexact HX
  isplitl [HK HKb Hpay]
  · iapply HKb
    iapply (rcv_ok X κ ag h c)
    isplitl [HK]; · iexact HK
    iexact Hpay
  isplitl [HS]; · iexact HS
  isplitl [Hz HVb]
  · iapply HVb; iexact Hz
  iexact HU

/-- Waiting for a copy to have been read. -/
theorem step_cls {c : Dev nD} {κ : Strand} {ag : Bool} {h : Fin 3} {l : List Op} {sS : DmaSem sig}
    {src dst : Memref sig .tc .vmem S128x128 .f32} {hsrc : src.view.WordExact} {hdst : dst.view.WordExact}
    {α : Type} {Q : α → sProp 𝕄} {k : PUnit → Prog (TpuEff nD τ sig (Elt F) Λ₀ .tc) α}
    (hS : sS = tsem false (κ, ag, h)) (hN : dst.view.dmaCredit = N)
    (hk : St X K c l ⊢ wp frame (wpE (defs₀ (F := F)) 𝒱₀ (c : Thread nD τ) none) Set.univ (k ⟨⟩) Q) :
    St X K c (.cls κ ag h :: l) ⊢ wp frame (wpE (defs₀ (F := F)) 𝒱₀ (c : Thread nD τ) none) Set.univ (.op (.waitDma2 sS src dst hsrc hdst) k) Q := by
  subst hS
  refine St_cons X K fun ms ms' W hs hc => ?_
  simp only [stp, Option.ite_none_right_eq_some, Option.some.injEq] at hs
  obtain ⟨⟨hnw, hns⟩, rfl⟩ := hs
  have hlt : ixS (κ, ag, h) < ms.ns := hns ▸ ixS_lt _
  have hSB := bigSep_focus (F := F) (κ, ag, h) (fun t : Tr => SB X ms.ns ms.nw c t) (fun t : Tr => SB X ms.ns (ms.nw + 1) c t) (fun t ht => SB_neW X ht hnw)
  rw [show SB X ms.ns ms.nw c (κ, ag, h) = iprop(cred (tallyAt (sendCell (κ, ag, h) c) () N) ∗ atPos ER (sendCell (κ, ag, h) c) 0 ∅ 0) by
      unfold SB; rw [if_pos hlt, if_neg (by omega)],
    show SB X ms.ns (ms.nw + 1) c (κ, ag, h) = iprop(semVal (sendCell (κ, ag, h) c) 0 ∗ sendPay X κ ag h c) by
      unfold SB; rw [if_pos hlt, if_pos (by omega)]] at hSB
  unfold Res
  iintro ⟨⟨#HR, #HL⟩, HO, HX, HK, HS, HV, HU⟩
  ihave HS := hSB $$ HS
  icases HS with ⟨⟨Hc, Hat⟩, HSb⟩
  ihave #HI := (inv_of X K (c, some (false, (κ, ag, h)))) $$ HR
  iapply (Rounds.wp_wait_rest_token 𝒱₀ ER (ringRd X) (c : Thread nD τ) none (κ := K (c, some (false, (κ, ag, h))))
      (wpE_waitDma2_eq 𝒱₀ (c : Thread nD τ) none Set.univ) (Set.mem_univ _) () (O := owe c ms.ns) (W := W) (R := 0) (m := 0) (T := ∅)
      (by rw [Nat.zero_add, hN]; exact (expect_at X false (κ, ag, h) c).symm)) $$ [Hc HO Hat]
  · isplitr; · iexact HI
    isplitl [Hc]
    · iapply (Entails.of_eq (show cred (tallyAt (sendCell (κ, ag, h) c) () N) = cred (tallyAt (sendCell (κ, ag, h) c) () dst.view.dmaCredit) by rw [hN])); iexact Hc
    isplitl [HO]; · iexact HO
    isplitr; · rw [hns, owe_end, MayWait_zero]; iempintro
    iexact Hat
  iintro ⟨HO, Hat, -, Hpay⟩
  ihave Hpay := (Entails.of_eq (rest_send X (κ, ag, h) c)) $$ Hpay
  imod (Rounds.cell_close ER (ringRd X) (Set.mem_univ (K (c, some (false, (κ, ag, h))))) (fun h => h) (R := 0 + 1) (duties_later X (sendCell (κ, ag, h) c))) $$ [Hat] with Hz
  · isplitr; · iexact HI
    iexact Hat
  iapply hk
  iapply (St_of X K (insert (SemLoc.dma (tsem false (κ, ag, h)), ()) W) hc)
  unfold Res
  isplitr
  · isplitl; · iexact HR
    iexact HL
  isplitl [HO]; · iexact HO
  isplitl [HX]; · iexact HX
  isplitl [HK]; · iexact HK
  isplitl [Hz Hpay HSb]
  · iapply HSb
    isplitl [Hz]; · iexact Hz
    iexact Hpay
  isplitl [HV] <;> iassumption

/-! ## Loads and stores -/

/-- The side conditions of a load or a store of tile `(κ, ag, h)`: the strand is before its store. -/
theorem sto_inv {κ : Strand} {ag : Bool} {h : Fin 3} {ms ms' : Ms} (hs : stp (.sto κ ag h) ms = some ms') :
    (ms.sg.length = 40 ∧ ixS (κ, ag, h) = ms.nu ∧ ms.at κ = stoAt ag h) ∧ { ms with nu := ms.nu + 1, sg := put ms.sg κ (stoTo ag h) } = ms' := by
  simpa only [stp, Option.ite_none_right_eq_some, Option.some.injEq] using hs

/-- An operation that only reads, at step `(κ, ag, h)`. -/
def Looks (o : Op) (κ : Strand) (ag : Bool) (h : Fin 3) : Prop := ∀ ms, stp o ms = if ms.at κ = stoAt ag h then some ms else none

theorem looks {o : Op} {κ : Strand} {ag : Bool} {h : Fin 3} (ho : Looks o κ ag h) {ms ms' : Ms} (hs : stp o ms = some ms') : ms.at κ = stoAt ag h ∧ ms = ms' := by
  rw [ho ms] at hs
  simpa only [Option.ite_none_right_eq_some, Option.some.injEq] using hs

/-- Loading through the rectangle a squeezed slice was cut at reads the slice. -/
theorem load_sq {s : Shape} (c : Dev nD) (M : Memref sig .tc .vmem s .f32) (r : Rect s) (hr : ∀ a, r.stride a = 1) (hq : r.shape.Squeezes S128x128)
    (hc : r.shape.ShapeCasts S128x128) (q : PosShare TreeShare) (v : Vec F S128x128 .f32) {hl : M.view.LoadsAt r.toLoadRect}
    {α : Type} {Q : α → sProp 𝕄} {k : (r.toLoadRect.shape.Idx → Elt F .f32) → Prog (TpuEff nD τ sig (Elt F) Λ₀ .tc) α} :
    own c ((M.slice r hr).squeeze S128x128 hq) q v
      ⊢ iprop((∀ v', ⌜shapeCast S128x128 v' hc = v⌝ -∗ own c ((M.slice r hr).squeeze S128x128 hq) q v
            -∗ wp frame (wpE (defs₀ (F := F)) 𝒱₀ (c : Thread nD τ) none) Set.univ (k v') Q)
          -∗ wp frame (wpE (defs₀ (F := F)) 𝒱₀ (c : Thread nD τ) none) Set.univ (.op (.load M r.toLoadRect hl) k) Q) := by
  unfold own owns
  iintro ⟨%f, %hf, H⟩
  iintro Hk
  iapply (wp_load_rect 𝒱₀ (c : Thread nD τ) none Set.univ (m := M) (r := r) (hS := (Finset.Subset.refl _).trans (Finset.Subset.antisymm_iff.1 ((M.view.slice r).set_reshape hq.numel_eq)).2)) $$ H
  iintro H
  iapply Hk $$ [] [H]
  · ipureintro; exact hf
  · iexists f; isplitr; · ipureintro; exact hf
    iexact H

/-- Loading a tile of the result reads it. -/
theorem load_o (c : Dev nD) (t : Tile) (q : PosShare TreeShare) (v : Vec F S128x128 .f32) {hl : oM.view.LoadsAt (oR t).toLoadRect}
    {α : Type} {Q : α → sProp 𝕄} {k : ((oR t).toLoadRect.shape.Idx → Elt F .f32) → Prog (TpuEff nD τ sig (Elt F) Λ₀ .tc) α} :
    own c (oT t) q v
      ⊢ iprop((own c (oT t) q v -∗ wp frame (wpE (defs₀ (F := F)) 𝒱₀ (c : Thread nD τ) none) Set.univ (k v) Q)
          -∗ wp frame (wpE (defs₀ (F := F)) 𝒱₀ (c : Thread nD τ) none) Set.univ (.op (.load oM (oR t).toLoadRect hl) k) Q) := by
  unfold own owns
  iintro ⟨%f, %hf, H⟩
  iintro Hk
  iapply (wp_load_rect 𝒱₀ (c : Thread nD τ) none Set.univ (m := oM) (r := oR t) (S := (oT t).view.set) (f := f) (hl := hl) (k := k) (hS := Finset.Subset.refl _)) $$ H
  iintro H
  subst hf
  iapply Hk
  iexists f; isplitr; · ipureintro; rfl
  iexact H

/-- Storing into a tile of the result. -/
theorem store_o (c : Dev nD) (t : Tile) (v w : Vec F S128x128 .f32) {hx : (oM.access (oR t)).Stores Finset.univ} {hm}
    {α : Type} {Q : α → sProp 𝕄} {k : PUnit → Prog (TpuEff nD τ sig (Elt F) Λ₀ .tc) α} :
    own c (oT t) fullShare v
      ⊢ iprop((own c (oT t) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store oM (oR t) w Finset.univ hx hm) k) Q) := by
  unfold own owns
  iintro ⟨%f, %hf, H⟩
  iintro Hk
  iapply (wp_store 𝒱₀ (c : Thread nD τ) none Set.univ (m := oM) (r := oR t) (Mk := Finset.univ) (S := (oT t).view.set) (f := f) (hx := hx) (hm := hm) (k := k) (hS := Finset.Subset.refl _)) $$ H
  iintro H
  iapply Hk
  have hd := landed c (oT t) f w w rfl
  unfold own owns at hd
  iapply hd; iexact H

/-- What a load sees of the slot: the state stays. -/
theorem look_slot {c : Dev nD} {κ : Strand} {ag : Bool} {h : Fin 3} {l : List Op} {o : Op} (ho : Looks o κ ag h) :
    St X K c (o :: l) ⊢ iprop(own c (slot κ ag h) (slotQ ag h) (sval X κ ag h c)
      ∗ (own c (slot κ ag h) (slotQ ag h) (sval X κ ag h c) -∗ St X K c l)) := by
  refine St_cons X K fun ms ms' W hs hc => ?_
  obtain ⟨ha, rfl⟩ := looks ho hs
  unfold Res
  iintro ⟨HR, HO, HX, HK, HS⟩
  ihave HK := (Ks_same X κ _ ha) $$ HK
  icases HK with ⟨HK, HKb⟩
  ihave HK := (sto_ok X κ ag h c) $$ HK
  icases HK with ⟨%v, %hv, Hs, Ht, Hb⟩
  isplitl [Hs]; · iexact Hs
  iintro Hs
  iapply (St_of X K W hc)
  unfold Res
  isplitl [HR]; · iexact HR
  isplitl [HO]; · iexact HO
  isplitl [HX]; · iexact HX
  isplitl [HKb Hb Ht Hs]
  · iapply HKb
    icases Hb with ⟨Hb, -⟩
    iapply Hb $$ Ht Hs
  iexact HS

/-- And of the tile. -/
theorem look_tile {c : Dev nD} {κ : Strand} {ag : Bool} {h : Fin 3} {l : List Op} {o : Op} (ho : Looks o κ ag h) :
    St X K c (o :: l) ⊢ iprop(∃ v, ⌜old X κ ag c h v⌝ ∗ own c (tl κ c (stoI ag h)) fullShare v
      ∗ (own c (tl κ c (stoI ag h)) fullShare v -∗ St X K c l)) := by
  refine St_cons X K fun ms ms' W hs hc => ?_
  obtain ⟨ha, rfl⟩ := looks ho hs
  unfold Res
  iintro ⟨HR, HO, HX, HK, HS⟩
  ihave HK := (Ks_same X κ _ ha) $$ HK
  icases HK with ⟨HK, HKb⟩
  ihave HK := (sto_ok X κ ag h c) $$ HK
  icases HK with ⟨%v, %hv, Hs, Ht, Hb⟩
  iexists v
  isplitr; · ipureintro; exact hv
  isplitl [Ht]; · iexact Ht
  iintro Ht
  iapply (St_of X K W hc)
  unfold Res
  isplitl [HR]; · iexact HR
  isplitl [HO]; · iexact HO
  isplitl [HX]; · iexact HX
  isplitl [HKb Hb Ht Hs]
  · iapply HKb
    icases Hb with ⟨Hb, -⟩
    iapply Hb $$ Ht Hs
  iexact HS

/-- And of the operand. -/
theorem look_x {c : Dev nD} {κ : Strand} {ag : Bool} {h : Fin 3} {l : List Op} {o : Op} (ho : Looks o κ ag h) :
    St X K c (o :: l) ⊢ iprop(xL X c ∗ (xL X c -∗ St X K c l)) := by
  refine St_cons X K fun ms ms' W hs hc => ?_
  obtain ⟨ha, rfl⟩ := looks ho hs
  unfold Res
  iintro ⟨HR, HO, HX, HK⟩
  isplitl [HX]; · iexact HX
  iintro HX
  iapply (St_of X K W hc)
  unfold Res
  isplitl [HR]; · iexact HR
  isplitl [HO]; · iexact HO
  isplitl [HX] <;> iassumption

/-- The store of a strand's step. -/
theorem take_sto {c : Dev nD} {κ : Strand} {ag : Bool} {h : Fin 3} {l : List Op} :
    St X K c (.sto κ ag h :: l) ⊢ iprop(∃ v, own c (tl κ c (stoI ag h)) fullShare v
      ∗ (own c (tl κ c (stoI ag h)) fullShare (stoV X κ ag h c) -∗ St X K c l)) := by
  refine St_cons X K fun ms ms' W hs hc => ?_
  obtain ⟨⟨hl, hnu, ha⟩, rfl⟩ := sto_inv hs
  have hUB := bigSep_focus (F := F) (κ, ag, h) (fun t : Tr => UB X ms.nu c t) (fun t : Tr => UB X (ms.nu + 1) c t) (fun t ht => UB_ne X ht hnu)
  rw [show UB X ms.nu c (κ, ag, h) = iprop(emp) by unfold UB; rw [if_neg (by omega)],
    show UB X (ms.nu + 1) c (κ, ag, h) = own c (slot κ ag h) (slotQ ag h) (sval X κ ag h c) by unfold UB; rw [if_pos (by omega)]; rfl] at hUB
  unfold Res
  iintro ⟨HR, HO, HX, HK, HS, HV, HU⟩
  ihave HK := (Ks_focus X hl κ _ (stoTo ag h) ha { ms with nu := ms.nu + 1, sg := put ms.sg κ (stoTo ag h) } rfl) $$ HK
  icases HK with ⟨HK, HKb⟩
  ihave HK := (sto_ok X κ ag h c) $$ HK
  icases HK with ⟨%v, %hv, Hs, Ht, Hb⟩
  ihave HU := hUB $$ HU
  icases HU with ⟨-, HUb⟩
  iexists v
  isplitl [Ht]; · iexact Ht
  iintro Ht
  iapply (St_of X K W hc)
  unfold Res
  isplitl [HR]; · iexact HR
  isplitl [HO]; · iexact HO
  isplitl [HX]; · iexact HX
  isplitl [HKb Hb Ht]
  · iapply HKb
    icases Hb with ⟨-, Hb⟩
    iapply Hb $$ Ht
  isplitl [HS]; · iexact HS
  isplitl [HV]; · iexact HV
  iapply HUb; iexact Hs

/-- Loading from a plane strand's slot. -/
theorem step_ldP {c : Dev nD} {d : Bool} {b s : Fin 4} {ag : Bool} {h : Fin 3} {l : List Op} {off : Fin 5 → ℕ}
    {inb : ∀ a, off a + S1x1x1x128x128.size a ≤ S4x3x4x128x128.size a}
    {hl : (slotP ag d).view.LoadsAt (Rect.unit (s := S4x3x4x128x128) off S1x1x1x128x128.size inb).toLoadRect}
    {α : Type} {Q : α → sProp 𝕄} {k : Vec F S1x1x1x128x128 .f32 → Prog (TpuEff nD τ sig (Elt F) Λ₀ .tc) α}
    (ho : off = offP b h s)
    (hk : ∀ v, shapeCast S128x128 v shapeCasts_S1x1x1x128x128_S128x128 = sval X (.pl d b s) ag h c →
      St X K c l ⊢ wp frame (wpE (defs₀ (F := F)) 𝒱₀ (c : Thread nD τ) none) Set.univ (k v) Q) :
    St X K c (.ldS (.pl d b s) ag h :: l) ⊢ wp frame (wpE (defs₀ (F := F)) 𝒱₀ (c : Thread nD τ) none) Set.univ
      (.op (.load (slotP ag d) (Rect.unit (s := S4x3x4x128x128) off S1x1x1x128x128.size inb).toLoadRect hl) k) Q := by
  subst ho
  iintro H
  ihave H := (look_slot X K (fun _ => rfl)) $$ H
  icases H with ⟨Hs, Hb⟩
  ihave Hs := (Entails.of_eq (show own c (slot (.pl d b s) ag h) (slotQ ag h) (sval X (.pl d b s) ag h c) = own c (((slotP ag d).slice (rP b h s) (fun _ => rfl)).squeeze S128x128 squeezes_S1x1x1x128x128_S128x128) (slotQ ag h) (sval X (.pl d b s) ag h c) from rfl)) $$ Hs
  iapply (load_sq c (slotP ag d) (rP b h s) (fun _ => rfl) squeezes_S1x1x1x128x128_S128x128 shapeCasts_S1x1x1x128x128_S128x128 (slotQ ag h) (sval X (.pl d b s) ag h c) (hl := hl) (k := k)) $$ Hs
  iintro %v %hv Hs
  ihave Hs := (Entails.of_eq (show own c (((slotP ag d).slice (rP b h s) (fun _ => rfl)).squeeze S128x128 squeezes_S1x1x1x128x128_S128x128) (slotQ ag h) (sval X (.pl d b s) ag h c) = own c (slot (.pl d b s) ag h) (slotQ ag h) (sval X (.pl d b s) ag h c) from rfl)) $$ Hs
  iapply (hk v hv)
  iapply Hb; iexact Hs

/-- Loading from the slot of a strand across planes. -/
theorem step_ldZ {c : Dev nD} {d : Bool} {b : Fin 4} {ag : Bool} {h : Fin 3} {l : List Op} {off : Fin 4 → ℕ}
    {inb : ∀ a, off a + S1x1x128x128.size a ≤ S4x3x128x128.size a}
    {hl : (slotZ ag d).view.LoadsAt (Rect.unit (s := S4x3x128x128) off S1x1x128x128.size inb).toLoadRect}
    {α : Type} {Q : α → sProp 𝕄} {k : Vec F S1x1x128x128 .f32 → Prog (TpuEff nD τ sig (Elt F) Λ₀ .tc) α}
    (ho : off = offZ b h)
    (hk : ∀ v, shapeCast S128x128 v shapeCasts_S1x1x128x128_S128x128 = sval X (.zz d b) ag h c →
      St X K c l ⊢ wp frame (wpE (defs₀ (F := F)) 𝒱₀ (c : Thread nD τ) none) Set.univ (k v) Q) :
    St X K c (.ldS (.zz d b) ag h :: l) ⊢ wp frame (wpE (defs₀ (F := F)) 𝒱₀ (c : Thread nD τ) none) Set.univ
      (.op (.load (slotZ ag d) (Rect.unit (s := S4x3x128x128) off S1x1x128x128.size inb).toLoadRect hl) k) Q := by
  subst ho
  iintro H
  ihave H := (look_slot X K (fun _ => rfl)) $$ H
  icases H with ⟨Hs, Hb⟩
  ihave Hs := (Entails.of_eq (show own c (slot (.zz d b) ag h) (slotQ ag h) (sval X (.zz d b) ag h c) = own c (((slotZ ag d).slice (rZ b h) (fun _ => rfl)).squeeze S128x128 squeezes_S1x1x128x128_S128x128) (slotQ ag h) (sval X (.zz d b) ag h c) from rfl)) $$ Hs
  iapply (load_sq c (slotZ ag d) (rZ b h) (fun _ => rfl) squeezes_S1x1x128x128_S128x128 shapeCasts_S1x1x128x128_S128x128 (slotQ ag h) (sval X (.zz d b) ag h c) (hl := hl) (k := k)) $$ Hs
  iintro %v %hv Hs
  ihave Hs := (Entails.of_eq (show own c (((slotZ ag d).slice (rZ b h) (fun _ => rfl)).squeeze S128x128 squeezes_S1x1x128x128_S128x128) (slotQ ag h) (sval X (.zz d b) ag h c) = own c (slot (.zz d b) ag h) (slotQ ag h) (sval X (.zz d b) ag h c) from rfl)) $$ Hs
  iapply (hk v hv)
  iapply Hb; iexact Hs

/-- Loading the tile a step stores into. -/
theorem step_ldO {c : Dev nD} {κ : Strand} {ag : Bool} {h : Fin 3} {l : List Op} {off : Fin 2 → ℕ}
    {inb : ∀ a, off a + S128x128.size a ≤ S2048x1024.size a}
    {hl : oM.view.LoadsAt (Rect.unit (s := S2048x1024) off S128x128.size inb).toLoadRect}
    {α : Type} {Q : α → sProp 𝕄} {k : Vec F S128x128 .f32 → Prog (TpuEff nD τ sig (Elt F) Λ₀ .tc) α}
    (ho : off = (tileOf κ c (stoI ag h)).off)
    (hk : ∀ v, old X κ ag c h v → St X K c l ⊢ wp frame (wpE (defs₀ (F := F)) 𝒱₀ (c : Thread nD τ) none) Set.univ (k v) Q) :
    St X K c (.ldO κ ag h :: l) ⊢ wp frame (wpE (defs₀ (F := F)) 𝒱₀ (c : Thread nD τ) none) Set.univ
      (.op (.load oM (Rect.unit (s := S2048x1024) off S128x128.size inb).toLoadRect hl) k) Q := by
  subst ho
  iintro H
  ihave H := (look_tile X K (fun _ => rfl)) $$ H
  icases H with ⟨%v, %hv, Ht, Hb⟩
  iapply (load_o c (tileOf κ c (stoI ag h)) fullShare v (hl := hl) (k := k)) $$ Ht
  iintro Ht
  iapply (hk v hv)
  iapply Hb; iexact Ht

/-- Loading the tile a reducing strand across planes adds into. -/
theorem step_ldA {c : Dev nD} {d : Bool} {b : Fin 4} {h : Fin 3} {l : List Op} {off : Fin 2 → ℕ}
    {inb : ∀ a, off a + S128x128.size a ≤ S2048x1024.size a}
    {hl : oM.view.LoadsAt (Rect.unit (s := S2048x1024) off S128x128.size inb).toLoadRect}
    {α : Type} {Q : α → sProp 𝕄} {k : Vec F S128x128 .f32 → Prog (TpuEff nD τ sig (Elt F) Λ₀ .tc) α}
    (ho : off = (tileOf (.zz d b) c (h.val + 1)).off)
    (hk : ∀ z, z = zIn X d b c (h.val + 1) → St X K c l ⊢ wp frame (wpE (defs₀ (F := F)) 𝒱₀ (c : Thread nD τ) none) Set.univ (k z) Q) :
    St X K c (.ldA (.zz d b) false h :: l) ⊢ wp frame (wpE (defs₀ (F := F)) 𝒱₀ (c : Thread nD τ) none) Set.univ
      (.op (.load oM (Rect.unit (s := S2048x1024) off S128x128.size inb).toLoadRect hl) k) Q := by
  subst ho
  iintro H
  have hh : St X K c (.ldA (.zz d b) false h :: l) ⊢ iprop(∃ v, ⌜v = zIn X d b c (h.val + 1)⌝ ∗ own c (tl (.zz d b) c (h.val + 1)) fullShare v
      ∗ (own c (tl (.zz d b) c (h.val + 1)) fullShare v -∗ St X K c l)) := look_tile X K (κ := .zz d b) (ag := false) (h := h) (fun _ => rfl)
  ihave H := hh $$ H
  icases H with ⟨%v, %hv, Ht, Hb⟩
  obtain rfl : v = zIn X d b c (h.val + 1) := hv
  iapply (load_o c (tileOf (.zz d b) c (h.val + 1)) fullShare (zIn X d b c (h.val + 1)) (hl := hl) (k := k)) $$ Ht
  iintro Ht
  iapply (hk _ rfl)
  iapply Hb; iexact Ht

/-- Loading a tile of the operand. -/
theorem step_ldX {c : Dev nD} {κ : Strand} {h : Fin 3} {l : List Op} {off : Fin 3 → ℕ}
    {inb : ∀ a, off a + S1x128x128.size a ≤ S1x2048x1024.size a}
    {hl : xM.view.LoadsAt (Rect.unit (s := S1x2048x1024) off S1x128x128.size inb).toLoadRect}
    {α : Type} {Q : α → sProp 𝕄} {k : Vec F S1x128x128 .f32 → Prog (TpuEff nD τ sig (Elt F) Λ₀ .tc) α}
    (ho : off = (tileOf κ c (h.val + 1)).off3)
    (hk : ∀ x, x = xld (X c) (tileOf κ c (h.val + 1)) → St X K c l ⊢ wp frame (wpE (defs₀ (F := F)) 𝒱₀ (c : Thread nD τ) none) Set.univ (k x) Q) :
    St X K c (.ldX κ false h :: l) ⊢ wp frame (wpE (defs₀ (F := F)) 𝒱₀ (c : Thread nD τ) none) Set.univ
      (.op (.load xM (Rect.unit (s := S1x2048x1024) off S1x128x128.size inb).toLoadRect hl) k) Q := by
  subst ho
  iintro H
  ihave H := (look_x X K (fun _ => rfl)) $$ H
  icases H with ⟨Hx, Hb⟩
  unfold xL owns
  icases Hx with ⟨%f, %hf, Hx⟩
  obtain rfl : f = X c := hf
  iapply (wp_load_rect 𝒱₀ (c : Thread nD τ) none Set.univ (m := xM) (r := xR (tileOf κ c (h.val + 1))) (hS := View.set_slice_subset _ _)) $$ Hx
  iintro Hx
  iapply (hk _ rfl)
  iapply Hb
  iexists (X c)
  isplitr; · ipureintro; rfl
  iexact Hx

/-- Storing a step's value. -/
theorem step_sto {c : Dev nD} {κ : Strand} {ag : Bool} {h : Fin 3} {l : List Op} {off : Fin 2 → ℕ} {w : Vec F S128x128 .f32}
    {inb : ∀ a, off a + S128x128.size a ≤ S2048x1024.size a}
    {hx : (oM.access (Rect.unit (s := S2048x1024) off S128x128.size inb)).Stores Finset.univ} {hm}
    {α : Type} {Q : α → sProp 𝕄} {k : PUnit → Prog (TpuEff nD τ sig (Elt F) Λ₀ .tc) α}
    (ho : off = (tileOf κ c (stoI ag h)).off) (hw : w = stoV X κ ag h c)
    (hk : St X K c l ⊢ wp frame (wpE (defs₀ (F := F)) 𝒱₀ (c : Thread nD τ) none) Set.univ (k ⟨⟩) Q) :
    St X K c (.sto κ ag h :: l) ⊢ wp frame (wpE (defs₀ (F := F)) 𝒱₀ (c : Thread nD τ) none) Set.univ
      (.op (.store oM (Rect.unit (s := S2048x1024) off S128x128.size inb) w Finset.univ hx hm) k) Q := by
  subst ho hw
  iintro H
  ihave H := (take_sto X K) $$ H
  icases H with ⟨%v, Ht, Hb⟩
  iapply (store_o c (tileOf κ c (stoI ag h)) v (stoV X κ ag h c) (hx := hx) (hm := hm) (k := k)) $$ Ht
  iintro Ht
  iapply hk
  iapply Hb; iexact Ht

/-- Storing a plane strand's next partial sum. -/
theorem step_stoP {c : Dev nD} {d : Bool} {b s : Fin 4} {h : Fin 3} {l : List Op} {off : Fin 2 → ℕ} {w u : Vec F S128x128 .f32} {x : Vec F S1x128x128 .f32}
    {inb : ∀ a, off a + S128x128.size a ≤ S2048x1024.size a}
    {hx : (oM.access (Rect.unit (s := S2048x1024) off S128x128.size inb)).Stores Finset.univ} {hm}
    {α : Type} {Q : α → sProp 𝕄} {k : PUnit → Prog (TpuEff nD τ sig (Elt F) Λ₀ .tc) α}
    (ho : off = (tileOf (.pl d b s) c (h.val + 1)).off) (hu : u = sval X (.pl d b s) false h c)
    (hz : x = xld (X c) (tileOf (.pl d b s) c (h.val + 1))) (hw : w = addf (shapeCast S128x128 x shapeCasts_S1x128x128_S128x128) u)
    (hk : St X K c l ⊢ wp frame (wpE (defs₀ (F := F)) 𝒱₀ (c : Thread nD τ) none) Set.univ (k ⟨⟩) Q) :
    St X K c (.sto (.pl d b s) false h :: l) ⊢ wp frame (wpE (defs₀ (F := F)) 𝒱₀ (c : Thread nD τ) none) Set.univ
      (.op (.store oM (Rect.unit (s := S2048x1024) off S128x128.size inb) w Finset.univ hx hm) k) Q :=
  step_sto X K ho (by rw [hw, hu, hz]; rfl) hk

omit [FloatOps F] in
/-- A tile cast to its own shape is the tile. -/
theorem cast_same (z : Vec F S128x128 .f32) : shapeCast S128x128 z shapeCasts_S128x128_S128x128 = z :=
  funext fun i => congrArg z (Shape.reshapeEquiv_self _ i)

/-- Storing the next partial sum of a strand across planes. -/
theorem step_stoZ {c : Dev nD} {d : Bool} {b : Fin 4} {h : Fin 3} {l : List Op} {off : Fin 2 → ℕ} {w u z : Vec F S128x128 .f32}
    {inb : ∀ a, off a + S128x128.size a ≤ S2048x1024.size a}
    {hx : (oM.access (Rect.unit (s := S2048x1024) off S128x128.size inb)).Stores Finset.univ} {hm}
    {α : Type} {Q : α → sProp 𝕄} {k : PUnit → Prog (TpuEff nD τ sig (Elt F) Λ₀ .tc) α}
    (ho : off = (tileOf (.zz d b) c (h.val + 1)).off) (hu : u = sval X (.zz d b) false h c)
    (hz : z = zIn X d b c (h.val + 1)) (hw : w = addf (shapeCast S128x128 z shapeCasts_S128x128_S128x128) u)
    (hk : St X K c l ⊢ wp frame (wpE (defs₀ (F := F)) 𝒱₀ (c : Thread nD τ) none) Set.univ (k ⟨⟩) Q) :
    St X K c (.sto (.zz d b) false h :: l) ⊢ wp frame (wpE (defs₀ (F := F)) 𝒱₀ (c : Thread nD τ) none) Set.univ
      (.op (.store oM (Rect.unit (s := S2048x1024) off S128x128.size inb) w Finset.univ hx hm) k) Q :=
  step_sto X K ho (by rw [hw, hu, hz, cast_same]; rfl) hk

/-- Storing a gathered tile. -/
theorem step_stoG {c : Dev nD} {κ : Strand} {h : Fin 3} {l : List Op} {off : Fin 2 → ℕ} {w u : Vec F S128x128 .f32}
    {inb : ∀ a, off a + S128x128.size a ≤ S2048x1024.size a}
    {hx : (oM.access (Rect.unit (s := S2048x1024) off S128x128.size inb)).Stores Finset.univ} {hm}
    {α : Type} {Q : α → sProp 𝕄} {k : PUnit → Prog (TpuEff nD τ sig (Elt F) Λ₀ .tc) α}
    (ho : off = (tileOf κ c h.val).off) (hu : u = sval X κ true h c) (hw : w = u)
    (hk : St X K c l ⊢ wp frame (wpE (defs₀ (F := F)) 𝒱₀ (c : Thread nD τ) none) Set.univ (k ⟨⟩) Q) :
    St X K c (.sto κ true h :: l) ⊢ wp frame (wpE (defs₀ (F := F)) 𝒱₀ (c : Thread nD τ) none) Set.univ
      (.op (.store oM (Rect.unit (s := S2048x1024) off S128x128.size inb) w Finset.univ hx hm) k) Q :=
  step_sto X K ho (by rw [hw, hu]; rfl) hk

end Steps

end Cert.Torus

end
-- ==== Proof.Ghost.lean ====
/-
# Where a block changes hands, and the shapes the program's operands are met in
-/
module

public import proofs.«01_k».proof.Proof.Steps

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Ghost
variable (X : Dev nD → (cc0_stg0_0 : Ref sig .tc).ty.Contents (Elt F))
variable (K : Dev nD × Option (Bool × Tr) → ℕ)

/-- A slice of the result at a tile's corner is the tile. -/
theorem oT_of {t : Tile} {off : Fin 2 → ℕ} (h : off = t.off) {inb : ∀ a, off a + S128x128.size a ≤ S2048x1024.size a}
    {hr : ∀ a, (Rect.unit (s := S2048x1024) off S128x128.size inb).stride a = 1} :
    oM.slice (Rect.unit (s := S2048x1024) off S128x128.size inb) hr = oT t := by subst h; rfl
/-- A squeezed slice of the operand at a tile's corner is the tile. -/
theorem xT_of {t : Tile} {off : Fin 3 → ℕ} (h : off = t.off3) {inb : ∀ a, off a + S1x128x128.size a ≤ S1x2048x1024.size a}
    {hr : ∀ a, (Rect.unit (s := S1x2048x1024) off S1x128x128.size inb).stride a = 1} :
    (xM.slice (Rect.unit (s := S1x2048x1024) off S1x128x128.size inb) hr).squeeze S128x128 squeezes_S1x128x128_S128x128 = xT t := by subst h; rfl

omit [FloatOps F] in
/-- The five strands of a direction and a column block, apart from the others. -/
theorem fam_split (d : Bool) (b : Fin 4) (Φ : Strand → sProp 𝕄) : bigSep Finset.univ Φ
    = iprop(((bigSep Finset.univ fun s : Fin 4 => Φ (.pl d b s)) ∗ Φ (.zz d b)) ∗ bigSep (Finset.univ.filter fun κ : Strand => ¬(κ.dir = d ∧ κ.blk = b)) Φ) := by
  have e : (Finset.univ : Finset Strand) = insert (Strand.zz d b) ((Finset.univ : Finset (Fin 4)).map ⟨fun s => Strand.pl d b s, fun s s' h => by cases h; rfl⟩)
      ∪ Finset.univ.filter fun κ : Strand => ¬(κ.dir = d ∧ κ.blk = b) := by revert d b; decide +kernel
  have hd : Disjoint (insert (Strand.zz d b) ((Finset.univ : Finset (Fin 4)).map ⟨fun s => Strand.pl d b s, fun s s' h => by cases h; rfl⟩))
      (Finset.univ.filter fun κ : Strand => ¬(κ.dir = d ∧ κ.blk = b)) := by revert d b; decide +kernel
  have hn : Strand.zz d b ∉ (Finset.univ : Finset (Fin 4)).map ⟨fun s => Strand.pl d b s, fun s s' h => by cases h; rfl⟩ := by revert d b; decide +kernel
  conv_lhs => rw [e]
  rw [BI.bigSep_union hd, BI.bigSep_insert hn, BI.bigSep_map]
  congr 1
  exact Entails.antisymm sep_comm sep_comm

omit [FloatOps F] in
theorem fam_move (d : Bool) (b : Fin 4) {Φ Ψ : Strand → sProp 𝕄} (h : ∀ κ : Strand, ¬(κ.dir = d ∧ κ.blk = b) → Φ κ = Ψ κ)
    (hm : iprop((bigSep Finset.univ fun s : Fin 4 => Φ (.pl d b s)) ∗ Φ (.zz d b)) ⊢ iprop((bigSep Finset.univ fun s : Fin 4 => Ψ (.pl d b s)) ∗ Ψ (.zz d b))) :
    bigSep Finset.univ Φ ⊢ bigSep Finset.univ Ψ := by
  rw [fam_split d b Φ, fam_split d b Ψ, bigSep_congr (Φ := Φ) (Ψ := Ψ) fun κ hκ => h κ (Finset.mem_filter.1 hκ).2]
  exact sep_mono_left hm

theorem put_length (sg : List ℕ) (κ : Strand) (n : ℕ) : (put sg κ n).length = sg.length := by unfold put; rw [List.length_set]
theorem at_put {sg : List ℕ} (hl : sg.length = 40) (κ κ' : Strand) (n : ℕ) :
    (put sg κ n).getD κ'.toFin.val 0 = if κ' = κ then n else sg.getD κ'.toFin.val 0 := by
  split
  · next h => subst h; exact at_put_self (ms := ⟨0, 0, 0, 0, sg⟩) hl κ' n
  · next h => exact at_put_ne sg h n

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The positions a ring visits, as a permutation. -/
def turn (d : Bool) (x : Fin 4) : Fin 4 ≃ Fin 4 where
  toFun i := bk d x i.val
  invFun y := ⟨(if d then y.val + 4 - x.val else x.val + 4 - y.val) % 4, Nat.mod_lt _ (by decide)⟩
  left_inv i := by revert d x i; decide
  right_inv i := by revert d x i; decide

omit [FloatOps F] in
theorem bigSep_turn (d : Bool) (x : Fin 4) (Φ : Fin 4 → sProp 𝕄) :
    bigSep Finset.univ Φ = iprop(Φ (bk d x 0) ∗ Φ (bk d x 1) ∗ Φ (bk d x 2) ∗ Φ (bk d x 3)) := by
  rw [bigSep_univ_equiv (turn d x) Φ]
  exact bigSep_four fun i => Φ (turn d x i)

/-- A change of stages inside one family that its resources allow. -/
theorem step_fam {c : Dev nD} {d : Bool} {b : Fin 4} {ms : Ms} {sg : List ℕ} {W : Waits sig Unit} {l : List Op} (hc : chk l { ms with sg := sg } = true)
    (h : ∀ κ : Strand, ¬(κ.dir = d ∧ κ.blk = b) → ms.at κ = sg.getD κ.toFin.val 0)
    (hm : iprop((bigSep Finset.univ fun s : Fin 4 => Ks X (.pl d b s) c (ms.at (.pl d b s))) ∗ Ks X (.zz d b) c (ms.at (.zz d b)))
      ⊢ iprop((bigSep Finset.univ fun s : Fin 4 => Ks X (.pl d b s) c (sg.getD (Strand.pl d b s).toFin.val 0)) ∗ Ks X (.zz d b) c (sg.getD (Strand.zz d b).toFin.val 0))) :
    Res X K c ms W ⊢ St X K c l := by
  have hK : (bigSep Finset.univ fun κ : Strand => Ks X κ c (ms.at κ)) ⊢ bigSep Finset.univ fun κ : Strand => Ks X κ c (sg.getD κ.toFin.val 0) :=
    fam_move (F := F) d b (Φ := fun κ : Strand => Ks X κ c (ms.at κ)) (Ψ := fun κ : Strand => Ks X κ c (sg.getD κ.toFin.val 0))
      (fun κ hκ => by show Ks X κ c (ms.at κ) = _; rw [h κ hκ]) hm
  refine BIBase.Entails.trans ?_ (St_of X K (ms := { ms with sg := sg }) W hc)
  unfold Res
  show iprop((recs X K ∗ levAts L lv) ∗ owes (c : Thread nD τ) (owe c ms.ns) W ∗ xL X c
    ∗ (bigSep Finset.univ fun κ : Strand => Ks X κ c (ms.at κ)) ∗ _) ⊢ iprop((recs X K ∗ levAts L lv) ∗ owes (c : Thread nD τ) (owe c ms.ns) W ∗ xL X c
    ∗ (bigSep Finset.univ fun κ : Strand => Ks X κ c (sg.getD κ.toFin.val 0)) ∗ _)
  exact sep_mono_right (sep_mono_right (sep_mono_right (sep_mono_left hK)))

theorem give_ok (d : Bool) (b : Fin 4) (c : Dev nD) :
    iprop((bigSep Finset.univ fun s : Fin 4 => Ks X (.pl d b s) c 9) ∗ Ks X (.zz d b) c 30)
      ⊢ iprop((bigSep Finset.univ fun s : Fin 4 => Ks X (.pl d b s) c 10) ∗ Ks X (.zz d b) c 0) := by
  rw [bigSep_turn d (zp c) fun s => Ks X (.pl d b s) c 9, bigSep_turn d (zp c) fun s => Ks X (.pl d b s) c 10]
  have e (i : ℕ) : Ks X (.pl d b (bk d (zp c) i)) c 9 ⊢ iprop(Ks X (.pl d b (bk d (zp c) i)) c 10 ∗ own c (tl (.zz d b) c i) fullShare (zIn X d b c i)) := by
    show iprop((own c (tl (.zz d b) c i) fullShare (zIn X d b c i) ∗ carry (F := F) _ false 2 c) ∗ emp ∗ idle (F := F) _ c)
      ⊢ iprop((carry (F := F) _ false 2 c ∗ idle (F := F) _ c) ∗ _)
    iintro ⟨⟨H1, H2⟩, -, H3⟩
    isplitl [H2 H3]
    · isplitl [H2] <;> iassumption
    iexact H1
  iintro ⟨⟨H0, H1, H2, H3⟩, -⟩
  ihave H0 := (e 0) $$ H0
  ihave H1 := (e 1) $$ H1
  ihave H2 := (e 2) $$ H2
  ihave H3 := (e 3) $$ H3
  icases H0 with ⟨H0, Z0⟩
  icases H1 with ⟨H1, Z1⟩
  icases H2 with ⟨H2, Z2⟩
  icases H3 with ⟨H3, Z3⟩
  isplitl [H0 H1 H2 H3]
  · isplitl [H0]; · iexact H0
    isplitl [H1]; · iexact H1
    isplitl [H2]; · iexact H2
    iexact H3
  have ez : iprop(own c (tl (.zz d b) c 0) fullShare (zIn X d b c 0) ∗ own c (tl (.zz d b) c 1) fullShare (zIn X d b c 1)
      ∗ own c (tl (.zz d b) c 2) fullShare (zIn X d b c 2) ∗ own c (tl (.zz d b) c 3) fullShare (zIn X d b c 3)) ⊢ Ks X (.zz d b) c 0 := by
    show _ ⊢ iprop(own c (tl (.zz d b) c 0) fullShare (zIn X d b c 0) ∗ (own c (tl (.zz d b) c 1) fullShare (zIn X d b c 1)
      ∗ own c (tl (.zz d b) c 2) fullShare (zIn X d b c 2) ∗ own c (tl (.zz d b) c 3) fullShare (zIn X d b c 3) ∗ emp) ∗ emp)
    iintro ⟨Z0, Z1, Z2, Z3⟩
    isplitl [Z0]; · iexact Z0
    isplitl
    · isplitl [Z1]; · iexact Z1
      isplitl [Z2]; · iexact Z2
      isplitl [Z3]; · iexact Z3
      iempintro
    iempintro
  iapply ez
  isplitl [Z0]; · iexact Z0
  isplitl [Z1]; · iexact Z1
  isplitl [Z2]; · iexact Z2
  iexact Z3

theorem turn_ok (d : Bool) (b : Fin 4) (c : Dev nD) : Ks X (.zz d b) c 9 ⊢ Ks X (.zz d b) c 11 := by
  show iprop((own c (tl (.zz d b) c 3) fullShare (zAcc X d b 3 c) ∗ carry (F := F) (.zz d b) false 2 c) ∗ emp ∗ idle (F := F) (.zz d b) c)
    ⊢ iprop((own c (tl (.zz d b) c 3) fullShare.right (fin X (tileOf (.zz d b) c 3)) ∗ carry (F := F) (.zz d b) false 2 c) ∗ idle (F := F) (.zz d b) c
      ∗ own c (tl (.zz d b) c 3) fullShare.left (fin X (tileOf (.zz d b) c 3)))
  rw [fin_last]
  iintro ⟨⟨H, H2⟩, -, H3⟩
  ihave H := (owns_halves (c : Thread nD τ) (tl (.zz d b) c 3) fullShare (zAcc X d b 3 c)).1 $$ H
  icases H with ⟨Ha, Hb⟩
  isplitl [Hb H2]
  · isplitl [Hb] <;> iassumption
  isplitl [H3] <;> iassumption

theorem take_ok (d : Bool) (b : Fin 4) (c : Dev nD) :
    iprop((bigSep Finset.univ fun s : Fin 4 => Ks X (.pl d b s) c 10) ∗ Ks X (.zz d b) c 21)
      ⊢ iprop((bigSep Finset.univ fun s : Fin 4 => Ks X (.pl d b s) c 11) ∗ Ks X (.zz d b) c 31) := by
  rw [bigSep_turn d (zp c) fun s => Ks X (.pl d b s) c 10, bigSep_turn d (zp c) fun s => Ks X (.pl d b s) c 11]
  have e (i : ℕ) (q : PosShare TreeShare) (hq : q3 (.pl d b (bk d (zp c) i)) c = q) :
      iprop(Ks X (.pl d b (bk d (zp c) i)) c 10 ∗ own c (tl (.zz d b) c i) q (fin X (tileOf (.zz d b) c i))) ⊢ Ks X (.pl d b (bk d (zp c) i)) c 11 := by
    subst hq
    show iprop((carry (F := F) _ false 2 c ∗ idle (F := F) _ c) ∗ own c (tl (.zz d b) c i) _ (fin X (tileOf (.zz d b) c i)))
      ⊢ iprop((own c (tl (.zz d b) c i) _ (fin X (tileOf (.zz d b) c i)) ∗ carry (F := F) _ false 2 c) ∗ idle (F := F) _ c ∗ emp)
    iintro ⟨⟨H2, H3⟩, H1⟩
    isplitl [H1 H2]
    · isplitl [H1] <;> iassumption
    isplitl [H3]; · iexact H3
    iempintro
  have hz : Ks X (.zz d b) c 21 ⊢ iprop(own c (tl (.zz d b) c 0) fullShare (fin X (tileOf (.zz d b) c 0)) ∗ own c (tl (.zz d b) c 1) fullShare (fin X (tileOf (.zz d b) c 1))
      ∗ own c (tl (.zz d b) c 2) fullShare (fin X (tileOf (.zz d b) c 2)) ∗ own c (tl (.zz d b) c 3) fullShare.left (fin X (tileOf (.zz d b) c 3))) := by
    show iprop((own c (tl (.zz d b) c 2) fullShare (fin X (tileOf (.zz d b) c 2)) ∗ own c (tl (.zz d b) c 1) fullShare (fin X (tileOf (.zz d b) c 1))
      ∗ own c (tl (.zz d b) c 0) fullShare (fin X (tileOf (.zz d b) c 0)) ∗ emp) ∗ own c (tl (.zz d b) c 3) fullShare.left (fin X (tileOf (.zz d b) c 3))) ⊢ _
    iintro ⟨⟨H2, H1, H0, -⟩, H3⟩
    isplitl [H0]; · iexact H0
    isplitl [H1]; · iexact H1
    isplitl [H2]; · iexact H2
    iexact H3
  have hq : ∀ i : Fin 3, ¬ bk d (zp c) i.val = bk d (zp c) 3 := by clear * - d c; revert d c; decide +kernel
  iintro ⟨⟨H0, H1, H2, H3⟩, HZ⟩
  ihave HZ := hz $$ HZ
  icases HZ with ⟨Z0, Z1, Z2, Z3⟩
  isplitl
  · isplitl [H0 Z0]
    · iapply (e 0 fullShare (if_neg (hq 0)))
      isplitl [H0] <;> iassumption
    isplitl [H1 Z1]
    · iapply (e 1 fullShare (if_neg (hq 1)))
      isplitl [H1] <;> iassumption
    isplitl [H2 Z2]
    · iapply (e 2 fullShare (if_neg (hq 2)))
      isplitl [H2] <;> iassumption
    · iapply (e 3 fullShare.left (if_pos rfl))
      isplitl [H3] <;> iassumption
  have ee : (emp : sProp 𝕄) ⊢ Ks X (.zz d b) c 31 := BI.Entails.refl _
  iapply ee
  iempintro

/-- The stages with one family's rewritten. -/
theorem fam_out {sg : List ℕ} (hl : sg.length = 40) (d : Bool) (b : Fin 4) (n z : ℕ) {κ : Strand} (hκ : ¬(κ.dir = d ∧ κ.blk = b)) :
    sg.getD κ.toFin.val 0 = (put (put (put (put (put sg (.pl d b 0) n) (.pl d b 1) n) (.pl d b 2) n) (.pl d b 3) n) (.zz d b) z).getD κ.toFin.val 0 := by
  have hp (s : Fin 4) : κ ≠ .pl d b s := fun h => hκ (by subst h; exact ⟨rfl, rfl⟩)
  have hz : κ ≠ .zz d b := fun h => hκ (by subst h; exact ⟨rfl, rfl⟩)
  rw [at_put_ne _ hz, at_put_ne _ (hp 3), at_put_ne _ (hp 2), at_put_ne _ (hp 1), at_put_ne _ (hp 0)]
theorem fam_pl {sg : List ℕ} (hl : sg.length = 40) (d : Bool) (b s : Fin 4) (n z : ℕ) :
    (put (put (put (put (put sg (.pl d b 0) n) (.pl d b 1) n) (.pl d b 2) n) (.pl d b 3) n) (.zz d b) z).getD (Strand.pl d b s).toFin.val 0 = n := by
  rw [at_put_ne _ (by intro h; cases h), at_put (by simp only [put_length, hl]), at_put (by simp only [put_length, hl]),
    at_put (by simp only [put_length, hl]), at_put hl]
  obtain rfl | rfl | rfl | rfl : s = 0 ∨ s = 1 ∨ s = 2 ∨ s = 3 := by revert s; decide
  · repeat first | rw [if_pos rfl] | rw [if_neg (by intro h; cases h)]
  · repeat first | rw [if_pos rfl] | rw [if_neg (by intro h; cases h)]
  · repeat first | rw [if_pos rfl] | rw [if_neg (by intro h; cases h)]
  · rw [if_pos rfl]
theorem fam_zz {sg : List ℕ} (hl : sg.length = 40) (d : Bool) (b : Fin 4) (n z : ℕ) :
    (put (put (put (put (put sg (.pl d b 0) n) (.pl d b 1) n) (.pl d b 2) n) (.pl d b 3) n) (.zz d b) z).getD (Strand.zz d b).toFin.val 0 = z := by
  rw [at_put (by simp only [put_length, hl]), if_pos rfl]

/-- A block's sums pass from its plane strands to its strand across planes. -/
theorem step_toZ {c : Dev nD} {d : Bool} {b : Fin 4} {l : List Op} {G : sProp 𝕄} (hk : St X K c l ⊢ G) : St X K c (.toZ d b :: l) ⊢ G := by
  refine St_cons X K fun ms ms' W hs hc => BIBase.Entails.trans ?_ hk
  simp only [stp, Option.ite_none_right_eq_some, Option.some.injEq] at hs
  obtain ⟨⟨hl, h9, h30⟩, rfl⟩ := hs
  refine step_fam X K (d := d) (b := b) hc (fun κ hκ => fam_out hl d b 10 0 hκ) ?_
  simp only [h9, h30, fam_pl hl, fam_zz hl]
  exact give_ok X d b c
/-- The strand across planes turns from reducing to gathering. -/
theorem step_midZ {c : Dev nD} {d : Bool} {b : Fin 4} {l : List Op} {G : sProp 𝕄} (hk : St X K c l ⊢ G) : St X K c (.midZ d b :: l) ⊢ G := by
  refine St_cons X K fun ms ms' W hs hc => BIBase.Entails.trans ?_ hk
  simp only [stp, Option.ite_none_right_eq_some, Option.some.injEq] at hs
  obtain ⟨⟨hl, h9⟩, rfl⟩ := hs
  refine step_fam X K (d := d) (b := b) hc (fun κ hκ => (at_put_ne _ (fun h => hκ (by subst h; exact ⟨rfl, rfl⟩)) _).symm) ?_
  have hp (s : Fin 4) : (put ms.sg (.zz d b) 11).getD (Strand.pl d b s).toFin.val 0 = ms.at (.pl d b s) := at_put_ne _ (by intro h; cases h) _
  simp only [h9, hp, at_put hl, if_true]
  exact sep_mono_right (turn_ok X d b c)
/-- A block's gathered tiles pass back to its plane strands. -/
theorem step_fromZ {c : Dev nD} {d : Bool} {b : Fin 4} {l : List Op} {G : sProp 𝕄} (hk : St X K c l ⊢ G) : St X K c (.fromZ d b :: l) ⊢ G := by
  refine St_cons X K fun ms ms' W hs hc => BIBase.Entails.trans ?_ hk
  simp only [stp, Option.ite_none_right_eq_some, Option.some.injEq] at hs
  obtain ⟨⟨hl, h10, h21⟩, rfl⟩ := hs
  refine step_fam X K (d := d) (b := b) hc (fun κ hκ => fam_out hl d b 11 31 hκ) ?_
  simp only [h10, h21, fam_pl hl, fam_zz hl]
  exact take_ok X d b c

end Ghost

end Cert.Torus

end
-- ==== Proof.Ends.lean ====
/-
# Before the first copy and after the last wait

At the start a device's operand, result and landing buffers are cut into the tiles and slots the strands work on; at
the end they are put together again.
-/
module

public import proofs.«01_k».proof.Proof.Tiles
public import proofs.«01_k».proof.Proof.Ghost

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

def strandE : PS ⊕ BZ ≃ Strand where
  toFun := Sum.elim pS zS
  invFun | .pl d b s => .inl ((d, b), s) | .zz d b => .inr (d, b)
  left_inv x := by rcases x with ⟨⟨d, b⟩, s⟩ | ⟨d, b⟩ <;> rfl
  right_inv κ := by cases κ <;> rfl

def trE : ((Bool × Bool) × SP) ⊕ ((Bool × Bool) × SZ) ≃ Tr where
  toFun
    | .inl ((ag, d), ((b, s), h)) => (.pl d b s, ag, h)
    | .inr ((ag, d), (b, h)) => (.zz d b, ag, h)
  invFun
    | (.pl d b s, ag, h) => .inl ((ag, d), ((b, s), h))
    | (.zz d b, ag, h) => .inr ((ag, d), (b, h))
  left_inv x := by rcases x with ⟨⟨ag, d⟩, ⟨b, s⟩, h⟩ | ⟨⟨ag, d⟩, b, h⟩ <;> rfl
  right_inv t := by rcases t with ⟨κ, ag, h⟩; cases κ <;> rfl

section Families
omit [FloatOps F]

theorem strand_fam (Φ : Strand → sProp 𝕄) : bigSep Finset.univ Φ
    = iprop((bigSep Finset.univ fun p : PS => Φ (pS p)) ∗ bigSep Finset.univ fun z : BZ => Φ (zS z)) := by
  rw [bigSep_univ_equiv strandE Φ, BI.bigSep_univ_sum]; rfl

theorem emp_fam {I : Type} [Fintype I] {Ψ : I → sProp 𝕄} (h : ∀ i, (emp : sProp 𝕄) ⊢ Ψ i) : (emp : sProp 𝕄) ⊢ bigSep Finset.univ Ψ := by
  classical
  have : (iprop(emp) : sProp 𝕄) ⊢ bigSep (Finset.univ : Finset I) fun _ => iprop(emp) := Entails.of_eq (BI.bigSep_emp_const _).symm
  exact this.trans (fam_mono h)

theorem bigSep_quad (Φ : Bool × Bool → sProp 𝕄) : bigSep Finset.univ Φ
    = iprop(Φ (false, false) ∗ Φ (false, true) ∗ Φ (true, false) ∗ Φ (true, true)) :=
  bigSep_univ_eq_bigSepL [(false, false), (false, true), (true, false), (true, true)] (by decide) (by decide) Φ

theorem bigSep_six (Φ : Bool × Fin 3 → sProp 𝕄) : bigSep Finset.univ Φ
    = iprop(Φ (false, 0) ∗ Φ (false, 1) ∗ Φ (false, 2) ∗ Φ (true, 0) ∗ Φ (true, 1) ∗ Φ (true, 2)) :=
  bigSep_univ_eq_bigSepL [(false, 0), (false, 1), (false, 2), (true, 0), (true, 1), (true, 2)] (by decide) (by decide) Φ

/-- The slots of the plane rings, buffer by buffer, and of the rings across planes. -/
theorem slot_fam (Φ : Tr → sProp 𝕄) : bigSep Finset.univ Φ
    = iprop((bigSep Finset.univ fun a : Bool × Bool => bigSep Finset.univ fun i : SP => Φ (.pl a.2 i.1.1 i.1.2, a.1, i.2))
      ∗ bigSep Finset.univ fun a : Bool × Bool => bigSep Finset.univ fun i : SZ => Φ (.zz a.2 i.1, a.1, i.2)) := by
  rw [bigSep_univ_equiv trE Φ, BI.bigSep_univ_sum]
  exact congrArg₂ (fun A B : sProp 𝕄 => iprop(A ∗ B)) (bigSep_univ_prod fun x : (Bool × Bool) × SP => Φ (trE (.inl x)))
    (bigSep_univ_prod fun x : (Bool × Bool) × SZ => Φ (trE (.inr x)))

/-- A strand's six transfers together. -/
theorem tr_fam (Φ : Tr → sProp 𝕄) : bigSep Finset.univ Φ = bigSep Finset.univ fun κ : Strand => bigSep Finset.univ fun a : Bool × Fin 3 => Φ (κ, a) := by
  rw [bigSep_univ_prod]

/-- The tiles, plane strand by plane strand. -/
theorem tile_fam (c : Dev nD) (Φ : Tile → sProp 𝕄) : (bigSep Finset.univ fun i : TI => Φ (mkT i))
    = bigSep Finset.univ fun p : PS => iprop(Φ (tileOf (pS p) c 0) ∗ Φ (tileOf (pS p) c 1) ∗ Φ (tileOf (pS p) c 2) ∗ Φ (tileOf (pS p) c 3)) := by
  rw [bigSep_univ_prod]
  refine congrArg _ (funext fun p => ?_)
  exact bigSep_turn p.1.1 (pp c) fun i : Fin 4 => Φ (mkT (p, i))

end Families

section Cut
variable (X : Dev nD → (cc0_stg0_0 : Ref sig .tc).ty.Contents (Elt F))

abbrev xTile (c : Dev nD) (t : Tile) : sProp 𝕄 := own c (xT t) fullShare.right (xtile (X c) t)
def xFirst (c : Dev nD) : sProp 𝕄 := bigSep Finset.univ fun p : PS => xTile X c (tileOf (pS p) c 0)
def xRest (c : Dev nD) : sProp 𝕄 :=
  bigSep Finset.univ fun p : PS => iprop(xTile X c (tileOf (pS p) c 1) ∗ xTile X c (tileOf (pS p) c 2) ∗ xTile X c (tileOf (pS p) c 3))

theorem xtiles (c : Dev nD) : (bigSep Finset.univ fun i : TI => xTile X c (mkT i)) = iprop(xFirst X c ∗ xRest X c) := by
  unfold xFirst xRest
  rw [tile_fam c (xTile X c), bigSep_sep']

theorem x_cut (c : Dev nD) : owns (Ix := Unit) (Name := ℕ) (U := UU) (Lvl := ℕ) (c : Thread nD τ) xM fullShare.right (X c) ⊢ iprop(xFirst X c ∗ xRest X c) := by
  rw [← xtiles]
  have h (i : TI) : owns (Ix := Unit) (Name := ℕ) (U := UU) (Lvl := ℕ) (c : Thread nD τ) (xM.slice (xR (mkT i)) (fun _ => rfl)) fullShare.right (fun j => X c ((xR (mkT i)).emb j))
      ⊢ xTile X c (mkT i) := own_sq c xM (xR (mkT i)) (fun _ => rfl) squeezes_S1x128x128_S128x128 shapeCasts_S1x128x128_S128x128 fullShare.right _
  exact (owns_rects (c : Thread nD τ) xM fullShare.right (fun i : TI => xR (mkT i)) (fun _ _ => rfl) xR_disj xR_cover (X c)).trans (fam_mono h)

theorem x_join (c : Dev nD) : iprop(xFirst X c ∗ xRest X c) ⊢ owns (Ix := Unit) (Name := ℕ) (U := UU) (Lvl := ℕ) (c : Thread nD τ) xM fullShare.right (X c) := by
  rw [← xtiles]
  have h (i : TI) : xTile X c (mkT i) ⊢ owns (Ix := Unit) (Name := ℕ) (U := UU) (Lvl := ℕ) (c : Thread nD τ) (xM.slice (xR (mkT i)) (fun _ => rfl)) fullShare.right (fun j => X c ((xR (mkT i)).emb j)) :=
    own_unsq c xM (xR (mkT i)) (fun _ => rfl) squeezes_S1x128x128_S128x128 shapeCasts_S1x128x128_S128x128 fullShare.right _
  exact (fam_mono h).trans (owns_of_rects (c : Thread nD τ) xM fullShare.right (fun i : TI => xR (mkT i)) (fun _ _ => rfl) xR_disj xR_cover (X c))

/-- The result at any contents, as tiles. -/
theorem o_cut (c : Dev nD) : iprop(∃ Y, owns (Ix := Unit) (Name := ℕ) (U := UU) (Lvl := ℕ) (c : Thread nD τ) oM fullShare Y)
    ⊢ bigSep Finset.univ fun i : TI => ownX (F := F) c (oT (mkT i)) := by
  have h (Y : oM.view.ty.Contents (Elt F)) (i : TI) : owns (Ix := Unit) (Name := ℕ) (U := UU) (Lvl := ℕ) (c : Thread nD τ) (oT (mkT i)) fullShare (fun j => Y ((oR (mkT i)).emb j))
      ⊢ ownX (F := F) c (oT (mkT i)) := by
    unfold ownX; iintro H; iexists _; iexact H
  iintro ⟨%Y, H⟩
  iapply ((owns_rects (c : Thread nD τ) oM fullShare (fun i : TI => oR (mkT i)) (fun _ _ => rfl) oR_disj oR_cover Y).trans (fam_mono (h Y))); iexact H

/-- The whole sum, tile by tile. -/
theorem out_ex : ∃ Y : S2048x1024.Idx → Elt F .f32, ∀ (i : TI) j, Y ((oR (mkT i)).emb j) = fin X (mkT i) j :=
  glue (F := F) (e := .f32) (fun i : TI => oR (mkT i)) oR_disj fun i => fin X (mkT i)
def outAt : S2048x1024.Idx → Elt F .f32 := (out_ex X).choose
theorem outAt_emb (i : TI) (j : S128x128.Idx) : outAt X ((oR (mkT i)).emb j) = fin X (mkT i) j := (out_ex X).choose_spec i j

theorem o_join (c : Dev nD) : (bigSep Finset.univ fun i : TI => own c (oT (mkT i)) fullShare (fin X (mkT i)))
    ⊢ owns (Ix := Unit) (Name := ℕ) (U := UU) (Lvl := ℕ) (c : Thread nD τ) oM fullShare (outAt X) := by
  have h (i : TI) : own c (oT (mkT i)) fullShare (fin X (mkT i))
      ⊢ owns (Ix := Unit) (Name := ℕ) (U := UU) (Lvl := ℕ) (c : Thread nD τ) (oM.slice (oR (mkT i)) (fun _ => rfl)) fullShare (fun j => outAt X ((oR (mkT i)).emb j)) :=
    Entails.of_eq (congrArg (own c (oT (mkT i)) fullShare) (funext fun j => (outAt_emb X i j).symm))
  exact (fam_mono h).trans (owns_of_rects (c : Thread nD τ) oM fullShare (fun i : TI => oR (mkT i)) (fun _ _ => rfl) oR_disj oR_cover (outAt X))

/-! ## The landing buffers -/

abbrev anyP (c : Dev nD) (a : Bool × Bool) : sProp 𝕄 := iprop(∃ Y, owns (Val := Elt F) (Ix := Unit) (Name := ℕ) (U := UU) (Lvl := ℕ) (c : Thread nD τ) (slotP a.1 a.2) fullShare Y)
abbrev anyZ (c : Dev nD) (a : Bool × Bool) : sProp 𝕄 := iprop(∃ Y, owns (Val := Elt F) (Ix := Unit) (Name := ℕ) (U := UU) (Lvl := ℕ) (c : Thread nD τ) (slotZ a.1 a.2) fullShare Y)

theorem slots_cut (c : Dev nD) : iprop((bigSep Finset.univ fun a : Bool × Bool => anyP (F := F) c a) ∗ bigSep Finset.univ fun a : Bool × Bool => anyZ (F := F) c a)
    ⊢ bigSep Finset.univ fun t : Tr => ownX (F := F) c (slot t.1 t.2.1 t.2.2) := by
  rw [slot_fam]
  have h1 (a : Bool × Bool) : anyP (F := F) c a ⊢ bigSep Finset.univ fun i : SP => ownX (F := F) c (slot (.pl a.2 i.1.1 i.1.2) a.1 i.2) :=
    cut_any c (slotP a.1 a.2) rPi (fun _ _ => rfl) rP_disj rP_cover (fun _ => squeezes_S1x1x1x128x128_S128x128)
  have h2 (a : Bool × Bool) : anyZ (F := F) c a ⊢ bigSep Finset.univ fun i : SZ => ownX (F := F) c (slot (.zz a.2 i.1) a.1 i.2) :=
    cut_any c (slotZ a.1 a.2) rZi (fun _ _ => rfl) rZ_disj rZ_cover (fun _ => squeezes_S1x1x128x128_S128x128)
  exact BIClass.sep_mono (fam_mono h1) (fam_mono h2)

theorem slots_join (c : Dev nD) : (bigSep Finset.univ fun t : Tr => ownX (F := F) c (slot t.1 t.2.1 t.2.2))
    ⊢ iprop((bigSep Finset.univ fun a : Bool × Bool => anyP (F := F) c a) ∗ bigSep Finset.univ fun a : Bool × Bool => anyZ (F := F) c a) := by
  rw [slot_fam]
  have h1 (a : Bool × Bool) : (bigSep Finset.univ fun i : SP => ownX (F := F) c (slot (.pl a.2 i.1.1 i.1.2) a.1 i.2)) ⊢ anyP (F := F) c a :=
    join_any c (slotP a.1 a.2) rPi (fun _ _ => rfl) rP_disj rP_cover (fun _ => squeezes_S1x1x1x128x128_S128x128)
  have h2 (a : Bool × Bool) : (bigSep Finset.univ fun i : SZ => ownX (F := F) c (slot (.zz a.2 i.1) a.1 i.2)) ⊢ anyZ (F := F) c a :=
    join_any c (slotZ a.1 a.2) rZi (fun _ _ => rfl) rZ_disj rZ_cover (fun _ => squeezes_S1x1x128x128_S128x128)
  exact BIClass.sep_mono (fam_mono h1) (fam_mono h2)

/-! ## The strands before the first copy -/

theorem at_start (κ : Strand) : ms₀.at κ = match κ with | .pl _ _ _ => 0 | .zz _ _ => 30 := by revert κ; decide +kernel
theorem at_end (κ : Strand) : ms₁.at κ = match κ with | .pl _ _ _ => 21 | .zz _ _ => 31 := by revert κ; decide +kernel

theorem pl_start (c : Dev nD) (p : PS) : iprop(xTile X c (tileOf (pS p) c 0) ∗ (ownX (F := F) c (oT (tileOf (pS p) c 0)) ∗ ownX (F := F) c (oT (tileOf (pS p) c 1))
      ∗ ownX (F := F) c (oT (tileOf (pS p) c 2)) ∗ ownX (F := F) c (oT (tileOf (pS p) c 3)))) ⊢ Ks X (pS p) c (ms₀.at (pS p)) := by
  rw [at_start]
  show iprop(xTile X c (tileOf (pS p) c 0) ∗ (ownX (F := F) c (oT (tileOf (pS p) c 0)) ∗ ownX (F := F) c (oT (tileOf (pS p) c 1))
      ∗ ownX (F := F) c (oT (tileOf (pS p) c 2)) ∗ ownX (F := F) c (oT (tileOf (pS p) c 3))))
    ⊢ iprop(xTile X c (tileOf (pS p) c 0) ∗ ((ownX (F := F) c (oT (tileOf (pS p) c 1))
      ∗ ownX (F := F) c (oT (tileOf (pS p) c 2)) ∗ ownX (F := F) c (oT (tileOf (pS p) c 3)) ∗ emp) ∗ ownX (F := F) c (oT (tileOf (pS p) c 0))))
  iintro ⟨H, H0, H1, H2, H3⟩
  isplitl [H]; · iexact H
  isplitl [H1 H2 H3]
  · isplitl [H1]; · iexact H1
    isplitl [H2]; · iexact H2
    isplitl [H3]; · iexact H3
    iempintro
  iexact H0

theorem zz_start (c : Dev nD) (z : BZ) : (emp : sProp 𝕄) ⊢ Ks X (zS z) c (ms₀.at (zS z)) := by
  rw [at_start]
  show (emp : sProp 𝕄) ⊢ emp
  iintro -; iempintro

theorem ks_start (c : Dev nD) : iprop(xFirst X c ∗ bigSep Finset.univ fun i : TI => ownX (F := F) c (oT (mkT i)))
    ⊢ bigSep Finset.univ fun κ : Strand => Ks X κ c (ms₀.at κ) := by
  rw [strand_fam, tile_fam c fun t => ownX (F := F) c (oT t)]
  unfold xFirst
  rw [← bigSep_sep']
  iintro H
  isplitl [H]
  · iapply (fam_mono (pl_start X c)); iexact H
  · iapply (emp_fam (zz_start X c)); iempintro

/-! ## The strands after the last wait -/

/-- A strand's slots come together, and what its first copies read comes back. -/
theorem strand_end (κ : Strand) (c : Dev nD) :
    iprop((bigSep Finset.univ fun a : Bool × Fin 3 => sendPay X κ a.1 a.2 c) ∗ bigSep Finset.univ fun a : Bool × Fin 3 => used X c (κ, a))
    ⊢ iprop((sendPay X κ false 0 c ∗ own c (tl κ c 3) (q3 κ c) (fin X (tileOf κ c 3))) ∗ bigSep Finset.univ fun a : Bool × Fin 3 => ownX (F := F) c (slot κ a.1 a.2)) := by
  rw [bigSep_six, bigSep_six, bigSep_six]
  have e0 : sendPay X κ true 0 c = own c (tl κ c 3) (q3 κ c) (fin X (tileOf κ c 3)) := by cases κ <;> rfl
  have e1 : sendPay X κ true 1 c = own c (slot κ true 0) fullShare.right (sval X κ true 0 c) := by cases κ <;> rfl
  have e2 : sendPay X κ true 2 c = own c (slot κ true 1) fullShare.right (sval X κ true 1 c) := by cases κ <;> rfl
  have wh (a : Bool) (h : Fin 3) (hn : ¬(a = true ∧ h ≠ 2)) : used X c (κ, a, h) ⊢ ownX (F := F) c (slot κ a h) := by
    unfold used ownX
    dsimp only
    rw [if_neg hn]
    iintro H; iexists _; iexact H
  have hv (h : Fin 3) (hn : h ≠ 2) : iprop(own c (slot κ true h) fullShare.right (sval X κ true h c) ∗ used X c (κ, true, h)) ⊢ ownX (F := F) c (slot κ true h) := by
    unfold used ownX
    dsimp only
    rw [if_pos ⟨rfl, hn⟩]
    iintro ⟨H1, H2⟩
    iexists (sval X κ true h c)
    iapply (owns_halves (c : Thread nD τ) (slot κ true h) fullShare (sval X κ true h c)).2
    isplitl [H2] <;> iassumption
  dsimp only
  rw [e0, e1, e2]
  iintro ⟨⟨P0, -, -, P3, P4, P5⟩, U0, U1, U2, U3, U4, U5⟩
  isplitl [P0 P3]
  · isplitl [P0] <;> iassumption
  isplitl [U0]; · iapply (wh false 0 (by decide)); iexact U0
  isplitl [U1]; · iapply (wh false 1 (by decide)); iexact U1
  isplitl [U2]; · iapply (wh false 2 (by decide)); iexact U2
  isplitl [P4 U3]
  · iapply (hv 0 (by decide)); isplitl [P4]; · iexact P4
    iexact U3
  isplitl [P5 U4]
  · iapply (hv 1 (by decide)); isplitl [P5]; · iexact P5
    iexact U4
  iapply (wh true 2 (by decide)); iexact U5

/-- The last tile of a block's plane strands, made whole by the strand across planes. -/
theorem last_join (z : BZ) (c : Dev nD) :
    iprop((bigSep Finset.univ fun s : Fin 4 => own c (tl (pS (z, s)) c 3) (q3 (pS (z, s)) c) (fin X (tileOf (pS (z, s)) c 3)))
      ∗ own c (tl (zS z) c 3) (q3 (zS z) c) (fin X (tileOf (zS z) c 3)))
    ⊢ bigSep Finset.univ fun s : Fin 4 => own c (tl (pS (z, s)) c 3) fullShare (fin X (tileOf (pS (z, s)) c 3)) := by
  have hq (s : Fin 4) : q3 (pS (z, s)) c = if s = bk z.1 (zp c) 3 then fullShare.left else fullShare := rfl
  rw [bigSep_univ_at (fun s : Fin 4 => own c (tl (pS (z, s)) c 3) (q3 (pS (z, s)) c) (fin X (tileOf (pS (z, s)) c 3))) (bk z.1 (zp c) 3),
    bigSep_univ_at (fun s : Fin 4 => own c (tl (pS (z, s)) c 3) fullShare (fin X (tileOf (pS (z, s)) c 3))) (bk z.1 (zp c) 3),
    bigSep_congr (s := Finset.univ.erase (bk z.1 (zp c) 3)) (Φ := fun s : Fin 4 => own c (tl (pS (z, s)) c 3) (q3 (pS (z, s)) c) (fin X (tileOf (pS (z, s)) c 3)))
      (Ψ := fun s : Fin 4 => own c (tl (pS (z, s)) c 3) fullShare (fin X (tileOf (pS (z, s)) c 3))) fun s hs => by
      rw [hq, if_neg (Finset.ne_of_mem_erase hs)]]
  rw [hq, if_pos rfl]
  iintro ⟨⟨H1, HR⟩, H2⟩
  isplitl [H1 H2]
  · iapply (owns_halves (c : Thread nD τ) (tl (pS (z, bk z.1 (zp c) 3)) c 3) fullShare (fin X (tileOf (pS (z, bk z.1 (zp c) 3)) c 3))).2
    isplitl [H1]; · iexact H1
    iexact H2
  iexact HR

/-- All strands together. -/
theorem strands_end (c : Dev nD) :
    iprop((bigSep Finset.univ fun κ : Strand => Ks X κ c (ms₁.at κ)) ∗ (bigSep Finset.univ fun t : Tr => sendPay X t.1 t.2.1 t.2.2 c) ∗ bigSep Finset.univ fun t : Tr => used X c t)
    ⊢ iprop((bigSep Finset.univ fun i : TI => own c (oT (mkT i)) fullShare (fin X (mkT i))) ∗ xFirst X c ∗ bigSep Finset.univ fun t : Tr => ownX (F := F) c (slot t.1 t.2.1 t.2.2)) := by
  have hk (p : PS) : Ks X (pS p) c (ms₁.at (pS p)) = iprop((own c (tl (pS p) c 2) fullShare (fin X (tileOf (pS p) c 2)) ∗ own c (tl (pS p) c 1) fullShare (fin X (tileOf (pS p) c 1))
      ∗ own c (tl (pS p) c 0) fullShare (fin X (tileOf (pS p) c 0)) ∗ emp) ∗ emp) := by rw [at_end]; rfl
  have hS (κ : Strand) := strand_end X κ c
  have hL (z : BZ) := last_join X z c
  have h1 : iprop((bigSep Finset.univ fun t : Tr => sendPay X t.1 t.2.1 t.2.2 c) ∗ bigSep Finset.univ fun t : Tr => used X c t)
      ⊢ iprop(((bigSep Finset.univ fun κ : Strand => sendPay X κ false 0 c) ∗ bigSep Finset.univ fun κ : Strand => own c (tl κ c 3) (q3 κ c) (fin X (tileOf κ c 3)))
        ∗ bigSep Finset.univ fun t : Tr => ownX (F := F) c (slot t.1 t.2.1 t.2.2)) := by
    rw [tr_fam, tr_fam, tr_fam, ← bigSep_sep', ← bigSep_sep', ← bigSep_sep']
    exact fam_mono hS
  have h2 : (bigSep Finset.univ fun κ : Strand => own c (tl κ c 3) (q3 κ c) (fin X (tileOf κ c 3)))
      ⊢ bigSep Finset.univ fun p : PS => own c (tl (pS p) c 3) fullShare (fin X (tileOf (pS p) c 3)) := by
    rw [strand_fam, bigSep_univ_prod (fun p : PS => own c (tl (pS p) c 3) (q3 (pS p) c) (fin X (tileOf (pS p) c 3))),
      bigSep_univ_prod (fun p : PS => own c (tl (pS p) c 3) fullShare (fin X (tileOf (pS p) c 3))), ← bigSep_sep']
    exact fam_mono hL
  have h3 : (bigSep Finset.univ fun κ : Strand => sendPay X κ false 0 c) ⊢ xFirst X c := by
    rw [strand_fam]; unfold xFirst
    iintro ⟨H, -⟩; iexact H
  have h4 : (bigSep Finset.univ fun κ : Strand => Ks X κ c (ms₁.at κ)) ⊢ bigSep Finset.univ fun p : PS => iprop((own c (tl (pS p) c 2) fullShare (fin X (tileOf (pS p) c 2)) ∗ own c (tl (pS p) c 1) fullShare (fin X (tileOf (pS p) c 1))
      ∗ own c (tl (pS p) c 0) fullShare (fin X (tileOf (pS p) c 0)) ∗ emp) ∗ emp) := by
    rw [strand_fam, bigSep_congr (s := Finset.univ) fun p _ => hk p]
    iintro ⟨H, -⟩; iexact H
  have h5 (p : PS) : iprop(((own c (tl (pS p) c 2) fullShare (fin X (tileOf (pS p) c 2)) ∗ own c (tl (pS p) c 1) fullShare (fin X (tileOf (pS p) c 1))
      ∗ own c (tl (pS p) c 0) fullShare (fin X (tileOf (pS p) c 0)) ∗ emp) ∗ emp) ∗ own c (tl (pS p) c 3) fullShare (fin X (tileOf (pS p) c 3)))
      ⊢ iprop(own c (oT (tileOf (pS p) c 0)) fullShare (fin X (tileOf (pS p) c 0)) ∗ own c (oT (tileOf (pS p) c 1)) fullShare (fin X (tileOf (pS p) c 1))
        ∗ own c (oT (tileOf (pS p) c 2)) fullShare (fin X (tileOf (pS p) c 2)) ∗ own c (oT (tileOf (pS p) c 3)) fullShare (fin X (tileOf (pS p) c 3))) := by
    iintro ⟨⟨⟨H2, H1, H0, -⟩, -⟩, H3⟩
    isplitl [H0]; · iexact H0
    isplitl [H1]; · iexact H1
    isplitl [H2] <;> iassumption
  have h6 := (Entails.of_eq (bigSep_sep' Finset.univ (fun p : PS => iprop((own c (tl (pS p) c 2) fullShare (fin X (tileOf (pS p) c 2)) ∗ own c (tl (pS p) c 1) fullShare (fin X (tileOf (pS p) c 1))
      ∗ own c (tl (pS p) c 0) fullShare (fin X (tileOf (pS p) c 0)) ∗ emp) ∗ emp)) (fun p : PS => own c (tl (pS p) c 3) fullShare (fin X (tileOf (pS p) c 3)))).symm).trans (fam_mono h5)
  rw [tile_fam c fun t => own c (oT t) fullShare (fin X t)]
  iintro ⟨HK, HS, HU⟩
  ihave H := h1 $$ [HS HU]
  · isplitl [HS] <;> iassumption
  icases H with ⟨⟨HX, HT⟩, HO⟩
  ihave HT := h2 $$ HT
  ihave HX := h3 $$ HX
  ihave HK := h4 $$ HK
  isplitl [HK HT]
  · iapply h6; isplitl [HK] <;> iassumption
  isplitl [HX] <;> iassumption

end Cut

end Cert.Torus

end
-- ==== Proof.Bar.lean ====
/-
# The start: every device tells its four neighbours that it is there

Each device signals the neighbours that write to it, handing over the slots they write, and waits for four signals; with
them come the slots it writes itself.
-/
module

public import proofs.«01_k».proof.Proof.Ghost

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Bar
variable (X : Dev nD → (cc0_stg0_0 : Ref sig .tc).ty.Contents (Elt F))
variable (K : Dev nD × Option (Bool × Tr) → ℕ)

/-- What is still owed with the signals `ks` to come. -/
def oweB (c : Dev nD) : List Duty → CellTallies nD τ sig Unit
  | [] => owe c 0
  | k :: ks => oweB c ks + barTally k c
/-- What each of the signals `ks` takes: its duty, and the slots the neighbour writes. -/
def toks (c : Dev nD) : List Duty → sProp 𝕄
  | [] => iprop(emp)
  | k :: ks => iprop((dutyTok ER (barCell (nbr k c)) 0 k ∗ bigSep (Finset.univ.filter fun t : Tr => key t.1 = k) fun t => ownX (F := F) c (slot t.1 t.2.1 t.2.2)) ∗ toks c ks)
/-- The tokens of a copy, before it is issued. -/
def ST (c : Dev nD) (t : Tr) : sProp 𝕄 :=
  iprop(dutyTok ER (sendCell t c) 0 (false, false) ∗ dutyTok ER (recvCell t (nxt t.1 c)) 0 (false, false) ∗ atPos ER (sendCell t c) 0 ∅ 0)

/-- What device `c` holds with the signals `ks` to come. -/
@[irreducible] def Bar (c : Dev nD) (ks : List Duty) : sProp 𝕄 :=
  iprop(∃ W, (recs X K ∗ levAts L lv) ∗ owes (c : Thread nD τ) (oweB c ks) W ∗ toks c ks
    ∗ (cred (tallyAt (barCell c) () 4) ∗ atPos ER (barCell c) 0 ∅ 0) ∗ xL X c
    ∗ (bigSep Finset.univ fun κ : Strand => Ks X κ c (ms₀.at κ))
    ∗ (bigSep Finset.univ fun t : Tr => ST (F := F) c t)
    ∗ (bigSep Finset.univ fun t : Tr => RB (F := F) 0 c t)
    ∗ (bigSep Finset.univ fun t : Tr => UB X 0 c t))

theorem barPay_nbr (k : Duty) (c : Dev nD) :
    barPay (F := F) k (nbr k c) = bigSep (Finset.univ.filter fun t : Tr => key t.1 = k) fun t => ownX (F := F) c (slot t.1 t.2.1 t.2.2) := by
  unfold barPay
  refine bigSep_congr fun t ht => ?_
  rw [← nxt_kst t.1, (Finset.mem_filter.1 ht).2, nbr, nxt_prv]

/-- Reading the device's number. -/
theorem step_dev {c : Dev nD} {ks : List Duty} {α : Type} {Q : α → sProp 𝕄} {k : Dev nD → Prog (TpuEff nD τ sig (Elt F) Λ₀ .tc) α}
    (hk : Bar X K c ks ⊢ wp frame (wpE (defs₀ (F := F)) 𝒱₀ (c : Thread nD τ) none) Set.univ (k c) Q) :
    Bar X K c ks ⊢ wp frame (wpE (defs₀ (F := F)) 𝒱₀ (c : Thread nD τ) none) Set.univ (.op .deviceId k) Q := by
  rw [wp_deviceId]; exact hk

/-- One signal. -/
theorem step_sig {c : Dev nD} {kd : Duty} {ks : List Duty} {dst : Thread nD τ} {sem : Sem sig} {n : ℤ}
    {α : Type} {Q : α → sProp 𝕄} {k : PUnit → Prog (TpuEff nD τ sig (Elt F) Λ₀ .tc) α}
    (hd : dst = (nbr kd c : Thread nD τ)) (hs : sem = barrier0) (hn : n = ((1 : ℕ) : ℤ))
    (hk : Bar X K c ks ⊢ wp frame (wpE (defs₀ (F := F)) 𝒱₀ (c : Thread nD τ) none) Set.univ (k ⟨⟩) Q) :
    Bar X K c (kd :: ks) ⊢ wp frame (wpE (defs₀ (F := F)) 𝒱₀ (c : Thread nD τ) none) Set.univ (.op (.semSignal dst sem n) k) Q := by
  subst hd hs hn
  unfold Bar at hk ⊢
  show iprop(∃ W, (recs X K ∗ levAts L lv) ∗ owes (c : Thread nD τ) (oweB c ks + barTally kd c) W
    ∗ ((dutyTok ER (barCell (nbr kd c)) 0 kd ∗ bigSep (Finset.univ.filter fun t : Tr => key t.1 = kd) fun t => ownX (F := F) c (slot t.1 t.2.1 t.2.2)) ∗ toks c ks) ∗ _) ⊢ _
  iintro ⟨%W, ⟨#HR, #HL⟩, HO, ⟨⟨Ht, Hp⟩, HT⟩, HF⟩
  ihave #HI := (inv_of X K (nbr kd c, none)) $$ HR
  ihave #Hr := (reached_of X K (nbr kd c, none)) $$ HR
  iapply (Rounds.wp_signal 𝒱₀ ER (ringRd X) (c : Thread nD τ) none (dst := (nbr kd c : Thread nD τ)) (κ := K (nbr kd c, none))
      (d := kd) (by rw [duties_bar]; exact Finset.mem_univ _) (amount_bar X (nbr kd c) kd) () (oweB c ks) rfl) $$ [HO Ht Hp]
  · isplitr; · iexact HI
    isplitl [HO]; · iexact HO
    isplitl [Ht]; · iexact Ht
    isplitl [Hp]
    · iapply (Entails.of_eq ((payload_bar X (nbr kd c) kd).trans (barPay_nbr kd c)).symm); iexact Hp
    iexact Hr
  iintro HO
  iapply hk
  iexists W
  isplitr
  · isplitl; · iexact HR
    iexact HL
  isplitl [HO]; · iexact HO
  isplitl [HT] <;> iassumption

/-- The wait for the four signals. -/
theorem step_bar {c : Dev nD} {l : List Op} {sem : Sem sig} {n : ℤ}
    {α : Type} {Q : α → sProp 𝕄} {k : PUnit → Prog (TpuEff nD τ sig (Elt F) Λ₀ .tc) α}
    (hs : sem = barrier0) (hn : n = ((4 : ℕ) : ℤ)) (hl : chk l ms₀ = true)
    (hk : St X K c l ⊢ wp frame (wpE (defs₀ (F := F)) 𝒱₀ (c : Thread nD τ) none) Set.univ (k ⟨⟩) Q) :
    Bar X K c [] ⊢ wp frame (wpE (defs₀ (F := F)) 𝒱₀ (c : Thread nD τ) none) Set.univ (.op (.semWait sem n) k)
      (fun a => iprop(Q a ∗ semVal (barCell c) 0)) := by
  subst hs hn
  unfold Bar
  show iprop(∃ W, (recs X K ∗ levAts L lv) ∗ owes (c : Thread nD τ) (owe c 0) W ∗ emp
    ∗ (cred (tallyAt (barCell c) () 4) ∗ atPos ER (barCell c) 0 ∅ 0) ∗ _) ⊢ _
  iintro ⟨%W, ⟨#HR, #HL⟩, HO, -, ⟨Hc, Hat⟩, HX, HK, HS, HV, HU⟩
  ihave #HI := (inv_of X K (c, none)) $$ HR
  iapply (Rounds.wp_wait_rest_token 𝒱₀ ER (ringRd X) (c : Thread nD τ) none (κ := K (c, none))
      (wpE_semWait_eq 𝒱₀ (c : Thread nD τ) none Set.univ) (Set.mem_univ _) () (O := owe c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact HL
    iexact Hat
  iintro ⟨HO, Hat, -, Hpay⟩
  ihave Hpay := (Entails.of_eq (rest_bar X c)) $$ Hpay
  imod (Rounds.cell_close ER (ringRd X) (Set.mem_univ (K (c, none))) (fun h => h) (R := 0 + 1) (duties_later X (barCell c))) $$ [Hat] with Hz
  · isplitr; · iexact HI
    iexact Hat
  iapply (wp_frame_r (Q := Q) frame (wpE (defs₀ (F := F)) 𝒱₀ (c : Thread nD τ) none))
  isplitr [Hz]
  · iapply hk
    iapply (St_of X K (ms := ms₀) (insert (SemLoc.reg barrier0, ()) W) hl)
    unfold Res
    isplitr
    · isplitl; · iexact HR
      iexact HL
    isplitl [HO]; · iexact HO
    isplitl [HX]; · iexact HX
    isplitl [HK]; · iexact HK
    isplitl [HS Hpay]
    · iapply (Entails.of_eq (bigSep_sep' (s := Finset.univ) (Φ := fun t : Tr => ST (F := F) c t) (Ψ := fun t : Tr => ownX (F := F) (nxt t.1 c) (slot t.1 t.2.1 t.2.2))).symm)
      isplitl [HS]; · iexact HS
      iexact Hpay
    isplitl [HV]
    · iapply (Entails.of_eq (show (bigSep Finset.univ fun t : Tr => RB (F := F) 0 c t) = bigSep Finset.univ fun t : Tr => RB (F := F) ms₀.nr c t from rfl)); iexact HV
    iapply (Entails.of_eq (show (bigSep Finset.univ fun t : Tr => UB X 0 c t) = bigSep Finset.univ fun t : Tr => UB X ms₀.nu c t from rfl)); iexact HU
  iexact Hz

end Bar

end Cert.Torus

end
-- ==== Proof.Whole.lean ====
/-
# What the body starts from and what it ends with

The start of the body as the launch hands it over, and its end as the launch takes it back.
-/
module

public import proofs.«01_k».proof.Proof.Ends
public import proofs.«01_k».proof.Proof.Bar

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Before the body -/

section Whole
variable (X : Dev nD → (cc0_stg0_0 : Ref sig .tc).ty.Contents (Elt F))
variable (K : Dev nD × Option (Bool × Tr) → ℕ)

abbrev slotsOf (c : Dev nD) : sProp 𝕄 := bigSep Finset.univ fun t : Tr => ownX (F := F) c (slot t.1 t.2.1 t.2.2)
abbrev barToks (c : Dev nD) : sProp 𝕄 := bigSep Finset.univ fun k : Duty => dutyTok ER (barCell (nbr k c)) 0 k
abbrev allKeys : List Duty := [(false, false), (false, true), (true, false), (true, true)]

/-- The landing slots, handed to the four signals. -/
theorem toks_intro (c : Dev nD) : iprop(barToks (F := F) c ∗ slotsOf (F := F) c) ⊢ toks (F := F) c allKeys := by
  have hi : (Finset.univ.image fun t : Tr => key t.1) = (Finset.univ : Finset Duty) := by decide +kernel
  have e : slotsOf (F := F) c = bigSep Finset.univ fun k : Duty => bigSep (Finset.univ.filter fun t : Tr => key t.1 = k) fun t => ownX (F := F) c (slot t.1 t.2.1 t.2.2) := by
    unfold slotsOf
    rw [BI.bigSep_fiberwise Finset.univ (fun t : Tr => key t.1) fun t : Tr => ownX (F := F) c (slot t.1 t.2.1 t.2.2), hi]
  rw [e, ← bigSep_sep', bigSep_quad]
  unfold toks toks toks toks toks
  iintro ⟨H1, H2, H3, H4⟩
  isplitl [H1]; · iexact H1
  isplitl [H2]; · iexact H2
  isplitl [H3]; · iexact H3
  isplitl [H4]; · iexact H4
  iempintro

theorem rb_start (c : Dev nD) : iprop((bigSep Finset.univ fun t : Tr => cred (tallyAt (recvCell t c) () N)) ∗ bigSep Finset.univ fun t : Tr => atPos ER (recvCell t c) 0 ∅ 0)
    ⊢ bigSep Finset.univ fun t : Tr => RB (F := F) 0 c t := by
  rw [← bigSep_sep']
  exact fam_mono fun t => Entails.of_eq (by unfold RB; rw [if_neg (Nat.not_lt_zero _)])
theorem ub_start (c : Dev nD) : (emp : sProp 𝕄) ⊢ bigSep Finset.univ fun t : Tr => UB X 0 c t :=
  emp_fam fun t => Entails.of_eq (by unfold UB; rw [if_neg (Nat.not_lt_zero _)])

/-- What the body starts from, put together. -/
theorem bar_intro (c : Dev nD) (W : Waits sig Unit) :
    iprop((recs X K ∗ levAts L lv) ∗ owes (c : Thread nD τ) (oweB c allKeys) W ∗ (barToks (F := F) c ∗ slotsOf (F := F) c)
      ∗ (cred (tallyAt (barCell c) () 4) ∗ atPos ER (barCell c) 0 ∅ 0) ∗ xL X c
      ∗ (xFirst X c ∗ bigSep Finset.univ fun i : TI => ownX (F := F) c (oT (mkT i)))
      ∗ (bigSep Finset.univ fun t : Tr => ST (F := F) c t)
      ∗ ((bigSep Finset.univ fun t : Tr => cred (tallyAt (recvCell t c) () N)) ∗ bigSep Finset.univ fun t : Tr => atPos ER (recvCell t c) 0 ∅ 0))
    ⊢ Bar X K c allKeys := by
  unfold Bar
  iintro ⟨HR, HO, HT, HB, HX, HK, HS, HV⟩
  iexists W
  isplitl [HR]; · iexact HR
  isplitl [HO]; · iexact HO
  isplitl [HT]; · iapply (toks_intro c); iexact HT
  isplitl [HB]; · iexact HB
  isplitl [HX]; · iexact HX
  isplitl [HK]; · iapply (ks_start X c); iexact HK
  isplitl [HS]; · iexact HS
  isplitl [HV]; · iapply (rb_start c); iexact HV
  iapply (ub_start X c); iempintro

/-! ## After the body -/

theorem sb_end (c : Dev nD) : (bigSep Finset.univ fun t : Tr => SB X ms₁.ns ms₁.nw c t)
    ⊢ iprop((bigSep Finset.univ fun t : Tr => semVal (sendCell t c) 0) ∗ bigSep Finset.univ fun t : Tr => sendPay X t.1 t.2.1 t.2.2 c) := by
  rw [← bigSep_sep']
  exact fam_mono fun t => Entails.of_eq (by
    have h1 : ixS t < ms₁.ns := ixS_lt t
    have h2 : ixW t < ms₁.nw := ixW_lt t
    unfold SB; rw [if_pos h1, if_pos h2])
theorem rb_end (c : Dev nD) : (bigSep Finset.univ fun t : Tr => RB (F := F) ms₁.nr c t) ⊢ bigSep Finset.univ fun t : Tr => semVal (recvCell t c) 0 :=
  fam_mono fun t => Entails.of_eq (by unfold RB; exact if_pos (show ixS t < ms₁.nr from ixS_lt t))
theorem ub_end (c : Dev nD) : (bigSep Finset.univ fun t : Tr => UB X ms₁.nu c t) ⊢ bigSep Finset.univ fun t : Tr => used X c t :=
  fam_mono fun t => Entails.of_eq (by unfold UB; exact if_pos (show ixS t < ms₁.nu from ixS_lt t))

/-- What the body ends with, put together: the operand as it was, the result whole at the sum. -/
theorem res_end (c : Dev nD) (W : Waits sig Unit) : iprop(Res X K c ms₁ W ∗ xRest X c)
    ⊢ iprop(owes (c : Thread nD τ) 0 W
      ∗ owns (Ix := Unit) (Name := ℕ) (U := UU) (Lvl := ℕ) (c : Thread nD τ) xM fullShare (X c)
      ∗ owns (Ix := Unit) (Name := ℕ) (U := UU) (Lvl := ℕ) (c : Thread nD τ) oM fullShare (outAt X)
      ∗ ((bigSep Finset.univ fun a : Bool × Bool => anyP (F := F) c a) ∗ bigSep Finset.univ fun a : Bool × Bool => anyZ (F := F) c a)
      ∗ (bigSep Finset.univ fun t : Tr => semVal (sendCell t c) 0) ∗ bigSep Finset.univ fun t : Tr => semVal (recvCell t c) 0) := by
  unfold Res
  have ho : owe c ms₁.ns = 0 := owe_end c
  rw [ho]
  iintro ⟨⟨-, HO, HX, HK, HS, HV, HU⟩, HR⟩
  ihave HS := (sb_end X c) $$ HS
  icases HS with ⟨HS, HP⟩
  ihave HV := (rb_end c) $$ HV
  ihave HU := (ub_end X c) $$ HU
  ihave H := (strands_end X c) $$ [HK HP HU]
  · isplitl [HK]; · iexact HK
    isplitl [HP] <;> iassumption
  icases H with ⟨HT, HF, HB⟩
  isplitl [HO]; · iexact HO
  isplitl [HX HF HR]
  · iapply (owns_halves (c : Thread nD τ) xM fullShare (X c)).2
    isplitl [HX]; · unfold xL; iexact HX
    iapply (x_join X c); isplitl [HF] <;> iassumption
  isplitl [HT]; · iapply (o_join X c); iexact HT
  isplitl [HB]; · iapply (slots_join c); iexact HB
  isplitl [HS] <;> iassumption

end Whole

end Cert.Torus

end
-- ==== Proof.Run569.lean ====
module
public import proofs.«01_k».proof.Proof.Bar

@[expose] public section
set_option maxRecDepth 65536
noncomputable section
namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (X : Dev nD → (cc0_stg0_0 : Ref sig .tc).ty.Contents (Elt F))
variable (K : Dev nD × Option (Bool × Tr) → ℕ)

/-- The operations of the parts 1–60. -/
def ops569 (l : List Op) : List Op :=
  .snd (.pl false 0 0) false 0 :: .snd (.pl true 0 0) false 0 :: .snd (.pl false 0 1) false 0 :: .snd (.pl true 0 1) false 0 :: .snd (.pl false 0 2) false 0 ::
  .snd (.pl true 0 2) false 0 :: .snd (.pl false 0 3) false 0 :: .snd (.pl true 0 3) false 0 :: .rcv (.pl false 0 0) false 0 :: .ldX (.pl false 0 0) false 0 ::
  .ldS (.pl false 0 0) false 0 :: .ldO (.pl false 0 0) false 0 :: .sto (.pl false 0 0) false 0 :: .snd (.pl false 0 0) false 1 :: .rcv (.pl true 0 0) false 0 ::
  .ldX (.pl true 0 0) false 0 :: .ldS (.pl true 0 0) false 0 :: .ldO (.pl true 0 0) false 0 :: .sto (.pl true 0 0) false 0 :: .snd (.pl true 0 0) false 1 ::
  .rcv (.pl false 0 1) false 0 :: .ldX (.pl false 0 1) false 0 :: .ldS (.pl false 0 1) false 0 :: .ldO (.pl false 0 1) false 0 :: .sto (.pl false 0 1) false 0 ::
  .snd (.pl false 0 1) false 1 :: .rcv (.pl true 0 1) false 0 :: .ldX (.pl true 0 1) false 0 :: .ldS (.pl true 0 1) false 0 :: .ldO (.pl true 0 1) false 0 ::
  .sto (.pl true 0 1) false 0 :: .snd (.pl true 0 1) false 1 :: .rcv (.pl false 0 2) false 0 :: .ldX (.pl false 0 2) false 0 :: .ldS (.pl false 0 2) false 0 ::
  .ldO (.pl false 0 2) false 0 :: .sto (.pl false 0 2) false 0 :: .snd (.pl false 0 2) false 1 :: .rcv (.pl true 0 2) false 0 :: .ldX (.pl true 0 2) false 0 ::
  .ldS (.pl true 0 2) false 0 :: .ldO (.pl true 0 2) false 0 :: .sto (.pl true 0 2) false 0 :: .snd (.pl true 0 2) false 1 :: .rcv (.pl false 0 3) false 0 ::
  .ldX (.pl false 0 3) false 0 :: .ldS (.pl false 0 3) false 0 :: .ldO (.pl false 0 3) false 0 :: .sto (.pl false 0 3) false 0 :: .snd (.pl false 0 3) false 1 ::
  .rcv (.pl true 0 3) false 0 :: .ldX (.pl true 0 3) false 0 :: .ldS (.pl true 0 3) false 0 :: .ldO (.pl true 0 3) false 0 :: .sto (.pl true 0 3) false 0 ::
  .snd (.pl true 0 3) false 1 :: .rcv (.pl false 0 0) false 1 :: .ldX (.pl false 0 0) false 1 :: .ldS (.pl false 0 0) false 1 :: .ldO (.pl false 0 0) false 1 ::
  .sto (.pl false 0 0) false 1 :: .snd (.pl false 0 0) false 2 :: .rcv (.pl true 0 0) false 1 :: .ldX (.pl true 0 0) false 1 :: .ldS (.pl true 0 0) false 1 ::
  .ldO (.pl true 0 0) false 1 :: .sto (.pl true 0 0) false 1 :: .snd (.pl true 0 0) false 2 :: .rcv (.pl false 0 1) false 1 :: .ldX (.pl false 0 1) false 1 ::
  .ldS (.pl false 0 1) false 1 :: .ldO (.pl false 0 1) false 1 :: .sto (.pl false 0 1) false 1 :: .snd (.pl false 0 1) false 2 :: .rcv (.pl true 0 1) false 1 ::
  .ldX (.pl true 0 1) false 1 :: .ldS (.pl true 0 1) false 1 :: .ldO (.pl true 0 1) false 1 :: .sto (.pl true 0 1) false 1 :: .snd (.pl true 0 1) false 2 ::
  .rcv (.pl false 0 2) false 1 :: .ldX (.pl false 0 2) false 1 :: .ldS (.pl false 0 2) false 1 :: .ldO (.pl false 0 2) false 1 :: .sto (.pl false 0 2) false 1 ::
  .snd (.pl false 0 2) false 2 :: .rcv (.pl true 0 2) false 1 :: .ldX (.pl true 0 2) false 1 :: .ldS (.pl true 0 2) false 1 :: .ldO (.pl true 0 2) false 1 ::
  .sto (.pl true 0 2) false 1 :: .snd (.pl true 0 2) false 2 :: .rcv (.pl false 0 3) false 1 :: .ldX (.pl false 0 3) false 1 :: .ldS (.pl false 0 3) false 1 ::
  .ldO (.pl false 0 3) false 1 :: .sto (.pl false 0 3) false 1 :: .snd (.pl false 0 3) false 2 :: .rcv (.pl true 0 3) false 1 :: .ldX (.pl true 0 3) false 1 ::
  .ldS (.pl true 0 3) false 1 :: .ldO (.pl true 0 3) false 1 :: .sto (.pl true 0 3) false 1 :: .snd (.pl true 0 3) false 2 :: .rcv (.pl false 0 0) false 2 ::
  .ldX (.pl false 0 0) false 2 :: .ldS (.pl false 0 0) false 2 :: .ldO (.pl false 0 0) false 2 :: .sto (.pl false 0 0) false 2 :: .rcv (.pl true 0 0) false 2 ::
  .ldX (.pl true 0 0) false 2 :: .ldS (.pl true 0 0) false 2 :: .ldO (.pl true 0 0) false 2 :: .sto (.pl true 0 0) false 2 :: .rcv (.pl false 0 1) false 2 ::
  .ldX (.pl false 0 1) false 2 :: .ldS (.pl false 0 1) false 2 :: .ldO (.pl false 0 1) false 2 :: .sto (.pl false 0 1) false 2 :: .rcv (.pl true 0 1) false 2 ::
  .ldX (.pl true 0 1) false 2 :: .ldS (.pl true 0 1) false 2 :: .ldO (.pl true 0 1) false 2 :: .sto (.pl true 0 1) false 2 :: .rcv (.pl false 0 2) false 2 ::
  .ldX (.pl false 0 2) false 2 :: .ldS (.pl false 0 2) false 2 :: .ldO (.pl false 0 2) false 2 :: .sto (.pl false 0 2) false 2 :: .rcv (.pl true 0 2) false 2 ::
  .ldX (.pl true 0 2) false 2 :: .ldS (.pl true 0 2) false 2 :: .ldO (.pl true 0 2) false 2 :: .sto (.pl true 0 2) false 2 :: .rcv (.pl false 0 3) false 2 ::
  .ldX (.pl false 0 3) false 2 :: .ldS (.pl false 0 3) false 2 :: .ldO (.pl false 0 3) false 2 :: .sto (.pl false 0 3) false 2 :: .rcv (.pl true 0 3) false 2 ::
  .ldX (.pl true 0 3) false 2 :: .ldS (.pl true 0 3) false 2 :: .ldO (.pl true 0 3) false 2 :: .sto (.pl true 0 3) false 2 :: .toZ false 0 ::
  .snd (.zz false 0) false 0 :: l

/-- The device is read; the rest is arithmetic. -/
theorem begin1 (c : Dev nD)  {α : Type} {Q : α → sProp 𝕄} {k : _ → Prog (TpuEff nD τ sig (Elt F) Λ₀ .tc) α}
    (hk : ∀ r, r.1 = c → Bar X K c [(false, false), (false, true), (true, false), (true, true)] ⊢ wp frame (wpE (defs₀ (F := F)) 𝒱₀ (c : Thread nD τ) none) Set.univ (k r) Q) :
    Bar X K c [(false, false), (false, true), (true, false), (true, true)] ⊢ wp frame (wpE (defs₀ (F := F)) 𝒱₀ (c : Thread nD τ) none) Set.univ
      (k0_part1 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23  >>= k) Q := by
  rw [k0_part1_eq_skeleton]; unfold k0_part1_skel
  refine step_dev X K ?_
  exact hk _ rfl

/-- Arithmetic alone. -/
theorem begin2 (c : Dev nD) (v12 : BitVec 32) (v29 : BitVec 32) (v32 : BitVec 32) (v33 : BitVec 32) (v34 : BitVec 1) (v35 : BitVec 1) (v36 : BitVec 1) {α : Type} {Q : α → sProp 𝕄} {k : _ → Prog (TpuEff nD τ sig (Elt F) Λ₀ .tc) α}
    (hk : ∀ r, Bar X K c [(false, false), (false, true), (true, false), (true, true)] ⊢ wp frame (wpE (defs₀ (F := F)) 𝒱₀ (c : Thread nD τ) none) Set.univ (k r) Q) :
    Bar X K c [(false, false), (false, true), (true, false), (true, true)] ⊢ wp frame (wpE (defs₀ (F := F)) 𝒱₀ (c : Thread nD τ) none) Set.univ
      (k0_part2 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 v12 v29 v32 v33 v34 v35 v36 >>= k) Q := by
  rw [k0_part2_eq_skeleton]; unfold k0_part2_skel
  exact hk _

/-- The two signals inside the plane. -/
theorem begin3 (c : Dev nD) (v12 : BitVec 32) (v29 : BitVec 32) (v64 : BitVec 32) (v65 : BitVec 32) (v68 : BitVec 32) (v69 : BitVec 32) (v70 : BitVec 1) (v73 : BitVec 1) {α : Type} {Q : α → sProp 𝕄} {k : _ → Prog (TpuEff nD τ sig (Elt F) Λ₀ .tc) α}
    (hk : ∀ r, r.2.2.2 = SemArray.scalar (sig.barrier 0 rfl) → Bar X K c [(true, false), (true, true)] ⊢ wp frame (wpE (defs₀ (F := F)) 𝒱₀ (c : Thread nD τ) none) Set.univ (k r) Q) :
    Bar X K c [(false, false), (false, true), (true, false), (true, true)] ⊢ wp frame (wpE (defs₀ (F := F)) 𝒱₀ (c : Thread nD τ) none) Set.univ
      (k0_part3 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 c v12 v29 v64 v65 v68 v69 v70 v73 >>= k) Q := by
  rw [k0_part3_eq_skeleton]; unfold k0_part3_skel
  iterate 2
    refine step_sig X K ?_ rfl rfl ?_
    · clear * - c; revert c; decide +kernel
  exact hk _ rfl

set_option maxHeartbeats 4000000 in
theorem run569 (c : Dev nD)  {α : Type} {Q : α → sProp 𝕄} {k : _ → Prog (TpuEff nD τ sig (Elt F) Λ₀ .tc) α} {l : List Op}
    (hl : chk (ops569 l) ms₀ = true)
    (hk : ∀ r, r.1 = c → St X K c l ⊢ wp frame (wpE (defs₀ (F := F)) 𝒱₀ (c : Thread nD τ) none) Set.univ (k r) Q) :
    Bar X K c [(false, false), (false, true), (true, false), (true, true)] ⊢ wp frame (wpE (defs₀ (F := F)) 𝒱₀ (c : Thread nD τ) none) Set.univ
      (k0_part569 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 >>= k)
      (fun a => iprop(Q a ∗ semVal (barCell c) 0)) := by
  unfold k0_part569
  simp only [bind_assoc, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  refine begin1 X K c ?_
  rintro ⟨d0, v12, v29, v32, v33, v34, v35, v36⟩ hd
  obtain rfl : d0 = c := hd
  refine begin2 X K d0 _ _ _ _ _ _ _ ?_
  rintro ⟨v40, v51, v64, v65, v68, v69, v70, v73⟩
  refine begin3 X K d0 _ _ _ _ _ _ _ _ ?_
  rintro ⟨v77, v90, v103, v104⟩ hb
  obtain rfl : v104 = _ := hb
  rename Dev nD => c
  dsimp only
  iterate 2
    refine step_sig X K ?_ rfl rfl ?_
    · clear * - c; revert c; decide +kernel
  refine step_bar X K rfl rfl hl ?_
  unfold ops569
  iterate 146 first
    | (with_reducible show St X K c (.toZ _ _ :: _) ⊢ _
       refine step_toZ X K ?_)
    | (with_reducible show St X K c (.midZ _ _ :: _) ⊢ _
       refine step_midZ X K ?_)
    | (with_reducible show St X K c (.fromZ _ _ :: _) ⊢ _
       refine step_fromZ X K ?_)
    | (with_reducible show St X K c (.snd _ _ _ :: _) ⊢ _
       refine step_snd X K ?_ ?_ rfl ?_ ?_ ?_
       · clear * - c; revert c; decide +kernel
       · first
         | (refine oT_of ?_; clear * - c; revert c; decide +kernel)
         | (refine xT_of ?_; clear * - c; revert c; decide +kernel)
         | rfl
       · clear * -; decide +kernel
       · clear * -; decide +kernel)
    | (with_reducible show St X K c (.rcv _ _ _ :: _) ⊢ _
       refine step_rcv X K ?_ rfl ?_
       · clear * -; decide +kernel)
    | (with_reducible show St X K c (.cls _ _ _ :: _) ⊢ _
       refine step_cls X K ?_ rfl ?_
       · clear * -; decide +kernel)
    | (with_reducible show St X K c (.ldX _ _ _ :: _) ⊢ _
       refine step_ldX X K ?_ ?_
       · clear * - c; revert c; decide +kernel
       intro z hz)
    | (with_reducible show St X K c (.ldS (.pl _ _ _) _ _ :: _) ⊢ _
       refine step_ldP X K rfl ?_; intro v hv)
    | (with_reducible show St X K c (.ldS (.zz _ _) _ _ :: _) ⊢ _
       refine step_ldZ X K rfl ?_; intro v hv)
    | (with_reducible show St X K c (.ldA _ _ _ :: _) ⊢ _
       refine step_ldA X K ?_ ?_
       · clear * - c; revert c; decide +kernel
       intro z hz)
    | (with_reducible show St X K c (.ldO _ _ _ :: _) ⊢ _
       refine step_ldO X K ?_ ?_
       · clear * - c; revert c; decide +kernel
       intro _ _)
    | (with_reducible show St X K c (.sto (.pl _ _ _) false _ :: _) ⊢ _
       refine step_stoP X K ?_ hv hz rfl ?_
       · clear * - c; revert c; decide +kernel
       clear hv hz)
    | (with_reducible show St X K c (.sto (.zz _ _) false _ :: _) ⊢ _
       refine step_stoZ X K ?_ hv hz rfl ?_
       · clear * - c; revert c; decide +kernel
       clear hv hz)
    | (with_reducible show St X K c (.sto _ true _ :: _) ⊢ _
       refine step_stoG X K ?_ hv rfl ?_
       · clear * - c; revert c; decide +kernel
       clear hv)
  exact hk _ rfl
end Cert.Torus
end
-- ==== Proof.Run570.lean ====
module
public import proofs.«01_k».proof.Proof.Ghost

@[expose] public section
set_option maxRecDepth 65536
noncomputable section
namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (X : Dev nD → (cc0_stg0_0 : Ref sig .tc).ty.Contents (Elt F))
variable (K : Dev nD × Option (Bool × Tr) → ℕ)

/-- The operations of the parts 61–120. -/
def ops570 (l : List Op) : List Op :=
  .toZ true 0 :: .snd (.zz true 0) false 0 :: .snd (.pl false 1 0) false 0 :: .snd (.pl true 1 0) false 0 :: .snd (.pl false 1 1) false 0 ::
  .snd (.pl true 1 1) false 0 :: .snd (.pl false 1 2) false 0 :: .snd (.pl true 1 2) false 0 :: .snd (.pl false 1 3) false 0 :: .snd (.pl true 1 3) false 0 ::
  .rcv (.zz false 0) false 0 :: .ldA (.zz false 0) false 0 :: .ldS (.zz false 0) false 0 :: .ldO (.zz false 0) false 0 :: .sto (.zz false 0) false 0 ::
  .snd (.zz false 0) false 1 :: .rcv (.zz true 0) false 0 :: .ldA (.zz true 0) false 0 :: .ldS (.zz true 0) false 0 :: .ldO (.zz true 0) false 0 ::
  .sto (.zz true 0) false 0 :: .snd (.zz true 0) false 1 :: .rcv (.pl false 1 0) false 0 :: .ldX (.pl false 1 0) false 0 :: .ldS (.pl false 1 0) false 0 ::
  .ldO (.pl false 1 0) false 0 :: .sto (.pl false 1 0) false 0 :: .snd (.pl false 1 0) false 1 :: .rcv (.pl true 1 0) false 0 :: .ldX (.pl true 1 0) false 0 ::
  .ldS (.pl true 1 0) false 0 :: .ldO (.pl true 1 0) false 0 :: .sto (.pl true 1 0) false 0 :: .snd (.pl true 1 0) false 1 :: .rcv (.pl false 1 1) false 0 ::
  .ldX (.pl false 1 1) false 0 :: .ldS (.pl false 1 1) false 0 :: .ldO (.pl false 1 1) false 0 :: .sto (.pl false 1 1) false 0 :: .snd (.pl false 1 1) false 1 ::
  .rcv (.pl true 1 1) false 0 :: .ldX (.pl true 1 1) false 0 :: .ldS (.pl true 1 1) false 0 :: .ldO (.pl true 1 1) false 0 :: .sto (.pl true 1 1) false 0 ::
  .snd (.pl true 1 1) false 1 :: .rcv (.pl false 1 2) false 0 :: .ldX (.pl false 1 2) false 0 :: .ldS (.pl false 1 2) false 0 :: .ldO (.pl false 1 2) false 0 ::
  .sto (.pl false 1 2) false 0 :: .snd (.pl false 1 2) false 1 :: .rcv (.pl true 1 2) false 0 :: .ldX (.pl true 1 2) false 0 :: .ldS (.pl true 1 2) false 0 ::
  .ldO (.pl true 1 2) false 0 :: .sto (.pl true 1 2) false 0 :: .snd (.pl true 1 2) false 1 :: .rcv (.pl false 1 3) false 0 :: .ldX (.pl false 1 3) false 0 ::
  .ldS (.pl false 1 3) false 0 :: .ldO (.pl false 1 3) false 0 :: .sto (.pl false 1 3) false 0 :: .snd (.pl false 1 3) false 1 :: .rcv (.pl true 1 3) false 0 ::
  .ldX (.pl true 1 3) false 0 :: .ldS (.pl true 1 3) false 0 :: .ldO (.pl true 1 3) false 0 :: .sto (.pl true 1 3) false 0 :: .snd (.pl true 1 3) false 1 ::
  .rcv (.zz false 0) false 1 :: .ldA (.zz false 0) false 1 :: .ldS (.zz false 0) false 1 :: .ldO (.zz false 0) false 1 :: .sto (.zz false 0) false 1 ::
  .snd (.zz false 0) false 2 :: .rcv (.zz true 0) false 1 :: .ldA (.zz true 0) false 1 :: .ldS (.zz true 0) false 1 :: .ldO (.zz true 0) false 1 ::
  .sto (.zz true 0) false 1 :: .snd (.zz true 0) false 2 :: .rcv (.pl false 1 0) false 1 :: .ldX (.pl false 1 0) false 1 :: .ldS (.pl false 1 0) false 1 ::
  .ldO (.pl false 1 0) false 1 :: .sto (.pl false 1 0) false 1 :: .snd (.pl false 1 0) false 2 :: .rcv (.pl true 1 0) false 1 :: .ldX (.pl true 1 0) false 1 ::
  .ldS (.pl true 1 0) false 1 :: .ldO (.pl true 1 0) false 1 :: .sto (.pl true 1 0) false 1 :: .snd (.pl true 1 0) false 2 :: .rcv (.pl false 1 1) false 1 ::
  .ldX (.pl false 1 1) false 1 :: .ldS (.pl false 1 1) false 1 :: .ldO (.pl false 1 1) false 1 :: .sto (.pl false 1 1) false 1 :: .snd (.pl false 1 1) false 2 ::
  .rcv (.pl true 1 1) false 1 :: .ldX (.pl true 1 1) false 1 :: .ldS (.pl true 1 1) false 1 :: .ldO (.pl true 1 1) false 1 :: .sto (.pl true 1 1) false 1 ::
  .snd (.pl true 1 1) false 2 :: .rcv (.pl false 1 2) false 1 :: .ldX (.pl false 1 2) false 1 :: .ldS (.pl false 1 2) false 1 :: .ldO (.pl false 1 2) false 1 ::
  .sto (.pl false 1 2) false 1 :: .snd (.pl false 1 2) false 2 :: .rcv (.pl true 1 2) false 1 :: .ldX (.pl true 1 2) false 1 :: .ldS (.pl true 1 2) false 1 ::
  .ldO (.pl true 1 2) false 1 :: .sto (.pl true 1 2) false 1 :: .snd (.pl true 1 2) false 2 :: .rcv (.pl false 1 3) false 1 :: .ldX (.pl false 1 3) false 1 ::
  .ldS (.pl false 1 3) false 1 :: .ldO (.pl false 1 3) false 1 :: .sto (.pl false 1 3) false 1 :: .snd (.pl false 1 3) false 2 :: .rcv (.pl true 1 3) false 1 ::
  .ldX (.pl true 1 3) false 1 :: .ldS (.pl true 1 3) false 1 :: .ldO (.pl true 1 3) false 1 :: .sto (.pl true 1 3) false 1 :: .snd (.pl true 1 3) false 2 ::
  .rcv (.zz false 0) false 2 :: .ldA (.zz false 0) false 2 :: .ldS (.zz false 0) false 2 :: .ldO (.zz false 0) false 2 :: .sto (.zz false 0) false 2 ::
  .rcv (.zz true 0) false 2 :: .ldA (.zz true 0) false 2 :: .ldS (.zz true 0) false 2 :: .ldO (.zz true 0) false 2 :: .sto (.zz true 0) false 2 ::
  .rcv (.pl false 1 0) false 2 :: .ldX (.pl false 1 0) false 2 :: .ldS (.pl false 1 0) false 2 :: .ldO (.pl false 1 0) false 2 :: .sto (.pl false 1 0) false 2 ::
  .rcv (.pl true 1 0) false 2 :: .ldX (.pl true 1 0) false 2 :: .ldS (.pl true 1 0) false 2 :: .ldO (.pl true 1 0) false 2 :: .sto (.pl true 1 0) false 2 ::
  .rcv (.pl false 1 1) false 2 :: l

set_option maxHeartbeats 4000000 in
theorem run570 (c : Dev nD) (v12 : BitVec 32) (v29 : BitVec 32) (v40 : BitVec 32) (v51 : BitVec 32) (v64 : BitVec 32) (v77 : BitVec 32) (v90 : BitVec 32) (v103 : BitVec 32) (c4_i32_1756 : BitVec 32) (v1745 : BitVec 1) (c1_i32_1758 : BitVec 32) {α : Type} {Q : α → sProp 𝕄} {k : _ → Prog (TpuEff nD τ sig (Elt F) Λ₀ .tc) α} {l : List Op}
    (hk : ∀ r, St X K c l ⊢ wp frame (wpE (defs₀ (F := F)) 𝒱₀ (c : Thread nD τ) none) Set.univ (k r) Q) :
    St X K c (ops570 l) ⊢ wp frame (wpE (defs₀ (F := F)) 𝒱₀ (c : Thread nD τ) none) Set.univ
      (k0_part570 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 c v12 v29 v40 v51 v64 v77 v90 v103 c4_i32_1756 v1745 c1_i32_1758 >>= k) Q := by
  unfold k0_part570 ops570
  simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
  iterate 151 first
    | (with_reducible show St X K c (.toZ _ _ :: _) ⊢ _
       refine step_toZ X K ?_)
    | (with_reducible show St X K c (.midZ _ _ :: _) ⊢ _
       refine step_midZ X K ?_)
    | (with_reducible show St X K c (.fromZ _ _ :: _) ⊢ _
       refine step_fromZ X K ?_)
    | (with_reducible show St X K c (.snd _ _ _ :: _) ⊢ _
       refine step_snd X K ?_ ?_ rfl ?_ ?_ ?_
       · clear * - c; revert c; decide +kernel
       · first
         | (refine oT_of ?_; clear * - c; revert c; decide +kernel)
         | (refine xT_of ?_; clear * - c; revert c; decide +kernel)
         | rfl
       · clear * -; decide +kernel
       · clear * -; decide +kernel)
    | (with_reducible show St X K c (.rcv _ _ _ :: _) ⊢ _
       refine step_rcv X K ?_ rfl ?_
       · clear * -; decide +kernel)
    | (with_reducible show St X K c (.cls _ _ _ :: _) ⊢ _
       refine step_cls X K ?_ rfl ?_
       · clear * -; decide +kernel)
    | (with_reducible show St X K c (.ldX _ _ _ :: _) ⊢ _
       refine step_ldX X K ?_ ?_
       · clear * - c; revert c; decide +kernel
       intro z hz)
    | (with_reducible show St X K c (.ldS (.pl _ _ _) _ _ :: _) ⊢ _
       refine step_ldP X K rfl ?_; intro v hv)
    | (with_reducible show St X K c (.ldS (.zz _ _) _ _ :: _) ⊢ _
       refine step_ldZ X K rfl ?_; intro v hv)
    | (with_reducible show St X K c (.ldA _ _ _ :: _) ⊢ _
       refine step_ldA X K ?_ ?_
       · clear * - c; revert c; decide +kernel
       intro z hz)
    | (with_reducible show St X K c (.ldO _ _ _ :: _) ⊢ _
       refine step_ldO X K ?_ ?_
       · clear * - c; revert c; decide +kernel
       intro _ _)
    | (with_reducible show St X K c (.sto (.pl _ _ _) false _ :: _) ⊢ _
       refine step_stoP X K ?_ hv hz rfl ?_
       · clear * - c; revert c; decide +kernel
       clear hv hz)
    | (with_reducible show St X K c (.sto (.zz _ _) false _ :: _) ⊢ _
       refine step_stoZ X K ?_ hv hz rfl ?_
       · clear * - c; revert c; decide +kernel
       clear hv hz)
    | (with_reducible show St X K c (.sto _ true _ :: _) ⊢ _
       refine step_stoG X K ?_ hv rfl ?_
       · clear * - c; revert c; decide +kernel
       clear hv)
  exact hk _
end Cert.Torus
end
-- ==== Proof.Run571.lean ====
module
public import proofs.«01_k».proof.Proof.Ghost

@[expose] public section
set_option maxRecDepth 65536
noncomputable section
namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (X : Dev nD → (cc0_stg0_0 : Ref sig .tc).ty.Contents (Elt F))
variable (K : Dev nD × Option (Bool × Tr) → ℕ)

/-- The operations of the parts 121–180. -/
def ops571 (l : List Op) : List Op :=
  .ldX (.pl false 1 1) false 2 :: .ldS (.pl false 1 1) false 2 :: .ldO (.pl false 1 1) false 2 :: .sto (.pl false 1 1) false 2 :: .rcv (.pl true 1 1) false 2 ::
  .ldX (.pl true 1 1) false 2 :: .ldS (.pl true 1 1) false 2 :: .ldO (.pl true 1 1) false 2 :: .sto (.pl true 1 1) false 2 :: .rcv (.pl false 1 2) false 2 ::
  .ldX (.pl false 1 2) false 2 :: .ldS (.pl false 1 2) false 2 :: .ldO (.pl false 1 2) false 2 :: .sto (.pl false 1 2) false 2 :: .rcv (.pl true 1 2) false 2 ::
  .ldX (.pl true 1 2) false 2 :: .ldS (.pl true 1 2) false 2 :: .ldO (.pl true 1 2) false 2 :: .sto (.pl true 1 2) false 2 :: .rcv (.pl false 1 3) false 2 ::
  .ldX (.pl false 1 3) false 2 :: .ldS (.pl false 1 3) false 2 :: .ldO (.pl false 1 3) false 2 :: .sto (.pl false 1 3) false 2 :: .rcv (.pl true 1 3) false 2 ::
  .ldX (.pl true 1 3) false 2 :: .ldS (.pl true 1 3) false 2 :: .ldO (.pl true 1 3) false 2 :: .sto (.pl true 1 3) false 2 :: .midZ false 0 ::
  .snd (.zz false 0) true 0 :: .midZ true 0 :: .snd (.zz true 0) true 0 :: .toZ false 1 :: .snd (.zz false 1) false 0 ::
  .toZ true 1 :: .snd (.zz true 1) false 0 :: .snd (.pl false 2 0) false 0 :: .snd (.pl true 2 0) false 0 :: .snd (.pl false 2 1) false 0 ::
  .snd (.pl true 2 1) false 0 :: .snd (.pl false 2 2) false 0 :: .snd (.pl true 2 2) false 0 :: .snd (.pl false 2 3) false 0 :: .snd (.pl true 2 3) false 0 ::
  .rcv (.zz false 0) true 0 :: .snd (.zz false 0) true 1 :: .ldS (.zz false 0) true 0 :: .ldO (.zz false 0) true 0 :: .sto (.zz false 0) true 0 ::
  .rcv (.zz true 0) true 0 :: .snd (.zz true 0) true 1 :: .ldS (.zz true 0) true 0 :: .ldO (.zz true 0) true 0 :: .sto (.zz true 0) true 0 ::
  .rcv (.zz false 1) false 0 :: .ldA (.zz false 1) false 0 :: .ldS (.zz false 1) false 0 :: .ldO (.zz false 1) false 0 :: .sto (.zz false 1) false 0 ::
  .snd (.zz false 1) false 1 :: .rcv (.zz true 1) false 0 :: .ldA (.zz true 1) false 0 :: .ldS (.zz true 1) false 0 :: .ldO (.zz true 1) false 0 ::
  .sto (.zz true 1) false 0 :: .snd (.zz true 1) false 1 :: .rcv (.pl false 2 0) false 0 :: .ldX (.pl false 2 0) false 0 :: .ldS (.pl false 2 0) false 0 ::
  .ldO (.pl false 2 0) false 0 :: .sto (.pl false 2 0) false 0 :: .snd (.pl false 2 0) false 1 :: .rcv (.pl true 2 0) false 0 :: .ldX (.pl true 2 0) false 0 ::
  .ldS (.pl true 2 0) false 0 :: .ldO (.pl true 2 0) false 0 :: .sto (.pl true 2 0) false 0 :: .snd (.pl true 2 0) false 1 :: .rcv (.pl false 2 1) false 0 ::
  .ldX (.pl false 2 1) false 0 :: .ldS (.pl false 2 1) false 0 :: .ldO (.pl false 2 1) false 0 :: .sto (.pl false 2 1) false 0 :: .snd (.pl false 2 1) false 1 ::
  .rcv (.pl true 2 1) false 0 :: .ldX (.pl true 2 1) false 0 :: .ldS (.pl true 2 1) false 0 :: .ldO (.pl true 2 1) false 0 :: .sto (.pl true 2 1) false 0 ::
  .snd (.pl true 2 1) false 1 :: .rcv (.pl false 2 2) false 0 :: .ldX (.pl false 2 2) false 0 :: .ldS (.pl false 2 2) false 0 :: .ldO (.pl false 2 2) false 0 ::
  .sto (.pl false 2 2) false 0 :: .snd (.pl false 2 2) false 1 :: .rcv (.pl true 2 2) false 0 :: .ldX (.pl true 2 2) false 0 :: .ldS (.pl true 2 2) false 0 ::
  .ldO (.pl true 2 2) false 0 :: .sto (.pl true 2 2) false 0 :: .snd (.pl true 2 2) false 1 :: .rcv (.pl false 2 3) false 0 :: .ldX (.pl false 2 3) false 0 ::
  .ldS (.pl false 2 3) false 0 :: .ldO (.pl false 2 3) false 0 :: .sto (.pl false 2 3) false 0 :: .snd (.pl false 2 3) false 1 :: .rcv (.pl true 2 3) false 0 ::
  .ldX (.pl true 2 3) false 0 :: .ldS (.pl true 2 3) false 0 :: .ldO (.pl true 2 3) false 0 :: .sto (.pl true 2 3) false 0 :: .snd (.pl true 2 3) false 1 ::
  .rcv (.zz false 0) true 1 :: .snd (.zz false 0) true 2 :: .ldS (.zz false 0) true 1 :: .ldO (.zz false 0) true 1 :: .sto (.zz false 0) true 1 ::
  .rcv (.zz true 0) true 1 :: .snd (.zz true 0) true 2 :: .ldS (.zz true 0) true 1 :: .ldO (.zz true 0) true 1 :: .sto (.zz true 0) true 1 ::
  .rcv (.zz false 1) false 1 :: .ldA (.zz false 1) false 1 :: .ldS (.zz false 1) false 1 :: .ldO (.zz false 1) false 1 :: .sto (.zz false 1) false 1 ::
  .snd (.zz false 1) false 2 :: .rcv (.zz true 1) false 1 :: .ldA (.zz true 1) false 1 :: .ldS (.zz true 1) false 1 :: .ldO (.zz true 1) false 1 ::
  .sto (.zz true 1) false 1 :: .snd (.zz true 1) false 2 :: .rcv (.pl false 2 0) false 1 :: .ldX (.pl false 2 0) false 1 :: .ldS (.pl false 2 0) false 1 ::
  .ldO (.pl false 2 0) false 1 :: .sto (.pl false 2 0) false 1 :: .snd (.pl false 2 0) false 2 :: .rcv (.pl true 2 0) false 1 :: .ldX (.pl true 2 0) false 1 ::
  .ldS (.pl true 2 0) false 1 :: .ldO (.pl true 2 0) false 1 :: .sto (.pl true 2 0) false 1 :: .snd (.pl true 2 0) false 2 :: .rcv (.pl false 2 1) false 1 ::
  .ldX (.pl false 2 1) false 1 :: .ldS (.pl false 2 1) false 1 :: .ldO (.pl false 2 1) false 1 :: .sto (.pl false 2 1) false 1 :: l

set_option maxHeartbeats 4000000 in
theorem run571 (c : Dev nD) (v12 : BitVec 32) (v29 : BitVec 32) (v40 : BitVec 32) (v51 : BitVec 32) (v64 : BitVec 32) (v77 : BitVec 32) (v90 : BitVec 32) (v103 : BitVec 32) (v3504 : BitVec 32) (c4_i32_3518 : BitVec 32) {α : Type} {Q : α → sProp 𝕄} {k : _ → Prog (TpuEff nD τ sig (Elt F) Λ₀ .tc) α} {l : List Op}
    (hk : ∀ r, St X K c l ⊢ wp frame (wpE (defs₀ (F := F)) 𝒱₀ (c : Thread nD τ) none) Set.univ (k r) Q) :
    St X K c (ops571 l) ⊢ wp frame (wpE (defs₀ (F := F)) 𝒱₀ (c : Thread nD τ) none) Set.univ
      (k0_part571 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 c v12 v29 v40 v51 v64 v77 v90 v103 v3504 c4_i32_3518 >>= k) Q := by
  unfold k0_part571 ops571
  simp only [k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton]
  iterate 154 first
    | (with_reducible show St X K c (.toZ _ _ :: _) ⊢ _
       refine step_toZ X K ?_)
    | (with_reducible show St X K c (.midZ _ _ :: _) ⊢ _
       refine step_midZ X K ?_)
    | (with_reducible show St X K c (.fromZ _ _ :: _) ⊢ _
       refine step_fromZ X K ?_)
    | (with_reducible show St X K c (.snd _ _ _ :: _) ⊢ _
       refine step_snd X K ?_ ?_ rfl ?_ ?_ ?_
       · clear * - c; revert c; decide +kernel
       · first
         | (refine oT_of ?_; clear * - c; revert c; decide +kernel)
         | (refine xT_of ?_; clear * - c; revert c; decide +kernel)
         | rfl
       · clear * -; decide +kernel
       · clear * -; decide +kernel)
    | (with_reducible show St X K c (.rcv _ _ _ :: _) ⊢ _
       refine step_rcv X K ?_ rfl ?_
       · clear * -; decide +kernel)
    | (with_reducible show St X K c (.cls _ _ _ :: _) ⊢ _
       refine step_cls X K ?_ rfl ?_
       · clear * -; decide +kernel)
    | (with_reducible show St X K c (.ldX _ _ _ :: _) ⊢ _
       refine step_ldX X K ?_ ?_
       · clear * - c; revert c; decide +kernel
       intro z hz)
    | (with_reducible show St X K c (.ldS (.pl _ _ _) _ _ :: _) ⊢ _
       refine step_ldP X K rfl ?_; intro v hv)
    | (with_reducible show St X K c (.ldS (.zz _ _) _ _ :: _) ⊢ _
       refine step_ldZ X K rfl ?_; intro v hv)
    | (with_reducible show St X K c (.ldA _ _ _ :: _) ⊢ _
       refine step_ldA X K ?_ ?_
       · clear * - c; revert c; decide +kernel
       intro z hz)
    | (with_reducible show St X K c (.ldO _ _ _ :: _) ⊢ _
       refine step_ldO X K ?_ ?_
       · clear * - c; revert c; decide +kernel
       intro _ _)
    | (with_reducible show St X K c (.sto (.pl _ _ _) false _ :: _) ⊢ _
       refine step_stoP X K ?_ hv hz rfl ?_
       · clear * - c; revert c; decide +kernel
       clear hv hz)
    | (with_reducible show St X K c (.sto (.zz _ _) false _ :: _) ⊢ _
       refine step_stoZ X K ?_ hv hz rfl ?_
       · clear * - c; revert c; decide +kernel
       clear hv hz)
    | (with_reducible show St X K c (.sto _ true _ :: _) ⊢ _
       refine step_stoG X K ?_ hv rfl ?_
       · clear * - c; revert c; decide +kernel
       clear hv)
  exact hk _
end Cert.Torus
end
-- ==== Proof.Run572.lean ====
module
public import proofs.«01_k».proof.Proof.Ghost

@[expose] public section
set_option maxRecDepth 65536
noncomputable section
namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (X : Dev nD → (cc0_stg0_0 : Ref sig .tc).ty.Contents (Elt F))
variable (K : Dev nD × Option (Bool × Tr) → ℕ)

/-- The operations of the parts 181–240. -/
def ops572 (l : List Op) : List Op :=
  .snd (.pl false 2 1) false 2 :: .rcv (.pl true 2 1) false 1 :: .ldX (.pl true 2 1) false 1 :: .ldS (.pl true 2 1) false 1 :: .ldO (.pl true 2 1) false 1 ::
  .sto (.pl true 2 1) false 1 :: .snd (.pl true 2 1) false 2 :: .rcv (.pl false 2 2) false 1 :: .ldX (.pl false 2 2) false 1 :: .ldS (.pl false 2 2) false 1 ::
  .ldO (.pl false 2 2) false 1 :: .sto (.pl false 2 2) false 1 :: .snd (.pl false 2 2) false 2 :: .rcv (.pl true 2 2) false 1 :: .ldX (.pl true 2 2) false 1 ::
  .ldS (.pl true 2 2) false 1 :: .ldO (.pl true 2 2) false 1 :: .sto (.pl true 2 2) false 1 :: .snd (.pl true 2 2) false 2 :: .rcv (.pl false 2 3) false 1 ::
  .ldX (.pl false 2 3) false 1 :: .ldS (.pl false 2 3) false 1 :: .ldO (.pl false 2 3) false 1 :: .sto (.pl false 2 3) false 1 :: .snd (.pl false 2 3) false 2 ::
  .rcv (.pl true 2 3) false 1 :: .ldX (.pl true 2 3) false 1 :: .ldS (.pl true 2 3) false 1 :: .ldO (.pl true 2 3) false 1 :: .sto (.pl true 2 3) false 1 ::
  .snd (.pl true 2 3) false 2 :: .rcv (.zz false 0) true 2 :: .ldS (.zz false 0) true 2 :: .ldO (.zz false 0) true 2 :: .sto (.zz false 0) true 2 ::
  .rcv (.zz true 0) true 2 :: .ldS (.zz true 0) true 2 :: .ldO (.zz true 0) true 2 :: .sto (.zz true 0) true 2 :: .rcv (.zz false 1) false 2 ::
  .ldA (.zz false 1) false 2 :: .ldS (.zz false 1) false 2 :: .ldO (.zz false 1) false 2 :: .sto (.zz false 1) false 2 :: .rcv (.zz true 1) false 2 ::
  .ldA (.zz true 1) false 2 :: .ldS (.zz true 1) false 2 :: .ldO (.zz true 1) false 2 :: .sto (.zz true 1) false 2 :: .rcv (.pl false 2 0) false 2 ::
  .ldX (.pl false 2 0) false 2 :: .ldS (.pl false 2 0) false 2 :: .ldO (.pl false 2 0) false 2 :: .sto (.pl false 2 0) false 2 :: .rcv (.pl true 2 0) false 2 ::
  .ldX (.pl true 2 0) false 2 :: .ldS (.pl true 2 0) false 2 :: .ldO (.pl true 2 0) false 2 :: .sto (.pl true 2 0) false 2 :: .rcv (.pl false 2 1) false 2 ::
  .ldX (.pl false 2 1) false 2 :: .ldS (.pl false 2 1) false 2 :: .ldO (.pl false 2 1) false 2 :: .sto (.pl false 2 1) false 2 :: .rcv (.pl true 2 1) false 2 ::
  .ldX (.pl true 2 1) false 2 :: .ldS (.pl true 2 1) false 2 :: .ldO (.pl true 2 1) false 2 :: .sto (.pl true 2 1) false 2 :: .rcv (.pl false 2 2) false 2 ::
  .ldX (.pl false 2 2) false 2 :: .ldS (.pl false 2 2) false 2 :: .ldO (.pl false 2 2) false 2 :: .sto (.pl false 2 2) false 2 :: .rcv (.pl true 2 2) false 2 ::
  .ldX (.pl true 2 2) false 2 :: .ldS (.pl true 2 2) false 2 :: .ldO (.pl true 2 2) false 2 :: .sto (.pl true 2 2) false 2 :: .rcv (.pl false 2 3) false 2 ::
  .ldX (.pl false 2 3) false 2 :: .ldS (.pl false 2 3) false 2 :: .ldO (.pl false 2 3) false 2 :: .sto (.pl false 2 3) false 2 :: .rcv (.pl true 2 3) false 2 ::
  .ldX (.pl true 2 3) false 2 :: .ldS (.pl true 2 3) false 2 :: .ldO (.pl true 2 3) false 2 :: .sto (.pl true 2 3) false 2 :: .fromZ false 0 ::
  .snd (.pl false 0 0) true 0 :: .fromZ true 0 :: .snd (.pl true 0 0) true 0 :: .snd (.pl false 0 1) true 0 :: .snd (.pl true 0 1) true 0 ::
  .snd (.pl false 0 2) true 0 :: .snd (.pl true 0 2) true 0 :: .snd (.pl false 0 3) true 0 :: .snd (.pl true 0 3) true 0 :: .midZ false 1 ::
  .snd (.zz false 1) true 0 :: .midZ true 1 :: .snd (.zz true 1) true 0 :: .toZ false 2 :: .snd (.zz false 2) false 0 ::
  .toZ true 2 :: .snd (.zz true 2) false 0 :: .snd (.pl false 3 0) false 0 :: .snd (.pl true 3 0) false 0 :: .snd (.pl false 3 1) false 0 ::
  .snd (.pl true 3 1) false 0 :: .snd (.pl false 3 2) false 0 :: .snd (.pl true 3 2) false 0 :: .snd (.pl false 3 3) false 0 :: .snd (.pl true 3 3) false 0 ::
  .rcv (.pl false 0 0) true 0 :: .snd (.pl false 0 0) true 1 :: .ldS (.pl false 0 0) true 0 :: .ldO (.pl false 0 0) true 0 :: .sto (.pl false 0 0) true 0 ::
  .rcv (.pl true 0 0) true 0 :: .snd (.pl true 0 0) true 1 :: .ldS (.pl true 0 0) true 0 :: .ldO (.pl true 0 0) true 0 :: .sto (.pl true 0 0) true 0 ::
  .rcv (.pl false 0 1) true 0 :: .snd (.pl false 0 1) true 1 :: .ldS (.pl false 0 1) true 0 :: .ldO (.pl false 0 1) true 0 :: .sto (.pl false 0 1) true 0 ::
  .rcv (.pl true 0 1) true 0 :: .snd (.pl true 0 1) true 1 :: .ldS (.pl true 0 1) true 0 :: .ldO (.pl true 0 1) true 0 :: .sto (.pl true 0 1) true 0 ::
  .rcv (.pl false 0 2) true 0 :: .snd (.pl false 0 2) true 1 :: .ldS (.pl false 0 2) true 0 :: .ldO (.pl false 0 2) true 0 :: .sto (.pl false 0 2) true 0 ::
  .rcv (.pl true 0 2) true 0 :: .snd (.pl true 0 2) true 1 :: .ldS (.pl true 0 2) true 0 :: .ldO (.pl true 0 2) true 0 :: .sto (.pl true 0 2) true 0 ::
  .rcv (.pl false 0 3) true 0 :: .snd (.pl false 0 3) true 1 :: .ldS (.pl false 0 3) true 0 :: .ldO (.pl false 0 3) true 0 :: .sto (.pl false 0 3) true 0 ::
  .rcv (.pl true 0 3) true 0 :: .snd (.pl true 0 3) true 1 :: .ldS (.pl true 0 3) true 0 :: .ldO (.pl true 0 3) true 0 :: .sto (.pl true 0 3) true 0 ::
  .rcv (.zz false 1) true 0 :: .snd (.zz false 1) true 1 :: .ldS (.zz false 1) true 0 :: .ldO (.zz false 1) true 0 :: .sto (.zz false 1) true 0 ::
  .rcv (.zz true 1) true 0 :: .snd (.zz true 1) true 1 :: .ldS (.zz true 1) true 0 :: l

set_option maxHeartbeats 4000000 in
theorem run572 (c : Dev nD) (v12 : BitVec 32) (v29 : BitVec 32) (v40 : BitVec 32) (v51 : BitVec 32) (v64 : BitVec 32) (v77 : BitVec 32) (v90 : BitVec 32) (v103 : BitVec 32) {α : Type} {Q : α → sProp 𝕄} {k : _ → Prog (TpuEff nD τ sig (Elt F) Λ₀ .tc) α} {l : List Op}
    (hk : ∀ r, r.1 = sval X (.zz true 1) true 0 c → St X K c l ⊢ wp frame (wpE (defs₀ (F := F)) 𝒱₀ (c : Thread nD τ) none) Set.univ (k r) Q) :
    St X K c (ops572 l) ⊢ wp frame (wpE (defs₀ (F := F)) 𝒱₀ (c : Thread nD τ) none) Set.univ
      (k0_part572 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 c v12 v29 v40 v51 v64 v77 v90 v103 >>= k) Q := by
  unfold k0_part572 ops572
  simp only [k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton]
  iterate 163 first
    | (with_reducible show St X K c (.toZ _ _ :: _) ⊢ _
       refine step_toZ X K ?_)
    | (with_reducible show St X K c (.midZ _ _ :: _) ⊢ _
       refine step_midZ X K ?_)
    | (with_reducible show St X K c (.fromZ _ _ :: _) ⊢ _
       refine step_fromZ X K ?_)
    | (with_reducible show St X K c (.snd _ _ _ :: _) ⊢ _
       refine step_snd X K ?_ ?_ rfl ?_ ?_ ?_
       · clear * - c; revert c; decide +kernel
       · first
         | (refine oT_of ?_; clear * - c; revert c; decide +kernel)
         | (refine xT_of ?_; clear * - c; revert c; decide +kernel)
         | rfl
       · clear * -; decide +kernel
       · clear * -; decide +kernel)
    | (with_reducible show St X K c (.rcv _ _ _ :: _) ⊢ _
       refine step_rcv X K ?_ rfl ?_
       · clear * -; decide +kernel)
    | (with_reducible show St X K c (.cls _ _ _ :: _) ⊢ _
       refine step_cls X K ?_ rfl ?_
       · clear * -; decide +kernel)
    | (with_reducible show St X K c (.ldX _ _ _ :: _) ⊢ _
       refine step_ldX X K ?_ ?_
       · clear * - c; revert c; decide +kernel
       intro z hz)
    | (with_reducible show St X K c (.ldS (.pl _ _ _) _ _ :: _) ⊢ _
       refine step_ldP X K rfl ?_; intro v hv)
    | (with_reducible show St X K c (.ldS (.zz _ _) _ _ :: _) ⊢ _
       refine step_ldZ X K rfl ?_; intro v hv)
    | (with_reducible show St X K c (.ldA _ _ _ :: _) ⊢ _
       refine step_ldA X K ?_ ?_
       · clear * - c; revert c; decide +kernel
       intro z hz)
    | (with_reducible show St X K c (.ldO _ _ _ :: _) ⊢ _
       refine step_ldO X K ?_ ?_
       · clear * - c; revert c; decide +kernel
       intro _ _)
    | (with_reducible show St X K c (.sto (.pl _ _ _) false _ :: _) ⊢ _
       refine step_stoP X K ?_ hv hz rfl ?_
       · clear * - c; revert c; decide +kernel
       clear hv hz)
    | (with_reducible show St X K c (.sto (.zz _ _) false _ :: _) ⊢ _
       refine step_stoZ X K ?_ hv hz rfl ?_
       · clear * - c; revert c; decide +kernel
       clear hv hz)
    | (with_reducible show St X K c (.sto _ true _ :: _) ⊢ _
       refine step_stoG X K ?_ hv rfl ?_
       · clear * - c; revert c; decide +kernel
       clear hv)
  exact hk _ hv
end Cert.Torus
end
-- ==== Proof.Run573.lean ====
module
public import proofs.«01_k».proof.Proof.Ghost

@[expose] public section
set_option maxRecDepth 65536
noncomputable section
namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (X : Dev nD → (cc0_stg0_0 : Ref sig .tc).ty.Contents (Elt F))
variable (K : Dev nD × Option (Bool × Tr) → ℕ)

/-- The operations of the parts 241–300. -/
def ops573 (l : List Op) : List Op :=
  .ldO (.zz true 1) true 0 :: .sto (.zz true 1) true 0 :: .rcv (.zz false 2) false 0 :: .ldA (.zz false 2) false 0 :: .ldS (.zz false 2) false 0 ::
  .ldO (.zz false 2) false 0 :: .sto (.zz false 2) false 0 :: .snd (.zz false 2) false 1 :: .rcv (.zz true 2) false 0 :: .ldA (.zz true 2) false 0 ::
  .ldS (.zz true 2) false 0 :: .ldO (.zz true 2) false 0 :: .sto (.zz true 2) false 0 :: .snd (.zz true 2) false 1 :: .rcv (.pl false 3 0) false 0 ::
  .ldX (.pl false 3 0) false 0 :: .ldS (.pl false 3 0) false 0 :: .ldO (.pl false 3 0) false 0 :: .sto (.pl false 3 0) false 0 :: .snd (.pl false 3 0) false 1 ::
  .rcv (.pl true 3 0) false 0 :: .ldX (.pl true 3 0) false 0 :: .ldS (.pl true 3 0) false 0 :: .ldO (.pl true 3 0) false 0 :: .sto (.pl true 3 0) false 0 ::
  .snd (.pl true 3 0) false 1 :: .rcv (.pl false 3 1) false 0 :: .ldX (.pl false 3 1) false 0 :: .ldS (.pl false 3 1) false 0 :: .ldO (.pl false 3 1) false 0 ::
  .sto (.pl false 3 1) false 0 :: .snd (.pl false 3 1) false 1 :: .rcv (.pl true 3 1) false 0 :: .ldX (.pl true 3 1) false 0 :: .ldS (.pl true 3 1) false 0 ::
  .ldO (.pl true 3 1) false 0 :: .sto (.pl true 3 1) false 0 :: .snd (.pl true 3 1) false 1 :: .rcv (.pl false 3 2) false 0 :: .ldX (.pl false 3 2) false 0 ::
  .ldS (.pl false 3 2) false 0 :: .ldO (.pl false 3 2) false 0 :: .sto (.pl false 3 2) false 0 :: .snd (.pl false 3 2) false 1 :: .rcv (.pl true 3 2) false 0 ::
  .ldX (.pl true 3 2) false 0 :: .ldS (.pl true 3 2) false 0 :: .ldO (.pl true 3 2) false 0 :: .sto (.pl true 3 2) false 0 :: .snd (.pl true 3 2) false 1 ::
  .rcv (.pl false 3 3) false 0 :: .ldX (.pl false 3 3) false 0 :: .ldS (.pl false 3 3) false 0 :: .ldO (.pl false 3 3) false 0 :: .sto (.pl false 3 3) false 0 ::
  .snd (.pl false 3 3) false 1 :: .rcv (.pl true 3 3) false 0 :: .ldX (.pl true 3 3) false 0 :: .ldS (.pl true 3 3) false 0 :: .ldO (.pl true 3 3) false 0 ::
  .sto (.pl true 3 3) false 0 :: .snd (.pl true 3 3) false 1 :: .rcv (.pl false 0 0) true 1 :: .snd (.pl false 0 0) true 2 :: .ldS (.pl false 0 0) true 1 ::
  .ldO (.pl false 0 0) true 1 :: .sto (.pl false 0 0) true 1 :: .rcv (.pl true 0 0) true 1 :: .snd (.pl true 0 0) true 2 :: .ldS (.pl true 0 0) true 1 ::
  .ldO (.pl true 0 0) true 1 :: .sto (.pl true 0 0) true 1 :: .rcv (.pl false 0 1) true 1 :: .snd (.pl false 0 1) true 2 :: .ldS (.pl false 0 1) true 1 ::
  .ldO (.pl false 0 1) true 1 :: .sto (.pl false 0 1) true 1 :: .rcv (.pl true 0 1) true 1 :: .snd (.pl true 0 1) true 2 :: .ldS (.pl true 0 1) true 1 ::
  .ldO (.pl true 0 1) true 1 :: .sto (.pl true 0 1) true 1 :: .rcv (.pl false 0 2) true 1 :: .snd (.pl false 0 2) true 2 :: .ldS (.pl false 0 2) true 1 ::
  .ldO (.pl false 0 2) true 1 :: .sto (.pl false 0 2) true 1 :: .rcv (.pl true 0 2) true 1 :: .snd (.pl true 0 2) true 2 :: .ldS (.pl true 0 2) true 1 ::
  .ldO (.pl true 0 2) true 1 :: .sto (.pl true 0 2) true 1 :: .rcv (.pl false 0 3) true 1 :: .snd (.pl false 0 3) true 2 :: .ldS (.pl false 0 3) true 1 ::
  .ldO (.pl false 0 3) true 1 :: .sto (.pl false 0 3) true 1 :: .rcv (.pl true 0 3) true 1 :: .snd (.pl true 0 3) true 2 :: .ldS (.pl true 0 3) true 1 ::
  .ldO (.pl true 0 3) true 1 :: .sto (.pl true 0 3) true 1 :: .rcv (.zz false 1) true 1 :: .snd (.zz false 1) true 2 :: .ldS (.zz false 1) true 1 ::
  .ldO (.zz false 1) true 1 :: .sto (.zz false 1) true 1 :: .rcv (.zz true 1) true 1 :: .snd (.zz true 1) true 2 :: .ldS (.zz true 1) true 1 ::
  .ldO (.zz true 1) true 1 :: .sto (.zz true 1) true 1 :: .rcv (.zz false 2) false 1 :: .ldA (.zz false 2) false 1 :: .ldS (.zz false 2) false 1 ::
  .ldO (.zz false 2) false 1 :: .sto (.zz false 2) false 1 :: .snd (.zz false 2) false 2 :: .rcv (.zz true 2) false 1 :: .ldA (.zz true 2) false 1 ::
  .ldS (.zz true 2) false 1 :: .ldO (.zz true 2) false 1 :: .sto (.zz true 2) false 1 :: .snd (.zz true 2) false 2 :: .rcv (.pl false 3 0) false 1 ::
  .ldX (.pl false 3 0) false 1 :: .ldS (.pl false 3 0) false 1 :: .ldO (.pl false 3 0) false 1 :: .sto (.pl false 3 0) false 1 :: .snd (.pl false 3 0) false 2 ::
  .rcv (.pl true 3 0) false 1 :: .ldX (.pl true 3 0) false 1 :: .ldS (.pl true 3 0) false 1 :: .ldO (.pl true 3 0) false 1 :: .sto (.pl true 3 0) false 1 ::
  .snd (.pl true 3 0) false 2 :: .rcv (.pl false 3 1) false 1 :: .ldX (.pl false 3 1) false 1 :: .ldS (.pl false 3 1) false 1 :: .ldO (.pl false 3 1) false 1 ::
  .sto (.pl false 3 1) false 1 :: .snd (.pl false 3 1) false 2 :: .rcv (.pl true 3 1) false 1 :: .ldX (.pl true 3 1) false 1 :: .ldS (.pl true 3 1) false 1 ::
  .ldO (.pl true 3 1) false 1 :: .sto (.pl true 3 1) false 1 :: .snd (.pl true 3 1) false 2 :: .rcv (.pl false 3 2) false 1 :: .ldX (.pl false 3 2) false 1 ::
  .ldS (.pl false 3 2) false 1 :: .ldO (.pl false 3 2) false 1 :: .sto (.pl false 3 2) false 1 :: .snd (.pl false 3 2) false 2 :: .rcv (.pl true 3 2) false 1 ::
  .ldX (.pl true 3 2) false 1 :: .ldS (.pl true 3 2) false 1 :: .ldO (.pl true 3 2) false 1 :: .sto (.pl true 3 2) false 1 :: .snd (.pl true 3 2) false 2 ::
  .rcv (.pl false 3 3) false 1 :: .ldX (.pl false 3 3) false 1 :: .ldS (.pl false 3 3) false 1 :: .ldO (.pl false 3 3) false 1 :: .sto (.pl false 3 3) false 1 ::
  .snd (.pl false 3 3) false 2 :: l

set_option maxHeartbeats 4000000 in
theorem run573 (c : Dev nD) (v12 : BitVec 32) (v29 : BitVec 32) (v40 : BitVec 32) (v51 : BitVec 32) (v64 : BitVec 32) (v77 : BitVec 32) (v90 : BitVec 32) (v103 : BitVec 32) (v6946 : FVec F S128x128 .f32) (v6958 : BitVec 32) (v6960 : BitVec 32) (v6961 : BitVec 32) (c0_i32_7089 : BitVec 32) {α : Type} {Q : α → sProp 𝕄} {k : _ → Prog (TpuEff nD τ sig (Elt F) Λ₀ .tc) α} {l : List Op}
    (hv : v6946 = sval X (.zz true 1) true 0 c)
    (hk : ∀ r, St X K c l ⊢ wp frame (wpE (defs₀ (F := F)) 𝒱₀ (c : Thread nD τ) none) Set.univ (k r) Q) :
    St X K c (ops573 l) ⊢ wp frame (wpE (defs₀ (F := F)) 𝒱₀ (c : Thread nD τ) none) Set.univ
      (k0_part573 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 c v12 v29 v40 v51 v64 v77 v90 v103 v6946 v6958 v6960 v6961 c0_i32_7089 >>= k) Q := by
  unfold k0_part573 ops573
  simp only [k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton]
  iterate 166 first
    | (with_reducible show St X K c (.toZ _ _ :: _) ⊢ _
       refine step_toZ X K ?_)
    | (with_reducible show St X K c (.midZ _ _ :: _) ⊢ _
       refine step_midZ X K ?_)
    | (with_reducible show St X K c (.fromZ _ _ :: _) ⊢ _
       refine step_fromZ X K ?_)
    | (with_reducible show St X K c (.snd _ _ _ :: _) ⊢ _
       refine step_snd X K ?_ ?_ rfl ?_ ?_ ?_
       · clear * - c; revert c; decide +kernel
       · first
         | (refine oT_of ?_; clear * - c; revert c; decide +kernel)
         | (refine xT_of ?_; clear * - c; revert c; decide +kernel)
         | rfl
       · clear * -; decide +kernel
       · clear * -; decide +kernel)
    | (with_reducible show St X K c (.rcv _ _ _ :: _) ⊢ _
       refine step_rcv X K ?_ rfl ?_
       · clear * -; decide +kernel)
    | (with_reducible show St X K c (.cls _ _ _ :: _) ⊢ _
       refine step_cls X K ?_ rfl ?_
       · clear * -; decide +kernel)
    | (with_reducible show St X K c (.ldX _ _ _ :: _) ⊢ _
       refine step_ldX X K ?_ ?_
       · clear * - c; revert c; decide +kernel
       intro z hz)
    | (with_reducible show St X K c (.ldS (.pl _ _ _) _ _ :: _) ⊢ _
       refine step_ldP X K rfl ?_; intro v hv)
    | (with_reducible show St X K c (.ldS (.zz _ _) _ _ :: _) ⊢ _
       refine step_ldZ X K rfl ?_; intro v hv)
    | (with_reducible show St X K c (.ldA _ _ _ :: _) ⊢ _
       refine step_ldA X K ?_ ?_
       · clear * - c; revert c; decide +kernel
       intro z hz)
    | (with_reducible show St X K c (.ldO _ _ _ :: _) ⊢ _
       refine step_ldO X K ?_ ?_
       · clear * - c; revert c; decide +kernel
       intro _ _)
    | (with_reducible show St X K c (.sto (.pl _ _ _) false _ :: _) ⊢ _
       refine step_stoP X K ?_ hv hz rfl ?_
       · clear * - c; revert c; decide +kernel
       clear hv hz)
    | (with_reducible show St X K c (.sto (.zz _ _) false _ :: _) ⊢ _
       refine step_stoZ X K ?_ hv hz rfl ?_
       · clear * - c; revert c; decide +kernel
       clear hv hz)
    | (with_reducible show St X K c (.sto _ true _ :: _) ⊢ _
       refine step_stoG X K ?_ hv rfl ?_
       · clear * - c; revert c; decide +kernel
       clear hv)
  exact hk _
end Cert.Torus
end
-- ==== Proof.Run574.lean ====
module
public import proofs.«01_k».proof.Proof.Ghost

@[expose] public section
set_option maxRecDepth 65536
noncomputable section
namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (X : Dev nD → (cc0_stg0_0 : Ref sig .tc).ty.Contents (Elt F))
variable (K : Dev nD × Option (Bool × Tr) → ℕ)

/-- The operations of the parts 301–360. -/
def ops574 (l : List Op) : List Op :=
  .rcv (.pl true 3 3) false 1 :: .ldX (.pl true 3 3) false 1 :: .ldS (.pl true 3 3) false 1 :: .ldO (.pl true 3 3) false 1 :: .sto (.pl true 3 3) false 1 ::
  .snd (.pl true 3 3) false 2 :: .rcv (.pl false 0 0) true 2 :: .ldS (.pl false 0 0) true 2 :: .ldO (.pl false 0 0) true 2 :: .sto (.pl false 0 0) true 2 ::
  .rcv (.pl true 0 0) true 2 :: .ldS (.pl true 0 0) true 2 :: .ldO (.pl true 0 0) true 2 :: .sto (.pl true 0 0) true 2 :: .rcv (.pl false 0 1) true 2 ::
  .ldS (.pl false 0 1) true 2 :: .ldO (.pl false 0 1) true 2 :: .sto (.pl false 0 1) true 2 :: .rcv (.pl true 0 1) true 2 :: .ldS (.pl true 0 1) true 2 ::
  .ldO (.pl true 0 1) true 2 :: .sto (.pl true 0 1) true 2 :: .rcv (.pl false 0 2) true 2 :: .ldS (.pl false 0 2) true 2 :: .ldO (.pl false 0 2) true 2 ::
  .sto (.pl false 0 2) true 2 :: .rcv (.pl true 0 2) true 2 :: .ldS (.pl true 0 2) true 2 :: .ldO (.pl true 0 2) true 2 :: .sto (.pl true 0 2) true 2 ::
  .rcv (.pl false 0 3) true 2 :: .ldS (.pl false 0 3) true 2 :: .ldO (.pl false 0 3) true 2 :: .sto (.pl false 0 3) true 2 :: .rcv (.pl true 0 3) true 2 ::
  .ldS (.pl true 0 3) true 2 :: .ldO (.pl true 0 3) true 2 :: .sto (.pl true 0 3) true 2 :: .rcv (.zz false 1) true 2 :: .ldS (.zz false 1) true 2 ::
  .ldO (.zz false 1) true 2 :: .sto (.zz false 1) true 2 :: .rcv (.zz true 1) true 2 :: .ldS (.zz true 1) true 2 :: .ldO (.zz true 1) true 2 ::
  .sto (.zz true 1) true 2 :: .rcv (.zz false 2) false 2 :: .ldA (.zz false 2) false 2 :: .ldS (.zz false 2) false 2 :: .ldO (.zz false 2) false 2 ::
  .sto (.zz false 2) false 2 :: .rcv (.zz true 2) false 2 :: .ldA (.zz true 2) false 2 :: .ldS (.zz true 2) false 2 :: .ldO (.zz true 2) false 2 ::
  .sto (.zz true 2) false 2 :: .rcv (.pl false 3 0) false 2 :: .ldX (.pl false 3 0) false 2 :: .ldS (.pl false 3 0) false 2 :: .ldO (.pl false 3 0) false 2 ::
  .sto (.pl false 3 0) false 2 :: .rcv (.pl true 3 0) false 2 :: .ldX (.pl true 3 0) false 2 :: .ldS (.pl true 3 0) false 2 :: .ldO (.pl true 3 0) false 2 ::
  .sto (.pl true 3 0) false 2 :: .rcv (.pl false 3 1) false 2 :: .ldX (.pl false 3 1) false 2 :: .ldS (.pl false 3 1) false 2 :: .ldO (.pl false 3 1) false 2 ::
  .sto (.pl false 3 1) false 2 :: .rcv (.pl true 3 1) false 2 :: .ldX (.pl true 3 1) false 2 :: .ldS (.pl true 3 1) false 2 :: .ldO (.pl true 3 1) false 2 ::
  .sto (.pl true 3 1) false 2 :: .rcv (.pl false 3 2) false 2 :: .ldX (.pl false 3 2) false 2 :: .ldS (.pl false 3 2) false 2 :: .ldO (.pl false 3 2) false 2 ::
  .sto (.pl false 3 2) false 2 :: .rcv (.pl true 3 2) false 2 :: .ldX (.pl true 3 2) false 2 :: .ldS (.pl true 3 2) false 2 :: .ldO (.pl true 3 2) false 2 ::
  .sto (.pl true 3 2) false 2 :: .rcv (.pl false 3 3) false 2 :: .ldX (.pl false 3 3) false 2 :: .ldS (.pl false 3 3) false 2 :: .ldO (.pl false 3 3) false 2 ::
  .sto (.pl false 3 3) false 2 :: .rcv (.pl true 3 3) false 2 :: .ldX (.pl true 3 3) false 2 :: .ldS (.pl true 3 3) false 2 :: .ldO (.pl true 3 3) false 2 ::
  .sto (.pl true 3 3) false 2 :: .fromZ false 1 :: .snd (.pl false 1 0) true 0 :: .fromZ true 1 :: .snd (.pl true 1 0) true 0 ::
  .snd (.pl false 1 1) true 0 :: .snd (.pl true 1 1) true 0 :: .snd (.pl false 1 2) true 0 :: .snd (.pl true 1 2) true 0 :: .snd (.pl false 1 3) true 0 ::
  .snd (.pl true 1 3) true 0 :: .midZ false 2 :: .snd (.zz false 2) true 0 :: .midZ true 2 :: .snd (.zz true 2) true 0 ::
  .toZ false 3 :: .snd (.zz false 3) false 0 :: .toZ true 3 :: .snd (.zz true 3) false 0 :: .rcv (.pl false 1 0) true 0 ::
  .snd (.pl false 1 0) true 1 :: .ldS (.pl false 1 0) true 0 :: .ldO (.pl false 1 0) true 0 :: .sto (.pl false 1 0) true 0 :: .rcv (.pl true 1 0) true 0 ::
  .snd (.pl true 1 0) true 1 :: .ldS (.pl true 1 0) true 0 :: .ldO (.pl true 1 0) true 0 :: .sto (.pl true 1 0) true 0 :: .rcv (.pl false 1 1) true 0 ::
  .snd (.pl false 1 1) true 1 :: .ldS (.pl false 1 1) true 0 :: .ldO (.pl false 1 1) true 0 :: .sto (.pl false 1 1) true 0 :: .rcv (.pl true 1 1) true 0 ::
  .snd (.pl true 1 1) true 1 :: .ldS (.pl true 1 1) true 0 :: .ldO (.pl true 1 1) true 0 :: .sto (.pl true 1 1) true 0 :: .rcv (.pl false 1 2) true 0 ::
  .snd (.pl false 1 2) true 1 :: .ldS (.pl false 1 2) true 0 :: .ldO (.pl false 1 2) true 0 :: .sto (.pl false 1 2) true 0 :: .rcv (.pl true 1 2) true 0 ::
  .snd (.pl true 1 2) true 1 :: .ldS (.pl true 1 2) true 0 :: .ldO (.pl true 1 2) true 0 :: .sto (.pl true 1 2) true 0 :: .rcv (.pl false 1 3) true 0 ::
  .snd (.pl false 1 3) true 1 :: .ldS (.pl false 1 3) true 0 :: .ldO (.pl false 1 3) true 0 :: .sto (.pl false 1 3) true 0 :: .rcv (.pl true 1 3) true 0 ::
  .snd (.pl true 1 3) true 1 :: .ldS (.pl true 1 3) true 0 :: .ldO (.pl true 1 3) true 0 :: .sto (.pl true 1 3) true 0 :: .rcv (.zz false 2) true 0 ::
  .snd (.zz false 2) true 1 :: .ldS (.zz false 2) true 0 :: .ldO (.zz false 2) true 0 :: .sto (.zz false 2) true 0 :: .rcv (.zz true 2) true 0 ::
  .snd (.zz true 2) true 1 :: .ldS (.zz true 2) true 0 :: .ldO (.zz true 2) true 0 :: .sto (.zz true 2) true 0 :: .rcv (.zz false 3) false 0 ::
  .ldA (.zz false 3) false 0 :: .ldS (.zz false 3) false 0 :: .ldO (.zz false 3) false 0 :: .sto (.zz false 3) false 0 :: .snd (.zz false 3) false 1 ::
  .rcv (.zz true 3) false 0 :: .ldA (.zz true 3) false 0 :: .ldS (.zz true 3) false 0 :: .ldO (.zz true 3) false 0 :: .sto (.zz true 3) false 0 ::
  .snd (.zz true 3) false 1 :: .rcv (.pl false 1 0) true 1 :: .snd (.pl false 1 0) true 2 :: .ldS (.pl false 1 0) true 1 :: .ldO (.pl false 1 0) true 1 ::
  .sto (.pl false 1 0) true 1 :: .rcv (.pl true 1 0) true 1 :: .snd (.pl true 1 0) true 2 :: .ldS (.pl true 1 0) true 1 :: .ldO (.pl true 1 0) true 1 ::
  .sto (.pl true 1 0) true 1 :: l

set_option maxHeartbeats 4000000 in
theorem run574 (c : Dev nD) (v12 : BitVec 32) (v29 : BitVec 32) (v40 : BitVec 32) (v51 : BitVec 32) (v64 : BitVec 32) (v77 : BitVec 32) (v90 : BitVec 32) (v103 : BitVec 32) (v8650 : BitVec 32) {α : Type} {Q : α → sProp 𝕄} {k : _ → Prog (TpuEff nD τ sig (Elt F) Λ₀ .tc) α} {l : List Op}
    (hk : ∀ r, St X K c l ⊢ wp frame (wpE (defs₀ (F := F)) 𝒱₀ (c : Thread nD τ) none) Set.univ (k r) Q) :
    St X K c (ops574 l) ⊢ wp frame (wpE (defs₀ (F := F)) 𝒱₀ (c : Thread nD τ) none) Set.univ
      (k0_part574 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 c v12 v29 v40 v51 v64 v77 v90 v103 v8650 >>= k) Q := by
  unfold k0_part574 ops574
  simp only [k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton]
  iterate 186 first
    | (with_reducible show St X K c (.toZ _ _ :: _) ⊢ _
       refine step_toZ X K ?_)
    | (with_reducible show St X K c (.midZ _ _ :: _) ⊢ _
       refine step_midZ X K ?_)
    | (with_reducible show St X K c (.fromZ _ _ :: _) ⊢ _
       refine step_fromZ X K ?_)
    | (with_reducible show St X K c (.snd _ _ _ :: _) ⊢ _
       refine step_snd X K ?_ ?_ rfl ?_ ?_ ?_
       · clear * - c; revert c; decide +kernel
       · first
         | (refine oT_of ?_; clear * - c; revert c; decide +kernel)
         | (refine xT_of ?_; clear * - c; revert c; decide +kernel)
         | rfl
       · clear * -; decide +kernel
       · clear * -; decide +kernel)
    | (with_reducible show St X K c (.rcv _ _ _ :: _) ⊢ _
       refine step_rcv X K ?_ rfl ?_
       · clear * -; decide +kernel)
    | (with_reducible show St X K c (.cls _ _ _ :: _) ⊢ _
       refine step_cls X K ?_ rfl ?_
       · clear * -; decide +kernel)
    | (with_reducible show St X K c (.ldX _ _ _ :: _) ⊢ _
       refine step_ldX X K ?_ ?_
       · clear * - c; revert c; decide +kernel
       intro z hz)
    | (with_reducible show St X K c (.ldS (.pl _ _ _) _ _ :: _) ⊢ _
       refine step_ldP X K rfl ?_; intro v hv)
    | (with_reducible show St X K c (.ldS (.zz _ _) _ _ :: _) ⊢ _
       refine step_ldZ X K rfl ?_; intro v hv)
    | (with_reducible show St X K c (.ldA _ _ _ :: _) ⊢ _
       refine step_ldA X K ?_ ?_
       · clear * - c; revert c; decide +kernel
       intro z hz)
    | (with_reducible show St X K c (.ldO _ _ _ :: _) ⊢ _
       refine step_ldO X K ?_ ?_
       · clear * - c; revert c; decide +kernel
       intro _ _)
    | (with_reducible show St X K c (.sto (.pl _ _ _) false _ :: _) ⊢ _
       refine step_stoP X K ?_ hv hz rfl ?_
       · clear * - c; revert c; decide +kernel
       clear hv hz)
    | (with_reducible show St X K c (.sto (.zz _ _) false _ :: _) ⊢ _
       refine step_stoZ X K ?_ hv hz rfl ?_
       · clear * - c; revert c; decide +kernel
       clear hv hz)
    | (with_reducible show St X K c (.sto _ true _ :: _) ⊢ _
       refine step_stoG X K ?_ hv rfl ?_
       · clear * - c; revert c; decide +kernel
       clear hv)
  exact hk _
end Cert.Torus
end
-- ==== Proof.Run575.lean ====
module
public import proofs.«01_k».proof.Proof.Ghost

@[expose] public section
set_option maxRecDepth 65536
noncomputable section
namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (X : Dev nD → (cc0_stg0_0 : Ref sig .tc).ty.Contents (Elt F))
variable (K : Dev nD × Option (Bool × Tr) → ℕ)

/-- The operations of the parts 361–420. -/
def ops575 (l : List Op) : List Op :=
  .rcv (.pl false 1 1) true 1 :: .snd (.pl false 1 1) true 2 :: .ldS (.pl false 1 1) true 1 :: .ldO (.pl false 1 1) true 1 :: .sto (.pl false 1 1) true 1 ::
  .rcv (.pl true 1 1) true 1 :: .snd (.pl true 1 1) true 2 :: .ldS (.pl true 1 1) true 1 :: .ldO (.pl true 1 1) true 1 :: .sto (.pl true 1 1) true 1 ::
  .rcv (.pl false 1 2) true 1 :: .snd (.pl false 1 2) true 2 :: .ldS (.pl false 1 2) true 1 :: .ldO (.pl false 1 2) true 1 :: .sto (.pl false 1 2) true 1 ::
  .rcv (.pl true 1 2) true 1 :: .snd (.pl true 1 2) true 2 :: .ldS (.pl true 1 2) true 1 :: .ldO (.pl true 1 2) true 1 :: .sto (.pl true 1 2) true 1 ::
  .rcv (.pl false 1 3) true 1 :: .snd (.pl false 1 3) true 2 :: .ldS (.pl false 1 3) true 1 :: .ldO (.pl false 1 3) true 1 :: .sto (.pl false 1 3) true 1 ::
  .rcv (.pl true 1 3) true 1 :: .snd (.pl true 1 3) true 2 :: .ldS (.pl true 1 3) true 1 :: .ldO (.pl true 1 3) true 1 :: .sto (.pl true 1 3) true 1 ::
  .rcv (.zz false 2) true 1 :: .snd (.zz false 2) true 2 :: .ldS (.zz false 2) true 1 :: .ldO (.zz false 2) true 1 :: .sto (.zz false 2) true 1 ::
  .rcv (.zz true 2) true 1 :: .snd (.zz true 2) true 2 :: .ldS (.zz true 2) true 1 :: .ldO (.zz true 2) true 1 :: .sto (.zz true 2) true 1 ::
  .rcv (.zz false 3) false 1 :: .ldA (.zz false 3) false 1 :: .ldS (.zz false 3) false 1 :: .ldO (.zz false 3) false 1 :: .sto (.zz false 3) false 1 ::
  .snd (.zz false 3) false 2 :: .rcv (.zz true 3) false 1 :: .ldA (.zz true 3) false 1 :: .ldS (.zz true 3) false 1 :: .ldO (.zz true 3) false 1 ::
  .sto (.zz true 3) false 1 :: .snd (.zz true 3) false 2 :: .rcv (.pl false 1 0) true 2 :: .ldS (.pl false 1 0) true 2 :: .ldO (.pl false 1 0) true 2 ::
  .sto (.pl false 1 0) true 2 :: .rcv (.pl true 1 0) true 2 :: .ldS (.pl true 1 0) true 2 :: .ldO (.pl true 1 0) true 2 :: .sto (.pl true 1 0) true 2 ::
  .rcv (.pl false 1 1) true 2 :: .ldS (.pl false 1 1) true 2 :: .ldO (.pl false 1 1) true 2 :: .sto (.pl false 1 1) true 2 :: .rcv (.pl true 1 1) true 2 ::
  .ldS (.pl true 1 1) true 2 :: .ldO (.pl true 1 1) true 2 :: .sto (.pl true 1 1) true 2 :: .rcv (.pl false 1 2) true 2 :: .ldS (.pl false 1 2) true 2 ::
  .ldO (.pl false 1 2) true 2 :: .sto (.pl false 1 2) true 2 :: .rcv (.pl true 1 2) true 2 :: .ldS (.pl true 1 2) true 2 :: .ldO (.pl true 1 2) true 2 ::
  .sto (.pl true 1 2) true 2 :: .rcv (.pl false 1 3) true 2 :: .ldS (.pl false 1 3) true 2 :: .ldO (.pl false 1 3) true 2 :: .sto (.pl false 1 3) true 2 ::
  .rcv (.pl true 1 3) true 2 :: .ldS (.pl true 1 3) true 2 :: .ldO (.pl true 1 3) true 2 :: .sto (.pl true 1 3) true 2 :: .rcv (.zz false 2) true 2 ::
  .ldS (.zz false 2) true 2 :: .ldO (.zz false 2) true 2 :: .sto (.zz false 2) true 2 :: .rcv (.zz true 2) true 2 :: .ldS (.zz true 2) true 2 ::
  .ldO (.zz true 2) true 2 :: .sto (.zz true 2) true 2 :: .rcv (.zz false 3) false 2 :: .ldA (.zz false 3) false 2 :: .ldS (.zz false 3) false 2 ::
  .ldO (.zz false 3) false 2 :: .sto (.zz false 3) false 2 :: .rcv (.zz true 3) false 2 :: .ldA (.zz true 3) false 2 :: .ldS (.zz true 3) false 2 ::
  .ldO (.zz true 3) false 2 :: .sto (.zz true 3) false 2 :: .fromZ false 2 :: .snd (.pl false 2 0) true 0 :: .fromZ true 2 ::
  .snd (.pl true 2 0) true 0 :: .snd (.pl false 2 1) true 0 :: .snd (.pl true 2 1) true 0 :: .snd (.pl false 2 2) true 0 :: .snd (.pl true 2 2) true 0 ::
  .snd (.pl false 2 3) true 0 :: .snd (.pl true 2 3) true 0 :: .midZ false 3 :: .snd (.zz false 3) true 0 :: .midZ true 3 ::
  .snd (.zz true 3) true 0 :: .rcv (.pl false 2 0) true 0 :: .snd (.pl false 2 0) true 1 :: .ldS (.pl false 2 0) true 0 :: .ldO (.pl false 2 0) true 0 ::
  .sto (.pl false 2 0) true 0 :: .rcv (.pl true 2 0) true 0 :: .snd (.pl true 2 0) true 1 :: .ldS (.pl true 2 0) true 0 :: .ldO (.pl true 2 0) true 0 ::
  .sto (.pl true 2 0) true 0 :: .rcv (.pl false 2 1) true 0 :: .snd (.pl false 2 1) true 1 :: .ldS (.pl false 2 1) true 0 :: .ldO (.pl false 2 1) true 0 ::
  .sto (.pl false 2 1) true 0 :: .rcv (.pl true 2 1) true 0 :: .snd (.pl true 2 1) true 1 :: .ldS (.pl true 2 1) true 0 :: .ldO (.pl true 2 1) true 0 ::
  .sto (.pl true 2 1) true 0 :: .rcv (.pl false 2 2) true 0 :: .snd (.pl false 2 2) true 1 :: .ldS (.pl false 2 2) true 0 :: .ldO (.pl false 2 2) true 0 ::
  .sto (.pl false 2 2) true 0 :: .rcv (.pl true 2 2) true 0 :: .snd (.pl true 2 2) true 1 :: .ldS (.pl true 2 2) true 0 :: .ldO (.pl true 2 2) true 0 ::
  .sto (.pl true 2 2) true 0 :: .rcv (.pl false 2 3) true 0 :: .snd (.pl false 2 3) true 1 :: .ldS (.pl false 2 3) true 0 :: .ldO (.pl false 2 3) true 0 ::
  .sto (.pl false 2 3) true 0 :: .rcv (.pl true 2 3) true 0 :: .snd (.pl true 2 3) true 1 :: .ldS (.pl true 2 3) true 0 :: .ldO (.pl true 2 3) true 0 ::
  .sto (.pl true 2 3) true 0 :: .rcv (.zz false 3) true 0 :: .snd (.zz false 3) true 1 :: .ldS (.zz false 3) true 0 :: .ldO (.zz false 3) true 0 ::
  .sto (.zz false 3) true 0 :: .rcv (.zz true 3) true 0 :: .snd (.zz true 3) true 1 :: .ldS (.zz true 3) true 0 :: .ldO (.zz true 3) true 0 ::
  .sto (.zz true 3) true 0 :: .rcv (.pl false 2 0) true 1 :: .snd (.pl false 2 0) true 2 :: .ldS (.pl false 2 0) true 1 :: .ldO (.pl false 2 0) true 1 ::
  .sto (.pl false 2 0) true 1 :: .rcv (.pl true 2 0) true 1 :: .snd (.pl true 2 0) true 2 :: .ldS (.pl true 2 0) true 1 :: .ldO (.pl true 2 0) true 1 ::
  .sto (.pl true 2 0) true 1 :: .rcv (.pl false 2 1) true 1 :: .snd (.pl false 2 1) true 2 :: .ldS (.pl false 2 1) true 1 :: .ldO (.pl false 2 1) true 1 ::
  .sto (.pl false 2 1) true 1 :: .rcv (.pl true 2 1) true 1 :: .snd (.pl true 2 1) true 2 :: .ldS (.pl true 2 1) true 1 :: .ldO (.pl true 2 1) true 1 ::
  .sto (.pl true 2 1) true 1 :: .rcv (.pl false 2 2) true 1 :: .snd (.pl false 2 2) true 2 :: .ldS (.pl false 2 2) true 1 :: l

set_option maxHeartbeats 4000000 in
theorem run575 (c : Dev nD) (v12 : BitVec 32) (v29 : BitVec 32) (v40 : BitVec 32) (v51 : BitVec 32) (v64 : BitVec 32) (v77 : BitVec 32) (v90 : BitVec 32) (v103 : BitVec 32) {α : Type} {Q : α → sProp 𝕄} {k : _ → Prog (TpuEff nD τ sig (Elt F) Λ₀ .tc) α} {l : List Op}
    (hk : ∀ r, r.1 = sval X (.pl false 2 2) true 1 c → St X K c l ⊢ wp frame (wpE (defs₀ (F := F)) 𝒱₀ (c : Thread nD τ) none) Set.univ (k r) Q) :
    St X K c (ops575 l) ⊢ wp frame (wpE (defs₀ (F := F)) 𝒱₀ (c : Thread nD τ) none) Set.univ
      (k0_part575 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 c v12 v29 v40 v51 v64 v77 v90 v103 >>= k) Q := by
  unfold k0_part575 ops575
  simp only [k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton]
  iterate 189 first
    | (with_reducible show St X K c (.toZ _ _ :: _) ⊢ _
       refine step_toZ X K ?_)
    | (with_reducible show St X K c (.midZ _ _ :: _) ⊢ _
       refine step_midZ X K ?_)
    | (with_reducible show St X K c (.fromZ _ _ :: _) ⊢ _
       refine step_fromZ X K ?_)
    | (with_reducible show St X K c (.snd _ _ _ :: _) ⊢ _
       refine step_snd X K ?_ ?_ rfl ?_ ?_ ?_
       · clear * - c; revert c; decide +kernel
       · first
         | (refine oT_of ?_; clear * - c; revert c; decide +kernel)
         | (refine xT_of ?_; clear * - c; revert c; decide +kernel)
         | rfl
       · clear * -; decide +kernel
       · clear * -; decide +kernel)
    | (with_reducible show St X K c (.rcv _ _ _ :: _) ⊢ _
       refine step_rcv X K ?_ rfl ?_
       · clear * -; decide +kernel)
    | (with_reducible show St X K c (.cls _ _ _ :: _) ⊢ _
       refine step_cls X K ?_ rfl ?_
       · clear * -; decide +kernel)
    | (with_reducible show St X K c (.ldX _ _ _ :: _) ⊢ _
       refine step_ldX X K ?_ ?_
       · clear * - c; revert c; decide +kernel
       intro z hz)
    | (with_reducible show St X K c (.ldS (.pl _ _ _) _ _ :: _) ⊢ _
       refine step_ldP X K rfl ?_; intro v hv)
    | (with_reducible show St X K c (.ldS (.zz _ _) _ _ :: _) ⊢ _
       refine step_ldZ X K rfl ?_; intro v hv)
    | (with_reducible show St X K c (.ldA _ _ _ :: _) ⊢ _
       refine step_ldA X K ?_ ?_
       · clear * - c; revert c; decide +kernel
       intro z hz)
    | (with_reducible show St X K c (.ldO _ _ _ :: _) ⊢ _
       refine step_ldO X K ?_ ?_
       · clear * - c; revert c; decide +kernel
       intro _ _)
    | (with_reducible show St X K c (.sto (.pl _ _ _) false _ :: _) ⊢ _
       refine step_stoP X K ?_ hv hz rfl ?_
       · clear * - c; revert c; decide +kernel
       clear hv hz)
    | (with_reducible show St X K c (.sto (.zz _ _) false _ :: _) ⊢ _
       refine step_stoZ X K ?_ hv hz rfl ?_
       · clear * - c; revert c; decide +kernel
       clear hv hz)
    | (with_reducible show St X K c (.sto _ true _ :: _) ⊢ _
       refine step_stoG X K ?_ hv rfl ?_
       · clear * - c; revert c; decide +kernel
       clear hv)
  exact hk _ hv
end Cert.Torus
end
-- ==== Proof.Run576.lean ====
module
public import proofs.«01_k».proof.Proof.Ghost

@[expose] public section
set_option maxRecDepth 65536
noncomputable section
namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (X : Dev nD → (cc0_stg0_0 : Ref sig .tc).ty.Contents (Elt F))
variable (K : Dev nD × Option (Bool × Tr) → ℕ)

/-- The operations of the parts 421–480. -/
def ops576 (l : List Op) : List Op :=
  .ldO (.pl false 2 2) true 1 :: .sto (.pl false 2 2) true 1 :: .rcv (.pl true 2 2) true 1 :: .snd (.pl true 2 2) true 2 :: .ldS (.pl true 2 2) true 1 ::
  .ldO (.pl true 2 2) true 1 :: .sto (.pl true 2 2) true 1 :: .rcv (.pl false 2 3) true 1 :: .snd (.pl false 2 3) true 2 :: .ldS (.pl false 2 3) true 1 ::
  .ldO (.pl false 2 3) true 1 :: .sto (.pl false 2 3) true 1 :: .rcv (.pl true 2 3) true 1 :: .snd (.pl true 2 3) true 2 :: .ldS (.pl true 2 3) true 1 ::
  .ldO (.pl true 2 3) true 1 :: .sto (.pl true 2 3) true 1 :: .rcv (.zz false 3) true 1 :: .snd (.zz false 3) true 2 :: .ldS (.zz false 3) true 1 ::
  .ldO (.zz false 3) true 1 :: .sto (.zz false 3) true 1 :: .rcv (.zz true 3) true 1 :: .snd (.zz true 3) true 2 :: .ldS (.zz true 3) true 1 ::
  .ldO (.zz true 3) true 1 :: .sto (.zz true 3) true 1 :: .rcv (.pl false 2 0) true 2 :: .ldS (.pl false 2 0) true 2 :: .ldO (.pl false 2 0) true 2 ::
  .sto (.pl false 2 0) true 2 :: .rcv (.pl true 2 0) true 2 :: .ldS (.pl true 2 0) true 2 :: .ldO (.pl true 2 0) true 2 :: .sto (.pl true 2 0) true 2 ::
  .rcv (.pl false 2 1) true 2 :: .ldS (.pl false 2 1) true 2 :: .ldO (.pl false 2 1) true 2 :: .sto (.pl false 2 1) true 2 :: .rcv (.pl true 2 1) true 2 ::
  .ldS (.pl true 2 1) true 2 :: .ldO (.pl true 2 1) true 2 :: .sto (.pl true 2 1) true 2 :: .rcv (.pl false 2 2) true 2 :: .ldS (.pl false 2 2) true 2 ::
  .ldO (.pl false 2 2) true 2 :: .sto (.pl false 2 2) true 2 :: .rcv (.pl true 2 2) true 2 :: .ldS (.pl true 2 2) true 2 :: .ldO (.pl true 2 2) true 2 ::
  .sto (.pl true 2 2) true 2 :: .rcv (.pl false 2 3) true 2 :: .ldS (.pl false 2 3) true 2 :: .ldO (.pl false 2 3) true 2 :: .sto (.pl false 2 3) true 2 ::
  .rcv (.pl true 2 3) true 2 :: .ldS (.pl true 2 3) true 2 :: .ldO (.pl true 2 3) true 2 :: .sto (.pl true 2 3) true 2 :: .rcv (.zz false 3) true 2 ::
  .ldS (.zz false 3) true 2 :: .ldO (.zz false 3) true 2 :: .sto (.zz false 3) true 2 :: .rcv (.zz true 3) true 2 :: .ldS (.zz true 3) true 2 ::
  .ldO (.zz true 3) true 2 :: .sto (.zz true 3) true 2 :: .fromZ false 3 :: .snd (.pl false 3 0) true 0 :: .fromZ true 3 ::
  .snd (.pl true 3 0) true 0 :: .snd (.pl false 3 1) true 0 :: .snd (.pl true 3 1) true 0 :: .snd (.pl false 3 2) true 0 :: .snd (.pl true 3 2) true 0 ::
  .snd (.pl false 3 3) true 0 :: .snd (.pl true 3 3) true 0 :: .rcv (.pl false 3 0) true 0 :: .snd (.pl false 3 0) true 1 :: .ldS (.pl false 3 0) true 0 ::
  .ldO (.pl false 3 0) true 0 :: .sto (.pl false 3 0) true 0 :: .rcv (.pl true 3 0) true 0 :: .snd (.pl true 3 0) true 1 :: .ldS (.pl true 3 0) true 0 ::
  .ldO (.pl true 3 0) true 0 :: .sto (.pl true 3 0) true 0 :: .rcv (.pl false 3 1) true 0 :: .snd (.pl false 3 1) true 1 :: .ldS (.pl false 3 1) true 0 ::
  .ldO (.pl false 3 1) true 0 :: .sto (.pl false 3 1) true 0 :: .rcv (.pl true 3 1) true 0 :: .snd (.pl true 3 1) true 1 :: .ldS (.pl true 3 1) true 0 ::
  .ldO (.pl true 3 1) true 0 :: .sto (.pl true 3 1) true 0 :: .rcv (.pl false 3 2) true 0 :: .snd (.pl false 3 2) true 1 :: .ldS (.pl false 3 2) true 0 ::
  .ldO (.pl false 3 2) true 0 :: .sto (.pl false 3 2) true 0 :: .rcv (.pl true 3 2) true 0 :: .snd (.pl true 3 2) true 1 :: .ldS (.pl true 3 2) true 0 ::
  .ldO (.pl true 3 2) true 0 :: .sto (.pl true 3 2) true 0 :: .rcv (.pl false 3 3) true 0 :: .snd (.pl false 3 3) true 1 :: .ldS (.pl false 3 3) true 0 ::
  .ldO (.pl false 3 3) true 0 :: .sto (.pl false 3 3) true 0 :: .rcv (.pl true 3 3) true 0 :: .snd (.pl true 3 3) true 1 :: .ldS (.pl true 3 3) true 0 ::
  .ldO (.pl true 3 3) true 0 :: .sto (.pl true 3 3) true 0 :: .rcv (.pl false 3 0) true 1 :: .snd (.pl false 3 0) true 2 :: .ldS (.pl false 3 0) true 1 ::
  .ldO (.pl false 3 0) true 1 :: .sto (.pl false 3 0) true 1 :: .rcv (.pl true 3 0) true 1 :: .snd (.pl true 3 0) true 2 :: .ldS (.pl true 3 0) true 1 ::
  .ldO (.pl true 3 0) true 1 :: .sto (.pl true 3 0) true 1 :: .rcv (.pl false 3 1) true 1 :: .snd (.pl false 3 1) true 2 :: .ldS (.pl false 3 1) true 1 ::
  .ldO (.pl false 3 1) true 1 :: .sto (.pl false 3 1) true 1 :: .rcv (.pl true 3 1) true 1 :: .snd (.pl true 3 1) true 2 :: .ldS (.pl true 3 1) true 1 ::
  .ldO (.pl true 3 1) true 1 :: .sto (.pl true 3 1) true 1 :: .rcv (.pl false 3 2) true 1 :: .snd (.pl false 3 2) true 2 :: .ldS (.pl false 3 2) true 1 ::
  .ldO (.pl false 3 2) true 1 :: .sto (.pl false 3 2) true 1 :: .rcv (.pl true 3 2) true 1 :: .snd (.pl true 3 2) true 2 :: .ldS (.pl true 3 2) true 1 ::
  .ldO (.pl true 3 2) true 1 :: .sto (.pl true 3 2) true 1 :: .rcv (.pl false 3 3) true 1 :: .snd (.pl false 3 3) true 2 :: .ldS (.pl false 3 3) true 1 ::
  .ldO (.pl false 3 3) true 1 :: .sto (.pl false 3 3) true 1 :: .rcv (.pl true 3 3) true 1 :: .snd (.pl true 3 3) true 2 :: .ldS (.pl true 3 3) true 1 ::
  .ldO (.pl true 3 3) true 1 :: .sto (.pl true 3 3) true 1 :: .rcv (.pl false 3 0) true 2 :: .ldS (.pl false 3 0) true 2 :: .ldO (.pl false 3 0) true 2 ::
  .sto (.pl false 3 0) true 2 :: .rcv (.pl true 3 0) true 2 :: .ldS (.pl true 3 0) true 2 :: .ldO (.pl true 3 0) true 2 :: .sto (.pl true 3 0) true 2 ::
  .rcv (.pl false 3 1) true 2 :: .ldS (.pl false 3 1) true 2 :: .ldO (.pl false 3 1) true 2 :: .sto (.pl false 3 1) true 2 :: .rcv (.pl true 3 1) true 2 ::
  .ldS (.pl true 3 1) true 2 :: .ldO (.pl true 3 1) true 2 :: .sto (.pl true 3 1) true 2 :: .rcv (.pl false 3 2) true 2 :: .ldS (.pl false 3 2) true 2 ::
  .ldO (.pl false 3 2) true 2 :: .sto (.pl false 3 2) true 2 :: .rcv (.pl true 3 2) true 2 :: .ldS (.pl true 3 2) true 2 :: .ldO (.pl true 3 2) true 2 ::
  .sto (.pl true 3 2) true 2 :: .rcv (.pl false 3 3) true 2 :: .ldS (.pl false 3 3) true 2 :: .ldO (.pl false 3 3) true 2 :: .sto (.pl false 3 3) true 2 ::
  .rcv (.pl true 3 3) true 2 :: .ldS (.pl true 3 3) true 2 :: .ldO (.pl true 3 3) true 2 :: .sto (.pl true 3 3) true 2 :: .cls (.pl false 0 0) false 0 ::
  .cls (.pl true 0 0) false 0 :: .cls (.pl false 0 0) true 0 :: .cls (.pl true 0 0) true 0 :: .cls (.pl false 0 1) false 0 :: .cls (.pl true 0 1) false 0 ::
  .cls (.pl false 0 1) true 0 :: .cls (.pl true 0 1) true 0 :: .cls (.pl false 0 2) false 0 :: .cls (.pl true 0 2) false 0 :: l

set_option maxHeartbeats 4000000 in
theorem run576 (c : Dev nD) (v12 : BitVec 32) (v29 : BitVec 32) (v40 : BitVec 32) (v51 : BitVec 32) (v64 : BitVec 32) (v77 : BitVec 32) (v90 : BitVec 32) (v103 : BitVec 32) (v11884 : FVec F S128x128 .f32) (v11887 : BitVec 32) (v11888 : BitVec 32) (v11889 : BitVec 1) (v11890 : BitVec 1) (c0_i32_12665 : BitVec 32) {α : Type} {Q : α → sProp 𝕄} {k : _ → Prog (TpuEff nD τ sig (Elt F) Λ₀ .tc) α} {l : List Op}
    (hv : v11884 = sval X (.pl false 2 2) true 1 c)
    (hk : ∀ r, St X K c l ⊢ wp frame (wpE (defs₀ (F := F)) 𝒱₀ (c : Thread nD τ) none) Set.univ (k r) Q) :
    St X K c (ops576 l) ⊢ wp frame (wpE (defs₀ (F := F)) 𝒱₀ (c : Thread nD τ) none) Set.univ
      (k0_part576 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 c v12 v29 v40 v51 v64 v77 v90 v103 v11884 v11887 v11888 v11889 v11890 c0_i32_12665 >>= k) Q := by
  unfold k0_part576 ops576
  simp only [k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton]
  iterate 199 first
    | (with_reducible show St X K c (.toZ _ _ :: _) ⊢ _
       refine step_toZ X K ?_)
    | (with_reducible show St X K c (.midZ _ _ :: _) ⊢ _
       refine step_midZ X K ?_)
    | (with_reducible show St X K c (.fromZ _ _ :: _) ⊢ _
       refine step_fromZ X K ?_)
    | (with_reducible show St X K c (.snd _ _ _ :: _) ⊢ _
       refine step_snd X K ?_ ?_ rfl ?_ ?_ ?_
       · clear * - c; revert c; decide +kernel
       · first
         | (refine oT_of ?_; clear * - c; revert c; decide +kernel)
         | (refine xT_of ?_; clear * - c; revert c; decide +kernel)
         | rfl
       · clear * -; decide +kernel
       · clear * -; decide +kernel)
    | (with_reducible show St X K c (.rcv _ _ _ :: _) ⊢ _
       refine step_rcv X K ?_ rfl ?_
       · clear * -; decide +kernel)
    | (with_reducible show St X K c (.cls _ _ _ :: _) ⊢ _
       refine step_cls X K ?_ rfl ?_
       · clear * -; decide +kernel)
    | (with_reducible show St X K c (.ldX _ _ _ :: _) ⊢ _
       refine step_ldX X K ?_ ?_
       · clear * - c; revert c; decide +kernel
       intro z hz)
    | (with_reducible show St X K c (.ldS (.pl _ _ _) _ _ :: _) ⊢ _
       refine step_ldP X K rfl ?_; intro v hv)
    | (with_reducible show St X K c (.ldS (.zz _ _) _ _ :: _) ⊢ _
       refine step_ldZ X K rfl ?_; intro v hv)
    | (with_reducible show St X K c (.ldA _ _ _ :: _) ⊢ _
       refine step_ldA X K ?_ ?_
       · clear * - c; revert c; decide +kernel
       intro z hz)
    | (with_reducible show St X K c (.ldO _ _ _ :: _) ⊢ _
       refine step_ldO X K ?_ ?_
       · clear * - c; revert c; decide +kernel
       intro _ _)
    | (with_reducible show St X K c (.sto (.pl _ _ _) false _ :: _) ⊢ _
       refine step_stoP X K ?_ hv hz rfl ?_
       · clear * - c; revert c; decide +kernel
       clear hv hz)
    | (with_reducible show St X K c (.sto (.zz _ _) false _ :: _) ⊢ _
       refine step_stoZ X K ?_ hv hz rfl ?_
       · clear * - c; revert c; decide +kernel
       clear hv hz)
    | (with_reducible show St X K c (.sto _ true _ :: _) ⊢ _
       refine step_stoG X K ?_ hv rfl ?_
       · clear * - c; revert c; decide +kernel
       clear hv)
  exact hk _
end Cert.Torus
end
-- ==== Proof.Run577.lean ====
module
public import proofs.«01_k».proof.Proof.Ghost

@[expose] public section
set_option maxRecDepth 65536
noncomputable section
namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (X : Dev nD → (cc0_stg0_0 : Ref sig .tc).ty.Contents (Elt F))
variable (K : Dev nD × Option (Bool × Tr) → ℕ)

/-- The operations of the parts 481–540. -/
def ops577 (l : List Op) : List Op :=
  .cls (.pl false 0 2) true 0 :: .cls (.pl true 0 2) true 0 :: .cls (.pl false 0 3) false 0 :: .cls (.pl true 0 3) false 0 :: .cls (.pl false 0 3) true 0 ::
  .cls (.pl true 0 3) true 0 :: .cls (.zz false 0) false 0 :: .cls (.zz true 0) false 0 :: .cls (.zz false 0) true 0 :: .cls (.zz true 0) true 0 ::
  .cls (.pl false 0 0) false 1 :: .cls (.pl true 0 0) false 1 :: .cls (.pl false 0 0) true 1 :: .cls (.pl true 0 0) true 1 :: .cls (.pl false 0 1) false 1 ::
  .cls (.pl true 0 1) false 1 :: .cls (.pl false 0 1) true 1 :: .cls (.pl true 0 1) true 1 :: .cls (.pl false 0 2) false 1 :: .cls (.pl true 0 2) false 1 ::
  .cls (.pl false 0 2) true 1 :: .cls (.pl true 0 2) true 1 :: .cls (.pl false 0 3) false 1 :: .cls (.pl true 0 3) false 1 :: .cls (.pl false 0 3) true 1 ::
  .cls (.pl true 0 3) true 1 :: .cls (.zz false 0) false 1 :: .cls (.zz true 0) false 1 :: .cls (.zz false 0) true 1 :: .cls (.zz true 0) true 1 ::
  .cls (.pl false 0 0) false 2 :: .cls (.pl true 0 0) false 2 :: .cls (.pl false 0 0) true 2 :: .cls (.pl true 0 0) true 2 :: .cls (.pl false 0 1) false 2 ::
  .cls (.pl true 0 1) false 2 :: .cls (.pl false 0 1) true 2 :: .cls (.pl true 0 1) true 2 :: .cls (.pl false 0 2) false 2 :: .cls (.pl true 0 2) false 2 ::
  .cls (.pl false 0 2) true 2 :: .cls (.pl true 0 2) true 2 :: .cls (.pl false 0 3) false 2 :: .cls (.pl true 0 3) false 2 :: .cls (.pl false 0 3) true 2 ::
  .cls (.pl true 0 3) true 2 :: .cls (.zz false 0) false 2 :: .cls (.zz true 0) false 2 :: .cls (.zz false 0) true 2 :: .cls (.zz true 0) true 2 ::
  .cls (.pl false 1 0) false 0 :: .cls (.pl true 1 0) false 0 :: .cls (.pl false 1 0) true 0 :: .cls (.pl true 1 0) true 0 :: .cls (.pl false 1 1) false 0 ::
  .cls (.pl true 1 1) false 0 :: .cls (.pl false 1 1) true 0 :: .cls (.pl true 1 1) true 0 :: .cls (.pl false 1 2) false 0 :: .cls (.pl true 1 2) false 0 ::
  .cls (.pl false 1 2) true 0 :: .cls (.pl true 1 2) true 0 :: .cls (.pl false 1 3) false 0 :: .cls (.pl true 1 3) false 0 :: .cls (.pl false 1 3) true 0 ::
  .cls (.pl true 1 3) true 0 :: .cls (.zz false 1) false 0 :: .cls (.zz true 1) false 0 :: .cls (.zz false 1) true 0 :: .cls (.zz true 1) true 0 ::
  .cls (.pl false 1 0) false 1 :: .cls (.pl true 1 0) false 1 :: .cls (.pl false 1 0) true 1 :: .cls (.pl true 1 0) true 1 :: .cls (.pl false 1 1) false 1 ::
  .cls (.pl true 1 1) false 1 :: .cls (.pl false 1 1) true 1 :: .cls (.pl true 1 1) true 1 :: .cls (.pl false 1 2) false 1 :: .cls (.pl true 1 2) false 1 ::
  .cls (.pl false 1 2) true 1 :: .cls (.pl true 1 2) true 1 :: .cls (.pl false 1 3) false 1 :: .cls (.pl true 1 3) false 1 :: .cls (.pl false 1 3) true 1 ::
  .cls (.pl true 1 3) true 1 :: .cls (.zz false 1) false 1 :: .cls (.zz true 1) false 1 :: .cls (.zz false 1) true 1 :: .cls (.zz true 1) true 1 ::
  .cls (.pl false 1 0) false 2 :: .cls (.pl true 1 0) false 2 :: .cls (.pl false 1 0) true 2 :: .cls (.pl true 1 0) true 2 :: .cls (.pl false 1 1) false 2 ::
  .cls (.pl true 1 1) false 2 :: .cls (.pl false 1 1) true 2 :: .cls (.pl true 1 1) true 2 :: .cls (.pl false 1 2) false 2 :: .cls (.pl true 1 2) false 2 ::
  .cls (.pl false 1 2) true 2 :: .cls (.pl true 1 2) true 2 :: .cls (.pl false 1 3) false 2 :: .cls (.pl true 1 3) false 2 :: .cls (.pl false 1 3) true 2 ::
  .cls (.pl true 1 3) true 2 :: .cls (.zz false 1) false 2 :: .cls (.zz true 1) false 2 :: .cls (.zz false 1) true 2 :: .cls (.zz true 1) true 2 ::
  .cls (.pl false 2 0) false 0 :: .cls (.pl true 2 0) false 0 :: .cls (.pl false 2 0) true 0 :: .cls (.pl true 2 0) true 0 :: .cls (.pl false 2 1) false 0 ::
  .cls (.pl true 2 1) false 0 :: .cls (.pl false 2 1) true 0 :: .cls (.pl true 2 1) true 0 :: .cls (.pl false 2 2) false 0 :: .cls (.pl true 2 2) false 0 ::
  .cls (.pl false 2 2) true 0 :: .cls (.pl true 2 2) true 0 :: .cls (.pl false 2 3) false 0 :: .cls (.pl true 2 3) false 0 :: .cls (.pl false 2 3) true 0 ::
  .cls (.pl true 2 3) true 0 :: .cls (.zz false 2) false 0 :: .cls (.zz true 2) false 0 :: .cls (.zz false 2) true 0 :: .cls (.zz true 2) true 0 ::
  .cls (.pl false 2 0) false 1 :: .cls (.pl true 2 0) false 1 :: .cls (.pl false 2 0) true 1 :: .cls (.pl true 2 0) true 1 :: .cls (.pl false 2 1) false 1 ::
  .cls (.pl true 2 1) false 1 :: .cls (.pl false 2 1) true 1 :: .cls (.pl true 2 1) true 1 :: .cls (.pl false 2 2) false 1 :: .cls (.pl true 2 2) false 1 ::
  .cls (.pl false 2 2) true 1 :: .cls (.pl true 2 2) true 1 :: .cls (.pl false 2 3) false 1 :: .cls (.pl true 2 3) false 1 :: .cls (.pl false 2 3) true 1 ::
  .cls (.pl true 2 3) true 1 :: .cls (.zz false 2) false 1 :: .cls (.zz true 2) false 1 :: .cls (.zz false 2) true 1 :: .cls (.zz true 2) true 1 ::
  .cls (.pl false 2 0) false 2 :: .cls (.pl true 2 0) false 2 :: .cls (.pl false 2 0) true 2 :: .cls (.pl true 2 0) true 2 :: .cls (.pl false 2 1) false 2 :: l

set_option maxHeartbeats 4000000 in
theorem run577 (c : Dev nD)  {α : Type} {Q : α → sProp 𝕄} {k : _ → Prog (TpuEff nD τ sig (Elt F) Λ₀ .tc) α} {l : List Op}
    (hk : ∀ r, St X K c l ⊢ wp frame (wpE (defs₀ (F := F)) 𝒱₀ (c : Thread nD τ) none) Set.univ (k r) Q) :
    St X K c (ops577 l) ⊢ wp frame (wpE (defs₀ (F := F)) 𝒱₀ (c : Thread nD τ) none) Set.univ
      (k0_part577 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 >>= k) Q := by
  unfold k0_part577 ops577
  simp only [k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton]
  iterate 155 first
    | (with_reducible show St X K c (.toZ _ _ :: _) ⊢ _
       refine step_toZ X K ?_)
    | (with_reducible show St X K c (.midZ _ _ :: _) ⊢ _
       refine step_midZ X K ?_)
    | (with_reducible show St X K c (.fromZ _ _ :: _) ⊢ _
       refine step_fromZ X K ?_)
    | (with_reducible show St X K c (.snd _ _ _ :: _) ⊢ _
       refine step_snd X K ?_ ?_ rfl ?_ ?_ ?_
       · clear * - c; revert c; decide +kernel
       · first
         | (refine oT_of ?_; clear * - c; revert c; decide +kernel)
         | (refine xT_of ?_; clear * - c; revert c; decide +kernel)
         | rfl
       · clear * -; decide +kernel
       · clear * -; decide +kernel)
    | (with_reducible show St X K c (.rcv _ _ _ :: _) ⊢ _
       refine step_rcv X K ?_ rfl ?_
       · clear * -; decide +kernel)
    | (with_reducible show St X K c (.cls _ _ _ :: _) ⊢ _
       refine step_cls X K ?_ rfl ?_
       · clear * -; decide +kernel)
    | (with_reducible show St X K c (.ldX _ _ _ :: _) ⊢ _
       refine step_ldX X K ?_ ?_
       · clear * - c; revert c; decide +kernel
       intro z hz)
    | (with_reducible show St X K c (.ldS (.pl _ _ _) _ _ :: _) ⊢ _
       refine step_ldP X K rfl ?_; intro v hv)
    | (with_reducible show St X K c (.ldS (.zz _ _) _ _ :: _) ⊢ _
       refine step_ldZ X K rfl ?_; intro v hv)
    | (with_reducible show St X K c (.ldA _ _ _ :: _) ⊢ _
       refine step_ldA X K ?_ ?_
       · clear * - c; revert c; decide +kernel
       intro z hz)
    | (with_reducible show St X K c (.ldO _ _ _ :: _) ⊢ _
       refine step_ldO X K ?_ ?_
       · clear * - c; revert c; decide +kernel
       intro _ _)
    | (with_reducible show St X K c (.sto (.pl _ _ _) false _ :: _) ⊢ _
       refine step_stoP X K ?_ hv hz rfl ?_
       · clear * - c; revert c; decide +kernel
       clear hv hz)
    | (with_reducible show St X K c (.sto (.zz _ _) false _ :: _) ⊢ _
       refine step_stoZ X K ?_ hv hz rfl ?_
       · clear * - c; revert c; decide +kernel
       clear hv hz)
    | (with_reducible show St X K c (.sto _ true _ :: _) ⊢ _
       refine step_stoG X K ?_ hv rfl ?_
       · clear * - c; revert c; decide +kernel
       clear hv)
  exact hk _
end Cert.Torus
end
-- ==== Proof.Run578.lean ====
module
public import proofs.«01_k».proof.Proof.Ghost

@[expose] public section
set_option maxRecDepth 65536
noncomputable section
namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (X : Dev nD → (cc0_stg0_0 : Ref sig .tc).ty.Contents (Elt F))
variable (K : Dev nD × Option (Bool × Tr) → ℕ)

/-- The operations of the parts 541–568. -/
def ops578 (l : List Op) : List Op :=
  .cls (.pl true 2 1) false 2 :: .cls (.pl false 2 1) true 2 :: .cls (.pl true 2 1) true 2 :: .cls (.pl false 2 2) false 2 :: .cls (.pl true 2 2) false 2 ::
  .cls (.pl false 2 2) true 2 :: .cls (.pl true 2 2) true 2 :: .cls (.pl false 2 3) false 2 :: .cls (.pl true 2 3) false 2 :: .cls (.pl false 2 3) true 2 ::
  .cls (.pl true 2 3) true 2 :: .cls (.zz false 2) false 2 :: .cls (.zz true 2) false 2 :: .cls (.zz false 2) true 2 :: .cls (.zz true 2) true 2 ::
  .cls (.pl false 3 0) false 0 :: .cls (.pl true 3 0) false 0 :: .cls (.pl false 3 0) true 0 :: .cls (.pl true 3 0) true 0 :: .cls (.pl false 3 1) false 0 ::
  .cls (.pl true 3 1) false 0 :: .cls (.pl false 3 1) true 0 :: .cls (.pl true 3 1) true 0 :: .cls (.pl false 3 2) false 0 :: .cls (.pl true 3 2) false 0 ::
  .cls (.pl false 3 2) true 0 :: .cls (.pl true 3 2) true 0 :: .cls (.pl false 3 3) false 0 :: .cls (.pl true 3 3) false 0 :: .cls (.pl false 3 3) true 0 ::
  .cls (.pl true 3 3) true 0 :: .cls (.zz false 3) false 0 :: .cls (.zz true 3) false 0 :: .cls (.zz false 3) true 0 :: .cls (.zz true 3) true 0 ::
  .cls (.pl false 3 0) false 1 :: .cls (.pl true 3 0) false 1 :: .cls (.pl false 3 0) true 1 :: .cls (.pl true 3 0) true 1 :: .cls (.pl false 3 1) false 1 ::
  .cls (.pl true 3 1) false 1 :: .cls (.pl false 3 1) true 1 :: .cls (.pl true 3 1) true 1 :: .cls (.pl false 3 2) false 1 :: .cls (.pl true 3 2) false 1 ::
  .cls (.pl false 3 2) true 1 :: .cls (.pl true 3 2) true 1 :: .cls (.pl false 3 3) false 1 :: .cls (.pl true 3 3) false 1 :: .cls (.pl false 3 3) true 1 ::
  .cls (.pl true 3 3) true 1 :: .cls (.zz false 3) false 1 :: .cls (.zz true 3) false 1 :: .cls (.zz false 3) true 1 :: .cls (.zz true 3) true 1 ::
  .cls (.pl false 3 0) false 2 :: .cls (.pl true 3 0) false 2 :: .cls (.pl false 3 0) true 2 :: .cls (.pl true 3 0) true 2 :: .cls (.pl false 3 1) false 2 ::
  .cls (.pl true 3 1) false 2 :: .cls (.pl false 3 1) true 2 :: .cls (.pl true 3 1) true 2 :: .cls (.pl false 3 2) false 2 :: .cls (.pl true 3 2) false 2 ::
  .cls (.pl false 3 2) true 2 :: .cls (.pl true 3 2) true 2 :: .cls (.pl false 3 3) false 2 :: .cls (.pl true 3 3) false 2 :: .cls (.pl false 3 3) true 2 ::
  .cls (.pl true 3 3) true 2 :: .cls (.zz false 3) false 2 :: .cls (.zz true 3) false 2 :: .cls (.zz false 3) true 2 :: l

set_option maxHeartbeats 4000000 in
theorem run578 (c : Dev nD)  {α : Type} {Q : α → sProp 𝕄} {k : _ → Prog (TpuEff nD τ sig (Elt F) Λ₀ .tc) α} {l : List Op}
    (hk : ∀ r, St X K c l ⊢ wp frame (wpE (defs₀ (F := F)) 𝒱₀ (c : Thread nD τ) none) Set.univ (k r) Q) :
    St X K c (ops578 l) ⊢ wp frame (wpE (defs₀ (F := F)) 𝒱₀ (c : Thread nD τ) none) Set.univ
      (k0_part578 (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 >>= k) Q := by
  unfold k0_part578 ops578
  simp only [k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton]
  iterate 74 first
    | (with_reducible show St X K c (.toZ _ _ :: _) ⊢ _
       refine step_toZ X K ?_)
    | (with_reducible show St X K c (.midZ _ _ :: _) ⊢ _
       refine step_midZ X K ?_)
    | (with_reducible show St X K c (.fromZ _ _ :: _) ⊢ _
       refine step_fromZ X K ?_)
    | (with_reducible show St X K c (.snd _ _ _ :: _) ⊢ _
       refine step_snd X K ?_ ?_ rfl ?_ ?_ ?_
       · clear * - c; revert c; decide +kernel
       · first
         | (refine oT_of ?_; clear * - c; revert c; decide +kernel)
         | (refine xT_of ?_; clear * - c; revert c; decide +kernel)
         | rfl
       · clear * -; decide +kernel
       · clear * -; decide +kernel)
    | (with_reducible show St X K c (.rcv _ _ _ :: _) ⊢ _
       refine step_rcv X K ?_ rfl ?_
       · clear * -; decide +kernel)
    | (with_reducible show St X K c (.cls _ _ _ :: _) ⊢ _
       refine step_cls X K ?_ rfl ?_
       · clear * -; decide +kernel)
    | (with_reducible show St X K c (.ldX _ _ _ :: _) ⊢ _
       refine step_ldX X K ?_ ?_
       · clear * - c; revert c; decide +kernel
       intro z hz)
    | (with_reducible show St X K c (.ldS (.pl _ _ _) _ _ :: _) ⊢ _
       refine step_ldP X K rfl ?_; intro v hv)
    | (with_reducible show St X K c (.ldS (.zz _ _) _ _ :: _) ⊢ _
       refine step_ldZ X K rfl ?_; intro v hv)
    | (with_reducible show St X K c (.ldA _ _ _ :: _) ⊢ _
       refine step_ldA X K ?_ ?_
       · clear * - c; revert c; decide +kernel
       intro z hz)
    | (with_reducible show St X K c (.ldO _ _ _ :: _) ⊢ _
       refine step_ldO X K ?_ ?_
       · clear * - c; revert c; decide +kernel
       intro _ _)
    | (with_reducible show St X K c (.sto (.pl _ _ _) false _ :: _) ⊢ _
       refine step_stoP X K ?_ hv hz rfl ?_
       · clear * - c; revert c; decide +kernel
       clear hv hz)
    | (with_reducible show St X K c (.sto (.zz _ _) false _ :: _) ⊢ _
       refine step_stoZ X K ?_ hv hz rfl ?_
       · clear * - c; revert c; decide +kernel
       clear hv hz)
    | (with_reducible show St X K c (.sto _ true _ :: _) ⊢ _
       refine step_stoG X K ?_ hv rfl ?_
       · clear * - c; revert c; decide +kernel
       clear hv)
  exact hk _
end Cert.Torus
end
-- ==== Proof.Body.lean ====
/-
# The body of the kernel on one device

The operations of the ten parts in order, and the run of the whole body at a device `c`.
-/
module

public import proofs.«01_k».proof.Proof.Bar
public import proofs.«01_k».proof.Proof.Run569
public import proofs.«01_k».proof.Proof.Run570
public import proofs.«01_k».proof.Proof.Run571
public import proofs.«01_k».proof.Proof.Run572
public import proofs.«01_k».proof.Proof.Run573
public import proofs.«01_k».proof.Proof.Run574
public import proofs.«01_k».proof.Proof.Run575
public import proofs.«01_k».proof.Proof.Run576
public import proofs.«01_k».proof.Proof.Run577
public import proofs.«01_k».proof.Proof.Run578

@[expose] public section
set_option maxRecDepth 1048576
noncomputable section
namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (X : Dev nD → (cc0_stg0_0 : Ref sig .tc).ty.Contents (Elt F))
variable (K : Dev nD × Option (Bool × Tr) → ℕ)

/-- The operations of the body from the second part on. -/
def restOps : List Op :=
  ops570 (ops571 (ops572 (ops573 (ops574 (ops575 (ops576 (ops577 (ops578 ([.cls (.zz true 3) true 2])))))))))

/-- They run from the first counters to the last. -/
theorem allOps_ok : chk (ops569 restOps) ms₀ = true := by decide +kernel

theorem chk_nil {ms : Ms} (h : chk [] ms = true) : ms = ms₁ := by unfold chk at h; exact of_decide_eq_true h

/-- What is left when no operation is to come. -/
theorem St_end (c : Dev nD) : St X K c [] ⊢ iprop(∃ W, Res X K c ms₁ W) := by
  unfold St
  iintro ⟨%ms, %W, %h, H⟩
  obtain rfl := chk_nil h
  iexists W; iexact H

set_option maxHeartbeats 4000000 in
/-- The body at device `c`. -/
theorem body_run (c : Dev nD) :
    Bar X K c [(false, false), (false, true), (true, false), (true, true)] ⊢ wp frame (wpE (defs₀ (F := F)) 𝒱₀ (c : Thread nD τ) none) Set.univ
      (cc0_body (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23)
      (fun _ => iprop((∃ W, Res X K c ms₁ W) ∗ semVal (barCell c) 0)) := by
  unfold cc0_body
  simp only [Prog.lift, Prog.bind_op, Prog.bind_ret, Prog.pure_eq_ret]
  have h569 := fun k => run569 X K c (l := restOps) (k := k) (Q := fun _ : PUnit => iprop(∃ W, Res X K c ms₁ W)) allOps_ok
  refine h569 _ ?_
  clear h569
  rintro ⟨d0, v12, v29, v40, v51, v64, v77, v90, v103, c4_i32_1756, v1745, c1_i32_1758⟩ hd
  obtain rfl : d0 = c := hd
  unfold restOps
  refine run570 X K d0 _ _ _ _ _ _ _ _ _ _ _ ?_
  rintro ⟨_, _⟩
  refine run571 X K d0 _ _ _ _ _ _ _ _ _ _ ?_
  intro _
  refine run572 X K d0 _ _ _ _ _ _ _ _ ?_
  rintro ⟨_, _, _, _, _⟩ hv
  refine run573 X K d0 _ _ _ _ _ _ _ _ _ _ _ _ _ hv ?_
  intro _
  refine run574 X K d0 _ _ _ _ _ _ _ _ _ ?_
  intro _
  refine run575 X K d0 _ _ _ _ _ _ _ _ ?_
  rintro ⟨_, _, _, _, _, _⟩ hv
  refine run576 X K d0 _ _ _ _ _ _ _ _ _ _ _ _ _ _ hv ?_
  intro _
  refine run577 X K d0 ?_
  intro _
  refine run578 X K d0 ?_
  intro _
  refine step_cls X K rfl rfl ?_
  rw [wp_ret]
  exact (St_end X K d0).trans fupd_intro

end Cert.Torus
end
-- ==== Proof.Launch.lean ====
/-
# The launch: every device runs the body, and the run ends

The launch deals each device its tokens and credits, runs the body on each, and takes back the buffers and the
semaphores.
-/
module

public import proofs.«01_k».proof.Proof.Whole
public import proofs.«01_k».proof.Proof.Body
public import proofs.«01_k».proof.Proof.Gen.KernelIdeal.Launch
public import Idealize.ShloMosaic.Lib.Pipeline.Launch

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Launch
variable (m : (ℓ : Loc nD τ sig) → Buf (Elt F) ℓ) (ρ : Dev nD → PrngReg)

/-! ## The pipeline's data -/

def s₀ : MemSt nD τ sig (Elt F) := ⟨m, fun _ => 0, ρ⟩

theorem cfg0_N : cfg0.N = 1 := by decide
def t₀ : Fin cfg0.N := ⟨0, by rw [cfg0_N]; decide⟩
theorem only_t₀ (t : Fin cfg0.N) : t = t₀ := by obtain ⟨t, ht⟩ := t; have := cfg0_N; exact Fin.ext (by simp only [t₀]; omega)

/-- Device `c`'s operand. -/
def xs (c : Dev nD) : (cc0_stg0_0 : Ref sig .tc).ty.Contents (Elt F) :=
  (win0_0.blk (0 : Fin 1)).view.read (Elt F) ((s₀ m ρ).mem ((c : Thread nD τ).loc main_arg0))

/-- The tokens and positions a device starts with. -/
def linear (c : Dev nD) : sProp 𝕄 :=
  iprop(barToks (F := F) c ∗ atPos ER (barCell c) 0 ∅ 0 ∗ (bigSep Finset.univ fun t : Tr => ST (F := F) c t) ∗ bigSep Finset.univ fun t : Tr => atPos ER (recvCell t c) 0 ∅ 0)
def dealt (c : Dev nD) : sProp 𝕄 := iprop(∃ K, recs (xs m ρ) K ∗ linear (F := F) c)
def credits (c : Dev nD) : sProp 𝕄 := iprop(cred (tallyAt (barCell c) () 4) ∗ bigSep Finset.univ fun t : Tr => cred (tallyAt (recvCell t c) () N))
def start (c : Dev nD) : sProp 𝕄 := iprop(dealt m ρ c ∗ credits (F := F) c ∗ levAts L lv)
def buffers (c : Dev nD) : sProp 𝕄 := iprop((bigSep Finset.univ fun a : Bool × Bool => anyP (F := F) c a) ∗ bigSep Finset.univ fun a : Bool × Bool => anyZ (F := F) c a)
def before (c : Dev nD) : sProp 𝕄 := iprop(start m ρ c ∗ buffers (F := F) c)
def after (c : Dev nD) : sProp 𝕄 :=
  iprop(buffers (F := F) c ∗ ((bigSep Finset.univ fun t : Tr => semVal (sendCell t c) 0) ∗ bigSep Finset.univ fun t : Tr => semVal (recvCell t c) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outAt (xs m ρ)
  Φ t := match t with
    | ⟨0, _⟩ => before m ρ c
    | ⟨_ + 1, _⟩ => after (F := F) c
  q _ := fullShare
  owed t := match t with
    | ⟨0, _⟩ => owe₀ c
    | ⟨_ + 1, _⟩ => 0

theorem fetch_x (t : Fin cfg0.N) : (cfg0.win (0 : Fin 2)).fetch t = true := by rw [only_t₀ t]; rfl

/-! ## The body -/

abbrev staged (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(before m ρ c ∗ (dats m ρ 0 c).owesAt () t₀.castSucc
    ∗ (∃ d, staged c cc0_stg0_0 ((dats m ρ 0 c).before (0 : Fin 2) t₀ d))
    ∗ (∃ d, staged c cc0_stg1_0 ((dats m ρ 0 c).before (1 : Fin 2) t₀ d)))
def bodyPost (c : Dev nD) : sProp 𝕄 :=
  iprop(after (F := F) c ∗ (dats m ρ 0 c).owesAt () t₀.succ ∗ staged c cc0_stg0_0 (xs m ρ c) ∗ staged c cc0_stg1_0 (outAt (xs m ρ)))

theorem body_start (c : Dev nD) : bodyPre m ρ c ⊢ iprop(∃ K, Bar (xs m ρ) K c allKeys ∗ xRest (xs m ρ) c) := by
  unfold bodyPre before start dealt linear credits buffers Dat.owesAt Pipeline.owesWithin
  rw [show (dats m ρ 0 c).owed t₀.castSucc = oweB c allKeys from rfl]
  iintro ⟨⟨⟨⟨%K, #HR, HT, HP, HS, HA⟩, ⟨HcB, HcV⟩, HL⟩, HB⟩, ⟨%W, %hW, HO⟩, ⟨%d0, %g0, %hg0, Hx⟩, ⟨%d1, %g1, %hg1, Hout⟩⟩
  have hx : g0 = xs m ρ c := by rw [hg0]; unfold Dat.before; rw [if_pos (fetch_x t₀)]; rfl
  subst hx
  ihave Hx := (Entails.of_eq (owns_whole (Ix := Unit) (Name := ℕ) (U := UU) (Lvl := ℕ) (c : Thread nD τ) cc0_stg0_0 fullShare (xs m ρ c)).symm) $$ Hx
  ihave Hx := (owns_halves (c : Thread nD τ) xM fullShare (xs m ρ c)).1 $$ Hx
  icases Hx with ⟨HXL, HXR⟩
  ihave HXR := (x_cut (xs m ρ) c) $$ HXR
  icases HXR with ⟨HXF, HXR⟩
  ihave HB := (slots_cut c) $$ HB
  iexists K
  isplitr [HXR]
  · iapply (bar_intro (xs m ρ) K c W)
    isplitl [HL]
    · isplitr; · iexact HR
      iexact HL
    isplitl [HO]; · iexact HO
    isplitl [HT HB]
    · isplitl [HT] <;> iassumption
    isplitl [HcB HP]
    · isplitl [HcB] <;> iassumption
    isplitl [HXL]; · unfold xL; iexact HXL
    isplitl [HXF Hout]
    · isplitl [HXF]; · iexact HXF
      iapply (o_cut c)
      iexists g1
      iapply (Entails.of_eq (owns_whole (Ix := Unit) (Name := ℕ) (U := UU) (Lvl := ℕ) (c : Thread nD τ) cc0_stg1_0 fullShare g1).symm); iexact Hout
    isplitl [HS]; · iexact HS
    isplitl [HcV] <;> iassumption
  iexact HXR

theorem body_end (K : Dev nD × Option (Bool × Tr) → ℕ) (c : Dev nD) :
    iprop(((∃ W, Res (xs m ρ) K c ms₁ W) ∗ semVal (barCell c) 0) ∗ xRest (xs m ρ) c) ⊢ bodyPost m ρ c := by
  unfold bodyPost after buffers Dat.owesAt Pipeline.owesWithin
  rw [show (dats m ρ 0 c).owed t₀.succ = 0 from rfl]
  iintro ⟨⟨⟨%W, HR⟩, Hz⟩, HX⟩
  ihave H := (res_end (xs m ρ) K c W) $$ [HR HX]
  · isplitl [HR] <;> iassumption
  icases H with ⟨HO, Hx, Hout, HB, HS, HV⟩
  isplitl [HB HS HV Hz]
  · isplitl [HB]; · iexact HB
    isplitl [HS HV]
    · isplitl [HS] <;> iassumption
    iexact Hz
  isplitl [HO]
  · iexists W
    isplitr; · ipureintro; exact fun _ _ => Or.inl trivial
    iexact HO
  isplitl [Hx]
  · iexists _; isplitr; · (ipureintro; rfl)
    iapply (Entails.of_eq (owns_whole (Ix := Unit) (Name := ℕ) (U := UU) (Lvl := ℕ) (c : Thread nD τ) cc0_stg0_0 fullShare (xs m ρ c))); iexact Hx
  iexists _; isplitr; · (ipureintro; rfl)
  iapply (Entails.of_eq (owns_whole (Ix := Unit) (Name := ℕ) (U := UU) (Lvl := ℕ) (c : Thread nD τ) cc0_stg1_0 fullShare (outAt (xs m ρ)))); iexact Hout

set_option maxRecDepth 1048576 in
theorem sound_body (c : Dev nD) : bodyPre m ρ c ⊢ wp frame (wpE (defs₀ (F := F)) 𝒱₀ (c : Thread nD τ) none) Set.univ
      (cc0_body (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23)
      (fun _ => bodyPost m ρ c) := by
  iintro H
  ihave H := (body_start m ρ c) $$ H
  icases H with ⟨%K, HB, HX⟩
  iapply (wp_mono frame (wpE (defs₀ (F := F)) 𝒱₀ (c : Thread nD τ) none) Set.univ fun _ => body_end m ρ K c)
  iapply (wp_frame_r (Q := fun _ : PUnit => iprop((∃ W, Res (xs m ρ) K c ms₁ W) ∗ semVal (barCell c) 0)) frame (wpE (defs₀ (F := F)) 𝒱₀ (c : Thread nD τ) none))
  isplitl [HB]
  · iapply (body_run (xs m ρ) K c); iexact HB
  iexact HX

attribute [local irreducible] cc0_body in
/-- The body the launch runs is the body of the run. -/
theorem body_eq : (defs₀ (F := F)) .tc 0 (t₀, cfg0.slots t₀) = (cc0_body (F := F) xM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23) := rfl

attribute [local irreducible] cc0_body in
set_option maxRecDepth 1048576 in
theorem body_obligation (c : Dev nD) : BodyObligation (dats (F := F) m ρ 0 c) (defs₀ (F := F)) 𝒱₀ () Set.univ := fun t => by
  rw [only_t₀ t]
  rw [bigSep_W0, bigSep_W0]
  simp only [owns_whole_eq]
  rw [body_eq]
  exact sound_body m ρ c

end Launch

end Cert.Torus

end
-- ==== Proof.Run.lean ====
/-
# The run of the whole program

The tokens are minted cell by cell and dealt to the devices that pay them; what the devices owe at launch is each
cell's credit; and the run of `main` ends with the result array at the sum on every device.
-/
module

public import proofs.«01_k».proof.Proof.Launch
public import Idealize.ShloMosaic.Lib.Pipeline.CollectiveSegs

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The cells -/

abbrev osem (rt : Bool × Tr) : SemLoc sig := .dma (tsem rt.1 rt.2)

theorem osem_inj : Function.Injective osem := fun a b h => Prod.ext (tsem_inj (SemLoc.dma.inj h)).2 (tsem_inj (SemLoc.dma.inj h)).1

theorem ownSemFacts : Pipeline.OwnSemFacts cfg0.spec osem where
  isScoped k := by revert k; decide +kernel
  inj := osem_inj
  disj k w s h := by
    have h1 : (tsem k.1 k.2).val < 2 := by
      have hw : ∀ (w : Fin cfg0.W) (s : Fin (cfg0.spec w).nbuf), ((cfg0.spec w).sem s).val < 2 := by decide
      rw [SemLoc.dma.inj h]; exact hw w s
    exact absurd (tsem_ge k.1 k.2) (Nat.not_le.2 h1)

theorem kcell_inj : Function.Injective kcell := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none => cases k' with
    | none => rfl
    | some b => exact absurd h2 (fun h' => by cases h')
  | some a => cases k' with
    | none => exact absurd h2 (fun h' => by cases h')
    | some b => rw [osem_inj (a₁ := a) (a₂ := b) h2]

/-- The tokens as minted: a device's barrier cell has one per ring, its other cells one each. -/
def tok (x : Dev nD × (Duty ⊕ (Bool × Tr))) : GSem nD τ sig × ℕ × Duty :=
  match x.2 with
  | .inl k => (barCell x.1, 0, k)
  | .inr rt => (cellAt rt.1 rt.2 x.1, 0, (false, false))
theorem tok_inj : Function.Injective tok := by
  rintro ⟨c, k⟩ ⟨c', k'⟩ h
  have h1 : c = c' := by
    have := congrArg (fun g : GSem nD τ sig × ℕ × Duty => g.1.1.1) h
    cases k <;> cases k' <;> exact this
  subst h1
  have h2 := congrArg (fun g : GSem nD τ sig × ℕ × Duty => g.1.2) h
  have h3 := congrArg (fun g : GSem nD τ sig × ℕ × Duty => g.2.2) h
  cases k with
  | inl a => cases k' with
    | inl b => rw [show a = b from h3]
    | inr b => exact absurd h2 (fun h' => by cases h')
  | inr a => cases k' with
    | inl b => exact absurd h2 (fun h' => by cases h')
    | inr b => rw [osem_inj (a₁ := a) (a₂ := b) h2]

def ringCells : Finset (GSem nD τ sig) := Finset.univ.map ⟨kcell, kcell_inj⟩
def ringToks : Finset (GSem nD τ sig × ℕ × Duty) := Finset.univ.map ⟨tok, tok_inj⟩
def u₀ : UU := (initOf (Pipeline.cells cfgs cellOf_inj) (Pipeline.launchToks cfgs cellOf_inj), initOf ringCells ringToks)

section Run
variable (m : (ℓ : Loc nD τ sig) → Buf (Elt F) ℓ) (ρ : Dev nD → PrngReg)

abbrev Cell : Type := Option (Bool × Tr)

def minted (c : Dev nD) : sProp 𝕄 :=
  iprop((bigSep Finset.univ fun k : Duty => dutyTok ER (barCell c) 0 k) ∗ bigSep Finset.univ fun rt : Bool × Tr => dutyTok ER (cellAt rt.1 rt.2 c) 0 (false, false))
def given (c : Dev nD) : sProp 𝕄 :=
  iprop((bigSep Finset.univ fun k : Cell => roundState ER (ringRd (xs m ρ)) (kcell (c, k)) 0)
    ∗ ((bigSep Finset.univ fun k : Cell => atPos ER (kcell (c, k)) 0 ∅ 0) ∗ bigSep Finset.univ fun k : Cell => reached ER (kcell (c, k)) 0) ∗ minted (F := F) c)

theorem fund_ring : BI.own (ER (initOf ringCells ringToks)) ⊢ (|==> bigSep Finset.univ (given m ρ) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]
    exact bigSep_congr fun c _ => by unfold minted; rw [BI.bigSep_univ_sum]; rfl
  iintro HX
  imod (Rounds.fund ER (ringRd (xs m ρ)) ringCells ringToks) $$ HX with ⟨Hst, Hr, Hat, Htok⟩
  imodintro
  ihave Hst := (Entails.of_eq (hX fun g => roundState ER (ringRd (xs m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold given; simp only [bigSep_sep']
  isplitl [Hst]; · iexact Hst
  isplitl [Hat Hr]
  · isplitl [Hat] <;> iassumption
  iexact Htok

theorem unscopedSems0_eq (c : Dev nD) : (unscopedSems0 c : sProp 𝕄) = semVal (barCell c) 0 := by
  unfold unscopedSems0; rw [bigSep_eq_bigSepL_of_eq [SemLoc.reg barrier0] (by decide +kernel) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun rt : Bool × Tr => semVal (cellAt rt.1 rt.2 c) 0 := rfl

/-- A family over a device's cells: its barrier cell, its sending cells, its receiving cells. -/
theorem pair_fam (Φ : Bool × Tr → sProp 𝕄) : bigSep Finset.univ Φ = iprop((bigSep Finset.univ fun t : Tr => Φ (false, t)) ∗ bigSep Finset.univ fun t : Tr => Φ (true, t)) := by
  rw [bigSep_univ_prod]
  exact bigSep_univ_eq_bigSepL [false, true] (by decide) (by decide) fun r => bigSep Finset.univ fun t : Tr => Φ (r, t)
theorem cell_fam (Φ : Cell → sProp 𝕄) : bigSep Finset.univ Φ = iprop((bigSep Finset.univ fun rt : Bool × Tr => Φ (some rt)) ∗ Φ none) := by
  rw [bigSep_univ_equiv (Equiv.optionEquivSumPUnit (Bool × Tr)).symm Φ, BI.bigSep_univ_sum]
  exact congrArg (fun A : sProp 𝕄 => iprop((bigSep Finset.univ fun rt : Bool × Tr => Φ (some rt)) ∗ A))
    (bigSep_univ_eq_bigSepL ([PUnit.unit] : List PUnit.{1}) (by decide) (by decide) fun _ : PUnit.{1} => Φ none)

/-- A family over the devices, dealt around a permutation per member. -/
theorem deal {I : Type} [Fintype I] [DecidableEq I] (f : I → Dev nD ≃ Dev nD) (Φ : Dev nD → I → sProp 𝕄) :
    (bigSep Finset.univ fun c : Dev nD => bigSep Finset.univ fun i : I => Φ c i) = bigSep Finset.univ fun c : Dev nD => bigSep Finset.univ fun i : I => Φ (f i c) i := by
  have e : Dev nD × I ≃ Dev nD × I := ⟨fun x => (f x.2 x.1, x.2), fun x => ((f x.2).symm x.1, x.2), fun x => by simp, fun x => by simp⟩
  rw [← bigSep_univ_prod (fun x : Dev nD × I => Φ x.1 x.2), ← bigSep_univ_prod (fun x : Dev nD × I => Φ (f x.2 x.1) x.2)]
  exact bigSep_univ_equiv (⟨fun x => (f x.2 x.1, x.2), fun x => ((f x.2).symm x.1, x.2), fun x => by simp, fun x => by simp⟩ : Dev nD × I ≃ Dev nD × I) fun x => Φ x.1 x.2

/-- What each device pays with. -/
def pays (c : Dev nD) : sProp 𝕄 :=
  iprop(barToks (F := F) c ∗ (bigSep Finset.univ fun t : Tr => dutyTok ER (sendCell t c) 0 (false, false)) ∗ bigSep Finset.univ fun t : Tr => dutyTok ER (recvCell t (nxt t.1 c)) 0 (false, false))

theorem minted_dealt : (bigSep Finset.univ fun c : Dev nD => (minted c : sProp 𝕄)) ⊢ bigSep Finset.univ fun c : Dev nD => pays c := by
  unfold minted pays
  rw [bigSep_sep', bigSep_sep', bigSep_sep', deal (fun k : Duty => (around (kst k)).symm) fun c k => dutyTok ER (barCell c) 0 k,
    bigSep_congr (s := Finset.univ) fun (c : Dev nD) _ => pair_fam fun rt : Bool × Tr => dutyTok ER (cellAt rt.1 rt.2 c) 0 (false, false),
    bigSep_sep', deal (fun t : Tr => around t.1) fun c t => dutyTok ER (cellAt true t c) 0 (false, false)]
  iintro ⟨H1, H2, H3⟩
  isplitl [H1]; · iexact H1
  isplitl [H2]; · iexact H2
  iexact H3

theorem cells_alloc (c : Dev nD) :
    iprop(Pipeline.ownSems0 (Ix := Unit) (Name := ℕ) (U := UU) (Lvl := ℕ) (Val := Elt F) (τ := τ) osem c ∗ unscopedSems0 c ∗ given m ρ c)
      ⊢ |={Set.univ}=> iprop((bigSep Finset.univ fun k : Cell => iprop(∃ κ : ℕ, cellInv ER (ringRd (xs m ρ)) κ (kcell (c, k))))
          ∗ ((bigSep Finset.univ fun k : Cell => atPos ER (kcell (c, k)) 0 ∅ 0) ∗ bigSep Finset.univ fun k : Cell => reached ER (kcell (c, k)) 0) ∗ minted (F := F) c) := by
  have hs : iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
    rw [cell_fam, ownSems0_eq, unscopedSems0_eq]
    exact Entails.of_eq rfl
  have ha : iprop((bigSep Finset.univ fun k : Cell => semVal (kcell (c, k)) 0) ∗ bigSep Finset.univ fun k : Cell => roundState ER (ringRd (xs m ρ)) (kcell (c, k)) 0)
      ⊢ (|={Set.univ}=> bigSep Finset.univ fun k : Cell => iprop(∃ κ : ℕ, cellInv ER (ringRd (xs m ρ)) κ (kcell (c, k))) : sProp 𝕄) := by
    rw [← bigSep_sep']
    exact (bigSep_mono fun k _ => (Rounds.body_intro ER (ringRd (xs m ρ)) (kcell (c, k))).trans inv_alloc).trans (bigSep_fupd _ _)
  unfold given
  iintro ⟨Hos, Hus, Hst, Hat, Htok⟩
  ihave Hv := hs $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

/-- A persistent fact beside every member of a family. -/
theorem fam_with {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact fam_mono h)

theorem linear_intro (c : Dev nD) : iprop((bigSep Finset.univ fun k : Cell => atPos ER (kcell (c, k)) 0 ∅ 0) ∗ pays (F := F) c) ⊢ linear (F := F) c := by
  have hst : (bigSep Finset.univ fun t : Tr => ST (F := F) c t) = iprop((bigSep Finset.univ fun t : Tr => dutyTok ER (sendCell t c) 0 (false, false))
      ∗ (bigSep Finset.univ fun t : Tr => dutyTok ER (recvCell t (nxt t.1 c)) 0 (false, false)) ∗ bigSep Finset.univ fun t : Tr => atPos ER (sendCell t c) 0 ∅ 0) := by
    unfold ST; rw [bigSep_sep', bigSep_sep']
  unfold pays linear
  rw [hst, cell_fam, pair_fam]
  show iprop((((bigSep Finset.univ fun t : Tr => atPos ER (sendCell t c) 0 ∅ 0) ∗ bigSep Finset.univ fun t : Tr => atPos ER (recvCell t c) 0 ∅ 0) ∗ atPos ER (barCell c) 0 ∅ 0) ∗ _) ⊢ _
  iintro ⟨⟨⟨HS, HV⟩, HB⟩, HT, H1, H2⟩
  isplitl [HT]; · iexact HT
  isplitl [HB]; · iexact HB
  isplitl [H1 H2 HS]
  · isplitl [H1]; · iexact H1
    isplitl [H2] <;> iassumption
  iexact HV

theorem dealt_intro (K : Dev nD × Cell → ℕ) (c : Dev nD) :
    iprop(recs (xs m ρ) K ∗ ((bigSep Finset.univ fun k : Cell => atPos ER (kcell (c, k)) 0 ∅ 0) ∗ pays (F := F) c)) ⊢ dealt m ρ c := by
  unfold dealt
  iintro ⟨HR, H⟩
  iexists K
  isplitl [HR]; · iexact HR
  iapply (linear_intro c); iexact H

theorem regroup :
    (bigSep Finset.univ fun c : Dev nD => iprop((bigSep Finset.univ fun k : Cell => iprop(∃ κ : ℕ, cellInv ER (ringRd (xs m ρ)) κ (kcell (c, k))))
          ∗ ((bigSep Finset.univ fun k : Cell => atPos ER (kcell (c, k)) 0 ∅ 0) ∗ bigSep Finset.univ fun k : Cell => reached ER (kcell (c, k)) 0) ∗ minted (F := F) c) : sProp 𝕄)
      ⊢ bigSep Finset.univ (dealt m ρ) := by
  have hd (K : Dev nD × Cell → ℕ) (c : Dev nD) := dealt_intro m ρ K c
  rw [bigSep_sep', bigSep_sep', bigSep_sep', ← bigSep_univ_prod (fun ck : Dev nD × Cell => iprop(∃ κ : ℕ, cellInv ER (ringRd (xs m ρ)) κ (kcell ck))),
    ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (ringRd (xs m ρ)) κ (kcell ck) : sProp 𝕄))) $$ HI
  icases HK with ⟨%K, #HI⟩
  ihave Htk := (minted_dealt (F := F)) $$ Htok
  iapply (fam_with (hd K))
  isplitr
  · unfold recs; isplitl; · iexact HI
    iexact HR
  · iapply (Entails.of_eq (bigSep_sep' Finset.univ (fun c : Dev nD => bigSep Finset.univ fun k : Cell => (atPos ER (kcell (c, k)) 0 ∅ 0 : sProp 𝕄)) (fun c => pays c)).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ given m ρ c) : sProp 𝕄)
    ⊢ |={Set.univ}=> bigSep Finset.univ (dealt m ρ) :=
  ((bigSep_mono fun c _ => cells_alloc m ρ c).trans (bigSep_fupd _ _)).trans (BI.fupd_mono (regroup m ρ))

/-! ## The credit -/

theorem recv_eq {t t' : Tr} {a b : Dev nD} : recvCell t a = recvCell t' b ↔ t = t' ∧ a = b := by
  constructor
  · intro h
    have h1 := congrArg Prod.snd h
    have h2 := congrArg (fun g : GSem nD τ sig => g.1.1) h
    exact ⟨congrArg Prod.snd (osem_inj (a₁ := (true, t)) (a₂ := (true, t')) h1), h2⟩
  · rintro ⟨rfl, rfl⟩; rfl
theorem bar_eq {a b : Dev nD} : barCell a = barCell b ↔ a = b :=
  ⟨fun h => congrArg (fun g : GSem nD τ sig => g.1.1) h, fun h => h ▸ rfl⟩
theorem recv_ne_bar (t : Tr) (a b : Dev nD) : recvCell t a ≠ barCell b := fun h => by cases congrArg Prod.snd h

theorem owe_recv (d c : Dev nD) (t : Tr) : owe d 0 (recvCell t c) () = if d = prv t.1 c then N else 0 := by
  unfold owe
  rw [Finset.sum_apply, Finsupp.finset_sum_apply,
    Finset.sum_eq_single t (fun t' _ h => by rw [tallyAt_apply]; exact if_neg fun h' => h (recv_eq.1 h'.1).1.symm)
      (fun h => absurd (by simp) h), tallyAt_apply]
  by_cases h : d = prv t.1 c
  · subst h; rw [nxt_prv, if_pos ⟨rfl, rfl⟩, if_pos rfl]
  · rw [if_neg (fun h' => h (by rw [(recv_eq.1 h'.1).2, prv_nxt])), if_neg h]
theorem owe_bar (d c : Dev nD) : owe d 0 (barCell c) () = 0 := by
  unfold owe
  rw [Finset.sum_apply, Finsupp.finset_sum_apply]
  exact Finset.sum_eq_zero fun t _ => by rw [tallyAt_apply]; exact if_neg fun h' => recv_ne_bar _ _ _ h'.1.symm
theorem unit_recv (k : Duty) (d c : Dev nD) (t : Tr) : barTally k d (recvCell t c) () = 0 := by
  show tallyAt (barCell (nbr k d)) () 1 (recvCell t c) () = 0
  rw [tallyAt_apply]; exact if_neg fun h' => recv_ne_bar _ _ _ h'.1
theorem unit_bar (k : Duty) (d c : Dev nD) : barTally k d (barCell c) () = if d = nxt (kst k) c then 1 else 0 := by
  show tallyAt (barCell (nbr k d)) () 1 (barCell c) () = _
  rw [tallyAt_apply]
  by_cases h : d = nxt (kst k) c
  · subst h; rw [nbr, prv_nxt, if_pos ⟨rfl, rfl⟩, if_pos rfl]
  · rw [if_neg (fun h' => h (by rw [bar_eq.1 h'.1, nbr, nxt_prv])), if_neg h]

theorem owed_recv (d c : Dev nD) (t : Tr) : owe₀ d (recvCell t c) () = if d = prv t.1 c then N else 0 := by
  unfold owe₀
  simp only [Pi.add_apply, Finsupp.add_apply, unit_recv, owe_recv, Nat.add_zero]
theorem owed_bar (d c : Dev nD) : owe₀ d (barCell c) () = (((0 + if d = nxt (kst (true, true)) c then 1 else 0) + if d = nxt (kst (true, false)) c then 1 else 0)
    + if d = nxt (kst (false, true)) c then 1 else 0) + if d = nxt (kst (false, false)) c then 1 else 0 := by
  unfold owe₀
  simp only [Pi.add_apply, Finsupp.add_apply, unit_bar, owe_bar]

theorem launch_recv (c : Dev nD) (t : Tr) :
    tallyOn (recvCell t c) (launchCredit (Pipeline.owing owe₀) 0 (recvCell t c)) = (tallyAt (recvCell t c) () N : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (prv t.1 c) fun _ => N,
    if_pos (Finset.mem_univ _)]
theorem launch_bar (c : Dev nD) :
    tallyOn (barCell c) (launchCredit (Pipeline.owing owe₀) 0 (barCell c)) = (tallyAt (barCell c) () 4 : CellTallies nD τ sig Unit) := by
  unfold tallyAt; refine congrArg _ (Finsupp.ext fun u => ?_); cases u
  have e (x : Dev nD) : (∑ d : Dev nD, if d = x then 1 else 0) = 1 := by rw [Finset.sum_ite_eq' Finset.univ x fun _ => 1, if_pos (Finset.mem_univ _)]
  rw [Pipeline.launchCredit_owing, Finsupp.single_eq_same, Finset.sum_congr rfl fun d _ => owed_bar d c]
  simp only [Finset.sum_add_distrib, e, Finset.sum_const_zero]

/-- The cells a device is credited at. -/
def credSem (o : Option Tr) : SemLoc sig := match o with | none => .reg barrier0 | some t => .dma (tsem true t)
theorem credSem_inj : Function.Injective credSem := by
  intro a b h
  cases a with
  | none => cases b with
    | none => rfl
    | some b => cases h
  | some a => cases b with
    | none => cases h
    | some b => exact congrArg some (congrArg Prod.snd (osem_inj (a₁ := (true, a)) (a₂ := (true, b)) h))

theorem creds (c : Dev nD) : (Pipeline.launchCred owe₀ c : sProp 𝕄) ⊢ credits (F := F) c := by
  unfold Pipeline.launchCred credits
  refine (BI.bigSep_subset (Finset.subset_univ (Finset.univ.map ⟨credSem, credSem_inj⟩))).trans ?_
  rw [bigSep_map, bigSep_univ_equiv (Equiv.optionEquivSumPUnit Tr).symm, BI.bigSep_univ_sum,
    bigSep_univ_eq_bigSepL ([PUnit.unit] : List PUnit.{1}) (by decide) (by decide)]
  show iprop((bigSep Finset.univ fun t : Tr => cred (tallyOn (recvCell t c) (launchCredit (Pipeline.owing owe₀) 0 (recvCell t c))))
    ∗ cred (tallyOn (barCell c) (launchCredit (Pipeline.owing owe₀) 0 (barCell c)))) ⊢ _
  rw [launch_bar, bigSep_congr (s := Finset.univ) fun (t : Tr) _ => congrArg (fun A => (cred A : sProp 𝕄)) (launch_recv c t)]
  iintro ⟨H1, H2⟩
  isplitl [H2] <;> iassumption

/-! ## The launch's side conditions -/

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ dealt m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- The landing buffers, one by one. -/
theorem buffers_eq (c : Dev nD) : (Pipeline.scopedRest (Ix := Unit) (Name := ℕ) (U := UU) (Lvl := ℕ) (Val := Elt F) cfg0.spec c : sProp 𝕄) ⊣⊢ buffers (F := F) c := by
  unfold buffers
  rw [bigSep_quad, bigSep_quad, scopedRest0_eq]
  simp only [anyP, anyZ, slotP, slotZ, owns_whole]
  constructor
  · iintro ⟨H0, H1, H2, H3, H4, H5, H6, H7⟩
    isplitl [H0 H1 H6 H7]
    · isplitl [H0]; · iexact H0
      isplitl [H1]; · iexact H1
      isplitl [H6] <;> iassumption
    isplitl [H2]; · iexact H2
    isplitl [H3]; · iexact H3
    isplitl [H4] <;> iassumption
  · iintro ⟨⟨H0, H1, H6, H7⟩, H2, H3, H4, H5⟩
    isplitl [H0]; · iexact H0
    isplitl [H1]; · iexact H1
    isplitl [H2]; · iexact H2
    isplitl [H3]; · iexact H3
    isplitl [H4]; · iexact H4
    isplitl [H5]; · iexact H5
    isplitl [H6] <;> iassumption

theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl]
  unfold before
  iintro ⟨Hs, -, Hr⟩
  isplitl [Hs]; · iexact Hs
  iapply (buffers_eq c).1; iexact Hr

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after (F := F) c from rfl, ownSems0_eq, unscopedSems0_eq, pair_fam]
  unfold after
  iintro ⟨Hr, Hz, HzB⟩
  isplitl [HzB]; · iexact HzB
  isplitl [Hz]; · iexact Hz
  iapply (buffers_eq c).2; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 1048576 in
/-- Every fair execution of `main` from zero counters ends, every array at what the pipeline leaves and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := given m ρ) (G' := dealt m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 2) = (s₀ m ρ).mem (win0_0.arr.view.loc (c : Thread nD τ)) :=
  (dats (F := F) m ρ 0 c).arrAt_in (0 : Fin 2) rfl _

end Run

end Cert.Torus

end
-- ==== Proof.Value.lean ====
/-
# The value the run leaves

In exact arithmetic a tile's whole sum is the sum of the sixteen devices' tiles, whatever the order the rings add them
in. Read index by index, the result on every device is the reference's sum over the first axis.
-/
module

public import proofs.«01_k».proof.Proof.Run
public import proofs.«01_k».proof.ReferenceIdeal
public import Idealize.ShloMosaic.Lib.Pointwise
public import Idealize.ShloMosaic.Lib.Layout
public import Idealize.ShloMosaic.Lib.Pipeline.Value

@[expose] public section

noncomputable section

namespace Cert.Torus

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Sums around the torus -/

/-- Going once around a ring against either direction meets every position. -/
theorem ring_sum (d : Bool) (p : Fin 4) (f : Fin 4 → EReal) :
    f p + (f (fw (!d) p) + (f (fw (!d) (fw (!d) p)) + f (fw (!d) (fw (!d) (fw (!d) p))))) = ∑ q : Fin 4, f q := by
  rw [Fin.sum_univ_four]
  cases d <;> fin_cases p
  · show f 0 + (f 3 + (f 2 + f 1)) = _; abel
  · show f 1 + (f 0 + (f 3 + f 2)) = _; abel
  · show f 2 + (f 1 + (f 0 + f 3)) = _; abel
  · show f 3 + (f 2 + (f 1 + f 0)) = _; abel
  · show f 0 + (f 1 + (f 2 + f 3)) = _; abel
  · show f 1 + (f 2 + (f 3 + f 0)) = _; abel
  · show f 2 + (f 3 + (f 0 + f 1)) = _; abel
  · show f 3 + (f 0 + (f 1 + f 2)) = _; abel

theorem tile_prv (κ : Strand) (c : Dev nD) (i : Fin 8) : tileOf κ (prv κ c) i.val = tileOf κ c (i.val + 1) := by
  rw [← tileOf_nxt κ (prv κ c) i, nxt_prv]
theorem dv_self (c : Dev nD) : dv (zp c) (pp c) = c := by revert c; decide +kernel
theorem pp_dv (z p : Fin 4) : pp (dv z p) = p := by revert z p; decide +kernel
theorem zp_dv (z p : Fin 4) : zp (dv z p) = z := by revert z p; decide +kernel

section Sums
variable (X : Dev nD → (cc0_stg0_0 : Ref sig .tc).ty.Contents (Elt Ideal)) (j : S128x128.Idx)

theorem pAcc_step (d : Bool) (b s : Fin 4) (i : ℕ) (c : Dev nD) :
    (pAcc X d b s (i + 1) c j : EReal) = xtile (X c) (tileOf (.pl d b s) c (i + 1)) j + pAcc X d b s i (prv (.pl d b s) c) j := rfl
theorem zAcc_step (d : Bool) (b : Fin 4) (i : ℕ) (c : Dev nD) :
    (zAcc X d b (i + 1) c j : EReal) = zIn X d b c (i + 1) j + zAcc X d b i (prv (.zz d b) c) j := rfl

/-- A plane ring's last partial sum is the plane's sum. -/
theorem pAcc_sum (d : Bool) (b s : Fin 4) (c : Dev nD) :
    (pAcc X d b s 3 c j : EReal) = ∑ q : Fin 4, (xtile (X (dv (zp c) q)) (tileOf (.pl d b s) c 3) j : EReal) := by
  rw [← ring_sum d (pp c), pAcc_step, pAcc_step, pAcc_step]
  have h2 : tileOf (.pl d b s) (prv (.pl d b s) c) 2 = tileOf (.pl d b s) c 3 := tile_prv _ c 2
  have h1 : tileOf (.pl d b s) (prv (.pl d b s) (prv (.pl d b s) c)) 1 = tileOf (.pl d b s) c 3 := (tile_prv _ _ 1).trans h2
  have h0 : tileOf (.pl d b s) (prv (.pl d b s) (prv (.pl d b s) (prv (.pl d b s) c))) 0 = tileOf (.pl d b s) c 3 := (tile_prv _ _ 0).trans h1
  show _ + (_ + (_ + (xtile (X (prv (.pl d b s) (prv (.pl d b s) (prv (.pl d b s) c)))) (tileOf (.pl d b s) (prv (.pl d b s) (prv (.pl d b s) (prv (.pl d b s) c))) 0) j : EReal))) = _
  rw [h0, h1, h2, dv_self]
  simp only [prv, pp_dv, zp_dv]

/-- The ring across planes sums the planes' sums. -/
theorem zAcc_sum (d : Bool) (b : Fin 4) (c : Dev nD) :
    (zAcc X d b 3 c j : EReal) = ∑ z : Fin 4, ∑ q : Fin 4, (xtile (X (dv z q)) (tileOf (.zz d b) c 3) j : EReal) := by
  have hz (c : Dev nD) (i : ℕ) : (zIn X d b c i j : EReal) = ∑ q : Fin 4, (xtile (X (dv (zp c) q)) (tileOf (.zz d b) c i) j : EReal) :=
    pAcc_sum X j d b (bk d (zp c) i) c
  rw [← ring_sum d (zp c), zAcc_step, zAcc_step, zAcc_step]
  have h2 : tileOf (.zz d b) (prv (.zz d b) c) 2 = tileOf (.zz d b) c 3 := tile_prv _ c 2
  have h1 : tileOf (.zz d b) (prv (.zz d b) (prv (.zz d b) c)) 1 = tileOf (.zz d b) c 3 := (tile_prv _ _ 1).trans h2
  have h0 : tileOf (.zz d b) (prv (.zz d b) (prv (.zz d b) (prv (.zz d b) c))) 0 = tileOf (.zz d b) c 3 := (tile_prv _ _ 0).trans h1
  show _ + (_ + (_ + (zIn X d b (prv (.zz d b) (prv (.zz d b) (prv (.zz d b) c))) 0 j : EReal))) = _
  rw [hz, hz, hz, hz, h0, h1, h2]
  simp only [prv, pp_dv, zp_dv]

theorem tile_home (d : Bool) (b pc s : Fin 4) : tileOf (.zz d b) (dv (bk (!d) s 3) (bk (!d) pc 3)) 3 = ⟨d, b, pc, s⟩ := by revert d b pc s; decide +kernel

theorem sum_devs (f : Dev nD → EReal) : ∑ z : Fin 4, ∑ q : Fin 4, f (dv z q) = ∑ c : Dev nD, f c := by
  rw [← Fintype.sum_prod_type' (f := fun z q : Fin 4 => f (dv z q))]
  exact Fintype.sum_equiv ⟨fun x => dv x.1 x.2, fun c => (zp c, pp c), fun x => Prod.ext (zp_dv x.1 x.2) (pp_dv x.1 x.2), fun c => dv_self c⟩ _ _ fun _ => rfl

/-- A tile's whole sum is the sum over the devices. -/
theorem fin_sum (t : Tile) : (fin X t j : EReal) = ∑ c : Dev nD, (xtile (X c) t j : EReal) := by
  obtain ⟨d, b, pc, s⟩ := t
  show (zAcc X d b 3 (dv (bk (!d) s 3) (bk (!d) pc 3)) j : EReal) = _
  rw [zAcc_sum, tile_home, sum_devs fun c => (xtile (X c) ⟨d, b, pc, s⟩ j : EReal)]

end Sums

/-! ## Index by index -/

/-- The operand's index under a result's index. -/
def under (x : S2048x1024.Idx) : S1x2048x1024.Idx := Fin.cons ⟨0, Nat.one_pos⟩ x

theorem xtile_at (Y : (cc0_stg0_0 : Ref sig .tc).ty.Contents (Elt F)) (t : Tile) (j : S128x128.Idx) : xtile Y t j = Y (under ((oR t).emb j)) := by
  unfold xtile
  rw [show shapeCast S128x128 (xld Y t) shapeCasts_S1x128x128_S128x128 j = xld Y t (Fin.cons ⟨0, Nat.one_pos⟩ j) from
    shapeCast_dropUnit_apply ![128, 128] (xld Y t) shapeCasts_S1x128x128_S128x128 j]
  unfold xld
  show Y ((xR t).emb _) = _
  refine congrArg Y (funext fun a => Fin.ext ?_)
  fin_cases a <;> rfl

/-- Device `c`'s element under a result's index. -/
def elt (X : Dev nD → (cc0_stg0_0 : Ref sig .tc).ty.Contents (Elt Ideal)) (x : S2048x1024.Idx) (c : Dev nD) : EReal := X c (under x)

theorem out_sum (X : Dev nD → (cc0_stg0_0 : Ref sig .tc).ty.Contents (Elt Ideal)) (x : S2048x1024.Idx) :
    (outAt X x : EReal) = ∑ c : Dev nD, elt X x c := by
  have hx := oR_mem x
  rw [← (oR (mkT (tiAt (x 0).val (x 1).val))).map_emb_univ] at hx
  obtain ⟨j, -, hj⟩ := Finset.mem_map.1 hx
  rw [← hj]
  refine (outAt_emb X _ j).trans ((fin_sum X j _).trans (Finset.sum_congr rfl fun c _ => ?_))
  exact xtile_at (X c) _ j

/-! ## The arrays -/

section Arrays
variable (m : (ℓ : Loc nD τ sig) → Buf (Elt F) ℓ) (ρ : Dev nD → PrngReg)

theorem blk_x (i : S1x2048x1024.Idx) : (win0_0.rect (0 : Fin 1)).emb i = i := by
  refine funext fun a => Fin.ext ?_
  show 0 * _ + 1 * (i a).val = (i a).val
  rw [Nat.zero_mul, Nat.zero_add, Nat.one_mul]
theorem blk_o (i : S2048x1024.Idx) : (win0_1.rect (0 : Fin 1)).emb i = i := by
  refine funext fun a => Fin.ext ?_
  show 0 * _ + 1 * (i a).val = (i a).val
  rw [Nat.zero_mul, Nat.zero_add, Nat.one_mul]

theorem xs_eq (c : Dev nD) : xs m ρ c = m ((c : Thread nD τ).loc main_arg0) :=
  funext fun i => congrArg (m ((c : Thread nD τ).loc main_arg0)) (blk_x i)

theorem flushed_out (c : Dev nD) (t : Fin cfg0.N) : (dats m ρ 0 c).flushed 1 t = ((cfg0.win 1).blk t).view.read (Elt F) (outAt (xs m ρ)) := by
  obtain rfl := only_t₀ t
  refine funext fun i => ?_
  show outAt (xs m ρ) _ = outAt (xs m ρ) _
  exact congrArg (outAt (xs m ρ)) (blk_o i).symm

theorem out_cover (i : S2048x1024.Idx) : ∃ t : Fin cfg0.N, (cfg0.win 1).flush t = true ∧ i ∈ ((cfg0.win 1).blk t).view.set := by
  refine ⟨t₀, rfl, ?_⟩
  show i ∈ ((View.whole main_v1).slice (win0_1.rect t₀)).set
  rw [View.set_slice_whole]
  rw [← (win0_1.rect t₀).map_emb_univ]
  exact Finset.mem_map.2 ⟨i, Finset.mem_univ _, blk_o i⟩

/-- The result array ends at the sums, on every device. -/
theorem finalA_out (c : Dev nD) : finalA m ρ c (1 : Fin 2) = outAt (xs m ρ) :=
  (dats m ρ 0 c).arrAt_eq_of_cover 1 (outAt (xs m ρ)) (fun t _ => flushed_out m ρ c t) out_cover

end Arrays

/-! ## The reference -/

theorem ref_sum (Y : FVec Ideal Cert.ReferenceIdeal.S16x2048x1024 .f32) (h : Cert.ReferenceIdeal.S16x2048x1024.ReducesTo [0] Cert.ReferenceIdeal.S2048x1024)
    (hu : 0 < Cert.ReferenceIdeal.S_.numel) (x : Cert.ReferenceIdeal.S2048x1024.Idx) :
    (Host.reduceAdd Y (constant Cert.ReferenceIdeal.S_ .f32 0x00000000#32) h hu x : EReal) = ∑ c : Fin 16, (Y (ix3 c (x 0) (x 1)) : EReal) := by
  simp only [pointwise, Ideal.hostReduceAdd_def]
  exact zero_add _

/-- Device `c`'s block of the whole argument, under a result's index, is the argument's row `c`. -/
theorem block_at (Y : FVec Ideal Cert.ReferenceIdeal.S16x2048x1024 .f32) (c : Fin 16) (x : S2048x1024.Idx) :
    Layout.block ⟨3, ![1, 2048, 1024]⟩ ⟨3, ![16, 2048, 1024]⟩ 0 16 c Y (by decide) (under x) = Y (ix3 c (x 0) (x 1)) := by
  refine congrArg Y (funext fun a => Fin.ext ?_)
  fin_cases a
  · show c.val * 1 + 0 = c.val; omega
  · rfl
  · rfl

/-- Where every device's operand is its block of the argument, what the run leaves is the argument's sum. -/
theorem out_ref (m : (ℓ : Loc nD τ sig) → Buf (Elt Ideal) ℓ) (ρ : Dev nD → PrngReg) (Y : FVec Ideal Cert.ReferenceIdeal.S16x2048x1024 .f32)
    (hm : ∀ c : Dev nD, m ((c : Thread nD τ).loc main_arg0) = Layout.block ⟨3, ![1, 2048, 1024]⟩ ⟨3, ![16, 2048, 1024]⟩ 0 16 c Y (by decide))
    (h : Cert.ReferenceIdeal.S16x2048x1024.ReducesTo [0] Cert.ReferenceIdeal.S2048x1024) (hu : 0 < Cert.ReferenceIdeal.S_.numel) :
    outAt (xs m ρ) = Host.reduceAdd Y (constant Cert.ReferenceIdeal.S_ .f32 0x00000000#32) h hu := by
  refine funext fun x => (out_sum (xs m ρ) x).trans (Eq.trans ?_ (ref_sum Y h hu x).symm)
  refine Finset.sum_congr rfl fun c _ => ?_
  show xs m ρ c (under x) = _
  rw [xs_eq, hm c]
  exact block_at Y c x

end Cert.Torus

end
-- ==== Proof.lean ====
/-
# The certificate

The frames of the kernel, as printed and as idealized, are one run of the program read at the two kinds of floats; the
reference's frame is its generated run. In exact arithmetic every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c (0 : Fin 2)).trans (Cert.Torus.finalA_x m ρ c), h.2⟩) (Cert.Torus.run_main m ρ)

set_option maxRecDepth 1048576 in
/-- The two printings have one table of bodies. -/
theorem bodies_eq {F : FTy → Type} [FloatOps F] : @Cert.Kernel.defs₀ F _ _ = @Cert.KernelIdeal.defs₀ F _ _ := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))
theorem defs_eq {F : FTy → Type} [FloatOps F] : @Cert.Kernel.defs F _ _ = @Cert.KernelIdeal.defs F _ _ :=
  congrArg (Pipeline.defs _) bodies_eq

/-- The printed kernel runs to an end, keeps its operand and leaves every counter at zero. -/
theorem frame_kernel : Cert.quiescent_Kernel := by
  intro m ρ _
  have h := frame_any (F := Bits) m ρ
  rw [← defs_eq] at h
  exact h

/-- The same of the idealized kernel. -/
theorem frame_kernel_ideal : Cert.quiescent_KernelIdeal := fun m ρ _ => frame_any (F := Ideal) m ρ

/-- The same of the reference. -/
theorem frame_reference : Cert.quiescent_ReferenceIdeal := fun m ρ _ =>
  (θ_run Cert.ReferenceIdeal.defs _ _).mono (fun _ h => ⟨fun c => (h c).2, sem_eq_zero_of_no_sems rfl _⟩) (Cert.ReferenceIdeal.Value.run m ρ)

/-- On every device the result is the reference's sum of the whole argument, and both programs keep their arguments. -/
theorem algebraic_kernel : Cert.algebraic_KernelIdeal_ReferenceIdeal := fun m ρ m' ρ' _ hm =>
  ⟨_, (θ_run Cert.KernelIdeal.defs _ _).mono
      (fun _ h c => ⟨((h.1 c (1 : Fin 2)).trans (Cert.Torus.finalA_out m ρ c)).trans (Cert.Torus.out_ref m ρ _ hm _ _),
        (h.1 c (0 : Fin 2)).trans (Cert.Torus.finalA_x m ρ c)⟩) (Cert.Torus.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_kernel_ideal, frame_reference, trivial, algebraic_kernel⟩

end Cert.Proof

end
